-- ==== Defs.lean ====
def Pre_Kernel [hPre_sizes_drawn : Cert.Pre_sizes_drawn.Facts] (m : (ℓ : Loc Cert.Kernel.nD Cert.Kernel.τ Cert.Kernel.sig) → Buf (Elt Bits) ℓ) : Prop :=
  ∀ c : Dev Cert.Kernel.nD,
    (Cert.Pre_sizes_drawn.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_sizes_drawn : Cert.Pre_sizes_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_sizes_drawn : Cert.Pre_sizes_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_sizes_drawn : Cert.Pre_sizes_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_sizes_drawn : Cert.Pre_sizes_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_sizes_drawn : Cert.Pre_sizes_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_drawn : Cert.Pre_sizes_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sizes_drawn : Cert.Pre_sizes_drawn.Facts),
    quiescent_Kernel (hKernel := hKernel) (hPre_sizes_drawn := hPre_sizes_drawn)
    ∧ quiescent_KernelIdeal (hKernelIdeal := hKernelIdeal) (hPre_sizes_drawn := hPre_sizes_drawn)
    ∧ quiescent_ReferenceIdeal (hReferenceIdeal := hReferenceIdeal) (hPre_sizes_drawn := hPre_sizes_drawn)
    ∧ preserves_Kernel_KernelIdeal
    ∧ algebraic_KernelIdeal_ReferenceIdeal (hKernelIdeal := hKernelIdeal) (hReferenceIdeal := hReferenceIdeal) (hPre_sizes_drawn := hPre_sizes_drawn)
-- ==== Pre_sizes_drawn.lean ====
abbrev S32768x512 : Shape := ⟨2, ![32768, 512]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S32768x512 .f32) (main_arg1 : IVec S16 32) : IVec S_ 1 :=
  let main_c : IVec S_ 32 := constantI S_ 32 1#32
  let main_v0 : IVec S16 32 := broadcastInDim S16 ![] bcast_S_S16 main_c
  let main_v1 : IVec S16 1 := cmpi .sge main_arg1 main_v0
  let main_c_0 : IVec S_ 32 := constantI S_ 32 2048#32
  let main_v2 : IVec S16 32 := broadcastInDim S16 ![] bcast_S_S16 main_c_0
  let main_v3 : IVec S16 1 := cmpi .slt main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S32768x512 : Shape := ⟨2, ![32768, 512]⟩
abbrev S16 : Shape := ⟨1, ![16]⟩
abbrev S8192 : Shape := ⟨1, ![8192]⟩
abbrev S8x16x256 : Shape := ⟨3, ![8, 16, 256]⟩
abbrev S16x256 : Shape := ⟨2, ![16, 256]⟩
abbrev S256 : Shape := ⟨1, ![256]⟩
abbrev S8 : Shape := ⟨1, ![8]⟩
abbrev S2x16x16x256 : Shape := ⟨4, ![2, 16, 16, 256]⟩
abbrev S_ : Shape := ⟨0, ![]⟩
abbrev S1x16 : Shape := ⟨2, ![1, 16]⟩
abbrev S1x16x256 : Shape := ⟨3, ![1, 16, 256]⟩
abbrev S1 : Shape := ⟨1, ![1]⟩
abbrev S1x1x16 : Shape := ⟨3, ![1, 1, 16]⟩
abbrev S1x256 : Shape := ⟨2, ![1, 256]⟩
abbrev S1x1x1x256 : Shape := ⟨4, ![1, 1, 1, 256]⟩
abbrev S1x1x16x256 : Shape := ⟨4, ![1, 1, 16, 256]⟩
abbrev S16x512 : Shape := ⟨2, ![16, 512]⟩

abbrev nBuf : Table → Nat
  | .hbm => 4
  | .shared => 1
  | .local .scVector .vmem => 5
  | _ => 0

abbrev bufTy : (tb : Table) → Fin (nBuf tb) → BufTy
  | .hbm, ⟨0, _⟩ => ⟨S32768x512, .f32⟩
  | .hbm, ⟨1, _⟩ => ⟨S16, .i32⟩
  | .hbm, ⟨2, _⟩ => ⟨S8192, .f32⟩
  | .hbm, ⟨3, _⟩ => ⟨S16x512, .f32⟩
  | .shared, ⟨0, _⟩ => ⟨S2x16x16x256, .f32⟩
  | .local .scVector .vmem, ⟨0, _⟩ => ⟨S16, .i32⟩
  | .local .scVector .vmem, ⟨1, _⟩ => ⟨S8x16x256, .f32⟩
  | .local .scVector .vmem, ⟨2, _⟩ => ⟨S16x256, .f32⟩
  | .local .scVector .vmem, ⟨3, _⟩ => ⟨S16x256, .f32⟩
  | .local .scVector .vmem, ⟨4, _⟩ => ⟨S256, .f32⟩
  | _, _ => ⟨S32768x512, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 27 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | _ => false

abbrev sig : RefSig :=
  ofTables nBuf rfl bufTy 5 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch6 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c256_i32 : BitVec 32 := 256#32
  let v34 : BitVec 32 := Scalar.muli arg0 c256_i32
  v34
@[reducible] def k0_t1_loop : Scf.Loop 32 :=
  let c0_i32_9 : BitVec 32 := 0#32
  let c16_i32_10 : BitVec 32 := 16#32
  let v36 : BitVec 32 := Scalar.addi c0_i32_9 c16_i32_10
  let c1_i32_11 : BitVec 32 := 1#32
  ⟨c0_i32_9, v36, c1_i32_11⟩
def k0_off1 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v95 : Index := Scalar.indexCast arg12
  let c0_60 : Index := 0#32
  ![v95.toNat, 0]
def k0_off2 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v98 : Index := Scalar.indexCast arg12
  let c16_62 : Index := 16#32
  ![v98.toNat, 16]
def k0_off3 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v101 : Index := Scalar.indexCast arg12
  let c32_64 : Index := 32#32
  ![v101.toNat, 32]
def k0_off4 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v104 : Index := Scalar.indexCast arg12
  let c48_66 : Index := 48#32
  ![v104.toNat, 48]
def k0_off5 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v107 : Index := Scalar.indexCast arg12
  let c64_68 : Index := 64#32
  ![v107.toNat, 64]
def k0_off6 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v110 : Index := Scalar.indexCast arg12
  let c80_70 : Index := 80#32
  ![v110.toNat, 80]
def k0_off7 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v113 : Index := Scalar.indexCast arg12
  let c96_72 : Index := 96#32
  ![v113.toNat, 96]
def k0_off8 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v116 : Index := Scalar.indexCast arg12
  let c112_74 : Index := 112#32
  ![v116.toNat, 112]
def k0_off9 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v119 : Index := Scalar.indexCast arg12
  let c128_76 : Index := 128#32
  ![v119.toNat, 128]
def k0_off10 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v122 : Index := Scalar.indexCast arg12
  let c144_78 : Index := 144#32
  ![v122.toNat, 144]
def k0_off11 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v125 : Index := Scalar.indexCast arg12
  let c160_80 : Index := 160#32
  ![v125.toNat, 160]
def k0_off12 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v128 : Index := Scalar.indexCast arg12
  let c176_82 : Index := 176#32
  ![v128.toNat, 176]
def k0_off13 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v131 : Index := Scalar.indexCast arg12
  let c192_84 : Index := 192#32
  ![v131.toNat, 192]
def k0_off14 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v134 : Index := Scalar.indexCast arg12
  let c208_86 : Index := 208#32
  ![v134.toNat, 208]
def k0_off15 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v137 : Index := Scalar.indexCast arg12
  let c224_88 : Index := 224#32
  ![v137.toNat, 224]
def k0_off16 (k0_t1 : Fin k0_t1_loop.trips) : Fin 2 → Nat :=
  let c0_i32_9 : BitVec 32 := 0#32
  let c1_i32_11 : BitVec 32 := 1#32
  let arg12 : BitVec 32 := Scf.iv c0_i32_9 c1_i32_11 k0_t1
  let v140 : Index := Scalar.indexCast arg12
  let c240_90 : Index := 240#32
  ![v140.toNat, 240]
@[reducible] def k0_t2_loop (v43 : BitVec 32) (v49 : BitVec 32) : Scf.Loop 32 :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_32 : BitVec 32 := 1#32
  ⟨v43, v70, c1_i32_32⟩

def k0_mult2 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_80 : BitVec 32 := 0#32
  let v146 : BitVec 32 := Scalar.addi v125 c0_i32_80
  let c32752_i32 : BitVec 32 := 32752#32
  let v147 : BitVec 32 := Scalar.minsi v146 c32752_i32
  v147

def k0_off17 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_80 : BitVec 32 := 0#32
  let v146 : BitVec 32 := Scalar.addi v125 c0_i32_80
  let c32752_i32 : BitVec 32 := 32752#32
  let v147 : BitVec 32 := Scalar.minsi v146 c32752_i32
  let v148 : BitVec 32 := v147
  let arg0 : BitVec 32 := BitVec.ofNat 32 (i 0).val
  let c256_i32 : BitVec 32 := 256#32
  let v34 : BitVec 32 := Scalar.muli arg0 c256_i32
  let v35 : BitVec 32 := v34
  ![v148.toNat, v35.toNat]

def k0_chk2 (i : grid0.Coords) (v11 : BitVec 32) (v100 : BitVec 32) : Prop :=
  (8 ∣ (k0_mult2 i v11 v100).toNat) ∧
  (∀ a, (k0_off17 i v11 v100) a + S16x256.size a ≤ S32768x512.size a)
theorem k0_mult2_dvd : ∀ (i : grid0.Coords) (v11 : BitVec 32) (v100 : BitVec 32) (k0_hw2 : k0_chk2 i v11 v100), 8 ∣ (k0_mult2 i v11 v100).toNat := fun i v11 v100 k0_hw2 => k0_hw2.1
theorem k0_off17_inb : ∀ (i : grid0.Coords) (v11 : BitVec 32) (v100 : BitVec 32) (k0_hw2 : k0_chk2 i v11 v100), ∀ a, (k0_off17 i v11 v100) a + S16x256.size a ≤ S32768x512.size a := fun i v11 v100 k0_hw2 => k0_hw2.2

def k0_mult3 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c16_i32_120 : BitVec 32 := 16#32
  let v214 : BitVec 32 := Scalar.addi v125 c16_i32_120
  let c32752_i32_121 : BitVec 32 := 32752#32
  let v215 : BitVec 32 := Scalar.minsi v214 c32752_i32_121
  v215
def k0_cond1 (i : grid0.Coords) (v11 : BitVec 32) (v100 : BitVec 32) (v105 : BitVec 32) : BitVec 1 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let c1_i32_87 : BitVec 32 := 1#32
  let v157 : BitVec 1 := Scalar.cmpi .sgt v145 c1_i32_87
  let v158 : BitVec 32 := Scalar.extui v157
  let c0_i32_88 : BitVec 32 := 0#32
  let v159 : BitVec 1 := Scalar.cmpi .ne v158 c0_i32_88
  v159

def k0_off18 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c16_i32_120 : BitVec 32 := 16#32
  let v214 : BitVec 32 := Scalar.addi v125 c16_i32_120
  let c32752_i32_121 : BitVec 32 := 32752#32
  let v215 : BitVec 32 := Scalar.minsi v214 c32752_i32_121
  let v216 : BitVec 32 := v215
  let arg0 : BitVec 32 := BitVec.ofNat 32 (i 0).val
  let c256_i32 : BitVec 32 := 256#32
  let v34 : BitVec 32 := Scalar.muli arg0 c256_i32
  let v35 : BitVec 32 := v34
  ![v216.toNat, v35.toNat]
def k0_mult4 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c32_i32 : BitVec 32 := 32#32
  let v214 : BitVec 32 := Scalar.addi v125 c32_i32
  let c32752_i32_120 : BitVec 32 := 32752#32
  let v215 : BitVec 32 := Scalar.minsi v214 c32752_i32_120
  v215
def k0_cond2 (i : grid0.Coords) (v11 : BitVec 32) (v100 : BitVec 32) (v105 : BitVec 32) : BitVec 1 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let c2_i32_89 : BitVec 32 := 2#32
  let v160 : BitVec 1 := Scalar.cmpi .sgt v145 c2_i32_89
  let v161 : BitVec 32 := Scalar.extui v160
  let c0_i32_90 : BitVec 32 := 0#32
  let v162 : BitVec 1 := Scalar.cmpi .ne v161 c0_i32_90
  v162

def k0_off19 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c32_i32 : BitVec 32 := 32#32
  let v214 : BitVec 32 := Scalar.addi v125 c32_i32
  let c32752_i32_120 : BitVec 32 := 32752#32
  let v215 : BitVec 32 := Scalar.minsi v214 c32752_i32_120
  let v216 : BitVec 32 := v215
  let arg0 : BitVec 32 := BitVec.ofNat 32 (i 0).val
  let c256_i32 : BitVec 32 := 256#32
  let v34 : BitVec 32 := Scalar.muli arg0 c256_i32
  let v35 : BitVec 32 := v34
  ![v216.toNat, v35.toNat]
def k0_mult5 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c48_i32 : BitVec 32 := 48#32
  let v214 : BitVec 32 := Scalar.addi v125 c48_i32
  let c32752_i32_120 : BitVec 32 := 32752#32
  let v215 : BitVec 32 := Scalar.minsi v214 c32752_i32_120
  v215
def k0_cond3 (i : grid0.Coords) (v11 : BitVec 32) (v100 : BitVec 32) (v105 : BitVec 32) : BitVec 1 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let c3_i32_91 : BitVec 32 := 3#32
  let v163 : BitVec 1 := Scalar.cmpi .sgt v145 c3_i32_91
  let v164 : BitVec 32 := Scalar.extui v163
  let c0_i32_92 : BitVec 32 := 0#32
  let v165 : BitVec 1 := Scalar.cmpi .ne v164 c0_i32_92
  v165

def k0_off20 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c48_i32 : BitVec 32 := 48#32
  let v214 : BitVec 32 := Scalar.addi v125 c48_i32
  let c32752_i32_120 : BitVec 32 := 32752#32
  let v215 : BitVec 32 := Scalar.minsi v214 c32752_i32_120
  let v216 : BitVec 32 := v215
  let arg0 : BitVec 32 := BitVec.ofNat 32 (i 0).val
  let c256_i32 : BitVec 32 := 256#32
  let v34 : BitVec 32 := Scalar.muli arg0 c256_i32
  let v35 : BitVec 32 := v34
  ![v216.toNat, v35.toNat]
def k0_mult6 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c64_i32 : BitVec 32 := 64#32
  let v214 : BitVec 32 := Scalar.addi v125 c64_i32
  let c32752_i32_120 : BitVec 32 := 32752#32
  let v215 : BitVec 32 := Scalar.minsi v214 c32752_i32_120
  v215
def k0_cond4 (i : grid0.Coords) (v11 : BitVec 32) (v100 : BitVec 32) (v105 : BitVec 32) : BitVec 1 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let c4_i32_93 : BitVec 32 := 4#32
  let v166 : BitVec 1 := Scalar.cmpi .sgt v145 c4_i32_93
  let v167 : BitVec 32 := Scalar.extui v166
  let c0_i32_94 : BitVec 32 := 0#32
  let v168 : BitVec 1 := Scalar.cmpi .ne v167 c0_i32_94
  v168

def k0_off21 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c64_i32 : BitVec 32 := 64#32
  let v214 : BitVec 32 := Scalar.addi v125 c64_i32
  let c32752_i32_120 : BitVec 32 := 32752#32
  let v215 : BitVec 32 := Scalar.minsi v214 c32752_i32_120
  let v216 : BitVec 32 := v215
  let arg0 : BitVec 32 := BitVec.ofNat 32 (i 0).val
  let c256_i32 : BitVec 32 := 256#32
  let v34 : BitVec 32 := Scalar.muli arg0 c256_i32
  let v35 : BitVec 32 := v34
  ![v216.toNat, v35.toNat]
def k0_mult7 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c80_i32 : BitVec 32 := 80#32
  let v214 : BitVec 32 := Scalar.addi v125 c80_i32
  let c32752_i32_120 : BitVec 32 := 32752#32
  let v215 : BitVec 32 := Scalar.minsi v214 c32752_i32_120
  v215
def k0_cond5 (i : grid0.Coords) (v11 : BitVec 32) (v100 : BitVec 32) (v105 : BitVec 32) : BitVec 1 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let c5_i32_95 : BitVec 32 := 5#32
  let v169 : BitVec 1 := Scalar.cmpi .sgt v145 c5_i32_95
  let v170 : BitVec 32 := Scalar.extui v169
  let c0_i32_96 : BitVec 32 := 0#32
  let v171 : BitVec 1 := Scalar.cmpi .ne v170 c0_i32_96
  v171

def k0_off22 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c80_i32 : BitVec 32 := 80#32
  let v214 : BitVec 32 := Scalar.addi v125 c80_i32
  let c32752_i32_120 : BitVec 32 := 32752#32
  let v215 : BitVec 32 := Scalar.minsi v214 c32752_i32_120
  let v216 : BitVec 32 := v215
  let arg0 : BitVec 32 := BitVec.ofNat 32 (i 0).val
  let c256_i32 : BitVec 32 := 256#32
  let v34 : BitVec 32 := Scalar.muli arg0 c256_i32
  let v35 : BitVec 32 := v34
  ![v216.toNat, v35.toNat]
def k0_mult8 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c96_i32 : BitVec 32 := 96#32
  let v214 : BitVec 32 := Scalar.addi v125 c96_i32
  let c32752_i32_120 : BitVec 32 := 32752#32
  let v215 : BitVec 32 := Scalar.minsi v214 c32752_i32_120
  v215
def k0_cond6 (i : grid0.Coords) (v11 : BitVec 32) (v100 : BitVec 32) (v105 : BitVec 32) : BitVec 1 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let c6_i32_97 : BitVec 32 := 6#32
  let v172 : BitVec 1 := Scalar.cmpi .sgt v145 c6_i32_97
  let v173 : BitVec 32 := Scalar.extui v172
  let c0_i32_98 : BitVec 32 := 0#32
  let v174 : BitVec 1 := Scalar.cmpi .ne v173 c0_i32_98
  v174

def k0_off23 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c96_i32 : BitVec 32 := 96#32
  let v214 : BitVec 32 := Scalar.addi v125 c96_i32
  let c32752_i32_120 : BitVec 32 := 32752#32
  let v215 : BitVec 32 := Scalar.minsi v214 c32752_i32_120
  let v216 : BitVec 32 := v215
  let arg0 : BitVec 32 := BitVec.ofNat 32 (i 0).val
  let c256_i32 : BitVec 32 := 256#32
  let v34 : BitVec 32 := Scalar.muli arg0 c256_i32
  let v35 : BitVec 32 := v34
  ![v216.toNat, v35.toNat]
@[reducible] def k0_t3_loop (i : grid0.Coords) (v11 : BitVec 32) (v100 : BitVec 32) (v105 : BitVec 32) : Scf.Loop 32 :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_101 : BitVec 32 := 1#32
  ⟨c0_i32_99, v179, c1_i32_101⟩
def k0_mult9 (i : grid0.Coords) (v11 : BitVec 32) (v100 : BitVec 32) (v105 : BitVec 32) (k0_t3 : Fin (k0_t3_loop i v11 v100 v105).trips) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let c1_i32_101 : BitVec 32 := 1#32
  let arg14 : BitVec 32 := Scf.iv c0_i32_99 c1_i32_101 k0_t3
  let c16_i32_120 : BitVec 32 := 16#32
  let v214 : BitVec 32 := Scalar.muli arg14 c16_i32_120
  let v215 : BitVec 32 := Scalar.addi v125 v214
  let c32752_i32_121 : BitVec 32 := 32752#32
  let v216 : BitVec 32 := Scalar.minsi v215 c32752_i32_121
  v216
def k0_off24 (i : grid0.Coords) (v11 : BitVec 32) (v100 : BitVec 32) (v105 : BitVec 32) (k0_t3 : Fin (k0_t3_loop i v11 v100 v105).trips) : Fin 3 → Nat :=
  let c0_i32_99 : BitVec 32 := 0#32
  let c1_i32_101 : BitVec 32 := 1#32
  let arg14 : BitVec 32 := Scf.iv c0_i32_99 c1_i32_101 k0_t3
  let c8_i32_122 : BitVec 32 := 8#32
  let c0_i32_123 : BitVec 32 := 0#32
  let v218 : BitVec 1 := Scalar.cmpi .eq c8_i32_122 c0_i32_123
  let c1_i32_124 : BitVec 32 := 1#32
  let v219 : BitVec 32 := Scalar.select v218 c1_i32_124 c8_i32_122
  let v220 : BitVec 32 := Scalar.remsi arg14 v219
  let c0_i32_126 : BitVec 32 := 0#32
  let v222 : BitVec 1 := Scalar.cmpi .slt v220 c0_i32_126
  let c0_i32_127 : BitVec 32 := 0#32
  let v223 : BitVec 1 := Scalar.cmpi .slt v219 c0_i32_127
  let v224 : BitVec 1 := Scalar.xori v222 v223
  let c0_i32_125 : BitVec 32 := 0#32
  let v221 : BitVec 1 := Scalar.cmpi .ne v220 c0_i32_125
  let v225 : BitVec 1 := Scalar.andi v224 v221
  let v226 : BitVec 32 := Scalar.addi v220 v219
  let v227 : BitVec 32 := Scalar.select v225 v226 v220
  let c0_i32_134 : BitVec 32 := 0#32
  let c0_i32_135 : BitVec 32 := 0#32
  ![v227.toNat, 0, 0]
def k0_off25 (i : grid0.Coords) (v11 : BitVec 32) (v100 : BitVec 32) (v105 : BitVec 32) (k0_t3 : Fin (k0_t3_loop i v11 v100 v105).trips) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let c1_i32_101 : BitVec 32 := 1#32
  let arg14 : BitVec 32 := Scf.iv c0_i32_99 c1_i32_101 k0_t3
  let c16_i32_120 : BitVec 32 := 16#32
  let v214 : BitVec 32 := Scalar.muli arg14 c16_i32_120
  let v215 : BitVec 32 := Scalar.addi v125 v214
  let c32752_i32_121 : BitVec 32 := 32752#32
  let v216 : BitVec 32 := Scalar.minsi v215 c32752_i32_121
  let v217 : BitVec 32 := v216
  let arg0 : BitVec 32 := BitVec.ofNat 32 (i 0).val
  let c256_i32 : BitVec 32 := 256#32
  let v34 : BitVec 32 := Scalar.muli arg0 c256_i32
  let v35 : BitVec 32 := v34
  ![v217.toNat, v35.toNat]
def k0_off26 (i : grid0.Coords) (v11 : BitVec 32) (v100 : BitVec 32) (v105 : BitVec 32) (k0_t3 : Fin (k0_t3_loop i v11 v100 v105).trips) : Fin 1 → Nat :=
  let c0_i32_99 : BitVec 32 := 0#32
  let c1_i32_101 : BitVec 32 := 1#32
  let arg14 : BitVec 32 := Scf.iv c0_i32_99 c1_i32_101 k0_t3
  let c8_i32_128 : BitVec 32 := 8#32
  let c0_i32_129 : BitVec 32 := 0#32
  let v228 : BitVec 1 := Scalar.cmpi .eq c8_i32_128 c0_i32_129
  let c1_i32_130 : BitVec 32 := 1#32
  let v229 : BitVec 32 := Scalar.select v228 c1_i32_130 c8_i32_128
  let v230 : BitVec 32 := Scalar.remsi arg14 v229
  let c0_i32_132 : BitVec 32 := 0#32
  let v232 : BitVec 1 := Scalar.cmpi .slt v230 c0_i32_132
  let c0_i32_133 : BitVec 32 := 0#32
  let v233 : BitVec 1 := Scalar.cmpi .slt v229 c0_i32_133
  let v234 : BitVec 1 := Scalar.xori v232 v233
  let c0_i32_131 : BitVec 32 := 0#32
  let v231 : BitVec 1 := Scalar.cmpi .ne v230 c0_i32_131
  let v235 : BitVec 1 := Scalar.andi v234 v231
  let v236 : BitVec 32 := Scalar.addi v230 v229
  let v237 : BitVec 32 := Scalar.select v235 v236 v230
  ![v237.toNat]
def k0_mult10 (i : grid0.Coords) (v11 : BitVec 32) (v100 : BitVec 32) (v105 : BitVec 32) (k0_t3 : Fin (k0_t3_loop i v11 v100 v105).trips) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let c1_i32_101 : BitVec 32 := 1#32
  let arg14 : BitVec 32 := Scf.iv c0_i32_99 c1_i32_101 k0_t3
  let c8_i32_153 : BitVec 32 := 8#32
  let v267 : BitVec 32 := Scalar.addi arg14 c8_i32_153
  let c1_i32_154 : BitVec 32 := 1#32
  let v268 : BitVec 32 := Scalar.subi v267 c1_i32_154
  let c16_i32_155 : BitVec 32 := 16#32
  let v269 : BitVec 32 := Scalar.muli v268 c16_i32_155
  let v270 : BitVec 32 := Scalar.addi v125 v269
  let c32752_i32_156 : BitVec 32 := 32752#32
  let v271 : BitVec 32 := Scalar.minsi v270 c32752_i32_156
  v271
def k0_cond7 (i : grid0.Coords) (v11 : BitVec 32) (v100 : BitVec 32) (v105 : BitVec 32) (k0_t3 : Fin (k0_t3_loop i v11 v100 v105).trips) : BitVec 1 :=
  let c0_i32_99 : BitVec 32 := 0#32
  let c1_i32_101 : BitVec 32 := 1#32
  let arg14 : BitVec 32 := Scf.iv c0_i32_99 c1_i32_101 k0_t3
  let c8_i32_138 : BitVec 32 := 8#32
  let v246 : BitVec 32 := Scalar.addi arg14 c8_i32_138
  let c1_i32_139 : BitVec 32 := 1#32
  let v247 : BitVec 32 := Scalar.subi v246 c1_i32_139
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v248 : BitVec 1 := Scalar.cmpi .slt v247 v145
  let v249 : BitVec 32 := Scalar.extui v248
  let c0_i32_140 : BitVec 32 := 0#32
  let v250 : BitVec 1 := Scalar.cmpi .ne v249 c0_i32_140
  v250

def k0_off27 (i : grid0.Coords) (v11 : BitVec 32) (v100 : BitVec 32) (v105 : BitVec 32) (k0_t3 : Fin (k0_t3_loop i v11 v100 v105).trips) : Fin 3 → Nat :=
  let c0_i32_99 : BitVec 32 := 0#32
  let c1_i32_101 : BitVec 32 := 1#32
  let arg14 : BitVec 32 := Scf.iv c0_i32_99 c1_i32_101 k0_t3
  let c8_i32_153 : BitVec 32 := 8#32
  let v267 : BitVec 32 := Scalar.addi arg14 c8_i32_153
  let c1_i32_154 : BitVec 32 := 1#32
  let v268 : BitVec 32 := Scalar.subi v267 c1_i32_154
  let c8_i32_157 : BitVec 32 := 8#32
  let c0_i32_158 : BitVec 32 := 0#32
  let v273 : BitVec 1 := Scalar.cmpi .eq c8_i32_157 c0_i32_158
  let c1_i32_159 : BitVec 32 := 1#32
  let v274 : BitVec 32 := Scalar.select v273 c1_i32_159 c8_i32_157
  let v275 : BitVec 32 := Scalar.remsi v268 v274
  let c0_i32_161 : BitVec 32 := 0#32
  let v277 : BitVec 1 := Scalar.cmpi .slt v275 c0_i32_161
  let c0_i32_162 : BitVec 32 := 0#32
  let v278 : BitVec 1 := Scalar.cmpi .slt v274 c0_i32_162
  let v279 : BitVec 1 := Scalar.xori v277 v278
  let c0_i32_160 : BitVec 32 := 0#32
  let v276 : BitVec 1 := Scalar.cmpi .ne v275 c0_i32_160
  let v280 : BitVec 1 := Scalar.andi v279 v276
  let v281 : BitVec 32 := Scalar.addi v275 v274
  let v282 : BitVec 32 := Scalar.select v280 v281 v275
  let c0_i32_169 : BitVec 32 := 0#32
  let c0_i32_170 : BitVec 32 := 0#32
  ![v282.toNat, 0, 0]
def k0_off28 (i : grid0.Coords) (v11 : BitVec 32) (v100 : BitVec 32) (v105 : BitVec 32) (k0_t3 : Fin (k0_t3_loop i v11 v100 v105).trips) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let c1_i32_101 : BitVec 32 := 1#32
  let arg14 : BitVec 32 := Scf.iv c0_i32_99 c1_i32_101 k0_t3
  let c8_i32_153 : BitVec 32 := 8#32
  let v267 : BitVec 32 := Scalar.addi arg14 c8_i32_153
  let c1_i32_154 : BitVec 32 := 1#32
  let v268 : BitVec 32 := Scalar.subi v267 c1_i32_154
  let c16_i32_155 : BitVec 32 := 16#32
  let v269 : BitVec 32 := Scalar.muli v268 c16_i32_155
  let v270 : BitVec 32 := Scalar.addi v125 v269
  let c32752_i32_156 : BitVec 32 := 32752#32
  let v271 : BitVec 32 := Scalar.minsi v270 c32752_i32_156
  let v272 : BitVec 32 := v271
  let arg0 : BitVec 32 := BitVec.ofNat 32 (i 0).val
  let c256_i32 : BitVec 32 := 256#32
  let v34 : BitVec 32 := Scalar.muli arg0 c256_i32
  let v35 : BitVec 32 := v34
  ![v272.toNat, v35.toNat]
def k0_off29 (i : grid0.Coords) (v11 : BitVec 32) (v100 : BitVec 32) (v105 : BitVec 32) (k0_t3 : Fin (k0_t3_loop i v11 v100 v105).trips) : Fin 1 → Nat :=
  let c0_i32_99 : BitVec 32 := 0#32
  let c1_i32_101 : BitVec 32 := 1#32
  let arg14 : BitVec 32 := Scf.iv c0_i32_99 c1_i32_101 k0_t3
  let c8_i32_153 : BitVec 32 := 8#32
  let v267 : BitVec 32 := Scalar.addi arg14 c8_i32_153
  let c1_i32_154 : BitVec 32 := 1#32
  let v268 : BitVec 32 := Scalar.subi v267 c1_i32_154
  let c8_i32_163 : BitVec 32 := 8#32
  let c0_i32_164 : BitVec 32 := 0#32
  let v283 : BitVec 1 := Scalar.cmpi .eq c8_i32_163 c0_i32_164
  let c1_i32_165 : BitVec 32 := 1#32
  let v284 : BitVec 32 := Scalar.select v283 c1_i32_165 c8_i32_163
  let v285 : BitVec 32 := Scalar.remsi v268 v284
  let c0_i32_167 : BitVec 32 := 0#32
  let v287 : BitVec 1 := Scalar.cmpi .slt v285 c0_i32_167
  let c0_i32_168 : BitVec 32 := 0#32
  let v288 : BitVec 1 := Scalar.cmpi .slt v284 c0_i32_168
  let v289 : BitVec 1 := Scalar.xori v287 v288
  let c0_i32_166 : BitVec 32 := 0#32
  let v286 : BitVec 1 := Scalar.cmpi .ne v285 c0_i32_166
  let v290 : BitVec 1 := Scalar.andi v289 v286
  let v291 : BitVec 32 := Scalar.addi v285 v284
  let v292 : BitVec 32 := Scalar.select v290 v291 v285
  ![v292.toNat]
def k0_mult11 (i : grid0.Coords) (v11 : BitVec 32) (v100 : BitVec 32) (v105 : BitVec 32) (k0_t3 : Fin (k0_t3_loop i v11 v100 v105).trips) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let c1_i32_101 : BitVec 32 := 1#32
  let arg14 : BitVec 32 := Scf.iv c0_i32_99 c1_i32_101 k0_t3
  let c16_i32_141 : BitVec 32 := 16#32
  let v251 : BitVec 32 := Scalar.muli arg14 c16_i32_141
  let v252 : BitVec 32 := Scalar.addi v125 v251
  let c32752_i32_142 : BitVec 32 := 32752#32
  let v253 : BitVec 32 := Scalar.minsi v252 c32752_i32_142
  v253
@[reducible] def k0_t4_loop : Scf.Loop 32 :=
  let c0_i32_149 : BitVec 32 := 0#32
  let c4_i32_150 : BitVec 32 := 4#32
  let v265 : BitVec 32 := Scalar.addi c0_i32_149 c4_i32_150
  let c1_i32_151 : BitVec 32 := 1#32
  ⟨c0_i32_149, v265, c1_i32_151⟩
def k0_off30 (i : grid0.Coords) (v11 : BitVec 32) (v100 : BitVec 32) (v105 : BitVec 32) (k0_t3 : Fin (k0_t3_loop i v11 v100 v105).trips) (k0_t4 : Fin k0_t4_loop.trips) (c0_i32_155 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v274 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v273 : BitVec 32 := Scalar.addi v267 c0_i32_155
  let v275 : Index := Scalar.indexCast v273
  let c0_156 : Index := 0#32
  ![v274.toNat, v275.toNat, 0]
def k0_off31 (i : grid0.Coords) (v11 : BitVec 32) (v100 : BitVec 32) (v105 : BitVec 32) (k0_t3 : Fin (k0_t3_loop i v11 v100 v105).trips) (k0_t4 : Fin k0_t4_loop.trips) (c0_i32_158 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v281 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v280 : BitVec 32 := Scalar.addi v267 c0_i32_158
  let v282 : Index := Scalar.indexCast v280
  let c16_159 : Index := 16#32
  ![v281.toNat, v282.toNat, 16]
def k0_off32 (i : grid0.Coords) (v11 : BitVec 32) (v100 : BitVec 32) (v105 : BitVec 32) (k0_t3 : Fin (k0_t3_loop i v11 v100 v105).trips) (k0_t4 : Fin k0_t4_loop.trips) (c0_i32_161 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v288 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v287 : BitVec 32 := Scalar.addi v267 c0_i32_161
  let v289 : Index := Scalar.indexCast v287
  let c32_162 : Index := 32#32
  ![v288.toNat, v289.toNat, 32]
def k0_off33 (i : grid0.Coords) (v11 : BitVec 32) (v100 : BitVec 32) (v105 : BitVec 32) (k0_t3 : Fin (k0_t3_loop i v11 v100 v105).trips) (k0_t4 : Fin k0_t4_loop.trips) (c0_i32_164 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v295 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v294 : BitVec 32 := Scalar.addi v267 c0_i32_164
  let v296 : Index := Scalar.indexCast v294
  let c48_165 : Index := 48#32
  ![v295.toNat, v296.toNat, 48]
def k0_off34 (i : grid0.Coords) (v11 : BitVec 32) (v100 : BitVec 32) (v105 : BitVec 32) (k0_t3 : Fin (k0_t3_loop i v11 v100 v105).trips) (k0_t4 : Fin k0_t4_loop.trips) (c0_i32_167 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v302 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v301 : BitVec 32 := Scalar.addi v267 c0_i32_167
  let v303 : Index := Scalar.indexCast v301
  let c64_168 : Index := 64#32
  ![v302.toNat, v303.toNat, 64]
def k0_off35 (i : grid0.Coords) (v11 : BitVec 32) (v100 : BitVec 32) (v105 : BitVec 32) (k0_t3 : Fin (k0_t3_loop i v11 v100 v105).trips) (k0_t4 : Fin k0_t4_loop.trips) (c0_i32_170 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v309 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v308 : BitVec 32 := Scalar.addi v267 c0_i32_170
  let v310 : Index := Scalar.indexCast v308
  let c80_171 : Index := 80#32
  ![v309.toNat, v310.toNat, 80]
def k0_off36 (i : grid0.Coords) (v11 : BitVec 32) (v100 : BitVec 32) (v105 : BitVec 32) (k0_t3 : Fin (k0_t3_loop i v11 v100 v105).trips) (k0_t4 : Fin k0_t4_loop.trips) (c0_i32_173 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v316 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v315 : BitVec 32 := Scalar.addi v267 c0_i32_173
  let v317 : Index := Scalar.indexCast v315
  let c96_174 : Index := 96#32
  ![v316.toNat, v317.toNat, 96]
def k0_off37 (i : grid0.Coords) (v11 : BitVec 32) (v100 : BitVec 32) (v105 : BitVec 32) (k0_t3 : Fin (k0_t3_loop i v11 v100 v105).trips) (k0_t4 : Fin k0_t4_loop.trips) (c0_i32_176 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v323 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v322 : BitVec 32 := Scalar.addi v267 c0_i32_176
  let v324 : Index := Scalar.indexCast v322
  let c112_177 : Index := 112#32
  ![v323.toNat, v324.toNat, 112]
def k0_off38 (i : grid0.Coords) (v11 : BitVec 32) (v100 : BitVec 32) (v105 : BitVec 32) (k0_t3 : Fin (k0_t3_loop i v11 v100 v105).trips) (k0_t4 : Fin k0_t4_loop.trips) (c0_i32_179 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v330 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v329 : BitVec 32 := Scalar.addi v267 c0_i32_179
  let v331 : Index := Scalar.indexCast v329
  let c128_180 : Index := 128#32
  ![v330.toNat, v331.toNat, 128]
def k0_off39 (i : grid0.Coords) (v11 : BitVec 32) (v100 : BitVec 32) (v105 : BitVec 32) (k0_t3 : Fin (k0_t3_loop i v11 v100 v105).trips) (k0_t4 : Fin k0_t4_loop.trips) (c0_i32_182 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v337 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v336 : BitVec 32 := Scalar.addi v267 c0_i32_182
  let v338 : Index := Scalar.indexCast v336
  let c144_183 : Index := 144#32
  ![v337.toNat, v338.toNat, 144]
def k0_off40 (i : grid0.Coords) (v11 : BitVec 32) (v100 : BitVec 32) (v105 : BitVec 32) (k0_t3 : Fin (k0_t3_loop i v11 v100 v105).trips) (k0_t4 : Fin k0_t4_loop.trips) (c0_i32_185 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v344 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v343 : BitVec 32 := Scalar.addi v267 c0_i32_185
  let v345 : Index := Scalar.indexCast v343
  let c160_186 : Index := 160#32
  ![v344.toNat, v345.toNat, 160]
def k0_off41 (i : grid0.Coords) (v11 : BitVec 32) (v100 : BitVec 32) (v105 : BitVec 32) (k0_t3 : Fin (k0_t3_loop i v11 v100 v105).trips) (k0_t4 : Fin k0_t4_loop.trips) (c0_i32_188 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v351 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v350 : BitVec 32 := Scalar.addi v267 c0_i32_188
  let v352 : Index := Scalar.indexCast v350
  let c176_189 : Index := 176#32
  ![v351.toNat, v352.toNat, 176]
def k0_off42 (i : grid0.Coords) (v11 : BitVec 32) (v100 : BitVec 32) (v105 : BitVec 32) (k0_t3 : Fin (k0_t3_loop i v11 v100 v105).trips) (k0_t4 : Fin k0_t4_loop.trips) (c0_i32_191 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v358 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v357 : BitVec 32 := Scalar.addi v267 c0_i32_191
  let v359 : Index := Scalar.indexCast v357
  let c192_192 : Index := 192#32
  ![v358.toNat, v359.toNat, 192]
def k0_off43 (i : grid0.Coords) (v11 : BitVec 32) (v100 : BitVec 32) (v105 : BitVec 32) (k0_t3 : Fin (k0_t3_loop i v11 v100 v105).trips) (k0_t4 : Fin k0_t4_loop.trips) (c0_i32_194 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v365 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v364 : BitVec 32 := Scalar.addi v267 c0_i32_194
  let v366 : Index := Scalar.indexCast v364
  let c208_195 : Index := 208#32
  ![v365.toNat, v366.toNat, 208]
def k0_off44 (i : grid0.Coords) (v11 : BitVec 32) (v100 : BitVec 32) (v105 : BitVec 32) (k0_t3 : Fin (k0_t3_loop i v11 v100 v105).trips) (k0_t4 : Fin k0_t4_loop.trips) (c0_i32_197 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v372 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v371 : BitVec 32 := Scalar.addi v267 c0_i32_197
  let v373 : Index := Scalar.indexCast v371
  let c224_198 : Index := 224#32
  ![v372.toNat, v373.toNat, 224]
def k0_off45 (i : grid0.Coords) (v11 : BitVec 32) (v100 : BitVec 32) (v105 : BitVec 32) (k0_t3 : Fin (k0_t3_loop i v11 v100 v105).trips) (k0_t4 : Fin k0_t4_loop.trips) (c0_i32_200 : BitVec 32) : Fin 3 → Nat :=
  let c0_i32_99 : BitVec 32 := 0#32
  let c1_i32_101 : BitVec 32 := 1#32
  let arg14 : BitVec 32 := Scf.iv c0_i32_99 c1_i32_101 k0_t3
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v379 : Index := Scalar.indexCast v264
  let c0_i32_149 : BitVec 32 := 0#32
  let c1_i32_151 : BitVec 32 := 1#32
  let arg31 : BitVec 32 := Scf.iv c0_i32_149 c1_i32_151 k0_t4
  let c4_i32_153 : BitVec 32 := 4#32
  let v267 : BitVec 32 := Scalar.muli arg31 c4_i32_153
  let v378 : BitVec 32 := Scalar.addi v267 c0_i32_200
  let v380 : Index := Scalar.indexCast v378
  let c240_201 : Index := 240#32
  ![v379.toNat, v380.toNat, 240]
@[reducible] def k0_t5_loop (i : grid0.Coords) (v11 : BitVec 32) (v100 : BitVec 32) (v105 : BitVec 32) : Scf.Loop 32 :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let v176 : BitVec 32 := Scalar.addi c0_i32_99 v175
  let c1_i32_102 : BitVec 32 := 1#32
  ⟨v179, v176, c1_i32_102⟩
def k0_mult12 (i : grid0.Coords) (v11 : BitVec 32) (v100 : BitVec 32) (v105 : BitVec 32) (k0_t5 : Fin (k0_t5_loop i v11 v100 v105).trips) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let v32 : BitVec 32 := Scalar.addi v31 v30
  let v33 : BitVec 32 := Scalar.minsi v32 v11
  let v107 : BitVec 32 := Scalar.minsi v105 v33
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c16_i32_120 : BitVec 32 := 16#32
  let v214 : BitVec 32 := Scalar.muli arg14 c16_i32_120
  let v215 : BitVec 32 := Scalar.addi v125 v214
  let c32752_i32_121 : BitVec 32 := 32752#32
  let v216 : BitVec 32 := Scalar.minsi v215 c32752_i32_121
  v216
def k0_off46 (i : grid0.Coords) (v11 : BitVec 32) (v100 : BitVec 32) (v105 : BitVec 32) (k0_t5 : Fin (k0_t5_loop i v11 v100 v105).trips) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_122 : BitVec 32 := 8#32
  let c0_i32_123 : BitVec 32 := 0#32
  let v218 : BitVec 1 := Scalar.cmpi .eq c8_i32_122 c0_i32_123
  let c1_i32_124 : BitVec 32 := 1#32
  let v219 : BitVec 32 := Scalar.select v218 c1_i32_124 c8_i32_122
  let v220 : BitVec 32 := Scalar.remsi arg14 v219
  let c0_i32_126 : BitVec 32 := 0#32
  let v222 : BitVec 1 := Scalar.cmpi .slt v220 c0_i32_126
  let c0_i32_127 : BitVec 32 := 0#32
  let v223 : BitVec 1 := Scalar.cmpi .slt v219 c0_i32_127
  let v224 : BitVec 1 := Scalar.xori v222 v223
  let c0_i32_125 : BitVec 32 := 0#32
  let v221 : BitVec 1 := Scalar.cmpi .ne v220 c0_i32_125
  let v225 : BitVec 1 := Scalar.andi v224 v221
  let v226 : BitVec 32 := Scalar.addi v220 v219
  let v227 : BitVec 32 := Scalar.select v225 v226 v220
  let c0_i32_134 : BitVec 32 := 0#32
  let c0_i32_135 : BitVec 32 := 0#32
  ![v227.toNat, 0, 0]
def k0_off47 (i : grid0.Coords) (v11 : BitVec 32) (v100 : BitVec 32) (v105 : BitVec 32) (k0_t5 : Fin (k0_t5_loop i v11 v100 v105).trips) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let v32 : BitVec 32 := Scalar.addi v31 v30
  let v33 : BitVec 32 := Scalar.minsi v32 v11
  let v107 : BitVec 32 := Scalar.minsi v105 v33
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c16_i32_120 : BitVec 32 := 16#32
  let v214 : BitVec 32 := Scalar.muli arg14 c16_i32_120
  let v215 : BitVec 32 := Scalar.addi v125 v214
  let c32752_i32_121 : BitVec 32 := 32752#32
  let v216 : BitVec 32 := Scalar.minsi v215 c32752_i32_121
  let v217 : BitVec 32 := v216
  let arg0 : BitVec 32 := BitVec.ofNat 32 (i 0).val
  let c256_i32 : BitVec 32 := 256#32
  let v34 : BitVec 32 := Scalar.muli arg0 c256_i32
  let v35 : BitVec 32 := v34
  ![v217.toNat, v35.toNat]
def k0_off48 (i : grid0.Coords) (v11 : BitVec 32) (v100 : BitVec 32) (v105 : BitVec 32) (k0_t5 : Fin (k0_t5_loop i v11 v100 v105).trips) : Fin 1 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_128 : BitVec 32 := 8#32
  let c0_i32_129 : BitVec 32 := 0#32
  let v228 : BitVec 1 := Scalar.cmpi .eq c8_i32_128 c0_i32_129
  let c1_i32_130 : BitVec 32 := 1#32
  let v229 : BitVec 32 := Scalar.select v228 c1_i32_130 c8_i32_128
  let v230 : BitVec 32 := Scalar.remsi arg14 v229
  let c0_i32_132 : BitVec 32 := 0#32
  let v232 : BitVec 1 := Scalar.cmpi .slt v230 c0_i32_132
  let c0_i32_133 : BitVec 32 := 0#32
  let v233 : BitVec 1 := Scalar.cmpi .slt v229 c0_i32_133
  let v234 : BitVec 1 := Scalar.xori v232 v233
  let c0_i32_131 : BitVec 32 := 0#32
  let v231 : BitVec 1 := Scalar.cmpi .ne v230 c0_i32_131
  let v235 : BitVec 1 := Scalar.andi v234 v231
  let v236 : BitVec 32 := Scalar.addi v230 v229
  let v237 : BitVec 32 := Scalar.select v235 v236 v230
  ![v237.toNat]
def k0_mult13 (i : grid0.Coords) (v11 : BitVec 32) (v100 : BitVec 32) (v105 : BitVec 32) (k0_t5 : Fin (k0_t5_loop i v11 v100 v105).trips) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let v32 : BitVec 32 := Scalar.addi v31 v30
  let v33 : BitVec 32 := Scalar.minsi v32 v11
  let v107 : BitVec 32 := Scalar.minsi v105 v33
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_153 : BitVec 32 := 8#32
  let v267 : BitVec 32 := Scalar.addi arg14 c8_i32_153
  let c1_i32_154 : BitVec 32 := 1#32
  let v268 : BitVec 32 := Scalar.subi v267 c1_i32_154
  let c16_i32_155 : BitVec 32 := 16#32
  let v269 : BitVec 32 := Scalar.muli v268 c16_i32_155
  let v270 : BitVec 32 := Scalar.addi v125 v269
  let c32752_i32_156 : BitVec 32 := 32752#32
  let v271 : BitVec 32 := Scalar.minsi v270 c32752_i32_156
  v271
def k0_cond8 (i : grid0.Coords) (v11 : BitVec 32) (v100 : BitVec 32) (v105 : BitVec 32) (k0_t5 : Fin (k0_t5_loop i v11 v100 v105).trips) : BitVec 1 :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_138 : BitVec 32 := 8#32
  let v246 : BitVec 32 := Scalar.addi arg14 c8_i32_138
  let c1_i32_139 : BitVec 32 := 1#32
  let v247 : BitVec 32 := Scalar.subi v246 c1_i32_139
  let v248 : BitVec 1 := Scalar.cmpi .slt v247 v145
  let v249 : BitVec 32 := Scalar.extui v248
  let c0_i32_140 : BitVec 32 := 0#32
  let v250 : BitVec 1 := Scalar.cmpi .ne v249 c0_i32_140
  v250

def k0_off49 (i : grid0.Coords) (v11 : BitVec 32) (v100 : BitVec 32) (v105 : BitVec 32) (k0_t5 : Fin (k0_t5_loop i v11 v100 v105).trips) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_153 : BitVec 32 := 8#32
  let v267 : BitVec 32 := Scalar.addi arg14 c8_i32_153
  let c1_i32_154 : BitVec 32 := 1#32
  let v268 : BitVec 32 := Scalar.subi v267 c1_i32_154
  let c8_i32_157 : BitVec 32 := 8#32
  let c0_i32_158 : BitVec 32 := 0#32
  let v273 : BitVec 1 := Scalar.cmpi .eq c8_i32_157 c0_i32_158
  let c1_i32_159 : BitVec 32 := 1#32
  let v274 : BitVec 32 := Scalar.select v273 c1_i32_159 c8_i32_157
  let v275 : BitVec 32 := Scalar.remsi v268 v274
  let c0_i32_161 : BitVec 32 := 0#32
  let v277 : BitVec 1 := Scalar.cmpi .slt v275 c0_i32_161
  let c0_i32_162 : BitVec 32 := 0#32
  let v278 : BitVec 1 := Scalar.cmpi .slt v274 c0_i32_162
  let v279 : BitVec 1 := Scalar.xori v277 v278
  let c0_i32_160 : BitVec 32 := 0#32
  let v276 : BitVec 1 := Scalar.cmpi .ne v275 c0_i32_160
  let v280 : BitVec 1 := Scalar.andi v279 v276
  let v281 : BitVec 32 := Scalar.addi v275 v274
  let v282 : BitVec 32 := Scalar.select v280 v281 v275
  let c0_i32_169 : BitVec 32 := 0#32
  let c0_i32_170 : BitVec 32 := 0#32
  ![v282.toNat, 0, 0]
def k0_off50 (i : grid0.Coords) (v11 : BitVec 32) (v100 : BitVec 32) (v105 : BitVec 32) (k0_t5 : Fin (k0_t5_loop i v11 v100 v105).trips) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let v32 : BitVec 32 := Scalar.addi v31 v30
  let v33 : BitVec 32 := Scalar.minsi v32 v11
  let v107 : BitVec 32 := Scalar.minsi v105 v33
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_153 : BitVec 32 := 8#32
  let v267 : BitVec 32 := Scalar.addi arg14 c8_i32_153
  let c1_i32_154 : BitVec 32 := 1#32
  let v268 : BitVec 32 := Scalar.subi v267 c1_i32_154
  let c16_i32_155 : BitVec 32 := 16#32
  let v269 : BitVec 32 := Scalar.muli v268 c16_i32_155
  let v270 : BitVec 32 := Scalar.addi v125 v269
  let c32752_i32_156 : BitVec 32 := 32752#32
  let v271 : BitVec 32 := Scalar.minsi v270 c32752_i32_156
  let v272 : BitVec 32 := v271
  let arg0 : BitVec 32 := BitVec.ofNat 32 (i 0).val
  let c256_i32 : BitVec 32 := 256#32
  let v34 : BitVec 32 := Scalar.muli arg0 c256_i32
  let v35 : BitVec 32 := v34
  ![v272.toNat, v35.toNat]
def k0_off51 (i : grid0.Coords) (v11 : BitVec 32) (v100 : BitVec 32) (v105 : BitVec 32) (k0_t5 : Fin (k0_t5_loop i v11 v100 v105).trips) : Fin 1 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_153 : BitVec 32 := 8#32
  let v267 : BitVec 32 := Scalar.addi arg14 c8_i32_153
  let c1_i32_154 : BitVec 32 := 1#32
  let v268 : BitVec 32 := Scalar.subi v267 c1_i32_154
  let c8_i32_163 : BitVec 32 := 8#32
  let c0_i32_164 : BitVec 32 := 0#32
  let v283 : BitVec 1 := Scalar.cmpi .eq c8_i32_163 c0_i32_164
  let c1_i32_165 : BitVec 32 := 1#32
  let v284 : BitVec 32 := Scalar.select v283 c1_i32_165 c8_i32_163
  let v285 : BitVec 32 := Scalar.remsi v268 v284
  let c0_i32_167 : BitVec 32 := 0#32
  let v287 : BitVec 1 := Scalar.cmpi .slt v285 c0_i32_167
  let c0_i32_168 : BitVec 32 := 0#32
  let v288 : BitVec 1 := Scalar.cmpi .slt v284 c0_i32_168
  let v289 : BitVec 1 := Scalar.xori v287 v288
  let c0_i32_166 : BitVec 32 := 0#32
  let v286 : BitVec 1 := Scalar.cmpi .ne v285 c0_i32_166
  let v290 : BitVec 1 := Scalar.andi v289 v286
  let v291 : BitVec 32 := Scalar.addi v285 v284
  let v292 : BitVec 32 := Scalar.select v290 v291 v285
  ![v292.toNat]
def k0_mult14 (i : grid0.Coords) (v11 : BitVec 32) (v100 : BitVec 32) (v105 : BitVec 32) (k0_t5 : Fin (k0_t5_loop i v11 v100 v105).trips) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let v32 : BitVec 32 := Scalar.addi v31 v30
  let v33 : BitVec 32 := Scalar.minsi v32 v11
  let v107 : BitVec 32 := Scalar.minsi v105 v33
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c16_i32_141 : BitVec 32 := 16#32
  let v251 : BitVec 32 := Scalar.muli arg14 c16_i32_141
  let v252 : BitVec 32 := Scalar.addi v125 v251
  let c32752_i32_142 : BitVec 32 := 32752#32
  let v253 : BitVec 32 := Scalar.minsi v252 c32752_i32_142
  v253
@[reducible] def k0_t6_loop : Scf.Loop 32 :=
  let c0_i32_149 : BitVec 32 := 0#32
  let c4_i32_150 : BitVec 32 := 4#32
  let v265 : BitVec 32 := Scalar.addi c0_i32_149 c4_i32_150
  let c1_i32_151 : BitVec 32 := 1#32
  ⟨c0_i32_149, v265, c1_i32_151⟩
def k0_off52 (i : grid0.Coords) (v11 : BitVec 32) (v100 : BitVec 32) (v105 : BitVec 32) (k0_t5 : Fin (k0_t5_loop i v11 v100 v105).trips) (k0_t6 : Fin k0_t6_loop.trips) (c0_i32_155 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v274 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v273 : BitVec 32 := Scalar.addi v267 c0_i32_155
  let v275 : Index := Scalar.indexCast v273
  let c0_156 : Index := 0#32
  ![v274.toNat, v275.toNat, 0]
def k0_off53 (i : grid0.Coords) (v11 : BitVec 32) (v100 : BitVec 32) (v105 : BitVec 32) (k0_t5 : Fin (k0_t5_loop i v11 v100 v105).trips) (k0_t6 : Fin k0_t6_loop.trips) (c0_i32_158 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v281 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v280 : BitVec 32 := Scalar.addi v267 c0_i32_158
  let v282 : Index := Scalar.indexCast v280
  let c16_159 : Index := 16#32
  ![v281.toNat, v282.toNat, 16]
def k0_off54 (i : grid0.Coords) (v11 : BitVec 32) (v100 : BitVec 32) (v105 : BitVec 32) (k0_t5 : Fin (k0_t5_loop i v11 v100 v105).trips) (k0_t6 : Fin k0_t6_loop.trips) (c0_i32_161 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v288 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v287 : BitVec 32 := Scalar.addi v267 c0_i32_161
  let v289 : Index := Scalar.indexCast v287
  let c32_162 : Index := 32#32
  ![v288.toNat, v289.toNat, 32]
def k0_off55 (i : grid0.Coords) (v11 : BitVec 32) (v100 : BitVec 32) (v105 : BitVec 32) (k0_t5 : Fin (k0_t5_loop i v11 v100 v105).trips) (k0_t6 : Fin k0_t6_loop.trips) (c0_i32_164 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v295 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v294 : BitVec 32 := Scalar.addi v267 c0_i32_164
  let v296 : Index := Scalar.indexCast v294
  let c48_165 : Index := 48#32
  ![v295.toNat, v296.toNat, 48]
def k0_off56 (i : grid0.Coords) (v11 : BitVec 32) (v100 : BitVec 32) (v105 : BitVec 32) (k0_t5 : Fin (k0_t5_loop i v11 v100 v105).trips) (k0_t6 : Fin k0_t6_loop.trips) (c0_i32_167 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v302 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v301 : BitVec 32 := Scalar.addi v267 c0_i32_167
  let v303 : Index := Scalar.indexCast v301
  let c64_168 : Index := 64#32
  ![v302.toNat, v303.toNat, 64]
def k0_off57 (i : grid0.Coords) (v11 : BitVec 32) (v100 : BitVec 32) (v105 : BitVec 32) (k0_t5 : Fin (k0_t5_loop i v11 v100 v105).trips) (k0_t6 : Fin k0_t6_loop.trips) (c0_i32_170 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v309 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v308 : BitVec 32 := Scalar.addi v267 c0_i32_170
  let v310 : Index := Scalar.indexCast v308
  let c80_171 : Index := 80#32
  ![v309.toNat, v310.toNat, 80]
def k0_off58 (i : grid0.Coords) (v11 : BitVec 32) (v100 : BitVec 32) (v105 : BitVec 32) (k0_t5 : Fin (k0_t5_loop i v11 v100 v105).trips) (k0_t6 : Fin k0_t6_loop.trips) (c0_i32_173 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v316 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v315 : BitVec 32 := Scalar.addi v267 c0_i32_173
  let v317 : Index := Scalar.indexCast v315
  let c96_174 : Index := 96#32
  ![v316.toNat, v317.toNat, 96]
def k0_off59 (i : grid0.Coords) (v11 : BitVec 32) (v100 : BitVec 32) (v105 : BitVec 32) (k0_t5 : Fin (k0_t5_loop i v11 v100 v105).trips) (k0_t6 : Fin k0_t6_loop.trips) (c0_i32_176 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v323 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v322 : BitVec 32 := Scalar.addi v267 c0_i32_176
  let v324 : Index := Scalar.indexCast v322
  let c112_177 : Index := 112#32
  ![v323.toNat, v324.toNat, 112]
def k0_off60 (i : grid0.Coords) (v11 : BitVec 32) (v100 : BitVec 32) (v105 : BitVec 32) (k0_t5 : Fin (k0_t5_loop i v11 v100 v105).trips) (k0_t6 : Fin k0_t6_loop.trips) (c0_i32_179 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v330 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v329 : BitVec 32 := Scalar.addi v267 c0_i32_179
  let v331 : Index := Scalar.indexCast v329
  let c128_180 : Index := 128#32
  ![v330.toNat, v331.toNat, 128]
def k0_off61 (i : grid0.Coords) (v11 : BitVec 32) (v100 : BitVec 32) (v105 : BitVec 32) (k0_t5 : Fin (k0_t5_loop i v11 v100 v105).trips) (k0_t6 : Fin k0_t6_loop.trips) (c0_i32_182 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v337 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v336 : BitVec 32 := Scalar.addi v267 c0_i32_182
  let v338 : Index := Scalar.indexCast v336
  let c144_183 : Index := 144#32
  ![v337.toNat, v338.toNat, 144]
def k0_off62 (i : grid0.Coords) (v11 : BitVec 32) (v100 : BitVec 32) (v105 : BitVec 32) (k0_t5 : Fin (k0_t5_loop i v11 v100 v105).trips) (k0_t6 : Fin k0_t6_loop.trips) (c0_i32_185 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v344 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v343 : BitVec 32 := Scalar.addi v267 c0_i32_185
  let v345 : Index := Scalar.indexCast v343
  let c160_186 : Index := 160#32
  ![v344.toNat, v345.toNat, 160]
def k0_off63 (i : grid0.Coords) (v11 : BitVec 32) (v100 : BitVec 32) (v105 : BitVec 32) (k0_t5 : Fin (k0_t5_loop i v11 v100 v105).trips) (k0_t6 : Fin k0_t6_loop.trips) (c0_i32_188 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v351 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v350 : BitVec 32 := Scalar.addi v267 c0_i32_188
  let v352 : Index := Scalar.indexCast v350
  let c176_189 : Index := 176#32
  ![v351.toNat, v352.toNat, 176]
def k0_off64 (i : grid0.Coords) (v11 : BitVec 32) (v100 : BitVec 32) (v105 : BitVec 32) (k0_t5 : Fin (k0_t5_loop i v11 v100 v105).trips) (k0_t6 : Fin k0_t6_loop.trips) (c0_i32_191 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v358 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v357 : BitVec 32 := Scalar.addi v267 c0_i32_191
  let v359 : Index := Scalar.indexCast v357
  let c192_192 : Index := 192#32
  ![v358.toNat, v359.toNat, 192]
def k0_off65 (i : grid0.Coords) (v11 : BitVec 32) (v100 : BitVec 32) (v105 : BitVec 32) (k0_t5 : Fin (k0_t5_loop i v11 v100 v105).trips) (k0_t6 : Fin k0_t6_loop.trips) (c0_i32_194 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v365 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v364 : BitVec 32 := Scalar.addi v267 c0_i32_194
  let v366 : Index := Scalar.indexCast v364
  let c208_195 : Index := 208#32
  ![v365.toNat, v366.toNat, 208]
def k0_off66 (i : grid0.Coords) (v11 : BitVec 32) (v100 : BitVec 32) (v105 : BitVec 32) (k0_t5 : Fin (k0_t5_loop i v11 v100 v105).trips) (k0_t6 : Fin k0_t6_loop.trips) (c0_i32_197 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v372 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v371 : BitVec 32 := Scalar.addi v267 c0_i32_197
  let v373 : Index := Scalar.indexCast v371
  let c224_198 : Index := 224#32
  ![v372.toNat, v373.toNat, 224]
def k0_off67 (i : grid0.Coords) (v11 : BitVec 32) (v100 : BitVec 32) (v105 : BitVec 32) (k0_t5 : Fin (k0_t5_loop i v11 v100 v105).trips) (k0_t6 : Fin k0_t6_loop.trips) (c0_i32_200 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t5
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v379 : Index := Scalar.indexCast v264
  let c0_i32_149 : BitVec 32 := 0#32
  let c1_i32_151 : BitVec 32 := 1#32
  let arg31 : BitVec 32 := Scf.iv c0_i32_149 c1_i32_151 k0_t6
  let c4_i32_153 : BitVec 32 := 4#32
  let v267 : BitVec 32 := Scalar.muli arg31 c4_i32_153
  let v378 : BitVec 32 := Scalar.addi v267 c0_i32_200
  let v380 : Index := Scalar.indexCast v378
  let c240_201 : Index := 240#32
  ![v379.toNat, v380.toNat, 240]

def k0_chk3_0 (i : grid0.Coords) (v11 : BitVec 32) (v100 : BitVec 32) (v105 : BitVec 32) : Prop :=
  (∀ (k0_h1 : k0_cond1 i v11 v100 v105 = 1#1), 8 ∣ (k0_mult3 i v11 v100).toNat) ∧
  (∀ (k0_h1 : k0_cond1 i v11 v100 v105 = 1#1), ∀ a, (k0_off18 i v11 v100) a + S16x256.size a ≤ S32768x512.size a) ∧
  (∀ (k0_h2 : k0_cond2 i v11 v100 v105 = 1#1), 8 ∣ (k0_mult4 i v11 v100).toNat) ∧
  (∀ (k0_h2 : k0_cond2 i v11 v100 v105 = 1#1), ∀ a, (k0_off19 i v11 v100) a + S16x256.size a ≤ S32768x512.size a) ∧
  (∀ (k0_h3 : k0_cond3 i v11 v100 v105 = 1#1), 8 ∣ (k0_mult5 i v11 v100).toNat) ∧
  (∀ (k0_h3 : k0_cond3 i v11 v100 v105 = 1#1), ∀ a, (k0_off20 i v11 v100) a + S16x256.size a ≤ S32768x512.size a) ∧
  (∀ (k0_h4 : k0_cond4 i v11 v100 v105 = 1#1), 8 ∣ (k0_mult6 i v11 v100).toNat) ∧
  (∀ (k0_h4 : k0_cond4 i v11 v100 v105 = 1#1), ∀ a, (k0_off21 i v11 v100) a + S16x256.size a ≤ S32768x512.size a) ∧
  (∀ (k0_h5 : k0_cond5 i v11 v100 v105 = 1#1), 8 ∣ (k0_mult7 i v11 v100).toNat) ∧
  (∀ (k0_h5 : k0_cond5 i v11 v100 v105 = 1#1), ∀ a, (k0_off22 i v11 v100) a + S16x256.size a ≤ S32768x512.size a) ∧
  (∀ (k0_h6 : k0_cond6 i v11 v100 v105 = 1#1), 8 ∣ (k0_mult8 i v11 v100).toNat) ∧
  (∀ (k0_h6 : k0_cond6 i v11 v100 v105 = 1#1), ∀ a, (k0_off23 i v11 v100) a + S16x256.size a ≤ S32768x512.size a) ∧
  ((k0_t3_loop i v11 v100 v105).OK) ∧
  (∀ k0_t3 : Fin (k0_t3_loop i v11 v100 v105).trips, 8 ∣ (k0_mult9 i v11 v100 v105 k0_t3).toNat) ∧
  (∀ k0_t3 : Fin (k0_t3_loop i v11 v100 v105).trips, ∀ a, (k0_off24 i v11 v100 v105 k0_t3) a + S1x16x256.size a ≤ S8x16x256.size a) ∧
  (∀ k0_t3 : Fin (k0_t3_loop i v11 v100 v105).trips, ∀ a, (k0_off25 i v11 v100 v105 k0_t3) a + S16x256.size a ≤ S32768x512.size a) ∧
  (∀ k0_t3 : Fin (k0_t3_loop i v11 v100 v105).trips, ∀ a, (k0_off26 i v11 v100 v105 k0_t3) a + S1.size a ≤ S8.size a) ∧
  (∀ k0_t3 : Fin (k0_t3_loop i v11 v100 v105).trips, ∀ (k0_h7 : k0_cond7 i v11 v100 v105 k0_t3 = 1#1), 8 ∣ (k0_mult10 i v11 v100 v105 k0_t3).toNat) ∧
  (∀ k0_t3 : Fin (k0_t3_loop i v11 v100 v105).trips, ∀ (k0_h7 : k0_cond7 i v11 v100 v105 k0_t3 = 1#1), ∀ a, (k0_off27 i v11 v100 v105 k0_t3) a + S1x16x256.size a ≤ S8x16x256.size a) ∧
  (∀ k0_t3 : Fin (k0_t3_loop i v11 v100 v105).trips, ∀ (k0_h7 : k0_cond7 i v11 v100 v105 k0_t3 = 1#1), ∀ a, (k0_off28 i v11 v100 v105 k0_t3) a + S16x256.size a ≤ S32768x512.size a) ∧
  (∀ k0_t3 : Fin (k0_t3_loop i v11 v100 v105).trips, ∀ (k0_h7 : k0_cond7 i v11 v100 v105 k0_t3 = 1#1), ∀ a, (k0_off29 i v11 v100 v105 k0_t3) a + S1.size a ≤ S8.size a) ∧
  (∀ k0_t3 : Fin (k0_t3_loop i v11 v100 v105).trips, 8 ∣ (k0_mult11 i v11 v100 v105 k0_t3).toNat) ∧
  (∀ (k0_t3 : Fin (k0_t3_loop i v11 v100 v105).trips) (k0_t4 : Fin k0_t4_loop.trips), ∀ (r : Fin 4), ∀ a, (k0_off30 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off31 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off32 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off33 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off34 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off35 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off36 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off37 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off38 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off39 i v11 v100 v105 k0_t3 k0_t4 (BitVec.ofNat 32 r.val)) a + S1x1x16.size a ≤ S8x16x256.size a)
def k0_chk3_1 (i : grid0.Coords) (v11 : BitVec 32) (v100 : BitVec 32) (v105 : BitVec 32) : Prop :=
  (∀ (k0_t3 : Fin (k0_t3_loop i v11 v100 v105).trips) (k0_t4 : Fin k0_t4_loop.trips), ∀ (r : Fin 4), ∀ a, (k0_off40 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off41 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off42 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off43 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off44 i v11 v100 v105 k0_t3 k0_t4 (BitVec.ofNat 32 r.val)) a + S1x1x16.size a ≤ S8x16x256.size a) ∧
  (∀ (k0_t3 : Fin (k0_t3_loop i v11 v100 v105).trips) (k0_t4 : Fin k0_t4_loop.trips), ∀ (r : Fin 4), ∀ a, (k0_off45 i v11 v100 v105 k0_t3 k0_t4 (BitVec.ofNat 32 r.val)) a + S1x1x16.size a ≤ S8x16x256.size a) ∧
  ((k0_t5_loop i v11 v100 v105).OK) ∧
  (∀ k0_t5 : Fin (k0_t5_loop i v11 v100 v105).trips, 8 ∣ (k0_mult12 i v11 v100 v105 k0_t5).toNat) ∧
  (∀ k0_t5 : Fin (k0_t5_loop i v11 v100 v105).trips, ∀ a, (k0_off46 i v11 v100 v105 k0_t5) a + S1x16x256.size a ≤ S8x16x256.size a) ∧
  (∀ k0_t5 : Fin (k0_t5_loop i v11 v100 v105).trips, ∀ a, (k0_off47 i v11 v100 v105 k0_t5) a + S16x256.size a ≤ S32768x512.size a) ∧
  (∀ k0_t5 : Fin (k0_t5_loop i v11 v100 v105).trips, ∀ a, (k0_off48 i v11 v100 v105 k0_t5) a + S1.size a ≤ S8.size a) ∧
  (∀ k0_t5 : Fin (k0_t5_loop i v11 v100 v105).trips, ∀ (k0_h8 : k0_cond8 i v11 v100 v105 k0_t5 = 1#1), 8 ∣ (k0_mult13 i v11 v100 v105 k0_t5).toNat) ∧
  (∀ k0_t5 : Fin (k0_t5_loop i v11 v100 v105).trips, ∀ (k0_h8 : k0_cond8 i v11 v100 v105 k0_t5 = 1#1), ∀ a, (k0_off49 i v11 v100 v105 k0_t5) a + S1x16x256.size a ≤ S8x16x256.size a) ∧
  (∀ k0_t5 : Fin (k0_t5_loop i v11 v100 v105).trips, ∀ (k0_h8 : k0_cond8 i v11 v100 v105 k0_t5 = 1#1), ∀ a, (k0_off50 i v11 v100 v105 k0_t5) a + S16x256.size a ≤ S32768x512.size a) ∧
  (∀ k0_t5 : Fin (k0_t5_loop i v11 v100 v105).trips, ∀ (k0_h8 : k0_cond8 i v11 v100 v105 k0_t5 = 1#1), ∀ a, (k0_off51 i v11 v100 v105 k0_t5) a + S1.size a ≤ S8.size a) ∧
  (∀ k0_t5 : Fin (k0_t5_loop i v11 v100 v105).trips, 8 ∣ (k0_mult14 i v11 v100 v105 k0_t5).toNat) ∧
  (∀ (k0_t5 : Fin (k0_t5_loop i v11 v100 v105).trips) (k0_t6 : Fin k0_t6_loop.trips), ∀ (r : Fin 4), ∀ a, (k0_off52 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off53 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off54 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off55 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off56 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off57 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off58 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off59 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off60 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off61 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off62 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off63 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off64 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off65 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off66 i v11 v100 v105 k0_t5 k0_t6 (BitVec.ofNat 32 r.val)) a + S1x1x16.size a ≤ S8x16x256.size a) ∧
  (∀ (k0_t5 : Fin (k0_t5_loop i v11 v100 v105).trips) (k0_t6 : Fin k0_t6_loop.trips), ∀ (r : Fin 4), ∀ a, (k0_off67 i v11 v100 v105 k0_t5 k0_t6 (BitVec.ofNat 32 r.val)) a + S1x1x16.size a ≤ S8x16x256.size a)
def k0_chk3 (i : grid0.Coords) (v11 : BitVec 32) (v100 : BitVec 32) (v105 : BitVec 32) : Prop :=
  k0_chk3_0 i v11 v100 v105 ∧
  k0_chk3_1 i v11 v100 v105
theorem k0_mult3_dvd : ∀ (i : grid0.Coords) (v11 : BitVec 32) (v100 : BitVec 32) (v105 : BitVec 32) (k0_hw3 : k0_chk3 i v11 v100 v105), ∀ (k0_h1 : k0_cond1 i v11 v100 v105 = 1#1), 8 ∣ (k0_mult3 i v11 v100).toNat := fun i v11 v100 v105 k0_hw3 k0_h1 => k0_hw3.1.1 k0_h1
theorem k0_off18_inb : ∀ (i : grid0.Coords) (v11 : BitVec 32) (v100 : BitVec 32) (v105 : BitVec 32) (k0_hw3 : k0_chk3 i v11 v100 v105), ∀ (k0_h1 : k0_cond1 i v11 v100 v105 = 1#1), ∀ a, (k0_off18 i v11 v100) a + S16x256.size a ≤ S32768x512.size a := fun i v11 v100 v105 k0_hw3 k0_h1 => k0_hw3.1.2.1 k0_h1
theorem k0_mult4_dvd : ∀ (i : grid0.Coords) (v11 : BitVec 32) (v100 : BitVec 32) (v105 : BitVec 32) (k0_hw3 : k0_chk3 i v11 v100 v105), ∀ (k0_h2 : k0_cond2 i v11 v100 v105 = 1#1), 8 ∣ (k0_mult4 i v11 v100).toNat := fun i v11 v100 v105 k0_hw3 k0_h2 => k0_hw3.1.2.2.1 k0_h2
theorem k0_off19_inb : ∀ (i : grid0.Coords) (v11 : BitVec 32) (v100 : BitVec 32) (v105 : BitVec 32) (k0_hw3 : k0_chk3 i v11 v100 v105), ∀ (k0_h2 : k0_cond2 i v11 v100 v105 = 1#1), ∀ a, (k0_off19 i v11 v100) a + S16x256.size a ≤ S32768x512.size a := fun i v11 v100 v105 k0_hw3 k0_h2 => k0_hw3.1.2.2.2.1 k0_h2
theorem k0_mult5_dvd : ∀ (i : grid0.Coords) (v11 : BitVec 32) (v100 : BitVec 32) (v105 : BitVec 32) (k0_hw3 : k0_chk3 i v11 v100 v105), ∀ (k0_h3 : k0_cond3 i v11 v100 v105 = 1#1), 8 ∣ (k0_mult5 i v11 v100).toNat := fun i v11 v100 v105 k0_hw3 k0_h3 => k0_hw3.1.2.2.2.2.1 k0_h3
theorem k0_off20_inb : ∀ (i : grid0.Coords) (v11 : BitVec 32) (v100 : BitVec 32) (v105 : BitVec 32) (k0_hw3 : k0_chk3 i v11 v100 v105), ∀ (k0_h3 : k0_cond3 i v11 v100 v105 = 1#1), ∀ a, (k0_off20 i v11 v100) a + S16x256.size a ≤ S32768x512.size a := fun i v11 v100 v105 k0_hw3 k0_h3 => k0_hw3.1.2.2.2.2.2.1 k0_h3
theorem k0_mult6_dvd : ∀ (i : grid0.Coords) (v11 : BitVec 32) (v100 : BitVec 32) (v105 : BitVec 32) (k0_hw3 : k0_chk3 i v11 v100 v105), ∀ (k0_h4 : k0_cond4 i v11 v100 v105 = 1#1), 8 ∣ (k0_mult6 i v11 v100).toNat := fun i v11 v100 v105 k0_hw3 k0_h4 => k0_hw3.1.2.2.2.2.2.2.1 k0_h4
theorem k0_off21_inb : ∀ (i : grid0.Coords) (v11 : BitVec 32) (v100 : BitVec 32) (v105 : BitVec 32) (k0_hw3 : k0_chk3 i v11 v100 v105), ∀ (k0_h4 : k0_cond4 i v11 v100 v105 = 1#1), ∀ a, (k0_off21 i v11 v100) a + S16x256.size a ≤ S32768x512.size a := fun i v11 v100 v105 k0_hw3 k0_h4 => k0_hw3.1.2.2.2.2.2.2.2.1 k0_h4
theorem k0_mult7_dvd : ∀ (i : grid0.Coords) (v11 : BitVec 32) (v100 : BitVec 32) (v105 : BitVec 32) (k0_hw3 : k0_chk3 i v11 v100 v105), ∀ (k0_h5 : k0_cond5 i v11 v100 v105 = 1#1), 8 ∣ (k0_mult7 i v11 v100).toNat := fun i v11 v100 v105 k0_hw3 k0_h5 => k0_hw3.1.2.2.2.2.2.2.2.2.1 k0_h5
theorem k0_off22_inb : ∀ (i : grid0.Coords) (v11 : BitVec 32) (v100 : BitVec 32) (v105 : BitVec 32) (k0_hw3 : k0_chk3 i v11 v100 v105), ∀ (k0_h5 : k0_cond5 i v11 v100 v105 = 1#1), ∀ a, (k0_off22 i v11 v100) a + S16x256.size a ≤ S32768x512.size a := fun i v11 v100 v105 k0_hw3 k0_h5 => k0_hw3.1.2.2.2.2.2.2.2.2.2.1 k0_h5
theorem k0_mult8_dvd : ∀ (i : grid0.Coords) (v11 : BitVec 32) (v100 : BitVec 32) (v105 : BitVec 32) (k0_hw3 : k0_chk3 i v11 v100 v105), ∀ (k0_h6 : k0_cond6 i v11 v100 v105 = 1#1), 8 ∣ (k0_mult8 i v11 v100).toNat := fun i v11 v100 v105 k0_hw3 k0_h6 => k0_hw3.1.2.2.2.2.2.2.2.2.2.2.1 k0_h6
theorem k0_off23_inb : ∀ (i : grid0.Coords) (v11 : BitVec 32) (v100 : BitVec 32) (v105 : BitVec 32) (k0_hw3 : k0_chk3 i v11 v100 v105), ∀ (k0_h6 : k0_cond6 i v11 v100 v105 = 1#1), ∀ a, (k0_off23 i v11 v100) a + S16x256.size a ≤ S32768x512.size a := fun i v11 v100 v105 k0_hw3 k0_h6 => k0_hw3.1.2.2.2.2.2.2.2.2.2.2.2.1 k0_h6
theorem k0_t3_ok : ∀ (i : grid0.Coords) (v11 : BitVec 32) (v100 : BitVec 32) (v105 : BitVec 32) (k0_hw3 : k0_chk3 i v11 v100 v105), (k0_t3_loop i v11 v100 v105).OK := fun i v11 v100 v105 k0_hw3 => k0_hw3.1.2.2.2.2.2.2.2.2.2.2.2.2.1
theorem k0_mult9_dvd : ∀ (i : grid0.Coords) (v11 : BitVec 32) (v100 : BitVec 32) (v105 : BitVec 32) (k0_hw3 : k0_chk3 i v11 v100 v105) (k0_t3 : Fin (k0_t3_loop i v11 v100 v105).trips), 8 ∣ (k0_mult9 i v11 v100 v105 k0_t3).toNat := fun i v11 v100 v105 k0_hw3 k0_t3 => k0_hw3.1.2.2.2.2.2.2.2.2.2.2.2.2.2.1 k0_t3
theorem k0_off24_inb : ∀ (i : grid0.Coords) (v11 : BitVec 32) (v100 : BitVec 32) (v105 : BitVec 32) (k0_hw3 : k0_chk3 i v11 v100 v105) (k0_t3 : Fin (k0_t3_loop i v11 v100 v105).trips), ∀ a, (k0_off24 i v11 v100 v105 k0_t3) a + S1x16x256.size a ≤ S8x16x256.size a := fun i v11 v100 v105 k0_hw3 k0_t3 => k0_hw3.1.2.2.2.2.2.2.2.2.2.2.2.2.2.2.1 k0_t3
theorem k0_off25_inb : ∀ (i : grid0.Coords) (v11 : BitVec 32) (v100 : BitVec 32) (v105 : BitVec 32) (k0_hw3 : k0_chk3 i v11 v100 v105) (k0_t3 : Fin (k0_t3_loop i v11 v100 v105).trips), ∀ a, (k0_off25 i v11 v100 v105 k0_t3) a + S16x256.size a ≤ S32768x512.size a := fun i v11 v100 v105 k0_hw3 k0_t3 => k0_hw3.1.2.2.2.2.2.2.2.2.2.2.2.2.2.2.2.1 k0_t3
theorem k0_off26_inb : ∀ (i : grid0.Coords) (v11 : BitVec 32) (v100 : BitVec 32) (v105 : BitVec 32) (k0_hw3 : k0_chk3 i v11 v100 v105) (k0_t3 : Fin (k0_t3_loop i v11 v100 v105).trips), ∀ a, (k0_off26 i v11 v100 v105 k0_t3) a + S1.size a ≤ S8.size a := fun i v11 v100 v105 k0_hw3 k0_t3 => k0_hw3.1.2.2.2.2.2.2.2.2.2.2.2.2.2.2.2.2.1 k0_t3
theorem k0_mult10_dvd : ∀ (i : grid0.Coords) (v11 : BitVec 32) (v100 : BitVec 32) (v105 : BitVec 32) (k0_hw3 : k0_chk3 i v11 v100 v105) (k0_t3 : Fin (k0_t3_loop i v11 v100 v105).trips), ∀ (k0_h7 : k0_cond7 i v11 v100 v105 k0_t3 = 1#1), 8 ∣ (k0_mult10 i v11 v100 v105 k0_t3).toNat := fun i v11 v100 v105 k0_hw3 k0_t3 k0_h7 => k0_hw3.1.2.2.2.2.2.2.2.2.2.2.2.2.2.2.2.2.2.1 k0_t3 k0_h7
theorem k0_off27_inb : ∀ (i : grid0.Coords) (v11 : BitVec 32) (v100 : BitVec 32) (v105 : BitVec 32) (k0_hw3 : k0_chk3 i v11 v100 v105) (k0_t3 : Fin (k0_t3_loop i v11 v100 v105).trips), ∀ (k0_h7 : k0_cond7 i v11 v100 v105 k0_t3 = 1#1), ∀ a, (k0_off27 i v11 v100 v105 k0_t3) a + S1x16x256.size a ≤ S8x16x256.size a := fun i v11 v100 v105 k0_hw3 k0_t3 k0_h7 => k0_hw3.1.2.2.2.2.2.2.2.2.2.2.2.2.2.2.2.2.2.2.1 k0_t3 k0_h7
theorem k0_off28_inb : ∀ (i : grid0.Coords) (v11 : BitVec 32) (v100 : BitVec 32) (v105 : BitVec 32) (k0_hw3 : k0_chk3 i v11 v100 v105) (k0_t3 : Fin (k0_t3_loop i v11 v100 v105).trips), ∀ (k0_h7 : k0_cond7 i v11 v100 v105 k0_t3 = 1#1), ∀ a, (k0_off28 i v11 v100 v105 k0_t3) a + S16x256.size a ≤ S32768x512.size a := fun i v11 v100 v105 k0_hw3 k0_t3 k0_h7 => k0_hw3.1.2.2.2.2.2.2.2.2.2.2.2.2.2.2.2.2.2.2.2.1 k0_t3 k0_h7
theorem k0_off29_inb : ∀ (i : grid0.Coords) (v11 : BitVec 32) (v100 : BitVec 32) (v105 : BitVec 32) (k0_hw3 : k0_chk3 i v11 v100 v105) (k0_t3 : Fin (k0_t3_loop i v11 v100 v105).trips), ∀ (k0_h7 : k0_cond7 i v11 v100 v105 k0_t3 = 1#1), ∀ a, (k0_off29 i v11 v100 v105 k0_t3) a + S1.size a ≤ S8.size a := fun i v11 v100 v105 k0_hw3 k0_t3 k0_h7 => k0_hw3.1.2.2.2.2.2.2.2.2.2.2.2.2.2.2.2.2.2.2.2.2.1 k0_t3 k0_h7
theorem k0_mult11_dvd : ∀ (i : grid0.Coords) (v11 : BitVec 32) (v100 : BitVec 32) (v105 : BitVec 32) (k0_hw3 : k0_chk3 i v11 v100 v105) (k0_t3 : Fin (k0_t3_loop i v11 v100 v105).trips), 8 ∣ (k0_mult11 i v11 v100 v105 k0_t3).toNat := fun i v11 v100 v105 k0_hw3 k0_t3 => k0_hw3.1.2.2.2.2.2.2.2.2.2.2.2.2.2.2.2.2.2.2.2.2.2.1 k0_t3
theorem k0_off30_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off30 i v11 v100 v105 k0_t3 k0_t4 (BitVec.ofNat 32 r.val)) a + S1x1x16.size a ≤ S8x16x256.size a := fun i v11 v100 v105 k0_hw3 k0_t3 k0_t4 r => k0_hw3.1.2.2.2.2.2.2.2.2.2.2.2.2.2.2.2.2.2.2.2.2.2.2.1 k0_t3 k0_t4 r
theorem k0_off31_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off31 i v11 v100 v105 k0_t3 k0_t4 (BitVec.ofNat 32 r.val)) a + S1x1x16.size a ≤ S8x16x256.size a := fun i v11 v100 v105 k0_hw3 k0_t3 k0_t4 r => k0_hw3.1.2.2.2.2.2.2.2.2.2.2.2.2.2.2.2.2.2.2.2.2.2.2.2.1 k0_t3 k0_t4 r
theorem k0_off32_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off32 i v11 v100 v105 k0_t3 k0_t4 (BitVec.ofNat 32 r.val)) a + S1x1x16.size a ≤ S8x16x256.size a := fun i v11 v100 v105 k0_hw3 k0_t3 k0_t4 r => k0_hw3.1.2.2.2.2.2.2.2.2.2.2.2.2.2.2.2.2.2.2.2.2.2.2.2.2.1 k0_t3 k0_t4 r
theorem k0_off33_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off33 i v11 v100 v105 k0_t3 k0_t4 (BitVec.ofNat 32 r.val)) a + S1x1x16.size a ≤ S8x16x256.size a := fun i v11 v100 v105 k0_hw3 k0_t3 k0_t4 r => k0_hw3.1.2.2.2.2.2.2.2.2.2.2.2.2.2.2.2.2.2.2.2.2.2.2.2.2.2.1 k0_t3 k0_t4 r
theorem k0_off34_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off34 i v11 v100 v105 k0_t3 k0_t4 (BitVec.ofNat 32 r.val)) a + S1x1x16.size a ≤ S8x16x256.size a := fun i v11 v100 v105 k0_hw3 k0_t3 k0_t4 r => k0_hw3.1.2.2.2.2.2.2.2.2.2.2.2.2.2.2.2.2.2.2.2.2.2.2.2.2.2.2.1 k0_t3 k0_t4 r
theorem k0_off35_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off35 i v11 v100 v105 k0_t3 k0_t4 (BitVec.ofNat 32 r.val)) a + S1x1x16.size a ≤ S8x16x256.size a := fun i v11 v100 v105 k0_hw3 k0_t3 k0_t4 r => k0_hw3.1.2.2.2.2.2.2.2.2.2.2.2.2.2.2.2.2.2.2.2.2.2.2.2.2.2.2.2.1 k0_t3 k0_t4 r
theorem k0_off36_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off36 i v11 v100 v105 k0_t3 k0_t4 (BitVec.ofNat 32 r.val)) a + S1x1x16.size a ≤ S8x16x256.size a := fun i v11 v100 v105 k0_hw3 k0_t3 k0_t4 r => k0_hw3.1.2.2.2.2.2.2.2.2.2.2.2.2.2.2.2.2.2.2.2.2.2.2.2.2.2.2.2.2.1 k0_t3 k0_t4 r
theorem k0_off37_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off37 i v11 v100 v105 k0_t3 k0_t4 (BitVec.ofNat 32 r.val)) a + S1x1x16.size a ≤ S8x16x256.size a := fun i v11 v100 v105 k0_hw3 k0_t3 k0_t4 r => k0_hw3.1.2.2.2.2.2.2.2.2.2.2.2.2.2.2.2.2.2.2.2.2.2.2.2.2.2.2.2.2.2.1 k0_t3 k0_t4 r
theorem k0_off38_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off38 i v11 v100 v105 k0_t3 k0_t4 (BitVec.ofNat 32 r.val)) a + S1x1x16.size a ≤ S8x16x256.size a := fun i v11 v100 v105 k0_hw3 k0_t3 k0_t4 r => k0_hw3.1.2.2.2.2.2.2.2.2.2.2.2.2.2.2.2.2.2.2.2.2.2.2.2.2.2.2.2.2.2.2.1 k0_t3 k0_t4 r
theorem k0_off39_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off39 i v11 v100 v105 k0_t3 k0_t4 (BitVec.ofNat 32 r.val)) a + S1x1x16.size a ≤ S8x16x256.size a := fun i v11 v100 v105 k0_hw3 k0_t3 k0_t4 r => k0_hw3.1.2.2.2.2.2.2.2.2.2.2.2.2.2.2.2.2.2.2.2.2.2.2.2.2.2.2.2.2.2.2.2 k0_t3 k0_t4 r
theorem k0_off40_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off40 i v11 v100 v105 k0_t3 k0_t4 (BitVec.ofNat 32 r.val)) a + S1x1x16.size a ≤ S8x16x256.size a := fun i v11 v100 v105 k0_hw3 k0_t3 k0_t4 r => k0_hw3.2.1 k0_t3 k0_t4 r
theorem k0_off41_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off41 i v11 v100 v105 k0_t3 k0_t4 (BitVec.ofNat 32 r.val)) a + S1x1x16.size a ≤ S8x16x256.size a := fun i v11 v100 v105 k0_hw3 k0_t3 k0_t4 r => k0_hw3.2.2.1 k0_t3 k0_t4 r
theorem k0_off42_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off42 i v11 v100 v105 k0_t3 k0_t4 (BitVec.ofNat 32 r.val)) a + S1x1x16.size a ≤ S8x16x256.size a := fun i v11 v100 v105 k0_hw3 k0_t3 k0_t4 r => k0_hw3.2.2.2.1 k0_t3 k0_t4 r
theorem k0_off43_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off43 i v11 v100 v105 k0_t3 k0_t4 (BitVec.ofNat 32 r.val)) a + S1x1x16.size a ≤ S8x16x256.size a := fun i v11 v100 v105 k0_hw3 k0_t3 k0_t4 r => k0_hw3.2.2.2.2.1 k0_t3 k0_t4 r
theorem k0_off44_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off44 i v11 v100 v105 k0_t3 k0_t4 (BitVec.ofNat 32 r.val)) a + S1x1x16.size a ≤ S8x16x256.size a := fun i v11 v100 v105 k0_hw3 k0_t3 k0_t4 r => k0_hw3.2.2.2.2.2.1 k0_t3 k0_t4 r
theorem k0_off45_inb : ∀ (i : grid0.Coords) (v11 : BitVec 32) (v100 : BitVec 32) (v105 : BitVec 32) (k0_hw3 : k0_chk3 i v11 v100 v105) (k0_t3 : Fin (k0_t3_loop i v11 v100 v105).trips) (k0_t4 : Fin k0_t4_loop.trips), ∀ (r : Fin 4), ∀ a, (k0_off45 i v11 v100 v105 k0_t3 k0_t4 (BitVec.ofNat 32 r.val)) a + S1x1x16.size a ≤ S8x16x256.size a := fun i v11 v100 v105 k0_hw3 k0_t3 k0_t4 r => k0_hw3.2.2.2.2.2.2.1 k0_t3 k0_t4 r
theorem k0_t5_ok : ∀ (i : grid0.Coords) (v11 : BitVec 32) (v100 : BitVec 32) (v105 : BitVec 32) (k0_hw3 : k0_chk3 i v11 v100 v105), (k0_t5_loop i v11 v100 v105).OK := fun i v11 v100 v105 k0_hw3 => k0_hw3.2.2.2.2.2.2.2.1
theorem k0_mult12_dvd : ∀ (i : grid0.Coords) (v11 : BitVec 32) (v100 : BitVec 32) (v105 : BitVec 32) (k0_hw3 : k0_chk3 i v11 v100 v105) (k0_t5 : Fin (k0_t5_loop i v11 v100 v105).trips), 8 ∣ (k0_mult12 i v11 v100 v105 k0_t5).toNat := fun i v11 v100 v105 k0_hw3 k0_t5 => k0_hw3.2.2.2.2.2.2.2.2.1 k0_t5
theorem k0_off46_inb : ∀ (i : grid0.Coords) (v11 : BitVec 32) (v100 : BitVec 32) (v105 : BitVec 32) (k0_hw3 : k0_chk3 i v11 v100 v105) (k0_t5 : Fin (k0_t5_loop i v11 v100 v105).trips), ∀ a, (k0_off46 i v11 v100 v105 k0_t5) a + S1x16x256.size a ≤ S8x16x256.size a := fun i v11 v100 v105 k0_hw3 k0_t5 => k0_hw3.2.2.2.2.2.2.2.2.2.1 k0_t5
theorem k0_off47_inb : ∀ (i : grid0.Coords) (v11 : BitVec 32) (v100 : BitVec 32) (v105 : BitVec 32) (k0_hw3 : k0_chk3 i v11 v100 v105) (k0_t5 : Fin (k0_t5_loop i v11 v100 v105).trips), ∀ a, (k0_off47 i v11 v100 v105 k0_t5) a + S16x256.size a ≤ S32768x512.size a := fun i v11 v100 v105 k0_hw3 k0_t5 => k0_hw3.2.2.2.2.2.2.2.2.2.2.1 k0_t5
theorem k0_off48_inb : ∀ (i : grid0.Coords) (v11 : BitVec 32) (v100 : BitVec 32) (v105 : BitVec 32) (k0_hw3 : k0_chk3 i v11 v100 v105) (k0_t5 : Fin (k0_t5_loop i v11 v100 v105).trips), ∀ a, (k0_off48 i v11 v100 v105 k0_t5) a + S1.size a ≤ S8.size a := fun i v11 v100 v105 k0_hw3 k0_t5 => k0_hw3.2.2.2.2.2.2.2.2.2.2.2.1 k0_t5
theorem k0_mult13_dvd : ∀ (i : grid0.Coords) (v11 : BitVec 32) (v100 : BitVec 32) (v105 : BitVec 32) (k0_hw3 : k0_chk3 i v11 v100 v105) (k0_t5 : Fin (k0_t5_loop i v11 v100 v105).trips), ∀ (k0_h8 : k0_cond8 i v11 v100 v105 k0_t5 = 1#1), 8 ∣ (k0_mult13 i v11 v100 v105 k0_t5).toNat := fun i v11 v100 v105 k0_hw3 k0_t5 k0_h8 => k0_hw3.2.2.2.2.2.2.2.2.2.2.2.2.1 k0_t5 k0_h8
theorem k0_off49_inb : ∀ (i : grid0.Coords) (v11 : BitVec 32) (v100 : BitVec 32) (v105 : BitVec 32) (k0_hw3 : k0_chk3 i v11 v100 v105) (k0_t5 : Fin (k0_t5_loop i v11 v100 v105).trips), ∀ (k0_h8 : k0_cond8 i v11 v100 v105 k0_t5 = 1#1), ∀ a, (k0_off49 i v11 v100 v105 k0_t5) a + S1x16x256.size a ≤ S8x16x256.size a := fun i v11 v100 v105 k0_hw3 k0_t5 k0_h8 => k0_hw3.2.2.2.2.2.2.2.2.2.2.2.2.2.1 k0_t5 k0_h8
theorem k0_off50_inb : ∀ (i : grid0.Coords) (v11 : BitVec 32) (v100 : BitVec 32) (v105 : BitVec 32) (k0_hw3 : k0_chk3 i v11 v100 v105) (k0_t5 : Fin (k0_t5_loop i v11 v100 v105).trips), ∀ (k0_h8 : k0_cond8 i v11 v100 v105 k0_t5 = 1#1), ∀ a, (k0_off50 i v11 v100 v105 k0_t5) a + S16x256.size a ≤ S32768x512.size a := fun i v11 v100 v105 k0_hw3 k0_t5 k0_h8 => k0_hw3.2.2.2.2.2.2.2.2.2.2.2.2.2.2.1 k0_t5 k0_h8
theorem k0_off51_inb : ∀ (i : grid0.Coords) (v11 : BitVec 32) (v100 : BitVec 32) (v105 : BitVec 32) (k0_hw3 : k0_chk3 i v11 v100 v105) (k0_t5 : Fin (k0_t5_loop i v11 v100 v105).trips), ∀ (k0_h8 : k0_cond8 i v11 v100 v105 k0_t5 = 1#1), ∀ a, (k0_off51 i v11 v100 v105 k0_t5) a + S1.size a ≤ S8.size a := fun i v11 v100 v105 k0_hw3 k0_t5 k0_h8 => k0_hw3.2.2.2.2.2.2.2.2.2.2.2.2.2.2.2.1 k0_t5 k0_h8
theorem k0_mult14_dvd : ∀ (i : grid0.Coords) (v11 : BitVec 32) (v100 : BitVec 32) (v105 : BitVec 32) (k0_hw3 : k0_chk3 i v11 v100 v105) (k0_t5 : Fin (k0_t5_loop i v11 v100 v105).trips), 8 ∣ (k0_mult14 i v11 v100 v105 k0_t5).toNat := fun i v11 v100 v105 k0_hw3 k0_t5 => k0_hw3.2.2.2.2.2.2.2.2.2.2.2.2.2.2.2.2.1 k0_t5
theorem k0_off52_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off52 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.1 k0_t5 k0_t6 r
theorem k0_off53_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off53 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.1 k0_t5 k0_t6 r
theorem k0_off54_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off54 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.1 k0_t5 k0_t6 r
theorem k0_off55_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off55 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.2.1 k0_t5 k0_t6 r
theorem k0_off56_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off56 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.2.2.1 k0_t5 k0_t6 r
theorem k0_off57_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off57 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.2.2.2.1 k0_t5 k0_t6 r
theorem k0_off58_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off58 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.2.2.2.2.1 k0_t5 k0_t6 r
theorem k0_off59_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off59 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.2.2.2.2.2.1 k0_t5 k0_t6 r
theorem k0_off60_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off60 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.2.2.2.2.2.2.1 k0_t5 k0_t6 r
theorem k0_off61_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off61 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.2.2.2.2.2.2.2.1 k0_t5 k0_t6 r
theorem k0_off62_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off62 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.2.2.2.2.2.2.2.2.1 k0_t5 k0_t6 r
theorem k0_off63_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off63 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.2.2.2.2.2.2.2.2.2.1 k0_t5 k0_t6 r
theorem k0_off64_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off64 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.2.2.2.2.2.2.2.2.2.2.1 k0_t5 k0_t6 r
theorem k0_off65_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off65 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.2.2.2.2.2.2.2.2.2.2.2.1 k0_t5 k0_t6 r
theorem k0_off66_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off66 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.2.2.2.2.2.2.2.2.2.2.2.2.1 k0_t5 k0_t6 r
theorem k0_off67_inb : ∀ (i : grid0.Coords) (v11 : BitVec 32) (v100 : BitVec 32) (v105 : BitVec 32) (k0_hw3 : k0_chk3 i v11 v100 v105) (k0_t5 : Fin (k0_t5_loop i v11 v100 v105).trips) (k0_t6 : Fin k0_t6_loop.trips), ∀ (r : Fin 4), ∀ a, (k0_off67 i v11 v100 v105 k0_t5 k0_t6 (BitVec.ofNat 32 r.val)) a + S1x1x16.size a ≤ S8x16x256.size a := fun i v11 v100 v105 k0_hw3 k0_t5 k0_t6 r => k0_hw3.2.2.2.2.2.2.2.2.2.2.2.2.2.2.2.2.2.2.2.2.2.2.2.2.2.2.2.2.2.2.2.2 k0_t5 k0_t6 r

def k0_off68 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v182 : Index := Scalar.indexCast arg12
  let c0_103 : Index := 0#32
  ![v182.toNat, 0]
def k0_off69 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v184 : Index := Scalar.indexCast arg12
  let c16_104 : Index := 16#32
  ![v184.toNat, 16]
def k0_off70 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v186 : Index := Scalar.indexCast arg12
  let c32_105 : Index := 32#32
  ![v186.toNat, 32]
def k0_off71 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v188 : Index := Scalar.indexCast arg12
  let c48_106 : Index := 48#32
  ![v188.toNat, 48]
def k0_off72 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v190 : Index := Scalar.indexCast arg12
  let c64_107 : Index := 64#32
  ![v190.toNat, 64]
def k0_off73 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v192 : Index := Scalar.indexCast arg12
  let c80_108 : Index := 80#32
  ![v192.toNat, 80]
def k0_off74 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v194 : Index := Scalar.indexCast arg12
  let c96_109 : Index := 96#32
  ![v194.toNat, 96]
def k0_off75 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v196 : Index := Scalar.indexCast arg12
  let c112_110 : Index := 112#32
  ![v196.toNat, 112]
def k0_off76 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v198 : Index := Scalar.indexCast arg12
  let c128_111 : Index := 128#32
  ![v198.toNat, 128]
def k0_off77 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v200 : Index := Scalar.indexCast arg12
  let c144_112 : Index := 144#32
  ![v200.toNat, 144]
def k0_off78 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v202 : Index := Scalar.indexCast arg12
  let c160_113 : Index := 160#32
  ![v202.toNat, 160]
def k0_off79 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v204 : Index := Scalar.indexCast arg12
  let c176_114 : Index := 176#32
  ![v204.toNat, 176]
def k0_off80 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v206 : Index := Scalar.indexCast arg12
  let c192_115 : Index := 192#32
  ![v206.toNat, 192]
def k0_off81 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v208 : Index := Scalar.indexCast arg12
  let c208_116 : Index := 208#32
  ![v208.toNat, 208]
def k0_off82 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v210 : Index := Scalar.indexCast arg12
  let c224_117 : Index := 224#32
  ![v210.toNat, 224]
def k0_off83 (v43 : BitVec 32) (v49 : BitVec 32) (k0_t2 : Fin (k0_t2_loop v43 v49).trips) : Fin 2 → Nat :=
  let c1_i32_32 : BitVec 32 := 1#32
  let arg12 : BitVec 32 := Scf.iv v43 c1_i32_32 k0_t2
  let v212 : Index := Scalar.indexCast arg12
  let c240_118 : Index := 240#32
  ![v212.toNat, 240]
@[reducible] def k0_t7_loop (v43 : BitVec 32) (v49 : BitVec 32) : Scf.Loop 32 :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let v67 : BitVec 32 := Scalar.addi v43 v66
  let c1_i32_33 : BitVec 32 := 1#32
  ⟨v70, v67, c1_i32_33⟩
def k0_mult15 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_80 : BitVec 32 := 0#32
  let v146 : BitVec 32 := Scalar.addi v125 c0_i32_80
  let c32752_i32 : BitVec 32 := 32752#32
  let v147 : BitVec 32 := Scalar.minsi v146 c32752_i32
  v147

def k0_off84 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_80 : BitVec 32 := 0#32
  let v146 : BitVec 32 := Scalar.addi v125 c0_i32_80
  let c32752_i32 : BitVec 32 := 32752#32
  let v147 : BitVec 32 := Scalar.minsi v146 c32752_i32
  let v148 : BitVec 32 := v147
  let arg0 : BitVec 32 := BitVec.ofNat 32 (i 0).val
  let c256_i32 : BitVec 32 := 256#32
  let v34 : BitVec 32 := Scalar.muli arg0 c256_i32
  let v35 : BitVec 32 := v34
  ![v148.toNat, v35.toNat]

def k0_chk4 (i : grid0.Coords) (v11 : BitVec 32) (v100 : BitVec 32) : Prop :=
  (8 ∣ (k0_mult15 i v11 v100).toNat) ∧
  (∀ a, (k0_off84 i v11 v100) a + S16x256.size a ≤ S32768x512.size a)
theorem k0_mult15_dvd : ∀ (i : grid0.Coords) (v11 : BitVec 32) (v100 : BitVec 32) (k0_hw4 : k0_chk4 i v11 v100), 8 ∣ (k0_mult15 i v11 v100).toNat := fun i v11 v100 k0_hw4 => k0_hw4.1
theorem k0_off84_inb : ∀ (i : grid0.Coords) (v11 : BitVec 32) (v100 : BitVec 32) (k0_hw4 : k0_chk4 i v11 v100), ∀ a, (k0_off84 i v11 v100) a + S16x256.size a ≤ S32768x512.size a := fun i v11 v100 k0_hw4 => k0_hw4.2

def k0_mult16 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c16_i32_120 : BitVec 32 := 16#32
  let v214 : BitVec 32 := Scalar.addi v125 c16_i32_120
  let c32752_i32_121 : BitVec 32 := 32752#32
  let v215 : BitVec 32 := Scalar.minsi v214 c32752_i32_121
  v215
def k0_cond9 (i : grid0.Coords) (v11 : BitVec 32) (v100 : BitVec 32) (v105 : BitVec 32) : BitVec 1 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let c1_i32_87 : BitVec 32 := 1#32
  let v157 : BitVec 1 := Scalar.cmpi .sgt v145 c1_i32_87
  let v158 : BitVec 32 := Scalar.extui v157
  let c0_i32_88 : BitVec 32 := 0#32
  let v159 : BitVec 1 := Scalar.cmpi .ne v158 c0_i32_88
  v159

def k0_off85 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c16_i32_120 : BitVec 32 := 16#32
  let v214 : BitVec 32 := Scalar.addi v125 c16_i32_120
  let c32752_i32_121 : BitVec 32 := 32752#32
  let v215 : BitVec 32 := Scalar.minsi v214 c32752_i32_121
  let v216 : BitVec 32 := v215
  let arg0 : BitVec 32 := BitVec.ofNat 32 (i 0).val
  let c256_i32 : BitVec 32 := 256#32
  let v34 : BitVec 32 := Scalar.muli arg0 c256_i32
  let v35 : BitVec 32 := v34
  ![v216.toNat, v35.toNat]
def k0_mult17 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c32_i32 : BitVec 32 := 32#32
  let v214 : BitVec 32 := Scalar.addi v125 c32_i32
  let c32752_i32_120 : BitVec 32 := 32752#32
  let v215 : BitVec 32 := Scalar.minsi v214 c32752_i32_120
  v215
def k0_cond10 (i : grid0.Coords) (v11 : BitVec 32) (v100 : BitVec 32) (v105 : BitVec 32) : BitVec 1 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let c2_i32_89 : BitVec 32 := 2#32
  let v160 : BitVec 1 := Scalar.cmpi .sgt v145 c2_i32_89
  let v161 : BitVec 32 := Scalar.extui v160
  let c0_i32_90 : BitVec 32 := 0#32
  let v162 : BitVec 1 := Scalar.cmpi .ne v161 c0_i32_90
  v162

def k0_off86 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c32_i32 : BitVec 32 := 32#32
  let v214 : BitVec 32 := Scalar.addi v125 c32_i32
  let c32752_i32_120 : BitVec 32 := 32752#32
  let v215 : BitVec 32 := Scalar.minsi v214 c32752_i32_120
  let v216 : BitVec 32 := v215
  let arg0 : BitVec 32 := BitVec.ofNat 32 (i 0).val
  let c256_i32 : BitVec 32 := 256#32
  let v34 : BitVec 32 := Scalar.muli arg0 c256_i32
  let v35 : BitVec 32 := v34
  ![v216.toNat, v35.toNat]
def k0_mult18 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c48_i32 : BitVec 32 := 48#32
  let v214 : BitVec 32 := Scalar.addi v125 c48_i32
  let c32752_i32_120 : BitVec 32 := 32752#32
  let v215 : BitVec 32 := Scalar.minsi v214 c32752_i32_120
  v215
def k0_cond11 (i : grid0.Coords) (v11 : BitVec 32) (v100 : BitVec 32) (v105 : BitVec 32) : BitVec 1 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let c3_i32_91 : BitVec 32 := 3#32
  let v163 : BitVec 1 := Scalar.cmpi .sgt v145 c3_i32_91
  let v164 : BitVec 32 := Scalar.extui v163
  let c0_i32_92 : BitVec 32 := 0#32
  let v165 : BitVec 1 := Scalar.cmpi .ne v164 c0_i32_92
  v165

def k0_off87 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c48_i32 : BitVec 32 := 48#32
  let v214 : BitVec 32 := Scalar.addi v125 c48_i32
  let c32752_i32_120 : BitVec 32 := 32752#32
  let v215 : BitVec 32 := Scalar.minsi v214 c32752_i32_120
  let v216 : BitVec 32 := v215
  let arg0 : BitVec 32 := BitVec.ofNat 32 (i 0).val
  let c256_i32 : BitVec 32 := 256#32
  let v34 : BitVec 32 := Scalar.muli arg0 c256_i32
  let v35 : BitVec 32 := v34
  ![v216.toNat, v35.toNat]
def k0_mult19 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c64_i32 : BitVec 32 := 64#32
  let v214 : BitVec 32 := Scalar.addi v125 c64_i32
  let c32752_i32_120 : BitVec 32 := 32752#32
  let v215 : BitVec 32 := Scalar.minsi v214 c32752_i32_120
  v215
def k0_cond12 (i : grid0.Coords) (v11 : BitVec 32) (v100 : BitVec 32) (v105 : BitVec 32) : BitVec 1 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let c4_i32_93 : BitVec 32 := 4#32
  let v166 : BitVec 1 := Scalar.cmpi .sgt v145 c4_i32_93
  let v167 : BitVec 32 := Scalar.extui v166
  let c0_i32_94 : BitVec 32 := 0#32
  let v168 : BitVec 1 := Scalar.cmpi .ne v167 c0_i32_94
  v168

def k0_off88 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c64_i32 : BitVec 32 := 64#32
  let v214 : BitVec 32 := Scalar.addi v125 c64_i32
  let c32752_i32_120 : BitVec 32 := 32752#32
  let v215 : BitVec 32 := Scalar.minsi v214 c32752_i32_120
  let v216 : BitVec 32 := v215
  let arg0 : BitVec 32 := BitVec.ofNat 32 (i 0).val
  let c256_i32 : BitVec 32 := 256#32
  let v34 : BitVec 32 := Scalar.muli arg0 c256_i32
  let v35 : BitVec 32 := v34
  ![v216.toNat, v35.toNat]
def k0_mult20 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c80_i32 : BitVec 32 := 80#32
  let v214 : BitVec 32 := Scalar.addi v125 c80_i32
  let c32752_i32_120 : BitVec 32 := 32752#32
  let v215 : BitVec 32 := Scalar.minsi v214 c32752_i32_120
  v215
def k0_cond13 (i : grid0.Coords) (v11 : BitVec 32) (v100 : BitVec 32) (v105 : BitVec 32) : BitVec 1 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let c5_i32_95 : BitVec 32 := 5#32
  let v169 : BitVec 1 := Scalar.cmpi .sgt v145 c5_i32_95
  let v170 : BitVec 32 := Scalar.extui v169
  let c0_i32_96 : BitVec 32 := 0#32
  let v171 : BitVec 1 := Scalar.cmpi .ne v170 c0_i32_96
  v171

def k0_off89 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c80_i32 : BitVec 32 := 80#32
  let v214 : BitVec 32 := Scalar.addi v125 c80_i32
  let c32752_i32_120 : BitVec 32 := 32752#32
  let v215 : BitVec 32 := Scalar.minsi v214 c32752_i32_120
  let v216 : BitVec 32 := v215
  let arg0 : BitVec 32 := BitVec.ofNat 32 (i 0).val
  let c256_i32 : BitVec 32 := 256#32
  let v34 : BitVec 32 := Scalar.muli arg0 c256_i32
  let v35 : BitVec 32 := v34
  ![v216.toNat, v35.toNat]
def k0_mult21 (i : grid0.Coords) (v11 : BitVec 32) (v100 : BitVec 32) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c96_i32 : BitVec 32 := 96#32
  let v214 : BitVec 32 := Scalar.addi v125 c96_i32
  let c32752_i32_120 : BitVec 32 := 32752#32
  let v215 : BitVec 32 := Scalar.minsi v214 c32752_i32_120
  v215
def k0_cond14 (i : grid0.Coords) (v11 : BitVec 32) (v100 : BitVec 32) (v105 : BitVec 32) : BitVec 1 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let c6_i32_97 : BitVec 32 := 6#32
  let v172 : BitVec 1 := Scalar.cmpi .sgt v145 c6_i32_97
  let v173 : BitVec 32 := Scalar.extui v172
  let c0_i32_98 : BitVec 32 := 0#32
  let v174 : BitVec 1 := Scalar.cmpi .ne v173 c0_i32_98
  v174

def k0_off90 (i : grid0.Coords) (v11 : BitVec 32) (v100 : BitVec 32) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c96_i32 : BitVec 32 := 96#32
  let v214 : BitVec 32 := Scalar.addi v125 c96_i32
  let c32752_i32_120 : BitVec 32 := 32752#32
  let v215 : BitVec 32 := Scalar.minsi v214 c32752_i32_120
  let v216 : BitVec 32 := v215
  let arg0 : BitVec 32 := BitVec.ofNat 32 (i 0).val
  let c256_i32 : BitVec 32 := 256#32
  let v34 : BitVec 32 := Scalar.muli arg0 c256_i32
  let v35 : BitVec 32 := v34
  ![v216.toNat, v35.toNat]
@[reducible] def k0_t8_loop (i : grid0.Coords) (v11 : BitVec 32) (v100 : BitVec 32) (v105 : BitVec 32) : Scf.Loop 32 :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_101 : BitVec 32 := 1#32
  ⟨c0_i32_99, v179, c1_i32_101⟩
def k0_mult22 (i : grid0.Coords) (v11 : BitVec 32) (v100 : BitVec 32) (v105 : BitVec 32) (k0_t8 : Fin (k0_t8_loop i v11 v100 v105).trips) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let c1_i32_101 : BitVec 32 := 1#32
  let arg14 : BitVec 32 := Scf.iv c0_i32_99 c1_i32_101 k0_t8
  let c16_i32_120 : BitVec 32 := 16#32
  let v214 : BitVec 32 := Scalar.muli arg14 c16_i32_120
  let v215 : BitVec 32 := Scalar.addi v125 v214
  let c32752_i32_121 : BitVec 32 := 32752#32
  let v216 : BitVec 32 := Scalar.minsi v215 c32752_i32_121
  v216
def k0_off91 (i : grid0.Coords) (v11 : BitVec 32) (v100 : BitVec 32) (v105 : BitVec 32) (k0_t8 : Fin (k0_t8_loop i v11 v100 v105).trips) : Fin 3 → Nat :=
  let c0_i32_99 : BitVec 32 := 0#32
  let c1_i32_101 : BitVec 32 := 1#32
  let arg14 : BitVec 32 := Scf.iv c0_i32_99 c1_i32_101 k0_t8
  let c8_i32_122 : BitVec 32 := 8#32
  let c0_i32_123 : BitVec 32 := 0#32
  let v218 : BitVec 1 := Scalar.cmpi .eq c8_i32_122 c0_i32_123
  let c1_i32_124 : BitVec 32 := 1#32
  let v219 : BitVec 32 := Scalar.select v218 c1_i32_124 c8_i32_122
  let v220 : BitVec 32 := Scalar.remsi arg14 v219
  let c0_i32_126 : BitVec 32 := 0#32
  let v222 : BitVec 1 := Scalar.cmpi .slt v220 c0_i32_126
  let c0_i32_127 : BitVec 32 := 0#32
  let v223 : BitVec 1 := Scalar.cmpi .slt v219 c0_i32_127
  let v224 : BitVec 1 := Scalar.xori v222 v223
  let c0_i32_125 : BitVec 32 := 0#32
  let v221 : BitVec 1 := Scalar.cmpi .ne v220 c0_i32_125
  let v225 : BitVec 1 := Scalar.andi v224 v221
  let v226 : BitVec 32 := Scalar.addi v220 v219
  let v227 : BitVec 32 := Scalar.select v225 v226 v220
  let c0_i32_134 : BitVec 32 := 0#32
  let c0_i32_135 : BitVec 32 := 0#32
  ![v227.toNat, 0, 0]
def k0_off92 (i : grid0.Coords) (v11 : BitVec 32) (v100 : BitVec 32) (v105 : BitVec 32) (k0_t8 : Fin (k0_t8_loop i v11 v100 v105).trips) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let c1_i32_101 : BitVec 32 := 1#32
  let arg14 : BitVec 32 := Scf.iv c0_i32_99 c1_i32_101 k0_t8
  let c16_i32_120 : BitVec 32 := 16#32
  let v214 : BitVec 32 := Scalar.muli arg14 c16_i32_120
  let v215 : BitVec 32 := Scalar.addi v125 v214
  let c32752_i32_121 : BitVec 32 := 32752#32
  let v216 : BitVec 32 := Scalar.minsi v215 c32752_i32_121
  let v217 : BitVec 32 := v216
  let arg0 : BitVec 32 := BitVec.ofNat 32 (i 0).val
  let c256_i32 : BitVec 32 := 256#32
  let v34 : BitVec 32 := Scalar.muli arg0 c256_i32
  let v35 : BitVec 32 := v34
  ![v217.toNat, v35.toNat]
def k0_off93 (i : grid0.Coords) (v11 : BitVec 32) (v100 : BitVec 32) (v105 : BitVec 32) (k0_t8 : Fin (k0_t8_loop i v11 v100 v105).trips) : Fin 1 → Nat :=
  let c0_i32_99 : BitVec 32 := 0#32
  let c1_i32_101 : BitVec 32 := 1#32
  let arg14 : BitVec 32 := Scf.iv c0_i32_99 c1_i32_101 k0_t8
  let c8_i32_128 : BitVec 32 := 8#32
  let c0_i32_129 : BitVec 32 := 0#32
  let v228 : BitVec 1 := Scalar.cmpi .eq c8_i32_128 c0_i32_129
  let c1_i32_130 : BitVec 32 := 1#32
  let v229 : BitVec 32 := Scalar.select v228 c1_i32_130 c8_i32_128
  let v230 : BitVec 32 := Scalar.remsi arg14 v229
  let c0_i32_132 : BitVec 32 := 0#32
  let v232 : BitVec 1 := Scalar.cmpi .slt v230 c0_i32_132
  let c0_i32_133 : BitVec 32 := 0#32
  let v233 : BitVec 1 := Scalar.cmpi .slt v229 c0_i32_133
  let v234 : BitVec 1 := Scalar.xori v232 v233
  let c0_i32_131 : BitVec 32 := 0#32
  let v231 : BitVec 1 := Scalar.cmpi .ne v230 c0_i32_131
  let v235 : BitVec 1 := Scalar.andi v234 v231
  let v236 : BitVec 32 := Scalar.addi v230 v229
  let v237 : BitVec 32 := Scalar.select v235 v236 v230
  ![v237.toNat]
def k0_mult23 (i : grid0.Coords) (v11 : BitVec 32) (v100 : BitVec 32) (v105 : BitVec 32) (k0_t8 : Fin (k0_t8_loop i v11 v100 v105).trips) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let c1_i32_101 : BitVec 32 := 1#32
  let arg14 : BitVec 32 := Scf.iv c0_i32_99 c1_i32_101 k0_t8
  let c8_i32_153 : BitVec 32 := 8#32
  let v267 : BitVec 32 := Scalar.addi arg14 c8_i32_153
  let c1_i32_154 : BitVec 32 := 1#32
  let v268 : BitVec 32 := Scalar.subi v267 c1_i32_154
  let c16_i32_155 : BitVec 32 := 16#32
  let v269 : BitVec 32 := Scalar.muli v268 c16_i32_155
  let v270 : BitVec 32 := Scalar.addi v125 v269
  let c32752_i32_156 : BitVec 32 := 32752#32
  let v271 : BitVec 32 := Scalar.minsi v270 c32752_i32_156
  v271
def k0_cond15 (i : grid0.Coords) (v11 : BitVec 32) (v100 : BitVec 32) (v105 : BitVec 32) (k0_t8 : Fin (k0_t8_loop i v11 v100 v105).trips) : BitVec 1 :=
  let c0_i32_99 : BitVec 32 := 0#32
  let c1_i32_101 : BitVec 32 := 1#32
  let arg14 : BitVec 32 := Scf.iv c0_i32_99 c1_i32_101 k0_t8
  let c8_i32_138 : BitVec 32 := 8#32
  let v246 : BitVec 32 := Scalar.addi arg14 c8_i32_138
  let c1_i32_139 : BitVec 32 := 1#32
  let v247 : BitVec 32 := Scalar.subi v246 c1_i32_139
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v248 : BitVec 1 := Scalar.cmpi .slt v247 v145
  let v249 : BitVec 32 := Scalar.extui v248
  let c0_i32_140 : BitVec 32 := 0#32
  let v250 : BitVec 1 := Scalar.cmpi .ne v249 c0_i32_140
  v250

def k0_off94 (i : grid0.Coords) (v11 : BitVec 32) (v100 : BitVec 32) (v105 : BitVec 32) (k0_t8 : Fin (k0_t8_loop i v11 v100 v105).trips) : Fin 3 → Nat :=
  let c0_i32_99 : BitVec 32 := 0#32
  let c1_i32_101 : BitVec 32 := 1#32
  let arg14 : BitVec 32 := Scf.iv c0_i32_99 c1_i32_101 k0_t8
  let c8_i32_153 : BitVec 32 := 8#32
  let v267 : BitVec 32 := Scalar.addi arg14 c8_i32_153
  let c1_i32_154 : BitVec 32 := 1#32
  let v268 : BitVec 32 := Scalar.subi v267 c1_i32_154
  let c8_i32_157 : BitVec 32 := 8#32
  let c0_i32_158 : BitVec 32 := 0#32
  let v273 : BitVec 1 := Scalar.cmpi .eq c8_i32_157 c0_i32_158
  let c1_i32_159 : BitVec 32 := 1#32
  let v274 : BitVec 32 := Scalar.select v273 c1_i32_159 c8_i32_157
  let v275 : BitVec 32 := Scalar.remsi v268 v274
  let c0_i32_161 : BitVec 32 := 0#32
  let v277 : BitVec 1 := Scalar.cmpi .slt v275 c0_i32_161
  let c0_i32_162 : BitVec 32 := 0#32
  let v278 : BitVec 1 := Scalar.cmpi .slt v274 c0_i32_162
  let v279 : BitVec 1 := Scalar.xori v277 v278
  let c0_i32_160 : BitVec 32 := 0#32
  let v276 : BitVec 1 := Scalar.cmpi .ne v275 c0_i32_160
  let v280 : BitVec 1 := Scalar.andi v279 v276
  let v281 : BitVec 32 := Scalar.addi v275 v274
  let v282 : BitVec 32 := Scalar.select v280 v281 v275
  let c0_i32_169 : BitVec 32 := 0#32
  let c0_i32_170 : BitVec 32 := 0#32
  ![v282.toNat, 0, 0]
def k0_off95 (i : grid0.Coords) (v11 : BitVec 32) (v100 : BitVec 32) (v105 : BitVec 32) (k0_t8 : Fin (k0_t8_loop i v11 v100 v105).trips) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let c1_i32_101 : BitVec 32 := 1#32
  let arg14 : BitVec 32 := Scf.iv c0_i32_99 c1_i32_101 k0_t8
  let c8_i32_153 : BitVec 32 := 8#32
  let v267 : BitVec 32 := Scalar.addi arg14 c8_i32_153
  let c1_i32_154 : BitVec 32 := 1#32
  let v268 : BitVec 32 := Scalar.subi v267 c1_i32_154
  let c16_i32_155 : BitVec 32 := 16#32
  let v269 : BitVec 32 := Scalar.muli v268 c16_i32_155
  let v270 : BitVec 32 := Scalar.addi v125 v269
  let c32752_i32_156 : BitVec 32 := 32752#32
  let v271 : BitVec 32 := Scalar.minsi v270 c32752_i32_156
  let v272 : BitVec 32 := v271
  let arg0 : BitVec 32 := BitVec.ofNat 32 (i 0).val
  let c256_i32 : BitVec 32 := 256#32
  let v34 : BitVec 32 := Scalar.muli arg0 c256_i32
  let v35 : BitVec 32 := v34
  ![v272.toNat, v35.toNat]
def k0_off96 (i : grid0.Coords) (v11 : BitVec 32) (v100 : BitVec 32) (v105 : BitVec 32) (k0_t8 : Fin (k0_t8_loop i v11 v100 v105).trips) : Fin 1 → Nat :=
  let c0_i32_99 : BitVec 32 := 0#32
  let c1_i32_101 : BitVec 32 := 1#32
  let arg14 : BitVec 32 := Scf.iv c0_i32_99 c1_i32_101 k0_t8
  let c8_i32_153 : BitVec 32 := 8#32
  let v267 : BitVec 32 := Scalar.addi arg14 c8_i32_153
  let c1_i32_154 : BitVec 32 := 1#32
  let v268 : BitVec 32 := Scalar.subi v267 c1_i32_154
  let c8_i32_163 : BitVec 32 := 8#32
  let c0_i32_164 : BitVec 32 := 0#32
  let v283 : BitVec 1 := Scalar.cmpi .eq c8_i32_163 c0_i32_164
  let c1_i32_165 : BitVec 32 := 1#32
  let v284 : BitVec 32 := Scalar.select v283 c1_i32_165 c8_i32_163
  let v285 : BitVec 32 := Scalar.remsi v268 v284
  let c0_i32_167 : BitVec 32 := 0#32
  let v287 : BitVec 1 := Scalar.cmpi .slt v285 c0_i32_167
  let c0_i32_168 : BitVec 32 := 0#32
  let v288 : BitVec 1 := Scalar.cmpi .slt v284 c0_i32_168
  let v289 : BitVec 1 := Scalar.xori v287 v288
  let c0_i32_166 : BitVec 32 := 0#32
  let v286 : BitVec 1 := Scalar.cmpi .ne v285 c0_i32_166
  let v290 : BitVec 1 := Scalar.andi v289 v286
  let v291 : BitVec 32 := Scalar.addi v285 v284
  let v292 : BitVec 32 := Scalar.select v290 v291 v285
  ![v292.toNat]
def k0_mult24 (i : grid0.Coords) (v11 : BitVec 32) (v100 : BitVec 32) (v105 : BitVec 32) (k0_t8 : Fin (k0_t8_loop i v11 v100 v105).trips) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let c1_i32_101 : BitVec 32 := 1#32
  let arg14 : BitVec 32 := Scf.iv c0_i32_99 c1_i32_101 k0_t8
  let c16_i32_141 : BitVec 32 := 16#32
  let v251 : BitVec 32 := Scalar.muli arg14 c16_i32_141
  let v252 : BitVec 32 := Scalar.addi v125 v251
  let c32752_i32_142 : BitVec 32 := 32752#32
  let v253 : BitVec 32 := Scalar.minsi v252 c32752_i32_142
  v253
@[reducible] def k0_t9_loop : Scf.Loop 32 :=
  let c0_i32_149 : BitVec 32 := 0#32
  let c4_i32_150 : BitVec 32 := 4#32
  let v265 : BitVec 32 := Scalar.addi c0_i32_149 c4_i32_150
  let c1_i32_151 : BitVec 32 := 1#32
  ⟨c0_i32_149, v265, c1_i32_151⟩
def k0_off97 (i : grid0.Coords) (v11 : BitVec 32) (v100 : BitVec 32) (v105 : BitVec 32) (k0_t8 : Fin (k0_t8_loop i v11 v100 v105).trips) (k0_t9 : Fin k0_t9_loop.trips) (c0_i32_155 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v274 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v273 : BitVec 32 := Scalar.addi v267 c0_i32_155
  let v275 : Index := Scalar.indexCast v273
  let c0_156 : Index := 0#32
  ![v274.toNat, v275.toNat, 0]
def k0_off98 (i : grid0.Coords) (v11 : BitVec 32) (v100 : BitVec 32) (v105 : BitVec 32) (k0_t8 : Fin (k0_t8_loop i v11 v100 v105).trips) (k0_t9 : Fin k0_t9_loop.trips) (c0_i32_158 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v281 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v280 : BitVec 32 := Scalar.addi v267 c0_i32_158
  let v282 : Index := Scalar.indexCast v280
  let c16_159 : Index := 16#32
  ![v281.toNat, v282.toNat, 16]
def k0_off99 (i : grid0.Coords) (v11 : BitVec 32) (v100 : BitVec 32) (v105 : BitVec 32) (k0_t8 : Fin (k0_t8_loop i v11 v100 v105).trips) (k0_t9 : Fin k0_t9_loop.trips) (c0_i32_161 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v288 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v287 : BitVec 32 := Scalar.addi v267 c0_i32_161
  let v289 : Index := Scalar.indexCast v287
  let c32_162 : Index := 32#32
  ![v288.toNat, v289.toNat, 32]
def k0_off100 (i : grid0.Coords) (v11 : BitVec 32) (v100 : BitVec 32) (v105 : BitVec 32) (k0_t8 : Fin (k0_t8_loop i v11 v100 v105).trips) (k0_t9 : Fin k0_t9_loop.trips) (c0_i32_164 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v295 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v294 : BitVec 32 := Scalar.addi v267 c0_i32_164
  let v296 : Index := Scalar.indexCast v294
  let c48_165 : Index := 48#32
  ![v295.toNat, v296.toNat, 48]
def k0_off101 (i : grid0.Coords) (v11 : BitVec 32) (v100 : BitVec 32) (v105 : BitVec 32) (k0_t8 : Fin (k0_t8_loop i v11 v100 v105).trips) (k0_t9 : Fin k0_t9_loop.trips) (c0_i32_167 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v302 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v301 : BitVec 32 := Scalar.addi v267 c0_i32_167
  let v303 : Index := Scalar.indexCast v301
  let c64_168 : Index := 64#32
  ![v302.toNat, v303.toNat, 64]
def k0_off102 (i : grid0.Coords) (v11 : BitVec 32) (v100 : BitVec 32) (v105 : BitVec 32) (k0_t8 : Fin (k0_t8_loop i v11 v100 v105).trips) (k0_t9 : Fin k0_t9_loop.trips) (c0_i32_170 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v309 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v308 : BitVec 32 := Scalar.addi v267 c0_i32_170
  let v310 : Index := Scalar.indexCast v308
  let c80_171 : Index := 80#32
  ![v309.toNat, v310.toNat, 80]
def k0_off103 (i : grid0.Coords) (v11 : BitVec 32) (v100 : BitVec 32) (v105 : BitVec 32) (k0_t8 : Fin (k0_t8_loop i v11 v100 v105).trips) (k0_t9 : Fin k0_t9_loop.trips) (c0_i32_173 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v316 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v315 : BitVec 32 := Scalar.addi v267 c0_i32_173
  let v317 : Index := Scalar.indexCast v315
  let c96_174 : Index := 96#32
  ![v316.toNat, v317.toNat, 96]
def k0_off104 (i : grid0.Coords) (v11 : BitVec 32) (v100 : BitVec 32) (v105 : BitVec 32) (k0_t8 : Fin (k0_t8_loop i v11 v100 v105).trips) (k0_t9 : Fin k0_t9_loop.trips) (c0_i32_176 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v323 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v322 : BitVec 32 := Scalar.addi v267 c0_i32_176
  let v324 : Index := Scalar.indexCast v322
  let c112_177 : Index := 112#32
  ![v323.toNat, v324.toNat, 112]
def k0_off105 (i : grid0.Coords) (v11 : BitVec 32) (v100 : BitVec 32) (v105 : BitVec 32) (k0_t8 : Fin (k0_t8_loop i v11 v100 v105).trips) (k0_t9 : Fin k0_t9_loop.trips) (c0_i32_179 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v330 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v329 : BitVec 32 := Scalar.addi v267 c0_i32_179
  let v331 : Index := Scalar.indexCast v329
  let c128_180 : Index := 128#32
  ![v330.toNat, v331.toNat, 128]
def k0_off106 (i : grid0.Coords) (v11 : BitVec 32) (v100 : BitVec 32) (v105 : BitVec 32) (k0_t8 : Fin (k0_t8_loop i v11 v100 v105).trips) (k0_t9 : Fin k0_t9_loop.trips) (c0_i32_182 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v337 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v336 : BitVec 32 := Scalar.addi v267 c0_i32_182
  let v338 : Index := Scalar.indexCast v336
  let c144_183 : Index := 144#32
  ![v337.toNat, v338.toNat, 144]
def k0_off107 (i : grid0.Coords) (v11 : BitVec 32) (v100 : BitVec 32) (v105 : BitVec 32) (k0_t8 : Fin (k0_t8_loop i v11 v100 v105).trips) (k0_t9 : Fin k0_t9_loop.trips) (c0_i32_185 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v344 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v343 : BitVec 32 := Scalar.addi v267 c0_i32_185
  let v345 : Index := Scalar.indexCast v343
  let c160_186 : Index := 160#32
  ![v344.toNat, v345.toNat, 160]
def k0_off108 (i : grid0.Coords) (v11 : BitVec 32) (v100 : BitVec 32) (v105 : BitVec 32) (k0_t8 : Fin (k0_t8_loop i v11 v100 v105).trips) (k0_t9 : Fin k0_t9_loop.trips) (c0_i32_188 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v351 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v350 : BitVec 32 := Scalar.addi v267 c0_i32_188
  let v352 : Index := Scalar.indexCast v350
  let c176_189 : Index := 176#32
  ![v351.toNat, v352.toNat, 176]
def k0_off109 (i : grid0.Coords) (v11 : BitVec 32) (v100 : BitVec 32) (v105 : BitVec 32) (k0_t8 : Fin (k0_t8_loop i v11 v100 v105).trips) (k0_t9 : Fin k0_t9_loop.trips) (c0_i32_191 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v358 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v357 : BitVec 32 := Scalar.addi v267 c0_i32_191
  let v359 : Index := Scalar.indexCast v357
  let c192_192 : Index := 192#32
  ![v358.toNat, v359.toNat, 192]
def k0_off110 (i : grid0.Coords) (v11 : BitVec 32) (v100 : BitVec 32) (v105 : BitVec 32) (k0_t8 : Fin (k0_t8_loop i v11 v100 v105).trips) (k0_t9 : Fin k0_t9_loop.trips) (c0_i32_194 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v365 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v364 : BitVec 32 := Scalar.addi v267 c0_i32_194
  let v366 : Index := Scalar.indexCast v364
  let c208_195 : Index := 208#32
  ![v365.toNat, v366.toNat, 208]
def k0_off111 (i : grid0.Coords) (v11 : BitVec 32) (v100 : BitVec 32) (v105 : BitVec 32) (k0_t8 : Fin (k0_t8_loop i v11 v100 v105).trips) (k0_t9 : Fin k0_t9_loop.trips) (c0_i32_197 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v372 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v371 : BitVec 32 := Scalar.addi v267 c0_i32_197
  let v373 : Index := Scalar.indexCast v371
  let c224_198 : Index := 224#32
  ![v372.toNat, v373.toNat, 224]
def k0_off112 (i : grid0.Coords) (v11 : BitVec 32) (v100 : BitVec 32) (v105 : BitVec 32) (k0_t8 : Fin (k0_t8_loop i v11 v100 v105).trips) (k0_t9 : Fin k0_t9_loop.trips) (c0_i32_200 : BitVec 32) : Fin 3 → Nat :=
  let c0_i32_99 : BitVec 32 := 0#32
  let c1_i32_101 : BitVec 32 := 1#32
  let arg14 : BitVec 32 := Scf.iv c0_i32_99 c1_i32_101 k0_t8
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v379 : Index := Scalar.indexCast v264
  let c0_i32_149 : BitVec 32 := 0#32
  let c1_i32_151 : BitVec 32 := 1#32
  let arg31 : BitVec 32 := Scf.iv c0_i32_149 c1_i32_151 k0_t9
  let c4_i32_153 : BitVec 32 := 4#32
  let v267 : BitVec 32 := Scalar.muli arg31 c4_i32_153
  let v378 : BitVec 32 := Scalar.addi v267 c0_i32_200
  let v380 : Index := Scalar.indexCast v378
  let c240_201 : Index := 240#32
  ![v379.toNat, v380.toNat, 240]
@[reducible] def k0_t10_loop (i : grid0.Coords) (v11 : BitVec 32) (v100 : BitVec 32) (v105 : BitVec 32) : Scf.Loop 32 :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let v176 : BitVec 32 := Scalar.addi c0_i32_99 v175
  let c1_i32_102 : BitVec 32 := 1#32
  ⟨v179, v176, c1_i32_102⟩
def k0_mult25 (i : grid0.Coords) (v11 : BitVec 32) (v100 : BitVec 32) (v105 : BitVec 32) (k0_t10 : Fin (k0_t10_loop i v11 v100 v105).trips) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let v32 : BitVec 32 := Scalar.addi v31 v30
  let v33 : BitVec 32 := Scalar.minsi v32 v11
  let v107 : BitVec 32 := Scalar.minsi v105 v33
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c16_i32_120 : BitVec 32 := 16#32
  let v214 : BitVec 32 := Scalar.muli arg14 c16_i32_120
  let v215 : BitVec 32 := Scalar.addi v125 v214
  let c32752_i32_121 : BitVec 32 := 32752#32
  let v216 : BitVec 32 := Scalar.minsi v215 c32752_i32_121
  v216
def k0_off113 (i : grid0.Coords) (v11 : BitVec 32) (v100 : BitVec 32) (v105 : BitVec 32) (k0_t10 : Fin (k0_t10_loop i v11 v100 v105).trips) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_122 : BitVec 32 := 8#32
  let c0_i32_123 : BitVec 32 := 0#32
  let v218 : BitVec 1 := Scalar.cmpi .eq c8_i32_122 c0_i32_123
  let c1_i32_124 : BitVec 32 := 1#32
  let v219 : BitVec 32 := Scalar.select v218 c1_i32_124 c8_i32_122
  let v220 : BitVec 32 := Scalar.remsi arg14 v219
  let c0_i32_126 : BitVec 32 := 0#32
  let v222 : BitVec 1 := Scalar.cmpi .slt v220 c0_i32_126
  let c0_i32_127 : BitVec 32 := 0#32
  let v223 : BitVec 1 := Scalar.cmpi .slt v219 c0_i32_127
  let v224 : BitVec 1 := Scalar.xori v222 v223
  let c0_i32_125 : BitVec 32 := 0#32
  let v221 : BitVec 1 := Scalar.cmpi .ne v220 c0_i32_125
  let v225 : BitVec 1 := Scalar.andi v224 v221
  let v226 : BitVec 32 := Scalar.addi v220 v219
  let v227 : BitVec 32 := Scalar.select v225 v226 v220
  let c0_i32_134 : BitVec 32 := 0#32
  let c0_i32_135 : BitVec 32 := 0#32
  ![v227.toNat, 0, 0]
def k0_off114 (i : grid0.Coords) (v11 : BitVec 32) (v100 : BitVec 32) (v105 : BitVec 32) (k0_t10 : Fin (k0_t10_loop i v11 v100 v105).trips) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let v32 : BitVec 32 := Scalar.addi v31 v30
  let v33 : BitVec 32 := Scalar.minsi v32 v11
  let v107 : BitVec 32 := Scalar.minsi v105 v33
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c16_i32_120 : BitVec 32 := 16#32
  let v214 : BitVec 32 := Scalar.muli arg14 c16_i32_120
  let v215 : BitVec 32 := Scalar.addi v125 v214
  let c32752_i32_121 : BitVec 32 := 32752#32
  let v216 : BitVec 32 := Scalar.minsi v215 c32752_i32_121
  let v217 : BitVec 32 := v216
  let arg0 : BitVec 32 := BitVec.ofNat 32 (i 0).val
  let c256_i32 : BitVec 32 := 256#32
  let v34 : BitVec 32 := Scalar.muli arg0 c256_i32
  let v35 : BitVec 32 := v34
  ![v217.toNat, v35.toNat]
def k0_off115 (i : grid0.Coords) (v11 : BitVec 32) (v100 : BitVec 32) (v105 : BitVec 32) (k0_t10 : Fin (k0_t10_loop i v11 v100 v105).trips) : Fin 1 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_128 : BitVec 32 := 8#32
  let c0_i32_129 : BitVec 32 := 0#32
  let v228 : BitVec 1 := Scalar.cmpi .eq c8_i32_128 c0_i32_129
  let c1_i32_130 : BitVec 32 := 1#32
  let v229 : BitVec 32 := Scalar.select v228 c1_i32_130 c8_i32_128
  let v230 : BitVec 32 := Scalar.remsi arg14 v229
  let c0_i32_132 : BitVec 32 := 0#32
  let v232 : BitVec 1 := Scalar.cmpi .slt v230 c0_i32_132
  let c0_i32_133 : BitVec 32 := 0#32
  let v233 : BitVec 1 := Scalar.cmpi .slt v229 c0_i32_133
  let v234 : BitVec 1 := Scalar.xori v232 v233
  let c0_i32_131 : BitVec 32 := 0#32
  let v231 : BitVec 1 := Scalar.cmpi .ne v230 c0_i32_131
  let v235 : BitVec 1 := Scalar.andi v234 v231
  let v236 : BitVec 32 := Scalar.addi v230 v229
  let v237 : BitVec 32 := Scalar.select v235 v236 v230
  ![v237.toNat]
def k0_mult26 (i : grid0.Coords) (v11 : BitVec 32) (v100 : BitVec 32) (v105 : BitVec 32) (k0_t10 : Fin (k0_t10_loop i v11 v100 v105).trips) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let v32 : BitVec 32 := Scalar.addi v31 v30
  let v33 : BitVec 32 := Scalar.minsi v32 v11
  let v107 : BitVec 32 := Scalar.minsi v105 v33
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_153 : BitVec 32 := 8#32
  let v267 : BitVec 32 := Scalar.addi arg14 c8_i32_153
  let c1_i32_154 : BitVec 32 := 1#32
  let v268 : BitVec 32 := Scalar.subi v267 c1_i32_154
  let c16_i32_155 : BitVec 32 := 16#32
  let v269 : BitVec 32 := Scalar.muli v268 c16_i32_155
  let v270 : BitVec 32 := Scalar.addi v125 v269
  let c32752_i32_156 : BitVec 32 := 32752#32
  let v271 : BitVec 32 := Scalar.minsi v270 c32752_i32_156
  v271
def k0_cond16 (i : grid0.Coords) (v11 : BitVec 32) (v100 : BitVec 32) (v105 : BitVec 32) (k0_t10 : Fin (k0_t10_loop i v11 v100 v105).trips) : BitVec 1 :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_138 : BitVec 32 := 8#32
  let v246 : BitVec 32 := Scalar.addi arg14 c8_i32_138
  let c1_i32_139 : BitVec 32 := 1#32
  let v247 : BitVec 32 := Scalar.subi v246 c1_i32_139
  let v248 : BitVec 1 := Scalar.cmpi .slt v247 v145
  let v249 : BitVec 32 := Scalar.extui v248
  let c0_i32_140 : BitVec 32 := 0#32
  let v250 : BitVec 1 := Scalar.cmpi .ne v249 c0_i32_140
  v250

def k0_off116 (i : grid0.Coords) (v11 : BitVec 32) (v100 : BitVec 32) (v105 : BitVec 32) (k0_t10 : Fin (k0_t10_loop i v11 v100 v105).trips) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_153 : BitVec 32 := 8#32
  let v267 : BitVec 32 := Scalar.addi arg14 c8_i32_153
  let c1_i32_154 : BitVec 32 := 1#32
  let v268 : BitVec 32 := Scalar.subi v267 c1_i32_154
  let c8_i32_157 : BitVec 32 := 8#32
  let c0_i32_158 : BitVec 32 := 0#32
  let v273 : BitVec 1 := Scalar.cmpi .eq c8_i32_157 c0_i32_158
  let c1_i32_159 : BitVec 32 := 1#32
  let v274 : BitVec 32 := Scalar.select v273 c1_i32_159 c8_i32_157
  let v275 : BitVec 32 := Scalar.remsi v268 v274
  let c0_i32_161 : BitVec 32 := 0#32
  let v277 : BitVec 1 := Scalar.cmpi .slt v275 c0_i32_161
  let c0_i32_162 : BitVec 32 := 0#32
  let v278 : BitVec 1 := Scalar.cmpi .slt v274 c0_i32_162
  let v279 : BitVec 1 := Scalar.xori v277 v278
  let c0_i32_160 : BitVec 32 := 0#32
  let v276 : BitVec 1 := Scalar.cmpi .ne v275 c0_i32_160
  let v280 : BitVec 1 := Scalar.andi v279 v276
  let v281 : BitVec 32 := Scalar.addi v275 v274
  let v282 : BitVec 32 := Scalar.select v280 v281 v275
  let c0_i32_169 : BitVec 32 := 0#32
  let c0_i32_170 : BitVec 32 := 0#32
  ![v282.toNat, 0, 0]
def k0_off117 (i : grid0.Coords) (v11 : BitVec 32) (v100 : BitVec 32) (v105 : BitVec 32) (k0_t10 : Fin (k0_t10_loop i v11 v100 v105).trips) : Fin 2 → Nat :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let v32 : BitVec 32 := Scalar.addi v31 v30
  let v33 : BitVec 32 := Scalar.minsi v32 v11
  let v107 : BitVec 32 := Scalar.minsi v105 v33
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_153 : BitVec 32 := 8#32
  let v267 : BitVec 32 := Scalar.addi arg14 c8_i32_153
  let c1_i32_154 : BitVec 32 := 1#32
  let v268 : BitVec 32 := Scalar.subi v267 c1_i32_154
  let c16_i32_155 : BitVec 32 := 16#32
  let v269 : BitVec 32 := Scalar.muli v268 c16_i32_155
  let v270 : BitVec 32 := Scalar.addi v125 v269
  let c32752_i32_156 : BitVec 32 := 32752#32
  let v271 : BitVec 32 := Scalar.minsi v270 c32752_i32_156
  let v272 : BitVec 32 := v271
  let arg0 : BitVec 32 := BitVec.ofNat 32 (i 0).val
  let c256_i32 : BitVec 32 := 256#32
  let v34 : BitVec 32 := Scalar.muli arg0 c256_i32
  let v35 : BitVec 32 := v34
  ![v272.toNat, v35.toNat]
def k0_off118 (i : grid0.Coords) (v11 : BitVec 32) (v100 : BitVec 32) (v105 : BitVec 32) (k0_t10 : Fin (k0_t10_loop i v11 v100 v105).trips) : Fin 1 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_153 : BitVec 32 := 8#32
  let v267 : BitVec 32 := Scalar.addi arg14 c8_i32_153
  let c1_i32_154 : BitVec 32 := 1#32
  let v268 : BitVec 32 := Scalar.subi v267 c1_i32_154
  let c8_i32_163 : BitVec 32 := 8#32
  let c0_i32_164 : BitVec 32 := 0#32
  let v283 : BitVec 1 := Scalar.cmpi .eq c8_i32_163 c0_i32_164
  let c1_i32_165 : BitVec 32 := 1#32
  let v284 : BitVec 32 := Scalar.select v283 c1_i32_165 c8_i32_163
  let v285 : BitVec 32 := Scalar.remsi v268 v284
  let c0_i32_167 : BitVec 32 := 0#32
  let v287 : BitVec 1 := Scalar.cmpi .slt v285 c0_i32_167
  let c0_i32_168 : BitVec 32 := 0#32
  let v288 : BitVec 1 := Scalar.cmpi .slt v284 c0_i32_168
  let v289 : BitVec 1 := Scalar.xori v287 v288
  let c0_i32_166 : BitVec 32 := 0#32
  let v286 : BitVec 1 := Scalar.cmpi .ne v285 c0_i32_166
  let v290 : BitVec 1 := Scalar.andi v289 v286
  let v291 : BitVec 32 := Scalar.addi v285 v284
  let v292 : BitVec 32 := Scalar.select v290 v291 v285
  ![v292.toNat]
def k0_mult27 (i : grid0.Coords) (v11 : BitVec 32) (v100 : BitVec 32) (v105 : BitVec 32) (k0_t10 : Fin (k0_t10_loop i v11 v100 v105).trips) : BitVec 32 :=
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let c0_i32_99 : BitVec 32 := 0#32
  let v32 : BitVec 32 := Scalar.addi v31 v30
  let v33 : BitVec 32 := Scalar.minsi v32 v11
  let v107 : BitVec 32 := Scalar.minsi v105 v33
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c16_i32_141 : BitVec 32 := 16#32
  let v251 : BitVec 32 := Scalar.muli arg14 c16_i32_141
  let v252 : BitVec 32 := Scalar.addi v125 v251
  let c32752_i32_142 : BitVec 32 := 32752#32
  let v253 : BitVec 32 := Scalar.minsi v252 c32752_i32_142
  v253
@[reducible] def k0_t11_loop : Scf.Loop 32 :=
  let c0_i32_149 : BitVec 32 := 0#32
  let c4_i32_150 : BitVec 32 := 4#32
  let v265 : BitVec 32 := Scalar.addi c0_i32_149 c4_i32_150
  let c1_i32_151 : BitVec 32 := 1#32
  ⟨c0_i32_149, v265, c1_i32_151⟩
def k0_off119 (i : grid0.Coords) (v11 : BitVec 32) (v100 : BitVec 32) (v105 : BitVec 32) (k0_t10 : Fin (k0_t10_loop i v11 v100 v105).trips) (k0_t11 : Fin k0_t11_loop.trips) (c0_i32_155 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v274 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v273 : BitVec 32 := Scalar.addi v267 c0_i32_155
  let v275 : Index := Scalar.indexCast v273
  let c0_156 : Index := 0#32
  ![v274.toNat, v275.toNat, 0]
def k0_off120 (i : grid0.Coords) (v11 : BitVec 32) (v100 : BitVec 32) (v105 : BitVec 32) (k0_t10 : Fin (k0_t10_loop i v11 v100 v105).trips) (k0_t11 : Fin k0_t11_loop.trips) (c0_i32_158 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v281 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v280 : BitVec 32 := Scalar.addi v267 c0_i32_158
  let v282 : Index := Scalar.indexCast v280
  let c16_159 : Index := 16#32
  ![v281.toNat, v282.toNat, 16]
def k0_off121 (i : grid0.Coords) (v11 : BitVec 32) (v100 : BitVec 32) (v105 : BitVec 32) (k0_t10 : Fin (k0_t10_loop i v11 v100 v105).trips) (k0_t11 : Fin k0_t11_loop.trips) (c0_i32_161 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v288 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v287 : BitVec 32 := Scalar.addi v267 c0_i32_161
  let v289 : Index := Scalar.indexCast v287
  let c32_162 : Index := 32#32
  ![v288.toNat, v289.toNat, 32]
def k0_off122 (i : grid0.Coords) (v11 : BitVec 32) (v100 : BitVec 32) (v105 : BitVec 32) (k0_t10 : Fin (k0_t10_loop i v11 v100 v105).trips) (k0_t11 : Fin k0_t11_loop.trips) (c0_i32_164 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v295 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v294 : BitVec 32 := Scalar.addi v267 c0_i32_164
  let v296 : Index := Scalar.indexCast v294
  let c48_165 : Index := 48#32
  ![v295.toNat, v296.toNat, 48]
def k0_off123 (i : grid0.Coords) (v11 : BitVec 32) (v100 : BitVec 32) (v105 : BitVec 32) (k0_t10 : Fin (k0_t10_loop i v11 v100 v105).trips) (k0_t11 : Fin k0_t11_loop.trips) (c0_i32_167 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v302 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v301 : BitVec 32 := Scalar.addi v267 c0_i32_167
  let v303 : Index := Scalar.indexCast v301
  let c64_168 : Index := 64#32
  ![v302.toNat, v303.toNat, 64]
def k0_off124 (i : grid0.Coords) (v11 : BitVec 32) (v100 : BitVec 32) (v105 : BitVec 32) (k0_t10 : Fin (k0_t10_loop i v11 v100 v105).trips) (k0_t11 : Fin k0_t11_loop.trips) (c0_i32_170 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v309 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v308 : BitVec 32 := Scalar.addi v267 c0_i32_170
  let v310 : Index := Scalar.indexCast v308
  let c80_171 : Index := 80#32
  ![v309.toNat, v310.toNat, 80]
def k0_off125 (i : grid0.Coords) (v11 : BitVec 32) (v100 : BitVec 32) (v105 : BitVec 32) (k0_t10 : Fin (k0_t10_loop i v11 v100 v105).trips) (k0_t11 : Fin k0_t11_loop.trips) (c0_i32_173 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v316 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v315 : BitVec 32 := Scalar.addi v267 c0_i32_173
  let v317 : Index := Scalar.indexCast v315
  let c96_174 : Index := 96#32
  ![v316.toNat, v317.toNat, 96]
def k0_off126 (i : grid0.Coords) (v11 : BitVec 32) (v100 : BitVec 32) (v105 : BitVec 32) (k0_t10 : Fin (k0_t10_loop i v11 v100 v105).trips) (k0_t11 : Fin k0_t11_loop.trips) (c0_i32_176 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v323 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v322 : BitVec 32 := Scalar.addi v267 c0_i32_176
  let v324 : Index := Scalar.indexCast v322
  let c112_177 : Index := 112#32
  ![v323.toNat, v324.toNat, 112]
def k0_off127 (i : grid0.Coords) (v11 : BitVec 32) (v100 : BitVec 32) (v105 : BitVec 32) (k0_t10 : Fin (k0_t10_loop i v11 v100 v105).trips) (k0_t11 : Fin k0_t11_loop.trips) (c0_i32_179 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v330 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v329 : BitVec 32 := Scalar.addi v267 c0_i32_179
  let v331 : Index := Scalar.indexCast v329
  let c128_180 : Index := 128#32
  ![v330.toNat, v331.toNat, 128]
def k0_off128 (i : grid0.Coords) (v11 : BitVec 32) (v100 : BitVec 32) (v105 : BitVec 32) (k0_t10 : Fin (k0_t10_loop i v11 v100 v105).trips) (k0_t11 : Fin k0_t11_loop.trips) (c0_i32_182 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v337 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v336 : BitVec 32 := Scalar.addi v267 c0_i32_182
  let v338 : Index := Scalar.indexCast v336
  let c144_183 : Index := 144#32
  ![v337.toNat, v338.toNat, 144]
def k0_off129 (i : grid0.Coords) (v11 : BitVec 32) (v100 : BitVec 32) (v105 : BitVec 32) (k0_t10 : Fin (k0_t10_loop i v11 v100 v105).trips) (k0_t11 : Fin k0_t11_loop.trips) (c0_i32_185 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v344 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v343 : BitVec 32 := Scalar.addi v267 c0_i32_185
  let v345 : Index := Scalar.indexCast v343
  let c160_186 : Index := 160#32
  ![v344.toNat, v345.toNat, 160]
def k0_off130 (i : grid0.Coords) (v11 : BitVec 32) (v100 : BitVec 32) (v105 : BitVec 32) (k0_t10 : Fin (k0_t10_loop i v11 v100 v105).trips) (k0_t11 : Fin k0_t11_loop.trips) (c0_i32_188 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v351 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v350 : BitVec 32 := Scalar.addi v267 c0_i32_188
  let v352 : Index := Scalar.indexCast v350
  let c176_189 : Index := 176#32
  ![v351.toNat, v352.toNat, 176]
def k0_off131 (i : grid0.Coords) (v11 : BitVec 32) (v100 : BitVec 32) (v105 : BitVec 32) (k0_t10 : Fin (k0_t10_loop i v11 v100 v105).trips) (k0_t11 : Fin k0_t11_loop.trips) (c0_i32_191 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v358 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v357 : BitVec 32 := Scalar.addi v267 c0_i32_191
  let v359 : Index := Scalar.indexCast v357
  let c192_192 : Index := 192#32
  ![v358.toNat, v359.toNat, 192]
def k0_off132 (i : grid0.Coords) (v11 : BitVec 32) (v100 : BitVec 32) (v105 : BitVec 32) (k0_t10 : Fin (k0_t10_loop i v11 v100 v105).trips) (k0_t11 : Fin k0_t11_loop.trips) (c0_i32_194 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v365 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v364 : BitVec 32 := Scalar.addi v267 c0_i32_194
  let v366 : Index := Scalar.indexCast v364
  let c208_195 : Index := 208#32
  ![v365.toNat, v366.toNat, 208]
def k0_off133 (i : grid0.Coords) (v11 : BitVec 32) (v100 : BitVec 32) (v105 : BitVec 32) (k0_t10 : Fin (k0_t10_loop i v11 v100 v105).trips) (k0_t11 : Fin k0_t11_loop.trips) (c0_i32_197 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v372 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v371 : BitVec 32 := Scalar.addi v267 c0_i32_197
  let v373 : Index := Scalar.indexCast v371
  let c224_198 : Index := 224#32
  ![v372.toNat, v373.toNat, 224]
def k0_off134 (i : grid0.Coords) (v11 : BitVec 32) (v100 : BitVec 32) (v105 : BitVec 32) (k0_t10 : Fin (k0_t10_loop i v11 v100 v105).trips) (k0_t11 : Fin k0_t11_loop.trips) (c0_i32_200 : BitVec 32) : Fin 3 → Nat :=
  let c0_i32_99 : BitVec 32 := 0#32
  let arg1 : BitVec 32 := BitVec.ofNat 32 (i 1).val
  let c16_i32 : BitVec 32 := 16#32
  let v12 : BitVec 32 := Scalar.addi v11 c16_i32
  let c1_i32 : BitVec 32 := 1#32
  let v13 : BitVec 32 := Scalar.subi v12 c1_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c16_i32_1 : BitVec 32 := 16#32
  let c0_i32_4 : BitVec 32 := 0#32
  let v20 : BitVec 1 := Scalar.cmpi .sgt c16_i32_1 c0_i32_4
  let v21 : BitVec 32 := Scalar.extui v20
  let c0_i32_5 : BitVec 32 := 0#32
  let v22 : BitVec 1 := Scalar.cmpi .slt c16_i32_1 c0_i32_5
  let v23 : BitVec 32 := Scalar.extui v22
  let v24 : BitVec 32 := Scalar.subi v21 v23
  let v25 : BitVec 1 := Scalar.cmpi .ne v19 v24
  let v26 : BitVec 32 := Scalar.remsi v13 c16_i32_1
  let c0_i32_6 : BitVec 32 := 0#32
  let v27 : BitVec 1 := Scalar.cmpi .ne v26 c0_i32_6
  let v28 : BitVec 1 := Scalar.andi v25 v27
  let v14 : BitVec 32 := Scalar.divsi v13 c16_i32_1
  let c1_i32_7 : BitVec 32 := 1#32
  let v29 : BitVec 32 := Scalar.subi v14 c1_i32_7
  let v30 : BitVec 32 := Scalar.select v28 v29 v14
  let v31 : BitVec 32 := Scalar.muli arg1 v30
  let v32 : BitVec 32 := Scalar.addi v31 v30
  let v33 : BitVec 32 := Scalar.minsi v32 v11
  let v107 : BitVec 32 := Scalar.minsi v105 v33
  let v106 : BitVec 32 := Scalar.maxsi v100 v31
  let c0_i32_64 : BitVec 32 := 0#32
  let v109 : BitVec 1 := Scalar.cmpi .sgt v106 c0_i32_64
  let v110 : BitVec 32 := Scalar.extui v109
  let c0_i32_65 : BitVec 32 := 0#32
  let v111 : BitVec 1 := Scalar.cmpi .slt v106 c0_i32_65
  let v112 : BitVec 32 := Scalar.extui v111
  let v113 : BitVec 32 := Scalar.subi v110 v112
  let c8_i32_63 : BitVec 32 := 8#32
  let c0_i32_66 : BitVec 32 := 0#32
  let v114 : BitVec 1 := Scalar.cmpi .sgt c8_i32_63 c0_i32_66
  let v115 : BitVec 32 := Scalar.extui v114
  let c0_i32_67 : BitVec 32 := 0#32
  let v116 : BitVec 1 := Scalar.cmpi .slt c8_i32_63 c0_i32_67
  let v117 : BitVec 32 := Scalar.extui v116
  let v118 : BitVec 32 := Scalar.subi v115 v117
  let v119 : BitVec 1 := Scalar.cmpi .ne v113 v118
  let v120 : BitVec 32 := Scalar.remsi v106 c8_i32_63
  let c0_i32_68 : BitVec 32 := 0#32
  let v121 : BitVec 1 := Scalar.cmpi .ne v120 c0_i32_68
  let v122 : BitVec 1 := Scalar.andi v119 v121
  let v108 : BitVec 32 := Scalar.divsi v106 c8_i32_63
  let c1_i32_69 : BitVec 32 := 1#32
  let v123 : BitVec 32 := Scalar.subi v108 c1_i32_69
  let v124 : BitVec 32 := Scalar.select v122 v123 v108
  let c8_i32_70 : BitVec 32 := 8#32
  let v125 : BitVec 32 := Scalar.muli v124 c8_i32_70
  let v126 : BitVec 32 := Scalar.subi v107 v125
  let c16_i32_71 : BitVec 32 := 16#32
  let v127 : BitVec 32 := Scalar.addi v126 c16_i32_71
  let c1_i32_72 : BitVec 32 := 1#32
  let v128 : BitVec 32 := Scalar.subi v127 c1_i32_72
  let c0_i32_74 : BitVec 32 := 0#32
  let v130 : BitVec 1 := Scalar.cmpi .sgt v128 c0_i32_74
  let v131 : BitVec 32 := Scalar.extui v130
  let c0_i32_75 : BitVec 32 := 0#32
  let v132 : BitVec 1 := Scalar.cmpi .slt v128 c0_i32_75
  let v133 : BitVec 32 := Scalar.extui v132
  let v134 : BitVec 32 := Scalar.subi v131 v133
  let c16_i32_73 : BitVec 32 := 16#32
  let c0_i32_76 : BitVec 32 := 0#32
  let v135 : BitVec 1 := Scalar.cmpi .sgt c16_i32_73 c0_i32_76
  let v136 : BitVec 32 := Scalar.extui v135
  let c0_i32_77 : BitVec 32 := 0#32
  let v137 : BitVec 1 := Scalar.cmpi .slt c16_i32_73 c0_i32_77
  let v138 : BitVec 32 := Scalar.extui v137
  let v139 : BitVec 32 := Scalar.subi v136 v138
  let v140 : BitVec 1 := Scalar.cmpi .ne v134 v139
  let v141 : BitVec 32 := Scalar.remsi v128 c16_i32_73
  let c0_i32_78 : BitVec 32 := 0#32
  let v142 : BitVec 1 := Scalar.cmpi .ne v141 c0_i32_78
  let v143 : BitVec 1 := Scalar.andi v140 v142
  let v129 : BitVec 32 := Scalar.divsi v128 c16_i32_73
  let c1_i32_79 : BitVec 32 := 1#32
  let v144 : BitVec 32 := Scalar.subi v129 c1_i32_79
  let v145 : BitVec 32 := Scalar.select v143 v144 v129
  let v175 : BitVec 32 := Scalar.subi v145 c0_i32_99
  let c1_i32_100 : BitVec 32 := 1#32
  let v177 : BitVec 32 := Scalar.divsi v175 c1_i32_100
  let v178 : BitVec 32 := Scalar.muli v177 c1_i32_100
  let v179 : BitVec 32 := Scalar.addi c0_i32_99 v178
  let c1_i32_102 : BitVec 32 := 1#32
  let arg14 : BitVec 32 := Scf.iv v179 c1_i32_102 k0_t10
  let c8_i32_143 : BitVec 32 := 8#32
  let c0_i32_144 : BitVec 32 := 0#32
  let v255 : BitVec 1 := Scalar.cmpi .eq c8_i32_143 c0_i32_144
  let c1_i32_145 : BitVec 32 := 1#32
  let v256 : BitVec 32 := Scalar.select v255 c1_i32_145 c8_i32_143
  let v257 : BitVec 32 := Scalar.remsi arg14 v256
  let c0_i32_147 : BitVec 32 := 0#32
  let v259 : BitVec 1 := Scalar.cmpi .slt v257 c0_i32_147
  let c0_i32_148 : BitVec 32 := 0#32
  let v260 : BitVec 1 := Scalar.cmpi .slt v256 c0_i32_148
  let v261 : BitVec 1 := Scalar.xori v259 v260
  let c0_i32_146 : BitVec 32 := 0#32
  let v258 : BitVec 1 := Scalar.cmpi .ne v257 c0_i32_146
  let v262 : BitVec 1 := Scalar.andi v261 v258
  let v263 : BitVec 32 := Scalar.addi v257 v256
  let v264 : BitVec 32 := Scalar.select v262 v263 v257
  let v379 : Index := Scalar.indexCast v264
  let c0_i32_149 : BitVec 32 := 0#32
  let c1_i32_151 : BitVec 32 := 1#32
  let arg31 : BitVec 32 := Scf.iv c0_i32_149 c1_i32_151 k0_t11
  let c4_i32_153 : BitVec 32 := 4#32
  let v267 : BitVec 32 := Scalar.muli arg31 c4_i32_153
  let v378 : BitVec 32 := Scalar.addi v267 c0_i32_200
  let v380 : Index := Scalar.indexCast v378
  let c240_201 : Index := 240#32
  ![v379.toNat, v380.toNat, 240]

def k0_chk5_0 (i : grid0.Coords) (v11 : BitVec 32) (v100 : BitVec 32) (v105 : BitVec 32) : Prop :=
  (∀ (k0_h9 : k0_cond9 i v11 v100 v105 = 1#1), 8 ∣ (k0_mult16 i v11 v100).toNat) ∧
  (∀ (k0_h9 : k0_cond9 i v11 v100 v105 = 1#1), ∀ a, (k0_off85 i v11 v100) a + S16x256.size a ≤ S32768x512.size a) ∧
  (∀ (k0_h10 : k0_cond10 i v11 v100 v105 = 1#1), 8 ∣ (k0_mult17 i v11 v100).toNat) ∧
  (∀ (k0_h10 : k0_cond10 i v11 v100 v105 = 1#1), ∀ a, (k0_off86 i v11 v100) a + S16x256.size a ≤ S32768x512.size a) ∧
  (∀ (k0_h11 : k0_cond11 i v11 v100 v105 = 1#1), 8 ∣ (k0_mult18 i v11 v100).toNat) ∧
  (∀ (k0_h11 : k0_cond11 i v11 v100 v105 = 1#1), ∀ a, (k0_off87 i v11 v100) a + S16x256.size a ≤ S32768x512.size a) ∧
  (∀ (k0_h12 : k0_cond12 i v11 v100 v105 = 1#1), 8 ∣ (k0_mult19 i v11 v100).toNat) ∧
  (∀ (k0_h12 : k0_cond12 i v11 v100 v105 = 1#1), ∀ a, (k0_off88 i v11 v100) a + S16x256.size a ≤ S32768x512.size a) ∧
  (∀ (k0_h13 : k0_cond13 i v11 v100 v105 = 1#1), 8 ∣ (k0_mult20 i v11 v100).toNat) ∧
  (∀ (k0_h13 : k0_cond13 i v11 v100 v105 = 1#1), ∀ a, (k0_off89 i v11 v100) a + S16x256.size a ≤ S32768x512.size a) ∧
  (∀ (k0_h14 : k0_cond14 i v11 v100 v105 = 1#1), 8 ∣ (k0_mult21 i v11 v100).toNat) ∧
  (∀ (k0_h14 : k0_cond14 i v11 v100 v105 = 1#1), ∀ a, (k0_off90 i v11 v100) a + S16x256.size a ≤ S32768x512.size a) ∧
  ((k0_t8_loop i v11 v100 v105).OK) ∧
  (∀ k0_t8 : Fin (k0_t8_loop i v11 v100 v105).trips, 8 ∣ (k0_mult22 i v11 v100 v105 k0_t8).toNat) ∧
  (∀ k0_t8 : Fin (k0_t8_loop i v11 v100 v105).trips, ∀ a, (k0_off91 i v11 v100 v105 k0_t8) a + S1x16x256.size a ≤ S8x16x256.size a) ∧
  (∀ k0_t8 : Fin (k0_t8_loop i v11 v100 v105).trips, ∀ a, (k0_off92 i v11 v100 v105 k0_t8) a + S16x256.size a ≤ S32768x512.size a) ∧
  (∀ k0_t8 : Fin (k0_t8_loop i v11 v100 v105).trips, ∀ a, (k0_off93 i v11 v100 v105 k0_t8) a + S1.size a ≤ S8.size a) ∧
  (∀ k0_t8 : Fin (k0_t8_loop i v11 v100 v105).trips, ∀ (k0_h15 : k0_cond15 i v11 v100 v105 k0_t8 = 1#1), 8 ∣ (k0_mult23 i v11 v100 v105 k0_t8).toNat) ∧
  (∀ k0_t8 : Fin (k0_t8_loop i v11 v100 v105).trips, ∀ (k0_h15 : k0_cond15 i v11 v100 v105 k0_t8 = 1#1), ∀ a, (k0_off94 i v11 v100 v105 k0_t8) a + S1x16x256.size a ≤ S8x16x256.size a) ∧
  (∀ k0_t8 : Fin (k0_t8_loop i v11 v100 v105).trips, ∀ (k0_h15 : k0_cond15 i v11 v100 v105 k0_t8 = 1#1), ∀ a, (k0_off95 i v11 v100 v105 k0_t8) a + S16x256.size a ≤ S32768x512.size a) ∧
  (∀ k0_t8 : Fin (k0_t8_loop i v11 v100 v105).trips, ∀ (k0_h15 : k0_cond15 i v11 v100 v105 k0_t8 = 1#1), ∀ a, (k0_off96 i v11 v100 v105 k0_t8) a + S1.size a ≤ S8.size a) ∧
  (∀ k0_t8 : Fin (k0_t8_loop i v11 v100 v105).trips, 8 ∣ (k0_mult24 i v11 v100 v105 k0_t8).toNat) ∧
  (∀ (k0_t8 : Fin (k0_t8_loop i v11 v100 v105).trips) (k0_t9 : Fin k0_t9_loop.trips), ∀ (r : Fin 4), ∀ a, (k0_off97 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off98 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off99 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off100 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off101 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off102 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off103 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off104 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off105 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off106 i v11 v100 v105 k0_t8 k0_t9 (BitVec.ofNat 32 r.val)) a + S1x1x16.size a ≤ S8x16x256.size a)
def k0_chk5_1 (i : grid0.Coords) (v11 : BitVec 32) (v100 : BitVec 32) (v105 : BitVec 32) : Prop :=
  (∀ (k0_t8 : Fin (k0_t8_loop i v11 v100 v105).trips) (k0_t9 : Fin k0_t9_loop.trips), ∀ (r : Fin 4), ∀ a, (k0_off107 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off108 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off109 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off110 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off111 i v11 v100 v105 k0_t8 k0_t9 (BitVec.ofNat 32 r.val)) a + S1x1x16.size a ≤ S8x16x256.size a) ∧
  (∀ (k0_t8 : Fin (k0_t8_loop i v11 v100 v105).trips) (k0_t9 : Fin k0_t9_loop.trips), ∀ (r : Fin 4), ∀ a, (k0_off112 i v11 v100 v105 k0_t8 k0_t9 (BitVec.ofNat 32 r.val)) a + S1x1x16.size a ≤ S8x16x256.size a) ∧
  ((k0_t10_loop i v11 v100 v105).OK) ∧
  (∀ k0_t10 : Fin (k0_t10_loop i v11 v100 v105).trips, 8 ∣ (k0_mult25 i v11 v100 v105 k0_t10).toNat) ∧
  (∀ k0_t10 : Fin (k0_t10_loop i v11 v100 v105).trips, ∀ a, (k0_off113 i v11 v100 v105 k0_t10) a + S1x16x256.size a ≤ S8x16x256.size a) ∧
  (∀ k0_t10 : Fin (k0_t10_loop i v11 v100 v105).trips, ∀ a, (k0_off114 i v11 v100 v105 k0_t10) a + S16x256.size a ≤ S32768x512.size a) ∧
  (∀ k0_t10 : Fin (k0_t10_loop i v11 v100 v105).trips, ∀ a, (k0_off115 i v11 v100 v105 k0_t10) a + S1.size a ≤ S8.size a) ∧
  (∀ k0_t10 : Fin (k0_t10_loop i v11 v100 v105).trips, ∀ (k0_h16 : k0_cond16 i v11 v100 v105 k0_t10 = 1#1), 8 ∣ (k0_mult26 i v11 v100 v105 k0_t10).toNat) ∧
  (∀ k0_t10 : Fin (k0_t10_loop i v11 v100 v105).trips, ∀ (k0_h16 : k0_cond16 i v11 v100 v105 k0_t10 = 1#1), ∀ a, (k0_off116 i v11 v100 v105 k0_t10) a + S1x16x256.size a ≤ S8x16x256.size a) ∧
  (∀ k0_t10 : Fin (k0_t10_loop i v11 v100 v105).trips, ∀ (k0_h16 : k0_cond16 i v11 v100 v105 k0_t10 = 1#1), ∀ a, (k0_off117 i v11 v100 v105 k0_t10) a + S16x256.size a ≤ S32768x512.size a) ∧
  (∀ k0_t10 : Fin (k0_t10_loop i v11 v100 v105).trips, ∀ (k0_h16 : k0_cond16 i v11 v100 v105 k0_t10 = 1#1), ∀ a, (k0_off118 i v11 v100 v105 k0_t10) a + S1.size a ≤ S8.size a) ∧
  (∀ k0_t10 : Fin (k0_t10_loop i v11 v100 v105).trips, 8 ∣ (k0_mult27 i v11 v100 v105 k0_t10).toNat) ∧
  (∀ (k0_t10 : Fin (k0_t10_loop i v11 v100 v105).trips) (k0_t11 : Fin k0_t11_loop.trips), ∀ (r : Fin 4), ∀ a, (k0_off119 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off120 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off121 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off122 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off123 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off124 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off125 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off126 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off127 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off128 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off129 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off130 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off131 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off132 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off133 i v11 v100 v105 k0_t10 k0_t11 (BitVec.ofNat 32 r.val)) a + S1x1x16.size a ≤ S8x16x256.size a) ∧
  (∀ (k0_t10 : Fin (k0_t10_loop i v11 v100 v105).trips) (k0_t11 : Fin k0_t11_loop.trips), ∀ (r : Fin 4), ∀ a, (k0_off134 i v11 v100 v105 k0_t10 k0_t11 (BitVec.ofNat 32 r.val)) a + S1x1x16.size a ≤ S8x16x256.size a)
def k0_chk5 (i : grid0.Coords) (v11 : BitVec 32) (v100 : BitVec 32) (v105 : BitVec 32) : Prop :=
  k0_chk5_0 i v11 v100 v105 ∧
  k0_chk5_1 i v11 v100 v105
theorem k0_mult16_dvd : ∀ (i : grid0.Coords) (v11 : BitVec 32) (v100 : BitVec 32) (v105 : BitVec 32) (k0_hw5 : k0_chk5 i v11 v100 v105), ∀ (k0_h9 : k0_cond9 i v11 v100 v105 = 1#1), 8 ∣ (k0_mult16 i v11 v100).toNat := fun i v11 v100 v105 k0_hw5 k0_h9 => k0_hw5.1.1 k0_h9
theorem k0_off85_inb : ∀ (i : grid0.Coords) (v11 : BitVec 32) (v100 : BitVec 32) (v105 : BitVec 32) (k0_hw5 : k0_chk5 i v11 v100 v105), ∀ (k0_h9 : k0_cond9 i v11 v100 v105 = 1#1), ∀ a, (k0_off85 i v11 v100) a + S16x256.size a ≤ S32768x512.size a := fun i v11 v100 v105 k0_hw5 k0_h9 => k0_hw5.1.2.1 k0_h9
theorem k0_mult17_dvd : ∀ (i : grid0.Coords) (v11 : BitVec 32) (v100 : BitVec 32) (v105 : BitVec 32) (k0_hw5 : k0_chk5 i v11 v100 v105), ∀ (k0_h10 : k0_cond10 i v11 v100 v105 = 1#1), 8 ∣ (k0_mult17 i v11 v100).toNat := fun i v11 v100 v105 k0_hw5 k0_h10 => k0_hw5.1.2.2.1 k0_h10
theorem k0_off86_inb : ∀ (i : grid0.Coords) (v11 : BitVec 32) (v100 : BitVec 32) (v105 : BitVec 32) (k0_hw5 : k0_chk5 i v11 v100 v105), ∀ (k0_h10 : k0_cond10 i v11 v100 v105 = 1#1), ∀ a, (k0_off86 i v11 v100) a + S16x256.size a ≤ S32768x512.size a := fun i v11 v100 v105 k0_hw5 k0_h10 => k0_hw5.1.2.2.2.1 k0_h10
theorem k0_mult18_dvd : ∀ (i : grid0.Coords) (v11 : BitVec 32) (v100 : BitVec 32) (v105 : BitVec 32) (k0_hw5 : k0_chk5 i v11 v100 v105), ∀ (k0_h11 : k0_cond11 i v11 v100 v105 = 1#1), 8 ∣ (k0_mult18 i v11 v100).toNat := fun i v11 v100 v105 k0_hw5 k0_h11 => k0_hw5.1.2.2.2.2.1 k0_h11
theorem k0_off87_inb : ∀ (i : grid0.Coords) (v11 : BitVec 32) (v100 : BitVec 32) (v105 : BitVec 32) (k0_hw5 : k0_chk5 i v11 v100 v105), ∀ (k0_h11 : k0_cond11 i v11 v100 v105 = 1#1), ∀ a, (k0_off87 i v11 v100) a + S16x256.size a ≤ S32768x512.size a := fun i v11 v100 v105 k0_hw5 k0_h11 => k0_hw5.1.2.2.2.2.2.1 k0_h11
theorem k0_mult19_dvd : ∀ (i : grid0.Coords) (v11 : BitVec 32) (v100 : BitVec 32) (v105 : BitVec 32) (k0_hw5 : k0_chk5 i v11 v100 v105), ∀ (k0_h12 : k0_cond12 i v11 v100 v105 = 1#1), 8 ∣ (k0_mult19 i v11 v100).toNat := fun i v11 v100 v105 k0_hw5 k0_h12 => k0_hw5.1.2.2.2.2.2.2.1 k0_h12
theorem k0_off88_inb : ∀ (i : grid0.Coords) (v11 : BitVec 32) (v100 : BitVec 32) (v105 : BitVec 32) (k0_hw5 : k0_chk5 i v11 v100 v105), ∀ (k0_h12 : k0_cond12 i v11 v100 v105 = 1#1), ∀ a, (k0_off88 i v11 v100) a + S16x256.size a ≤ S32768x512.size a := fun i v11 v100 v105 k0_hw5 k0_h12 => k0_hw5.1.2.2.2.2.2.2.2.1 k0_h12
theorem k0_mult20_dvd : ∀ (i : grid0.Coords) (v11 : BitVec 32) (v100 : BitVec 32) (v105 : BitVec 32) (k0_hw5 : k0_chk5 i v11 v100 v105), ∀ (k0_h13 : k0_cond13 i v11 v100 v105 = 1#1), 8 ∣ (k0_mult20 i v11 v100).toNat := fun i v11 v100 v105 k0_hw5 k0_h13 => k0_hw5.1.2.2.2.2.2.2.2.2.1 k0_h13
theorem k0_off89_inb : ∀ (i : grid0.Coords) (v11 : BitVec 32) (v100 : BitVec 32) (v105 : BitVec 32) (k0_hw5 : k0_chk5 i v11 v100 v105), ∀ (k0_h13 : k0_cond13 i v11 v100 v105 = 1#1), ∀ a, (k0_off89 i v11 v100) a + S16x256.size a ≤ S32768x512.size a := fun i v11 v100 v105 k0_hw5 k0_h13 => k0_hw5.1.2.2.2.2.2.2.2.2.2.1 k0_h13
theorem k0_mult21_dvd : ∀ (i : grid0.Coords) (v11 : BitVec 32) (v100 : BitVec 32) (v105 : BitVec 32) (k0_hw5 : k0_chk5 i v11 v100 v105), ∀ (k0_h14 : k0_cond14 i v11 v100 v105 = 1#1), 8 ∣ (k0_mult21 i v11 v100).toNat := fun i v11 v100 v105 k0_hw5 k0_h14 => k0_hw5.1.2.2.2.2.2.2.2.2.2.2.1 k0_h14
theorem k0_off90_inb : ∀ (i : grid0.Coords) (v11 : BitVec 32) (v100 : BitVec 32) (v105 : BitVec 32) (k0_hw5 : k0_chk5 i v11 v100 v105), ∀ (k0_h14 : k0_cond14 i v11 v100 v105 = 1#1), ∀ a, (k0_off90 i v11 v100) a + S16x256.size a ≤ S32768x512.size a := fun i v11 v100 v105 k0_hw5 k0_h14 => k0_hw5.1.2.2.2.2.2.2.2.2.2.2.2.1 k0_h14
theorem k0_t8_ok : ∀ (i : grid0.Coords) (v11 : BitVec 32) (v100 : BitVec 32) (v105 : BitVec 32) (k0_hw5 : k0_chk5 i v11 v100 v105), (k0_t8_loop i v11 v100 v105).OK := fun i v11 v100 v105 k0_hw5 => k0_hw5.1.2.2.2.2.2.2.2.2.2.2.2.2.1
theorem k0_mult22_dvd : ∀ (i : grid0.Coords) (v11 : BitVec 32) (v100 : BitVec 32) (v105 : BitVec 32) (k0_hw5 : k0_chk5 i v11 v100 v105) (k0_t8 : Fin (k0_t8_loop i v11 v100 v105).trips), 8 ∣ (k0_mult22 i v11 v100 v105 k0_t8).toNat := fun i v11 v100 v105 k0_hw5 k0_t8 => k0_hw5.1.2.2.2.2.2.2.2.2.2.2.2.2.2.1 k0_t8
theorem k0_off91_inb : ∀ (i : grid0.Coords) (v11 : BitVec 32) (v100 : BitVec 32) (v105 : BitVec 32) (k0_hw5 : k0_chk5 i v11 v100 v105) (k0_t8 : Fin (k0_t8_loop i v11 v100 v105).trips), ∀ a, (k0_off91 i v11 v100 v105 k0_t8) a + S1x16x256.size a ≤ S8x16x256.size a := fun i v11 v100 v105 k0_hw5 k0_t8 => k0_hw5.1.2.2.2.2.2.2.2.2.2.2.2.2.2.2.1 k0_t8
theorem k0_off92_inb : ∀ (i : grid0.Coords) (v11 : BitVec 32) (v100 : BitVec 32) (v105 : BitVec 32) (k0_hw5 : k0_chk5 i v11 v100 v105) (k0_t8 : Fin (k0_t8_loop i v11 v100 v105).trips), ∀ a, (k0_off92 i v11 v100 v105 k0_t8) a + S16x256.size a ≤ S32768x512.size a := fun i v11 v100 v105 k0_hw5 k0_t8 => k0_hw5.1.2.2.2.2.2.2.2.2.2.2.2.2.2.2.2.1 k0_t8
theorem k0_off93_inb : ∀ (i : grid0.Coords) (v11 : BitVec 32) (v100 : BitVec 32) (v105 : BitVec 32) (k0_hw5 : k0_chk5 i v11 v100 v105) (k0_t8 : Fin (k0_t8_loop i v11 v100 v105).trips), ∀ a, (k0_off93 i v11 v100 v105 k0_t8) a + S1.size a ≤ S8.size a := fun i v11 v100 v105 k0_hw5 k0_t8 => k0_hw5.1.2.2.2.2.2.2.2.2.2.2.2.2.2.2.2.2.1 k0_t8
theorem k0_mult23_dvd : ∀ (i : grid0.Coords) (v11 : BitVec 32) (v100 : BitVec 32) (v105 : BitVec 32) (k0_hw5 : k0_chk5 i v11 v100 v105) (k0_t8 : Fin (k0_t8_loop i v11 v100 v105).trips), ∀ (k0_h15 : k0_cond15 i v11 v100 v105 k0_t8 = 1#1), 8 ∣ (k0_mult23 i v11 v100 v105 k0_t8).toNat := fun i v11 v100 v105 k0_hw5 k0_t8 k0_h15 => k0_hw5.1.2.2.2.2.2.2.2.2.2.2.2.2.2.2.2.2.2.1 k0_t8 k0_h15
theorem k0_off94_inb : ∀ (i : grid0.Coords) (v11 : BitVec 32) (v100 : BitVec 32) (v105 : BitVec 32) (k0_hw5 : k0_chk5 i v11 v100 v105) (k0_t8 : Fin (k0_t8_loop i v11 v100 v105).trips), ∀ (k0_h15 : k0_cond15 i v11 v100 v105 k0_t8 = 1#1), ∀ a, (k0_off94 i v11 v100 v105 k0_t8) a + S1x16x256.size a ≤ S8x16x256.size a := fun i v11 v100 v105 k0_hw5 k0_t8 k0_h15 => k0_hw5.1.2.2.2.2.2.2.2.2.2.2.2.2.2.2.2.2.2.2.1 k0_t8 k0_h15
theorem k0_off95_inb : ∀ (i : grid0.Coords) (v11 : BitVec 32) (v100 : BitVec 32) (v105 : BitVec 32) (k0_hw5 : k0_chk5 i v11 v100 v105) (k0_t8 : Fin (k0_t8_loop i v11 v100 v105).trips), ∀ (k0_h15 : k0_cond15 i v11 v100 v105 k0_t8 = 1#1), ∀ a, (k0_off95 i v11 v100 v105 k0_t8) a + S16x256.size a ≤ S32768x512.size a := fun i v11 v100 v105 k0_hw5 k0_t8 k0_h15 => k0_hw5.1.2.2.2.2.2.2.2.2.2.2.2.2.2.2.2.2.2.2.2.1 k0_t8 k0_h15
theorem k0_off96_inb : ∀ (i : grid0.Coords) (v11 : BitVec 32) (v100 : BitVec 32) (v105 : BitVec 32) (k0_hw5 : k0_chk5 i v11 v100 v105) (k0_t8 : Fin (k0_t8_loop i v11 v100 v105).trips), ∀ (k0_h15 : k0_cond15 i v11 v100 v105 k0_t8 = 1#1), ∀ a, (k0_off96 i v11 v100 v105 k0_t8) a + S1.size a ≤ S8.size a := fun i v11 v100 v105 k0_hw5 k0_t8 k0_h15 => k0_hw5.1.2.2.2.2.2.2.2.2.2.2.2.2.2.2.2.2.2.2.2.2.1 k0_t8 k0_h15
theorem k0_mult24_dvd : ∀ (i : grid0.Coords) (v11 : BitVec 32) (v100 : BitVec 32) (v105 : BitVec 32) (k0_hw5 : k0_chk5 i v11 v100 v105) (k0_t8 : Fin (k0_t8_loop i v11 v100 v105).trips), 8 ∣ (k0_mult24 i v11 v100 v105 k0_t8).toNat := fun i v11 v100 v105 k0_hw5 k0_t8 => k0_hw5.1.2.2.2.2.2.2.2.2.2.2.2.2.2.2.2.2.2.2.2.2.2.1 k0_t8
theorem k0_off97_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off97 i v11 v100 v105 k0_t8 k0_t9 (BitVec.ofNat 32 r.val)) a + S1x1x16.size a ≤ S8x16x256.size a := fun i v11 v100 v105 k0_hw5 k0_t8 k0_t9 r => k0_hw5.1.2.2.2.2.2.2.2.2.2.2.2.2.2.2.2.2.2.2.2.2.2.2.1 k0_t8 k0_t9 r
theorem k0_off98_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off98 i v11 v100 v105 k0_t8 k0_t9 (BitVec.ofNat 32 r.val)) a + S1x1x16.size a ≤ S8x16x256.size a := fun i v11 v100 v105 k0_hw5 k0_t8 k0_t9 r => k0_hw5.1.2.2.2.2.2.2.2.2.2.2.2.2.2.2.2.2.2.2.2.2.2.2.2.1 k0_t8 k0_t9 r
theorem k0_off99_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off99 i v11 v100 v105 k0_t8 k0_t9 (BitVec.ofNat 32 r.val)) a + S1x1x16.size a ≤ S8x16x256.size a := fun i v11 v100 v105 k0_hw5 k0_t8 k0_t9 r => k0_hw5.1.2.2.2.2.2.2.2.2.2.2.2.2.2.2.2.2.2.2.2.2.2.2.2.2.1 k0_t8 k0_t9 r
theorem k0_off100_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off100 i v11 v100 v105 k0_t8 k0_t9 (BitVec.ofNat 32 r.val)) a + S1x1x16.size a ≤ S8x16x256.size a := fun i v11 v100 v105 k0_hw5 k0_t8 k0_t9 r => k0_hw5.1.2.2.2.2.2.2.2.2.2.2.2.2.2.2.2.2.2.2.2.2.2.2.2.2.2.1 k0_t8 k0_t9 r
theorem k0_off101_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off101 i v11 v100 v105 k0_t8 k0_t9 (BitVec.ofNat 32 r.val)) a + S1x1x16.size a ≤ S8x16x256.size a := fun i v11 v100 v105 k0_hw5 k0_t8 k0_t9 r => k0_hw5.1.2.2.2.2.2.2.2.2.2.2.2.2.2.2.2.2.2.2.2.2.2.2.2.2.2.2.1 k0_t8 k0_t9 r
theorem k0_off102_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off102 i v11 v100 v105 k0_t8 k0_t9 (BitVec.ofNat 32 r.val)) a + S1x1x16.size a ≤ S8x16x256.size a := fun i v11 v100 v105 k0_hw5 k0_t8 k0_t9 r => k0_hw5.1.2.2.2.2.2.2.2.2.2.2.2.2.2.2.2.2.2.2.2.2.2.2.2.2.2.2.2.1 k0_t8 k0_t9 r
theorem k0_off103_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off103 i v11 v100 v105 k0_t8 k0_t9 (BitVec.ofNat 32 r.val)) a + S1x1x16.size a ≤ S8x16x256.size a := fun i v11 v100 v105 k0_hw5 k0_t8 k0_t9 r => k0_hw5.1.2.2.2.2.2.2.2.2.2.2.2.2.2.2.2.2.2.2.2.2.2.2.2.2.2.2.2.2.1 k0_t8 k0_t9 r
theorem k0_off104_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off104 i v11 v100 v105 k0_t8 k0_t9 (BitVec.ofNat 32 r.val)) a + S1x1x16.size a ≤ S8x16x256.size a := fun i v11 v100 v105 k0_hw5 k0_t8 k0_t9 r => k0_hw5.1.2.2.2.2.2.2.2.2.2.2.2.2.2.2.2.2.2.2.2.2.2.2.2.2.2.2.2.2.2.1 k0_t8 k0_t9 r
theorem k0_off105_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off105 i v11 v100 v105 k0_t8 k0_t9 (BitVec.ofNat 32 r.val)) a + S1x1x16.size a ≤ S8x16x256.size a := fun i v11 v100 v105 k0_hw5 k0_t8 k0_t9 r => k0_hw5.1.2.2.2.2.2.2.2.2.2.2.2.2.2.2.2.2.2.2.2.2.2.2.2.2.2.2.2.2.2.2.1 k0_t8 k0_t9 r
theorem k0_off106_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off106 i v11 v100 v105 k0_t8 k0_t9 (BitVec.ofNat 32 r.val)) a + S1x1x16.size a ≤ S8x16x256.size a := fun i v11 v100 v105 k0_hw5 k0_t8 k0_t9 r => k0_hw5.1.2.2.2.2.2.2.2.2.2.2.2.2.2.2.2.2.2.2.2.2.2.2.2.2.2.2.2.2.2.2.2 k0_t8 k0_t9 r
theorem k0_off107_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off107 i v11 v100 v105 k0_t8 k0_t9 (BitVec.ofNat 32 r.val)) a + S1x1x16.size a ≤ S8x16x256.size a := fun i v11 v100 v105 k0_hw5 k0_t8 k0_t9 r => k0_hw5.2.1 k0_t8 k0_t9 r
theorem k0_off108_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off108 i v11 v100 v105 k0_t8 k0_t9 (BitVec.ofNat 32 r.val)) a + S1x1x16.size a ≤ S8x16x256.size a := fun i v11 v100 v105 k0_hw5 k0_t8 k0_t9 r => k0_hw5.2.2.1 k0_t8 k0_t9 r
theorem k0_off109_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off109 i v11 v100 v105 k0_t8 k0_t9 (BitVec.ofNat 32 r.val)) a + S1x1x16.size a ≤ S8x16x256.size a := fun i v11 v100 v105 k0_hw5 k0_t8 k0_t9 r => k0_hw5.2.2.2.1 k0_t8 k0_t9 r
theorem k0_off110_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off110 i v11 v100 v105 k0_t8 k0_t9 (BitVec.ofNat 32 r.val)) a + S1x1x16.size a ≤ S8x16x256.size a := fun i v11 v100 v105 k0_hw5 k0_t8 k0_t9 r => k0_hw5.2.2.2.2.1 k0_t8 k0_t9 r
theorem k0_off111_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off111 i v11 v100 v105 k0_t8 k0_t9 (BitVec.ofNat 32 r.val)) a + S1x1x16.size a ≤ S8x16x256.size a := fun i v11 v100 v105 k0_hw5 k0_t8 k0_t9 r => k0_hw5.2.2.2.2.2.1 k0_t8 k0_t9 r
theorem k0_off112_inb : ∀ (i : grid0.Coords) (v11 : BitVec 32) (v100 : BitVec 32) (v105 : BitVec 32) (k0_hw5 : k0_chk5 i v11 v100 v105) (k0_t8 : Fin (k0_t8_loop i v11 v100 v105).trips) (k0_t9 : Fin k0_t9_loop.trips), ∀ (r : Fin 4), ∀ a, (k0_off112 i v11 v100 v105 k0_t8 k0_t9 (BitVec.ofNat 32 r.val)) a + S1x1x16.size a ≤ S8x16x256.size a := fun i v11 v100 v105 k0_hw5 k0_t8 k0_t9 r => k0_hw5.2.2.2.2.2.2.1 k0_t8 k0_t9 r
theorem k0_t10_ok : ∀ (i : grid0.Coords) (v11 : BitVec 32) (v100 : BitVec 32) (v105 : BitVec 32) (k0_hw5 : k0_chk5 i v11 v100 v105), (k0_t10_loop i v11 v100 v105).OK := fun i v11 v100 v105 k0_hw5 => k0_hw5.2.2.2.2.2.2.2.1
theorem k0_mult25_dvd : ∀ (i : grid0.Coords) (v11 : BitVec 32) (v100 : BitVec 32) (v105 : BitVec 32) (k0_hw5 : k0_chk5 i v11 v100 v105) (k0_t10 : Fin (k0_t10_loop i v11 v100 v105).trips), 8 ∣ (k0_mult25 i v11 v100 v105 k0_t10).toNat := fun i v11 v100 v105 k0_hw5 k0_t10 => k0_hw5.2.2.2.2.2.2.2.2.1 k0_t10
theorem k0_off113_inb : ∀ (i : grid0.Coords) (v11 : BitVec 32) (v100 : BitVec 32) (v105 : BitVec 32) (k0_hw5 : k0_chk5 i v11 v100 v105) (k0_t10 : Fin (k0_t10_loop i v11 v100 v105).trips), ∀ a, (k0_off113 i v11 v100 v105 k0_t10) a + S1x16x256.size a ≤ S8x16x256.size a := fun i v11 v100 v105 k0_hw5 k0_t10 => k0_hw5.2.2.2.2.2.2.2.2.2.1 k0_t10
theorem k0_off114_inb : ∀ (i : grid0.Coords) (v11 : BitVec 32) (v100 : BitVec 32) (v105 : BitVec 32) (k0_hw5 : k0_chk5 i v11 v100 v105) (k0_t10 : Fin (k0_t10_loop i v11 v100 v105).trips), ∀ a, (k0_off114 i v11 v100 v105 k0_t10) a + S16x256.size a ≤ S32768x512.size a := fun i v11 v100 v105 k0_hw5 k0_t10 => k0_hw5.2.2.2.2.2.2.2.2.2.2.1 k0_t10
theorem k0_off115_inb : ∀ (i : grid0.Coords) (v11 : BitVec 32) (v100 : BitVec 32) (v105 : BitVec 32) (k0_hw5 : k0_chk5 i v11 v100 v105) (k0_t10 : Fin (k0_t10_loop i v11 v100 v105).trips), ∀ a, (k0_off115 i v11 v100 v105 k0_t10) a + S1.size a ≤ S8.size a := fun i v11 v100 v105 k0_hw5 k0_t10 => k0_hw5.2.2.2.2.2.2.2.2.2.2.2.1 k0_t10
theorem k0_mult26_dvd : ∀ (i : grid0.Coords) (v11 : BitVec 32) (v100 : BitVec 32) (v105 : BitVec 32) (k0_hw5 : k0_chk5 i v11 v100 v105) (k0_t10 : Fin (k0_t10_loop i v11 v100 v105).trips), ∀ (k0_h16 : k0_cond16 i v11 v100 v105 k0_t10 = 1#1), 8 ∣ (k0_mult26 i v11 v100 v105 k0_t10).toNat := fun i v11 v100 v105 k0_hw5 k0_t10 k0_h16 => k0_hw5.2.2.2.2.2.2.2.2.2.2.2.2.1 k0_t10 k0_h16
theorem k0_off116_inb : ∀ (i : grid0.Coords) (v11 : BitVec 32) (v100 : BitVec 32) (v105 : BitVec 32) (k0_hw5 : k0_chk5 i v11 v100 v105) (k0_t10 : Fin (k0_t10_loop i v11 v100 v105).trips), ∀ (k0_h16 : k0_cond16 i v11 v100 v105 k0_t10 = 1#1), ∀ a, (k0_off116 i v11 v100 v105 k0_t10) a + S1x16x256.size a ≤ S8x16x256.size a := fun i v11 v100 v105 k0_hw5 k0_t10 k0_h16 => k0_hw5.2.2.2.2.2.2.2.2.2.2.2.2.2.1 k0_t10 k0_h16
theorem k0_off117_inb : ∀ (i : grid0.Coords) (v11 : BitVec 32) (v100 : BitVec 32) (v105 : BitVec 32) (k0_hw5 : k0_chk5 i v11 v100 v105) (k0_t10 : Fin (k0_t10_loop i v11 v100 v105).trips), ∀ (k0_h16 : k0_cond16 i v11 v100 v105 k0_t10 = 1#1), ∀ a, (k0_off117 i v11 v100 v105 k0_t10) a + S16x256.size a ≤ S32768x512.size a := fun i v11 v100 v105 k0_hw5 k0_t10 k0_h16 => k0_hw5.2.2.2.2.2.2.2.2.2.2.2.2.2.2.1 k0_t10 k0_h16
theorem k0_off118_inb : ∀ (i : grid0.Coords) (v11 : BitVec 32) (v100 : BitVec 32) (v105 : BitVec 32) (k0_hw5 : k0_chk5 i v11 v100 v105) (k0_t10 : Fin (k0_t10_loop i v11 v100 v105).trips), ∀ (k0_h16 : k0_cond16 i v11 v100 v105 k0_t10 = 1#1), ∀ a, (k0_off118 i v11 v100 v105 k0_t10) a + S1.size a ≤ S8.size a := fun i v11 v100 v105 k0_hw5 k0_t10 k0_h16 => k0_hw5.2.2.2.2.2.2.2.2.2.2.2.2.2.2.2.1 k0_t10 k0_h16
theorem k0_mult27_dvd : ∀ (i : grid0.Coords) (v11 : BitVec 32) (v100 : BitVec 32) (v105 : BitVec 32) (k0_hw5 : k0_chk5 i v11 v100 v105) (k0_t10 : Fin (k0_t10_loop i v11 v100 v105).trips), 8 ∣ (k0_mult27 i v11 v100 v105 k0_t10).toNat := fun i v11 v100 v105 k0_hw5 k0_t10 => k0_hw5.2.2.2.2.2.2.2.2.2.2.2.2.2.2.2.2.1 k0_t10
theorem k0_off119_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off119 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.1 k0_t10 k0_t11 r
theorem k0_off120_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off120 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.1 k0_t10 k0_t11 r
theorem k0_off121_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off121 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.1 k0_t10 k0_t11 r
theorem k0_off122_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off122 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.2.1 k0_t10 k0_t11 r
theorem k0_off123_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off123 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.2.2.1 k0_t10 k0_t11 r
theorem k0_off124_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off124 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.2.2.2.1 k0_t10 k0_t11 r
theorem k0_off125_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off125 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.2.2.2.2.1 k0_t10 k0_t11 r
theorem k0_off126_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off126 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.2.2.2.2.2.1 k0_t10 k0_t11 r
theorem k0_off127_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off127 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.2.2.2.2.2.2.1 k0_t10 k0_t11 r
theorem k0_off128_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off128 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.2.2.2.2.2.2.2.1 k0_t10 k0_t11 r
theorem k0_off129_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off129 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.2.2.2.2.2.2.2.2.1 k0_t10 k0_t11 r
theorem k0_off130_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off130 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.2.2.2.2.2.2.2.2.2.1 k0_t10 k0_t11 r
theorem k0_off131_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off131 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.2.2.2.2.2.2.2.2.2.2.1 k0_t10 k0_t11 r
theorem k0_off132_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off132 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.2.2.2.2.2.2.2.2.2.2.2.1 k0_t10 k0_t11 r
theorem k0_off133_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off133 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.2.2.2.2.2.2.2.2.2.2.2.2.1 k0_t10 k0_t11 r
theorem k0_off134_inb : ∀ (i : grid0.Coords) (v11 : BitVec 32) (v100 : BitVec 32) (v105 : BitVec 32) (k0_hw5 : k0_chk5 i v11 v100 v105) (k0_t10 : Fin (k0_t10_loop i v11 v100 v105).trips) (k0_t11 : Fin k0_t11_loop.trips), ∀ (r : Fin 4), ∀ a, (k0_off134 i v11 v100 v105 k0_t10 k0_t11 (BitVec.ofNat 32 r.val)) a + S1x1x16.size a ≤ S8x16x256.size a := fun i v11 v100 v105 k0_hw5 k0_t10 k0_t11 r => k0_hw5.2.2.2.2.2.2.2.2.2.2.2.2.2.2.2.2.2.2.2.2.2.2.2.2.2.2.2.2.2.2.2.2 k0_t10 k0_t11 r

def k0_off135 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v182 : Index := Scalar.indexCast arg12
  let c0_103 : Index := 0#32
  ![v182.toNat, 0]
def k0_off136 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v184 : Index := Scalar.indexCast arg12
  let c16_104 : Index := 16#32
  ![v184.toNat, 16]
def k0_off137 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v186 : Index := Scalar.indexCast arg12
  let c32_105 : Index := 32#32
  ![v186.toNat, 32]
def k0_off138 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v188 : Index := Scalar.indexCast arg12
  let c48_106 : Index := 48#32
  ![v188.toNat, 48]
def k0_off139 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v190 : Index := Scalar.indexCast arg12
  let c64_107 : Index := 64#32
  ![v190.toNat, 64]
def k0_off140 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v192 : Index := Scalar.indexCast arg12
  let c80_108 : Index := 80#32
  ![v192.toNat, 80]
def k0_off141 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v194 : Index := Scalar.indexCast arg12
  let c96_109 : Index := 96#32
  ![v194.toNat, 96]
def k0_off142 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v196 : Index := Scalar.indexCast arg12
  let c112_110 : Index := 112#32
  ![v196.toNat, 112]
def k0_off143 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v198 : Index := Scalar.indexCast arg12
  let c128_111 : Index := 128#32
  ![v198.toNat, 128]
def k0_off144 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v200 : Index := Scalar.indexCast arg12
  let c144_112 : Index := 144#32
  ![v200.toNat, 144]
def k0_off145 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v202 : Index := Scalar.indexCast arg12
  let c160_113 : Index := 160#32
  ![v202.toNat, 160]
def k0_off146 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v204 : Index := Scalar.indexCast arg12
  let c176_114 : Index := 176#32
  ![v204.toNat, 176]
def k0_off147 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v206 : Index := Scalar.indexCast arg12
  let c192_115 : Index := 192#32
  ![v206.toNat, 192]
def k0_off148 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v208 : Index := Scalar.indexCast arg12
  let c208_116 : Index := 208#32
  ![v208.toNat, 208]
def k0_off149 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v210 : Index := Scalar.indexCast arg12
  let c224_117 : Index := 224#32
  ![v210.toNat, 224]
def k0_off150 (v43 : BitVec 32) (v49 : BitVec 32) (k0_t7 : Fin (k0_t7_loop v43 v49).trips) : Fin 2 → Nat :=
  let v66 : BitVec 32 := Scalar.subi v49 v43
  let c1_i32_31 : BitVec 32 := 1#32
  let v68 : BitVec 32 := Scalar.divsi v66 c1_i32_31
  let v69 : BitVec 32 := Scalar.muli v68 c1_i32_31
  let v70 : BitVec 32 := Scalar.addi v43 v69
  let c1_i32_33 : BitVec 32 := 1#32
  let arg12 : BitVec 32 := Scf.iv v70 c1_i32_33 k0_t7
  let v212 : Index := Scalar.indexCast arg12
  let c240_118 : Index := 240#32
  ![v212.toNat, 240]

def k0_chk1_0 (v43 : BitVec 32) (v49 : BitVec 32) : Prop :=
  ((k0_t2_loop v43 v49).OK) ∧
  (∀ k0_t2 : Fin (k0_t2_loop v43 v49).trips, ∀ a, (k0_off68 v43 v49 k0_t2) a + S1x16.size a ≤ S16x256.size a) ∧
  (∀ k0_t2 : Fin (k0_t2_loop v43 v49).trips, ∀ a, (k0_off69 v43 v49 k0_t2) a + S1x16.size a ≤ S16x256.size a) ∧
  (∀ k0_t2 : Fin (k0_t2_loop v43 v49).trips, ∀ a, (k0_off70 v43 v49 k0_t2) a + S1x16.size a ≤ S16x256.size a) ∧
  (∀ k0_t2 : Fin (k0_t2_loop v43 v49).trips, ∀ a, (k0_off71 v43 v49 k0_t2) a + S1x16.size a ≤ S16x256.size a) ∧
  (∀ k0_t2 : Fin (k0_t2_loop v43 v49).trips, ∀ a, (k0_off72 v43 v49 k0_t2) a + S1x16.size a ≤ S16x256.size a) ∧
  (∀ k0_t2 : Fin (k0_t2_loop v43 v49).trips, ∀ a, (k0_off73 v43 v49 k0_t2) a + S1x16.size a ≤ S16x256.size a) ∧
  (∀ k0_t2 : Fin (k0_t2_loop v43 v49).trips, ∀ a, (k0_off74 v43 v49 k0_t2) a + S1x16.size a ≤ S16x256.size a) ∧
  (∀ k0_t2 : Fin (k0_t2_loop v43 v49).trips, ∀ a, (k0_off75 v43 v49 k0_t2) a + S1x16.size a ≤ S16x256.size a) ∧
  (∀ k0_t2 : Fin (k0_t2_loop v43 v49).trips, ∀ a, (k0_off76 v43 v49 k0_t2) a + S1x16.size a ≤ S16x256.size a) ∧
  (∀ k0_t2 : Fin (k0_t2_loop v43 v49).trips, ∀ a, (k0_off77 v43 v49 k0_t2) a + S1x16.size a ≤ S16x256.size a) ∧
  (∀ k0_t2 : Fin (k0_t2_loop v43 v49).trips, ∀ a, (k0_off78 v43 v49 k0_t2) a + S1x16.size a ≤ S16x256.size a) ∧
  (∀ k0_t2 : Fin (k0_t2_loop v43 v49).trips, ∀ a, (k0_off79 v43 v49 k0_t2) a + S1x16.size a ≤ S16x256.size a) ∧
  (∀ k0_t2 : Fin (k0_t2_loop v43 v49).trips, ∀ a, (k0_off80 v43 v49 k0_t2) a + S1x16.size a ≤ S16x256.size a) ∧
  (∀ k0_t2 : Fin (k0_t2_loop v43 v49).trips, ∀ a, (k0_off81 v43 v49 k0_t2) a + S1x16.size a ≤ S16x256.size a) ∧
  (∀ k0_t2 : Fin (k0_t2_loop v43 v49).trips, ∀ a, (k0_off82 v43 v49 k0_t2) a + S1x16.size a ≤ S16x256.size a) ∧
  (∀ k0_t2 : Fin (k0_t2_loop v43 v49).trips, ∀ a, (k0_off83 v43 v49 k0_t2) a + S1x16.size a ≤ S16x256.size a) ∧
  ((k0_t7_loop v43 v49).OK) ∧
  (∀ k0_t7 : Fin (k0_t7_loop v43 v49).trips, ∀ a, (k0_off135 v43 v49 k0_t7) a + S1x16.size a ≤ S16x256.size a) ∧
  (∀ k0_t7 : Fin (k0_t7_loop v43 v49).trips, ∀ a, (k0_off136 v43 v49 k0_t7) a + S1x16.size a ≤ S16x256.size a) ∧
  (∀ k0_t7 : Fin (k0_t7_loop v43 v49).trips, ∀ a, (k0_off137 v43 v49 k0_t7) a + S1x16.size a ≤ S16x256.size a) ∧
  (∀ k0_t7 : Fin (k0_t7_loop v43 v49).trips, ∀ a, (k0_off138 v43 v49 k0_t7) a + S1x16.size a ≤ S16x256.size a) ∧
  (∀ k0_t7 : Fin (k0_t7_loop v43 v49).trips, ∀ a, (k0_off139 v43 v49 k0_t7) a + S1x16.size a ≤ S16x256.size a) ∧
  (∀ k0_t7 : Fin (k0_t7_loop v43 v49).trips, ∀ a, (k0_off140 v43 v49 k0_t7) a + S1x16.size a ≤ S16x256.size a) ∧
  (∀ k0_t7 : Fin (k0_t7_loop v43 v49).trips, ∀ a, (k0_off141 v43 v49 k0_t7) a + S1x16.size a ≤ S16x256.size a) ∧
  (∀ k0_t7 : Fin (k0_t7_loop v43 v49).trips, ∀ a, (k0_off142 v43 v49 k0_t7) a + S1x16.size a ≤ S16x256.size a) ∧
  (∀ k0_t7 : Fin (k0_t7_loop v43 v49).trips, ∀ a, (k0_off143 v43 v49 k0_t7) a + S1x16.size a ≤ S16x256.size a) ∧
  (∀ k0_t7 : Fin (k0_t7_loop v43 v49).trips, ∀ a, (k0_off144 v43 v49 k0_t7) a + S1x16.size a ≤ S16x256.size a) ∧
  (∀ k0_t7 : Fin (k0_t7_loop v43 v49).trips, ∀ a, (k0_off145 v43 v49 k0_t7) a + S1x16.size a ≤ S16x256.size a) ∧
  (∀ k0_t7 : Fin (k0_t7_loop v43 v49).trips, ∀ a, (k0_off146 v43 v49 k0_t7) a + S1x16.size a ≤ S16x256.size a) ∧
  (∀ k0_t7 : Fin (k0_t7_loop v43 v49).trips, ∀ a, (k0_off147 v43 v49 k0_t7) a + S1x16.size a ≤ S16x256.size a) ∧
  (∀ k0_t7 : Fin (k0_t7_loop v43 v49).trips, ∀ a, (k0_off148 v43 v49 k0_t7) a + S1x16.size a ≤ S16x256.size a)
def k0_chk1_1 (v43 : BitVec 32) (v49 : BitVec 32) : Prop :=
  (∀ k0_t7 : Fin (k0_t7_loop v43 v49).trips, ∀ a, (k0_off149 v43 v49 k0_t7) a + S1x16.size a ≤ S16x256.size a) ∧
  (∀ k0_t7 : Fin (k0_t7_loop v43 v49).trips, ∀ a, (k0_off150 v43 v49 k0_t7) a + S1x16.size a ≤ S16x256.size a)
def k0_chk1 (v43 : BitVec 32) (v49 : BitVec 32) : Prop :=
  k0_chk1_0 v43 v49 ∧
  k0_chk1_1 v43 v49
theorem k0_t2_ok : ∀ (v43 : BitVec 32) (v49 : BitVec 32) (k0_hw1 : k0_chk1 v43 v49), (k0_t2_loop v43 v49).OK := fun v43 v49 k0_hw1 => k0_hw1.1.1
theorem k0_off68_inb : ∀ (v43 : BitVec 32) (v49 : BitVec 32) (k0_hw1 : k0_chk1 v43 v49) (k0_t2 : Fin (k0_t2_loop v43 v49).trips), ∀ a, (k0_off68 v43 v49 k0_t2) a + S1x16.size a ≤ S16x256.size a := fun v43 v49 k0_hw1 k0_t2 => k0_hw1.1.2.1 k0_t2
theorem k0_off69_inb : ∀ (v43 : BitVec 32) (v49 : BitVec 32) (k0_hw1 : k0_chk1 v43 v49) (k0_t2 : Fin (k0_t2_loop v43 v49).trips), ∀ a, (k0_off69 v43 v49 k0_t2) a + S1x16.size a ≤ S16x256.size a := fun v43 v49 k0_hw1 k0_t2 => k0_hw1.1.2.2.1 k0_t2
theorem k0_off70_inb : ∀ (v43 : BitVec 32) (v49 : BitVec 32) (k0_hw1 : k0_chk1 v43 v49) (k0_t2 : Fin (k0_t2_loop v43 v49).trips), ∀ a, (k0_off70 v43 v49 k0_t2) a + S1x16.size a ≤ S16x256.size a := fun v43 v49 k0_hw1 k0_t2 => k0_hw1.1.2.2.2.1 k0_t2
theorem k0_off71_inb : ∀ (v43 : BitVec 32) (v49 : BitVec 32) (k0_hw1 : k0_chk1 v43 v49) (k0_t2 : Fin (k0_t2_loop v43 v49).trips), ∀ a, (k0_off71 v43 v49 k0_t2) a + S1x16.size a ≤ S16x256.size a := fun v43 v49 k0_hw1 k0_t2 => k0_hw1.1.2.2.2.2.1 k0_t2
theorem k0_off72_inb : ∀ (v43 : BitVec 32) (v49 : BitVec 32) (k0_hw1 : k0_chk1 v43 v49) (k0_t2 : Fin (k0_t2_loop v43 v49).trips), ∀ a, (k0_off72 v43 v49 k0_t2) a + S1x16.size a ≤ S16x256.size a := fun v43 v49 k0_hw1 k0_t2 => k0_hw1.1.2.2.2.2.2.1 k0_t2
theorem k0_off73_inb : ∀ (v43 : BitVec 32) (v49 : BitVec 32) (k0_hw1 : k0_chk1 v43 v49) (k0_t2 : Fin (k0_t2_loop v43 v49).trips), ∀ a, (k0_off73 v43 v49 k0_t2) a + S1x16.size a ≤ S16x256.size a := fun v43 v49 k0_hw1 k0_t2 => k0_hw1.1.2.2.2.2.2.2.1 k0_t2
theorem k0_off74_inb : ∀ (v43 : BitVec 32) (v49 : BitVec 32) (k0_hw1 : k0_chk1 v43 v49) (k0_t2 : Fin (k0_t2_loop v43 v49).trips), ∀ a, (k0_off74 v43 v49 k0_t2) a + S1x16.size a ≤ S16x256.size a := fun v43 v49 k0_hw1 k0_t2 => k0_hw1.1.2.2.2.2.2.2.2.1 k0_t2
theorem k0_off75_inb : ∀ (v43 : BitVec 32) (v49 : BitVec 32) (k0_hw1 : k0_chk1 v43 v49) (k0_t2 : Fin (k0_t2_loop v43 v49).trips), ∀ a, (k0_off75 v43 v49 k0_t2) a + S1x16.size a ≤ S16x256.size a := fun v43 v49 k0_hw1 k0_t2 => k0_hw1.1.2.2.2.2.2.2.2.2.1 k0_t2
theorem k0_off76_inb : ∀ (v43 : BitVec 32) (v49 : BitVec 32) (k0_hw1 : k0_chk1 v43 v49) (k0_t2 : Fin (k0_t2_loop v43 v49).trips), ∀ a, (k0_off76 v43 v49 k0_t2) a + S1x16.size a ≤ S16x256.size a := fun v43 v49 k0_hw1 k0_t2 => k0_hw1.1.2.2.2.2.2.2.2.2.2.1 k0_t2
theorem k0_off77_inb : ∀ (v43 : BitVec 32) (v49 : BitVec 32) (k0_hw1 : k0_chk1 v43 v49) (k0_t2 : Fin (k0_t2_loop v43 v49).trips), ∀ a, (k0_off77 v43 v49 k0_t2) a + S1x16.size a ≤ S16x256.size a := fun v43 v49 k0_hw1 k0_t2 => k0_hw1.1.2.2.2.2.2.2.2.2.2.2.1 k0_t2
theorem k0_off78_inb : ∀ (v43 : BitVec 32) (v49 : BitVec 32) (k0_hw1 : k0_chk1 v43 v49) (k0_t2 : Fin (k0_t2_loop v43 v49).trips), ∀ a, (k0_off78 v43 v49 k0_t2) a + S1x16.size a ≤ S16x256.size a := fun v43 v49 k0_hw1 k0_t2 => k0_hw1.1.2.2.2.2.2.2.2.2.2.2.2.1 k0_t2
theorem k0_off79_inb : ∀ (v43 : BitVec 32) (v49 : BitVec 32) (k0_hw1 : k0_chk1 v43 v49) (k0_t2 : Fin (k0_t2_loop v43 v49).trips), ∀ a, (k0_off79 v43 v49 k0_t2) a + S1x16.size a ≤ S16x256.size a := fun v43 v49 k0_hw1 k0_t2 => k0_hw1.1.2.2.2.2.2.2.2.2.2.2.2.2.1 k0_t2
theorem k0_off80_inb : ∀ (v43 : BitVec 32) (v49 : BitVec 32) (k0_hw1 : k0_chk1 v43 v49) (k0_t2 : Fin (k0_t2_loop v43 v49).trips), ∀ a, (k0_off80 v43 v49 k0_t2) a + S1x16.size a ≤ S16x256.size a := fun v43 v49 k0_hw1 k0_t2 => k0_hw1.1.2.2.2.2.2.2.2.2.2.2.2.2.2.1 k0_t2
theorem k0_off81_inb : ∀ (v43 : BitVec 32) (v49 : BitVec 32) (k0_hw1 : k0_chk1 v43 v49) (k0_t2 : Fin (k0_t2_loop v43 v49).trips), ∀ a, (k0_off81 v43 v49 k0_t2) a + S1x16.size a ≤ S16x256.size a := fun v43 v49 k0_hw1 k0_t2 => k0_hw1.1.2.2.2.2.2.2.2.2.2.2.2.2.2.2.1 k0_t2
theorem k0_off82_inb : ∀ (v43 : BitVec 32) (v49 : BitVec 32) (k0_hw1 : k0_chk1 v43 v49) (k0_t2 : Fin (k0_t2_loop v43 v49).trips), ∀ a, (k0_off82 v43 v49 k0_t2) a + S1x16.size a ≤ S16x256.size a := fun v43 v49 k0_hw1 k0_t2 => k0_hw1.1.2.2.2.2.2.2.2.2.2.2.2.2.2.2.2.1 k0_t2
theorem k0_off83_inb : ∀ (v43 : BitVec 32) (v49 : BitVec 32) (k0_hw1 : k0_chk1 v43 v49) (k0_t2 : Fin (k0_t2_loop v43 v49).trips), ∀ a, (k0_off83 v43 v49 k0_t2) a + S1x16.size a ≤ S16x256.size a := fun v43 v49 k0_hw1 k0_t2 => k0_hw1.1.2.2.2.2.2.2.2.2.2.2.2.2.2.2.2.2.1 k0_t2
theorem k0_t7_ok : ∀ (v43 : BitVec 32) (v49 : BitVec 32) (k0_hw1 : k0_chk1 v43 v49), (k0_t7_loop v43 v49).OK := fun v43 v49 k0_hw1 => k0_hw1.1.2.2.2.2.2.2.2.2.2.2.2.2.2.2.2.2.2.1
theorem k0_off135_inb : ∀ (v43 : BitVec 32) (v49 : BitVec 32) (k0_hw1 : k0_chk1 v43 v49) (k0_t7 : Fin (k0_t7_loop v43 v49).trips), ∀ a, (k0_off135 v43 v49 k0_t7) a + S1x16.size a ≤ S16x256.size a := fun v43 v49 k0_hw1 k0_t7 => k0_hw1.1.2.2.2.2.2.2.2.2.2.2.2.2.2.2.2.2.2.2.1 k0_t7
theorem k0_off136_inb : ∀ (v43 : BitVec 32) (v49 : BitVec 32) (k0_hw1 : k0_chk1 v43 v49) (k0_t7 : Fin (k0_t7_loop v43 v49).trips), ∀ a, (k0_off136 v43 v49 k0_t7) a + S1x16.size a ≤ S16x256.size a := fun v43 v49 k0_hw1 k0_t7 => k0_hw1.1.2.2.2.2.2.2.2.2.2.2.2.2.2.2.2.2.2.2.2.1 k0_t7
theorem k0_off137_inb : ∀ (v43 : BitVec 32) (v49 : BitVec 32) (k0_hw1 : k0_chk1 v43 v49) (k0_t7 : Fin (k0_t7_loop v43 v49).trips), ∀ a, (k0_off137 v43 v49 k0_t7) a + S1x16.size a ≤ S16x256.size a := fun v43 v49 k0_hw1 k0_t7 => k0_hw1.1.2.2.2.2.2.2.2.2.2.2.2.2.2.2.2.2.2.2.2.2.1 k0_t7
theorem k0_off138_inb : ∀ (v43 : BitVec 32) (v49 : BitVec 32) (k0_hw1 : k0_chk1 v43 v49) (k0_t7 : Fin (k0_t7_loop v43 v49).trips), ∀ a, (k0_off138 v43 v49 k0_t7) a + S1x16.size a ≤ S16x256.size a := fun v43 v49 k0_hw1 k0_t7 => k0_hw1.1.2.2.2.2.2.2.2.2.2.2.2.2.2.2.2.2.2.2.2.2.2.1 k0_t7
theorem k0_off139_inb : ∀ (v43 : BitVec 32) (v49 : BitVec 32) (k0_hw1 : k0_chk1 v43 v49) (k0_t7 : Fin (k0_t7_loop v43 v49).trips), ∀ a, (k0_off139 v43 v49 k0_t7) a + S1x16.size a ≤ S16x256.size a := fun v43 v49 k0_hw1 k0_t7 => k0_hw1.1.2.2.2.2.2.2.2.2.2.2.2.2.2.2.2.2.2.2.2.2.2.2.1 k0_t7
theorem k0_off140_inb : ∀ (v43 : BitVec 32) (v49 : BitVec 32) (k0_hw1 : k0_chk1 v43 v49) (k0_t7 : Fin (k0_t7_loop v43 v49).trips), ∀ a, (k0_off140 v43 v49 k0_t7) a + S1x16.size a ≤ S16x256.size a := fun v43 v49 k0_hw1 k0_t7 => k0_hw1.1.2.2.2.2.2.2.2.2.2.2.2.2.2.2.2.2.2.2.2.2.2.2.2.1 k0_t7
theorem k0_off141_inb : ∀ (v43 : BitVec 32) (v49 : BitVec 32) (k0_hw1 : k0_chk1 v43 v49) (k0_t7 : Fin (k0_t7_loop v43 v49).trips), ∀ a, (k0_off141 v43 v49 k0_t7) a + S1x16.size a ≤ S16x256.size a := fun v43 v49 k0_hw1 k0_t7 => k0_hw1.1.2.2.2.2.2.2.2.2.2.2.2.2.2.2.2.2.2.2.2.2.2.2.2.2.1 k0_t7
theorem k0_off142_inb : ∀ (v43 : BitVec 32) (v49 : BitVec 32) (k0_hw1 : k0_chk1 v43 v49) (k0_t7 : Fin (k0_t7_loop v43 v49).trips), ∀ a, (k0_off142 v43 v49 k0_t7) a + S1x16.size a ≤ S16x256.size a := fun v43 v49 k0_hw1 k0_t7 => k0_hw1.1.2.2.2.2.2.2.2.2.2.2.2.2.2.2.2.2.2.2.2.2.2.2.2.2.2.1 k0_t7
theorem k0_off143_inb : ∀ (v43 : BitVec 32) (v49 : BitVec 32) (k0_hw1 : k0_chk1 v43 v49) (k0_t7 : Fin (k0_t7_loop v43 v49).trips), ∀ a, (k0_off143 v43 v49 k0_t7) a + S1x16.size a ≤ S16x256.size a := fun v43 v49 k0_hw1 k0_t7 => k0_hw1.1.2.2.2.2.2.2.2.2.2.2.2.2.2.2.2.2.2.2.2.2.2.2.2.2.2.2.1 k0_t7
theorem k0_off144_inb : ∀ (v43 : BitVec 32) (v49 : BitVec 32) (k0_hw1 : k0_chk1 v43 v49) (k0_t7 : Fin (k0_t7_loop v43 v49).trips), ∀ a, (k0_off144 v43 v49 k0_t7) a + S1x16.size a ≤ S16x256.size a := fun v43 v49 k0_hw1 k0_t7 => k0_hw1.1.2.2.2.2.2.2.2.2.2.2.2.2.2.2.2.2.2.2.2.2.2.2.2.2.2.2.2.1 k0_t7
theorem k0_off145_inb : ∀ (v43 : BitVec 32) (v49 : BitVec 32) (k0_hw1 : k0_chk1 v43 v49) (k0_t7 : Fin (k0_t7_loop v43 v49).trips), ∀ a, (k0_off145 v43 v49 k0_t7) a + S1x16.size a ≤ S16x256.size a := fun v43 v49 k0_hw1 k0_t7 => k0_hw1.1.2.2.2.2.2.2.2.2.2.2.2.2.2.2.2.2.2.2.2.2.2.2.2.2.2.2.2.2.1 k0_t7
theorem k0_off146_inb : ∀ (v43 : BitVec 32) (v49 : BitVec 32) (k0_hw1 : k0_chk1 v43 v49) (k0_t7 : Fin (k0_t7_loop v43 v49).trips), ∀ a, (k0_off146 v43 v49 k0_t7) a + S1x16.size a ≤ S16x256.size a := fun v43 v49 k0_hw1 k0_t7 => k0_hw1.1.2.2.2.2.2.2.2.2.2.2.2.2.2.2.2.2.2.2.2.2.2.2.2.2.2.2.2.2.2.1 k0_t7
theorem k0_off147_inb : ∀ (v43 : BitVec 32) (v49 : BitVec 32) (k0_hw1 : k0_chk1 v43 v49) (k0_t7 : Fin (k0_t7_loop v43 v49).trips), ∀ a, (k0_off147 v43 v49 k0_t7) a + S1x16.size a ≤ S16x256.size a := fun v43 v49 k0_hw1 k0_t7 => k0_hw1.1.2.2.2.2.2.2.2.2.2.2.2.2.2.2.2.2.2.2.2.2.2.2.2.2.2.2.2.2.2.2.1 k0_t7
theorem k0_off148_inb : ∀ (v43 : BitVec 32) (v49 : BitVec 32) (k0_hw1 : k0_chk1 v43 v49) (k0_t7 : Fin (k0_t7_loop v43 v49).trips), ∀ a, (k0_off148 v43 v49 k0_t7) a + S1x16.size a ≤ S16x256.size a := fun v43 v49 k0_hw1 k0_t7 => k0_hw1.1.2.2.2.2.2.2.2.2.2.2.2.2.2.2.2.2.2.2.2.2.2.2.2.2.2.2.2.2.2.2.2 k0_t7
theorem k0_off149_inb : ∀ (v43 : BitVec 32) (v49 : BitVec 32) (k0_hw1 : k0_chk1 v43 v49) (k0_t7 : Fin (k0_t7_loop v43 v49).trips), ∀ a, (k0_off149 v43 v49 k0_t7) a + S1x16.size a ≤ S16x256.size a := fun v43 v49 k0_hw1 k0_t7 => k0_hw1.2.1 k0_t7
theorem k0_off150_inb : ∀ (v43 : BitVec 32) (v49 : BitVec 32) (k0_hw1 : k0_chk1 v43 v49) (k0_t7 : Fin (k0_t7_loop v43 v49).trips), ∀ a, (k0_off150 v43 v49 k0_t7) a + S1x16.size a ≤ S16x256.size a := fun v43 v49 k0_hw1 k0_t7 => k0_hw1.2.2 k0_t7

def k0_off151 (i : grid0.Coords) : Fin 4 → Nat :=
  let arg0 : BitVec 32 := BitVec.ofNat 32 (i 0).val
  let c0_i32_35 : BitVec 32 := 0#32
  let arg1 : BitVec 32 := BitVec.ofNat 32 (i 1).val
  let c0_i32_60_r1 : BitVec 32 := 0#32
  ![arg0.toNat, 0, arg1.toNat, 0]
def k0_off152 (i : grid0.Coords) : Fin 4 → Nat :=
  let arg0 : BitVec 32 := BitVec.ofNat 32 (i 0).val
  let c1_i32_37 : BitVec 32 := 1#32
  let arg1 : BitVec 32 := BitVec.ofNat 32 (i 1).val
  let c0_i32_60_r2 : BitVec 32 := 0#32
  ![arg0.toNat, 1, arg1.toNat, 0]
def k0_off153 (i : grid0.Coords) : Fin 4 → Nat :=
  let arg0 : BitVec 32 := BitVec.ofNat 32 (i 0).val
  let c2_i32_38 : BitVec 32 := 2#32
  let arg1 : BitVec 32 := BitVec.ofNat 32 (i 1).val
  let c0_i32_60_r3 : BitVec 32 := 0#32
  ![arg0.toNat, 2, arg1.toNat, 0]
def k0_off154 (i : grid0.Coords) : Fin 4 → Nat :=
  let arg0 : BitVec 32 := BitVec.ofNat 32 (i 0).val
  let c3_i32_39 : BitVec 32 := 3#32
  let arg1 : BitVec 32 := BitVec.ofNat 32 (i 1).val
  let c0_i32_60_r4 : BitVec 32 := 0#32
  ![arg0.toNat, 3, arg1.toNat, 0]
def k0_off155 (i : grid0.Coords) : Fin 4 → Nat :=
  let arg0 : BitVec 32 := BitVec.ofNat 32 (i 0).val
  let c4_i32_40 : BitVec 32 := 4#32
  let arg1 : BitVec 32 := BitVec.ofNat 32 (i 1).val
  let c0_i32_60_r5 : BitVec 32 := 0#32
  ![arg0.toNat, 4, arg1.toNat, 0]
def k0_off156 (i : grid0.Coords) : Fin 4 → Nat :=
  let arg0 : BitVec 32 := BitVec.ofNat 32 (i 0).val
  let c5_i32_41 : BitVec 32 := 5#32
  let arg1 : BitVec 32 := BitVec.ofNat 32 (i 1).val
  let c0_i32_60_r6 : BitVec 32 := 0#32
  ![arg0.toNat, 5, arg1.toNat, 0]
def k0_off157 (i : grid0.Coords) : Fin 4 → Nat :=
  let arg0 : BitVec 32 := BitVec.ofNat 32 (i 0).val
  let c6_i32_42 : BitVec 32 := 6#32
  let arg1 : BitVec 32 := BitVec.ofNat 32 (i 1).val
  let c0_i32_60_r7 : BitVec 32 := 0#32
  ![arg0.toNat, 6, arg1.toNat, 0]
def k0_off158 (i : grid0.Coords) : Fin 4 → Nat :=
  let arg0 : BitVec 32 := BitVec.ofNat 32 (i 0).val
  let c7_i32_43 : BitVec 32 := 7#32
  let arg1 : BitVec 32 := BitVec.ofNat 32 (i 1).val
  let c0_i32_60_r8 : BitVec 32 := 0#32
  ![arg0.toNat, 7, arg1.toNat, 0]
def k0_off159 (i : grid0.Coords) : Fin 4 → Nat :=
  let arg0 : BitVec 32 := BitVec.ofNat 32 (i 0).val
  let c8_i32_44 : BitVec 32 := 8#32
  let arg1 : BitVec 32 := BitVec.ofNat 32 (i 1).val
  let c0_i32_60_r9 : BitVec 32 := 0#32
  ![arg0.toNat, 8, arg1.toNat, 0]
def k0_off160 (i : grid0.Coords) : Fin 4 → Nat :=
  let arg0 : BitVec 32 := BitVec.ofNat 32 (i 0).val
  let c9_i32_45 : BitVec 32 := 9#32
  let arg1 : BitVec 32 := BitVec.ofNat 32 (i 1).val
  let c0_i32_60_r10 : BitVec 32 := 0#32
  ![arg0.toNat, 9, arg1.toNat, 0]
def k0_off161 (i : grid0.Coords) : Fin 4 → Nat :=
  let arg0 : BitVec 32 := BitVec.ofNat 32 (i 0).val
  let c10_i32_46 : BitVec 32 := 10#32
  let arg1 : BitVec 32 := BitVec.ofNat 32 (i 1).val
  let c0_i32_60_r11 : BitVec 32 := 0#32
  ![arg0.toNat, 10, arg1.toNat, 0]
def k0_off162 (i : grid0.Coords) : Fin 4 → Nat :=
  let arg0 : BitVec 32 := BitVec.ofNat 32 (i 0).val
  let c11_i32_47 : BitVec 32 := 11#32
  let arg1 : BitVec 32 := BitVec.ofNat 32 (i 1).val
  let c0_i32_60_r12 : BitVec 32 := 0#32
  ![arg0.toNat, 11, arg1.toNat, 0]
def k0_off163 (i : grid0.Coords) : Fin 4 → Nat :=
  let arg0 : BitVec 32 := BitVec.ofNat 32 (i 0).val
  let c12_i32_48 : BitVec 32 := 12#32
  let arg1 : BitVec 32 := BitVec.ofNat 32 (i 1).val
  let c0_i32_60_r13 : BitVec 32 := 0#32
  ![arg0.toNat, 12, arg1.toNat, 0]
def k0_off164 (i : grid0.Coords) : Fin 4 → Nat :=
  let arg0 : BitVec 32 := BitVec.ofNat 32 (i 0).val
  let c13_i32_49 : BitVec 32 := 13#32
  let arg1 : BitVec 32 := BitVec.ofNat 32 (i 1).val
  let c0_i32_60_r14 : BitVec 32 := 0#32
  ![arg0.toNat, 13, arg1.toNat, 0]
def k0_off165 (i : grid0.Coords) : Fin 4 → Nat :=
  let arg0 : BitVec 32 := BitVec.ofNat 32 (i 0).val
  let c14_i32_50 : BitVec 32 := 14#32
  let arg1 : BitVec 32 := BitVec.ofNat 32 (i 1).val
  let c0_i32_60_r15 : BitVec 32 := 0#32
  ![arg0.toNat, 14, arg1.toNat, 0]
def k0_off166 (i : grid0.Coords) : Fin 4 → Nat :=
  let arg0 : BitVec 32 := BitVec.ofNat 32 (i 0).val
  let c15_i32_52 : BitVec 32 := 15#32
  let arg1 : BitVec 32 := BitVec.ofNat 32 (i 1).val
  let c0_i32_60_r16 : BitVec 32 := 0#32
  ![arg0.toNat, 15, arg1.toNat, 0]
def k0_off167 (i : grid0.Coords) : Fin 4 → Nat :=
  let arg0 : BitVec 32 := BitVec.ofNat 32 (i 0).val
  let arg1 : BitVec 32 := BitVec.ofNat 32 (i 1).val
  let c0_i32_59_r17 : BitVec 32 := 0#32
  let c0_i32_60_r17 : BitVec 32 := 0#32
  ![arg0.toNat, arg1.toNat, 0, 0]
@[reducible] def k0_t12_loop : Scf.Loop 32 :=
  let c0_i32_54 : BitVec 32 := 0#32
  let c16_i32_55 : BitVec 32 := 16#32
  let v73 : BitVec 32 := Scalar.addi c0_i32_54 c16_i32_55
  let c1_i32_56 : BitVec 32 := 1#32
  ⟨c0_i32_54, v73, c1_i32_56⟩
def k0_off168 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v94 : Index := Scalar.indexCast arg12
  let c0_59 : Index := 0#32
  ![v94.toNat, 0]
def k0_off169 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v97 : Index := Scalar.indexCast arg12
  let c16_60 : Index := 16#32
  ![v97.toNat, 16]
def k0_off170 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v100 : Index := Scalar.indexCast arg12
  let c32_61 : Index := 32#32
  ![v100.toNat, 32]
def k0_off171 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v103 : Index := Scalar.indexCast arg12
  let c48_62 : Index := 48#32
  ![v103.toNat, 48]
def k0_off172 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v106 : Index := Scalar.indexCast arg12
  let c64_63 : Index := 64#32
  ![v106.toNat, 64]
def k0_off173 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v109 : Index := Scalar.indexCast arg12
  let c80_64 : Index := 80#32
  ![v109.toNat, 80]
def k0_off174 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v112 : Index := Scalar.indexCast arg12
  let c96_65 : Index := 96#32
  ![v112.toNat, 96]
def k0_off175 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v115 : Index := Scalar.indexCast arg12
  let c112_66 : Index := 112#32
  ![v115.toNat, 112]
def k0_off176 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v118 : Index := Scalar.indexCast arg12
  let c128_67 : Index := 128#32
  ![v118.toNat, 128]
def k0_off177 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v121 : Index := Scalar.indexCast arg12
  let c144_68 : Index := 144#32
  ![v121.toNat, 144]
def k0_off178 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v124 : Index := Scalar.indexCast arg12
  let c160_69 : Index := 160#32
  ![v124.toNat, 160]
def k0_off179 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v127 : Index := Scalar.indexCast arg12
  let c176_70 : Index := 176#32
  ![v127.toNat, 176]
def k0_off180 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v130 : Index := Scalar.indexCast arg12
  let c192_71 : Index := 192#32
  ![v130.toNat, 192]
def k0_off181 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v133 : Index := Scalar.indexCast arg12
  let c208_72 : Index := 208#32
  ![v133.toNat, 208]
def k0_off182 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v136 : Index := Scalar.indexCast arg12
  let c224_73 : Index := 224#32
  ![v136.toNat, 224]
def k0_off183 (k0_t12 : Fin k0_t12_loop.trips) : Fin 2 → Nat :=
  let c0_i32_54 : BitVec 32 := 0#32
  let c1_i32_56 : BitVec 32 := 1#32
  let arg12 : BitVec 32 := Scf.iv c0_i32_54 c1_i32_56 k0_t12
  let v139 : Index := Scalar.indexCast arg12
  let c240_74 : Index := 240#32
  ![v139.toNat, 240]
def k0_mult28 (i : grid0.Coords) : BitVec 32 :=
  let arg1 : BitVec 32 := BitVec.ofNat 32 (i 1).val
  let c512_i32 : BitVec 32 := 512#32
  let v91 : BitVec 32 := Scalar.muli arg1 c512_i32
  let arg0 : BitVec 32 := BitVec.ofNat 32 (i 0).val
  let c256_i32 : BitVec 32 := 256#32
  let v34 : BitVec 32 := Scalar.muli arg0 c256_i32
  let v35 : BitVec 32 := v34
  let v92 : BitVec 32 := Scalar.addi v91 v35
  v92
def k0_off184 (i : grid0.Coords) : Fin 1 → Nat :=
  let arg1 : BitVec 32 := BitVec.ofNat 32 (i 1).val
  let c512_i32 : BitVec 32 := 512#32
  let v91 : BitVec 32 := Scalar.muli arg1 c512_i32
  let arg0 : BitVec 32 := BitVec.ofNat 32 (i 0).val
  let c256_i32 : BitVec 32 := 256#32
  let v34 : BitVec 32 := Scalar.muli arg0 c256_i32
  let v35 : BitVec 32 := v34
  let v92 : BitVec 32 := Scalar.addi v91 v35
  let v93 : BitVec 32 := v92
  ![v93.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x512 : Shape := ⟨2, ![32768, 512]⟩
abbrev S16 : Shape := ⟨1, ![16]⟩
abbrev S_ : Shape := ⟨0, ![]⟩
abbrev S32768 : Shape := ⟨1, ![32768]⟩
abbrev S1x16 : Shape := ⟨2, ![1, 16]⟩
abbrev S32768x1 : Shape := ⟨2, ![32768, 1]⟩
abbrev S32768x16 : Shape := ⟨2, ![32768, 16]⟩
abbrev S1x32768 : Shape := ⟨2, ![1, 32768]⟩
abbrev S16x1 : Shape := ⟨2, ![16, 1]⟩
abbrev S16x32768 : Shape := ⟨2, ![16, 32768]⟩
abbrev S16x32768x1 : Shape := ⟨3, ![16, 32768, 1]⟩
abbrev S1x32768x512 : Shape := ⟨3, ![1, 32768, 512]⟩
abbrev S16x32768x512 : Shape := ⟨3, ![16, 32768, 512]⟩
abbrev S16x512 : Shape := ⟨2, ![16, 512]⟩

abbrev nBuf : Space → Nat
  | .hbm => 74
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S16, .i32⟩
  | .hbm, ⟨2, _⟩ => ⟨S_, .i32⟩
  | .hbm, ⟨3, _⟩ => ⟨S_, .i32⟩
  | .hbm, ⟨4, _⟩ => ⟨S16, .i32⟩
  | .hbm, ⟨5, _⟩ => ⟨S16, .i32⟩
  | .hbm, ⟨6, _⟩ => ⟨S32768, .i32⟩
  | .hbm, ⟨7, _⟩ => ⟨S1x16, .i32⟩
  | .hbm, ⟨8, _⟩ => ⟨S32768x1, .i32⟩
  | .hbm, ⟨9, _⟩ => ⟨S32768x16, .i32⟩
  | .hbm, ⟨10, _⟩ => ⟨S32768x16, .i32⟩
  | .hbm, ⟨11, _⟩ => ⟨S32768x16, .i1⟩
  | .hbm, ⟨12, _⟩ => ⟨S32768x16, .i32⟩
  | .hbm, ⟨13, _⟩ => ⟨S_, .i32⟩
  | .hbm, ⟨14, _⟩ => ⟨S32768, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S32768x1, .i32⟩
  | .hbm, ⟨31, _⟩ => ⟨S32768, .i32⟩
  | .hbm, ⟨32, _⟩ => ⟨S32768, .i32⟩
  | .hbm, ⟨33, _⟩ => ⟨S_, .i32⟩
  | .hbm, ⟨34, _⟩ => ⟨S32768, .i32⟩
  | .hbm, ⟨35, _⟩ => ⟨S32768, .i1⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S_, .i32⟩
  | .hbm, ⟨40, _⟩ => ⟨S32768, .i32⟩
  | .hbm, ⟨41, _⟩ => ⟨S32768, .i32⟩
  | .hbm, ⟨42, _⟩ => ⟨S32768, .i32⟩
  | .hbm, ⟨43, _⟩ => ⟨S32768x1, .i32⟩
  | .hbm, ⟨44, _⟩ => ⟨S32768, .i32⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S_, .i32⟩
  | .hbm, ⟨49, _⟩ => ⟨S32768, .i32⟩
  | .hbm, ⟨50, _⟩ => ⟨S32768, .i32⟩
  | .hbm, ⟨51, _⟩ => ⟨S32768, .i1⟩
  | .hbm, ⟨52, _⟩ => ⟨S32768, .i1⟩
  | .hbm, ⟨53, _⟩ => ⟨S32768x1, .i1⟩
  | .hbm, ⟨54, _⟩ => ⟨S_, .f32⟩
  | .hbm, ⟨55, _⟩ => ⟨S32768x512, .f32⟩
  | .hbm, ⟨56, _⟩ => ⟨S32768x512, .i1⟩
  | .hbm, ⟨57, _⟩ => ⟨S32768x512, .f32⟩
  | .hbm, ⟨58, _⟩ => ⟨S1x32768, .i32⟩
  | .hbm, ⟨59, _⟩ => ⟨S16, .i32⟩
  | .hbm, ⟨60, _⟩ => ⟨S16x1, .i32⟩
  | .hbm, ⟨61, _⟩ => ⟨S16x32768, .i32⟩
  | .hbm, ⟨62, _⟩ => ⟨S16x32768, .i32⟩
  | .hbm, ⟨63, _⟩ => ⟨S16x32768, .i1⟩
  | .hbm, ⟨64, _⟩ => ⟨S16x32768x1, .i1⟩
  | .hbm, ⟨65, _⟩ => ⟨S1x32768x512, .f32⟩
  | .hbm, ⟨66, _⟩ => ⟨S_, .f32⟩
  | .hbm, ⟨67, _⟩ => ⟨S_, .f32⟩
  | .hbm, ⟨68, _⟩ => ⟨S16x32768x512, .i1⟩
  | .hbm, ⟨69, _⟩ => ⟨S16x32768x512, .f32⟩
  | .hbm, ⟨70, _⟩ => ⟨S16x32768x512, .f32⟩
  | .hbm, ⟨71, _⟩ => ⟨S16x32768x512, .f32⟩
  | .hbm, ⟨72, _⟩ => ⟨S_, .f32⟩
  | .hbm, ⟨73, _⟩ => ⟨S16x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_c_0 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst : Ref sig .tc := ⟨.hbm, 54, rfl⟩
abbrev main_v35 : Ref sig .tc := ⟨.hbm, 55, rfl⟩
abbrev main_call2_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩

abbrev nD : Nat := 1
abbrev τ : Topo := Topo.v7x

variable {F : FTy → Type} [FloatOps F]
-- ==== Proof.Words.lean ====
module

public import proofs.«01_k».proof.Proof.Gen.KernelIdeal
public import Idealize.ShloMosaic.Lib.WordArith
public import Idealize.ShloMosaic.Lib.LoopRemainder

/-! # The words the kernel computes, as natural numbers

Every scalar of the kernel is a 32-bit word. This module reads the words a tile computes from the sizes (its range of
rows, the rows of a segment inside that range, the number of blocks, the ring slot of a block) as natural numbers, and
derives from it the side conditions the kernel states about its offsets. -/

@[expose] public section

namespace Cert.KernelIdeal.DMax

open Idealize.ShloMosaic Idealize.ShloMosaic.WordArith Cert.KernelIdeal Cert.KernelIdeal.Gen

/-! ## The scalar operations on small words -/

/-- A word of a small number stands for it as a signed number too. -/
theorem toInt_of {x : BitVec 32} {a : ℕ} (hx : x.toNat = a) (h : a < 2 ^ 31) : x.toInt = a := by
  rw [BitVec.toInt_eq_toNat_cond, hx]; split <;> omega

/-- A word that stands for a natural number as a signed number stands for it unsigned. -/
theorem toNat_of {x : BitVec 32} {a : ℕ} (hx : x.toInt = (a : ℤ)) : x.toNat = a := by
  have := BitVec.toInt_eq_toNat_cond x
  have := x.isLt
  split at * <;> omega

/-- A sum of words is the sum, if that is small. -/
theorem addi_nat {x y : BitVec 32} {a b : ℕ} (hx : x.toNat = a) (hy : y.toNat = b) (h : a + b < 2 ^ 31) :
    (Scalar.addi x y).toNat = a + b := by
  change (x + y).toNat = _
  rw [BitVec.toNat_add, hx, hy]; omega

/-- A difference of words is the difference, if that is not negative. -/
theorem subi_nat {x y : BitVec 32} {a b : ℕ} (hx : x.toNat = a) (hy : y.toNat = b) (h : b ≤ a) (ha : a < 2 ^ 31) :
    (Scalar.subi x y).toNat = a - b := by
  change (x - y).toNat = _
  rw [BitVec.toNat_sub, hx, hy]; omega

/-- A product of words is the product, if that is small. -/
theorem muli_nat {x y : BitVec 32} {a b : ℕ} (hx : x.toNat = a) (hy : y.toNat = b) (h : a * b < 2 ^ 31) :
    (Scalar.muli x y).toNat = a * b := by
  change (x * y).toNat = _
  rw [BitVec.toNat_mul, hx, hy]; exact Nat.mod_eq_of_lt (by omega)

/-- The lesser of two words is the lesser number. -/
theorem minsi_nat {x y : BitVec 32} {a b : ℕ} (hx : x.toNat = a) (hy : y.toNat = b) (ha : a < 2 ^ 31) (hb : b < 2 ^ 31) :
    (Scalar.minsi x y).toNat = min a b := by
  subst hx hy; exact toNat_minsi_of_lt x y ha hb

/-- The greater of two words is the greater number. -/
theorem maxsi_nat {x y : BitVec 32} {a b : ℕ} (hx : x.toNat = a) (hy : y.toNat = b) (ha : a < 2 ^ 31) (hb : b < 2 ^ 31) :
    (Scalar.maxsi x y).toNat = max a b := by
  have e := toInt_of hx ha
  have e' := toInt_of hy hb
  change (if y.slt x then x else y).toNat = _
  by_cases h : y.slt x = true
  · rw [if_pos h, hx]
    rw [BitVec.slt_iff_toInt_lt] at h
    omega
  · rw [if_neg h, hy]
    rw [BitVec.slt_iff_toInt_lt] at h
    omega

/-- A signed comparison of two small words decides the comparison of their natural values. -/
theorem slt_nat {x y : BitVec 32} {a b : ℕ} (hx : x.toNat = a) (hy : y.toNat = b) (ha : a < 2 ^ 31) (hb : b < 2 ^ 31) :
    x.slt y = decide (a < b) := by
  rw [BitVec.slt_eq_decide, toInt_of hx ha, toInt_of hy hb]
  simp

/-- Comparing words compares the numbers. -/
theorem sle_nat {x y : BitVec 32} {a b : ℕ} (hx : x.toNat = a) (hy : y.toNat = b) (ha : a < 2 ^ 31) (hb : b < 2 ^ 31) :
    x.sle y = decide (a ≤ b) := by
  rw [BitVec.sle_eq_decide, toInt_of hx ha, toInt_of hy hb]
  simp

/-- The quotient of words is the quotient. -/
theorem sdiv_nat {x y : BitVec 32} {a b : ℕ} (hx : x.toNat = a) (hy : y.toNat = b) (ha : a < 2 ^ 31) (hb : b < 2 ^ 31)
    (hb0 : 0 < b) : (Scalar.divsi x y).toNat = a / b := by
  have hc : ¬ IntOp.SDivCorner x y := by
    rintro (h | ⟨_, h⟩)
    · rw [h] at hy; simp at hy; omega
    · rw [h] at hy; simp at hy; omega
  change (IntOp.divsi .scalar x y).toNat = _
  unfold IntOp.divsi
  rw [if_neg hc]
  apply toNat_of
  rw [BitVec.toInt_sdiv_of_ne_or_ne, toInt_of hx ha, toInt_of hy hb]
  · rw [Int.tdiv_eq_ediv_of_nonneg (by omega)]; simp
  · right
    intro h
    rw [h] at hy; simp at hy; omega

/-- The remainder of words is the remainder. -/
theorem srem_nat {x y : BitVec 32} {a b : ℕ} (hx : x.toNat = a) (hy : y.toNat = b) (ha : a < 2 ^ 31) (hb : b < 2 ^ 31)
    (hb0 : 0 < b) : (Scalar.remsi x y).toNat = a % b := by
  have hc : ¬ IntOp.SDivCorner x y := by
    rintro (h | ⟨_, h⟩)
    · rw [h] at hy; simp at hy; omega
    · rw [h] at hy; simp at hy; omega
  change (IntOp.remsi .scalar x y).toNat = _
  unfold IntOp.remsi
  rw [if_neg hc]
  apply toNat_of
  rw [BitVec.toInt_srem, toInt_of hx ha, toInt_of hy hb]
  rw [Int.tmod_eq_emod_of_nonneg (by omega)]; simp

/-- The floored quotient as the kernel computes it: the truncated quotient, less one when the signs differ and the
    remainder is not zero. -/
def fdivW (x n : BitVec 32) : BitVec 32 :=
  Scalar.select (Scalar.andi (Scalar.cmpi .ne
      (Scalar.subi (Scalar.extui (Scalar.cmpi .sgt x 0#32)) (Scalar.extui (Scalar.cmpi .slt x 0#32)))
      (Scalar.subi (Scalar.extui (Scalar.cmpi .sgt n 0#32)) (Scalar.extui (Scalar.cmpi .slt n 0#32))))
    (Scalar.cmpi .ne (Scalar.remsi x n) 0#32)) (Scalar.subi (Scalar.divsi x n) 1#32) (Scalar.divsi x n)

/-- The sign of a positive word is 1. -/
theorem sgn_pos {x : BitVec 32} {a : ℕ} (hx : x.toNat = a) (ha : a < 2 ^ 31) (h0 : 0 < a) :
    Scalar.subi (Scalar.extui (Scalar.cmpi .sgt x 0#32)) (Scalar.extui (Scalar.cmpi .slt x 0#32)) = 1#32 := by
  have h1 : Scalar.cmpi .sgt x 0#32 = 1#1 := by
    change BitVec.ofBool ((0#32).slt x) = _
    rw [slt_nat (a := 0) rfl hx (by decide) ha, decide_eq_true h0]; rfl
  have h2 : Scalar.cmpi .slt x 0#32 = 0#1 := by
    change BitVec.ofBool (x.slt 0#32) = _
    rw [slt_nat (b := 0) hx rfl ha (by decide), decide_eq_false (by omega)]; rfl
  rw [h1, h2]; decide

/-- The floored quotient, as the kernel computes it, is the quotient. -/
theorem fdivW_nat {x n : BitVec 32} {a b : ℕ} (hx : x.toNat = a) (hn : n.toNat = b) (ha : a < 2 ^ 31) (hb : b < 2 ^ 31)
    (hb0 : 0 < b) : (fdivW x n).toNat = a / b := by
  unfold fdivW
  rw [sgn_pos hn hb hb0]
  by_cases h0 : a = 0
  · have hr : Scalar.remsi x n = 0#32 := by
      apply BitVec.eq_of_toNat_eq
      rw [srem_nat hx hn ha hb hb0, h0]; simp
    rw [hr]
    have e : Scalar.cmpi .ne (0#32 : BitVec 32) 0#32 = 0#1 := by decide
    rw [e]
    have e2 : ∀ c : BitVec 1, Scalar.andi c 0#1 = 0#1 := by decide
    rw [e2]
    exact sdiv_nat hx hn ha hb hb0
  · rw [sgn_pos hx ha (by omega)]
    have e : Scalar.cmpi .ne (1#32 : BitVec 32) 1#32 = 0#1 := by decide
    rw [e]
    have e2 : ∀ c : BitVec 1, Scalar.andi 0#1 c = 0#1 := by decide
    rw [e2]
    exact sdiv_nat hx hn ha hb hb0

/-- The remainder with the divisor's sign, by eight, as the kernel computes a block's ring slot. -/
def slotW (x : BitVec 32) : BitVec 32 :=
  Scalar.select (Scalar.andi (Scalar.xori
      (Scalar.cmpi .slt (Scalar.remsi x (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi x (Scalar.select (Scalar.cmpi .eq 8#32 0#32) 1#32 8#32)) 0#32))
    (Scalar.addi (Scalar.remsi x (Scalar.select (Scalar.cmpi .eq 8#32 0#32) 1#32 8#32))
      (Scalar.select (Scalar.cmpi .eq 8#32 0#32) 1#32 8#32))
    (Scalar.remsi x (Scalar.select (Scalar.cmpi .eq 8#32 0#32) 1#32 8#32))

/-- The ring slot, as the kernel computes it, is the remainder by eight. -/
theorem slotW_nat {x : BitVec 32} {a : ℕ} (hx : x.toNat = a) (ha : a < 2 ^ 31) : (slotW x).toNat = a % 8 := by
  unfold slotW
  have e8 : Scalar.select (Scalar.cmpi .eq (8#32 : BitVec 32) 0#32) 1#32 8#32 = 8#32 := by decide
  rw [e8]
  have hr : (Scalar.remsi x 8#32).toNat = a % 8 := srem_nat hx rfl ha (by decide) (by decide)
  have h1 : Scalar.cmpi .slt (Scalar.remsi x 8#32) 0#32 = 0#1 := by
    change BitVec.ofBool (BitVec.slt _ _) = _
    rw [slt_nat (b := 0) hr rfl (by omega) (by decide), decide_eq_false (by omega)]; rfl
  have h2 : Scalar.cmpi .slt (8#32 : BitVec 32) 0#32 = 0#1 := by decide
  rw [h1, h2]
  have e2 : ∀ c : BitVec 1, Scalar.andi (Scalar.xori 0#1 0#1) c = 0#1 := by decide
  rw [e2]
  exact hr

/-- The induction variable of a loop from zero by one. -/
theorem iv01_nat (k : ℕ) (hk : k < 2 ^ 31) : (Scf.iv 0#32 1#32 k).toNat = k := by
  rw [Scf.iv]
  simp only [BitVec.mul_one, BitVec.zero_add]
  exact toNat_ofNat_of_lt k (by omega)

/-! ## The words of a tile -/

variable (i : grid0.Coords) (v11 v100 v105 : BitVec 32)

/-- The rows each tile of a half takes: the total over sixteen, rounded up. -/
def qW : BitVec 32 := fdivW (Scalar.subi (Scalar.addi v11 16#32) 1#32) 16#32
/-- The first row of the tile. -/
def loW : BitVec 32 := Scalar.muli (BitVec.ofNat 32 (i 1).val) (qW v11)
/-- One past the last row of the tile. -/
def hiW : BitVec 32 := Scalar.minsi (Scalar.addi (loW i v11) (qW v11)) v11
/-- The first row of the segment inside the tile's rows. -/
def aW : BitVec 32 := Scalar.maxsi v100 (loW i v11)
/-- One past the last row of the segment inside the tile's rows. -/
def bW : BitVec 32 := Scalar.minsi v105 (hiW i v11)
/-- The first row copied: a multiple of eight. -/
def a8W : BitVec 32 := Scalar.muli (fdivW (aW i v11 v100) 8#32) 8#32
/-- The number of blocks of sixteen rows. -/
def nbW : BitVec 32 :=
  fdivW (Scalar.subi (Scalar.addi (Scalar.subi (bW i v11 v105) (a8W i v11 v100)) 16#32) 1#32) 16#32
/-- The first row of the block that starts `d` rows on. -/
def rowW (d : BitVec 32) : BitVec 32 := Scalar.minsi (Scalar.addi (a8W i v11 v100) d) 32752#32
/-- The first column of the core's half. -/
def colW : BitVec 32 := Scalar.muli (BitVec.ofNat 32 (i 0).val) 256#32

/-- How many rows each tile takes, of `t` in all. -/
def qN (t : ℕ) : ℕ := (t + 15) / 16
/-- The first row of tile `w`. -/
def loN (w t : ℕ) : ℕ := w * qN t
/-- One past the last row of tile `w`. -/
def hiN (w t : ℕ) : ℕ := min (loN w t + qN t) t
/-- The first row of a segment from `s` on among the tile's. -/
def aN (w t s : ℕ) : ℕ := max s (loN w t)
/-- One past the last row of a segment before `e` among the tile's. -/
def bN (w t e : ℕ) : ℕ := min e (hiN w t)
/-- The first row of the piece's blocks: the piece's first row rounded down to a multiple of eight. -/
def a8N (w t s : ℕ) : ℕ := aN w t s / 8 * 8
/-- How many blocks of sixteen rows the piece has. -/
def nbN (w t s e : ℕ) : ℕ := (bN w t e - a8N w t s + 15) / 16

/-- There are sixteen subcores. -/
theorem i1_lt : (i 1).val < 16 := (i 1).isLt
/-- There are two SparseCores. -/
theorem i0_lt : (i 0).val < 2 := (i 0).isLt

variable {i v11 v100 v105}
variable {t s e : ℕ} (h11 : v11.toNat = t) (ht : t ≤ 32752) (h100 : v100.toNat = s) (hs : s ≤ 32752)
  (h105 : v105.toNat = e) (he : e ≤ 32752)

include h11 ht in
/-- The word of the number of rows a tile takes. -/
theorem qW_nat : (qW v11).toNat = qN t := by
  unfold qW qN
  rw [fdivW_nat (subi_nat (b := 1) (addi_nat (b := 16) h11 rfl (by omega)) rfl (by omega) (by omega)) rfl (by omega)
    (by decide) (by decide)]
  rfl

/-- A tile takes at most 2047 rows. -/
theorem qN_le (ht : t ≤ 32752) : qN t ≤ 2047 := by unfold qN; omega

include h11 ht in
/-- The word of the tile's first row. -/
theorem loW_nat : (loW i v11).toNat = loN (i 1).val t := by
  have hi := i1_lt i
  have hq := qN_le ht
  refine muli_nat (toNat_ofNat_of_lt _ (by omega)) (qW_nat h11 ht) ?_
  have : (i 1).val * qN t ≤ 15 * 2047 := Nat.mul_le_mul (by omega) hq
  omega

/-- A tile's first row is at most 30705. -/
theorem loN_le (w : ℕ) (hw : w < 16) (ht : t ≤ 32752) : loN w t ≤ 30705 := by
  have : w * qN t ≤ 15 * 2047 := Nat.mul_le_mul (by omega) (qN_le ht)
  exact this

include h11 ht in
/-- The word of one past the tile's last row. -/
theorem hiW_nat : (hiW i v11).toNat = hiN (i 1).val t := by
  have h1 := loN_le _ (i1_lt i) ht
  have h2 := qN_le ht
  exact minsi_nat (addi_nat (loW_nat h11 ht) (qW_nat h11 ht) (by omega)) h11 (by omega) (by omega)

include h11 ht h100 hs in
/-- The word of the piece's first row. -/
theorem aW_nat : (aW i v11 v100).toNat = aN (i 1).val t s := by
  have h1 := loN_le _ (i1_lt i) ht
  exact maxsi_nat h100 (loW_nat h11 ht) (by omega) (by omega)

include h11 ht h105 he in
/-- The word of one past the piece's last row. -/
theorem bW_nat : (bW i v11 v105).toNat = bN (i 1).val t e := by
  have h1 : hiN (i 1).val t ≤ t := Nat.min_le_right _ _
  exact minsi_nat h105 (hiW_nat h11 ht) (by omega) (by omega)

include h11 ht h100 hs in
/-- The word of the first row of the piece's blocks. -/
theorem a8W_nat : (a8W i v11 v100).toNat = a8N (i 1).val t s := by
  have h1 := loN_le _ (i1_lt i) ht
  have h2 : aN (i 1).val t s ≤ 32752 := by unfold aN; omega
  exact muli_nat (fdivW_nat (aW_nat h11 ht h100 hs) rfl (by omega) (by decide) (by decide)) rfl (by omega)

/-- The numbers of a nonempty piece, related. -/
theorem piece_facts {w : ℕ} (ht : t ≤ 32752) (hab : aN w t s < bN w t e) :
    bN w t e ≤ 32752 ∧ a8N w t s ≤ aN w t s ∧ aN w t s < a8N w t s + 8 ∧ 8 ∣ a8N w t s ∧ 0 < nbN w t s e
      ∧ bN w t e ≤ a8N w t s + 16 * nbN w t s e ∧ a8N w t s + 16 * nbN w t s e < bN w t e + 16 := by
  have : bN w t e ≤ 32752 := by unfold bN hiN; omega
  unfold nbN a8N
  refine ⟨this, by omega, by omega, Dvd.intro_left _ rfl, by omega, by omega, by omega⟩

include h11 ht h100 hs h105 he in
/-- The word of the number of blocks. -/
theorem nbW_nat (hab : aN (i 1).val t s < bN (i 1).val t e) : (nbW i v11 v100 v105).toNat = nbN (i 1).val t s e := by
  obtain ⟨h1, h2, -⟩ := piece_facts ht hab
  unfold nbW
  rw [fdivW_nat (subi_nat (b := 1) (addi_nat (b := 16) (subi_nat (bW_nat h11 ht h105 he) (a8W_nat h11 ht h100 hs) (by omega)
    (by omega)) rfl (by omega)) rfl (by omega) (by omega)) rfl (by omega) (by decide) (by decide)]
  rfl

include h11 ht h100 hs in
/-- The first row of a block that starts inside the piece: the bound on it does not bite. -/
theorem rowW_nat {d : BitVec 32} {k : ℕ} (hd : d.toNat = k) (h : a8N (i 1).val t s + k ≤ 32752) :
    (rowW i v11 v100 d).toNat = a8N (i 1).val t s + k := by
  unfold rowW
  rw [minsi_nat (addi_nat (a8W_nat h11 ht h100 hs) hd (by omega)) rfl (by omega) (by decide)]
  simp; omega

/-- The word of the first column of the core's half. -/
theorem colW_nat : (colW i).toNat = (i 0).val * 256 := by
  have := i0_lt i
  exact muli_nat (toNat_ofNat_of_lt _ (by omega)) rfl (by omega)

/-! ## Loops over small words by one -/

/-- A loop from `a` to `b` by one makes `b - a` trips. -/
theorem trips_nat {x y : BitVec 32} {a b : ℕ} (hx : x.toNat = a) (hy : y.toNat = b) (ha : a < 2 ^ 31) (hb : b < 2 ^ 31) :
    Scf.trips x y 1#32 = b - a := by
  unfold Scf.trips
  rw [toInt_of hx ha, toInt_of hy hb, show (1#32 : BitVec 32).toInt = 1 from by decide]
  omega

/-- A loop by one between small bounds is well formed. -/
theorem ok_nat {x y : BitVec 32} {a b : ℕ} (hx : x.toNat = a) (hy : y.toNat = b) (ha : a + 1 < 2 ^ 31) (hb : b + 1 < 2 ^ 31) :
    Scf.OK x y 1#32 := by
  unfold Scf.OK
  rw [trips_nat hx hy (by omega) (by omega), toInt_of hx (by omega), show (1#32 : BitVec 32).toInt = 1 from by decide]
  refine ⟨by decide, ?_⟩
  simp only [Nat.reduceSub]
  omega

/-- The loop variable on trip `k` is `a + k`. -/
theorem iv_nat {x : BitVec 32} {a k : ℕ} (hx : x.toNat = a) (h : a + k < 2 ^ 31) : (Scf.iv x 1#32 k).toNat = a + k := by
  rw [Scf.iv, BitVec.mul_one, BitVec.toNat_add, hx, BitVec.toNat_ofNat]
  omega

/-! ## The program's own offsets are these words -/

variable (i v11 v100 v105)

/-- The bounds of the loop over a piece's blocks, written out. -/
theorem t3_loop_eq : k0_t3_loop i v11 v100 v105 =
    ⟨0#32, Scalar.addi 0#32 (Scalar.muli (Scalar.divsi (Scalar.subi (nbW i v11 v100 v105) 0#32) 1#32) 1#32), 1#32⟩ := rfl

/-- The offset of a load of sixteen lanes from a row of the ring slot of block `k`. -/
def blkOff (k k4 : ℕ) (c : BitVec 32) (j : ℕ) : Fin 3 → ℕ :=
  ![(slotW (Scf.iv 0#32 1#32 k)).toNat, (Scalar.addi (Scalar.muli (Scf.iv 0#32 1#32 k4) 4#32) c).toNat, j]

/-- That offset as numbers: slot `k % 8`, row `4 * k4 + r`, lane `j`. -/
theorem blkOff_nat {k k4 r : ℕ} (j : ℕ) (hk : k < 2 ^ 31) (h4 : k4 < 4) (hr : r < 4) :
    blkOff k k4 (BitVec.ofNat 32 r) j = ![k % 8, 4 * k4 + r, j] := by
  unfold blkOff
  rw [slotW_nat (iv01_nat k hk) hk, addi_nat (b := r) (muli_nat (b := 4) (iv01_nat k4 (by omega)) rfl (by omega))
    (toNat_ofNat_of_lt r (by omega)) (by omega), Nat.mul_comm]

/-- The loop over a block's rows makes four trips, of four rows each. -/
theorem t4_trips : k0_t4_loop.trips = 4 := rfl

variable {i v11 v100 v105}

variable (i v11 v100 v105 t s e) in
/-- The words of a nonempty piece of a segment: the total `t`, the segment's first row `s` and one past its last `e`. -/
structure Piece : Prop where
  h11 : v11.toNat = t
  ht : t ≤ 32752
  h100 : v100.toNat = s
  hs : s ≤ 32752
  h105 : v105.toNat = e
  he : e ≤ 32752
  hab : aN (i 1).val t s < bN (i 1).val t e

variable (hp : Piece i v11 v100 v105 t s e)

include hp in
/-- The word of the piece's number of blocks. -/
theorem Piece.nb : (nbW i v11 v100 v105).toNat = nbN (i 1).val t s e :=
  nbW_nat hp.h11 hp.ht hp.h100 hp.hs hp.h105 hp.he hp.hab

include hp in
/-- The blocks begin at a multiple of eight at most seven rows before the piece, cover it, and end less than sixteen rows past it. -/
theorem Piece.facts : bN (i 1).val t e ≤ 32752 ∧ a8N (i 1).val t s ≤ aN (i 1).val t s ∧ aN (i 1).val t s < a8N (i 1).val t s + 8
    ∧ 8 ∣ a8N (i 1).val t s ∧ 0 < nbN (i 1).val t s e ∧ bN (i 1).val t e ≤ a8N (i 1).val t s + 16 * nbN (i 1).val t s e
    ∧ a8N (i 1).val t s + 16 * nbN (i 1).val t s e < bN (i 1).val t e + 16 := piece_facts hp.ht hp.hab

include hp in
/-- The loop over the blocks ends at their number. -/
theorem t3_ub :
    (k0_t3_loop i v11 v100 v105).ub.toNat = nbN (i 1).val t s e := by
  obtain ⟨h1, h2, h3, h4, h5, h6, h7⟩ := hp.facts
  rw [t3_loop_eq]
  change (Scalar.addi 0#32 (Scalar.muli (Scalar.divsi (Scalar.subi (nbW i v11 v100 v105) 0#32) 1#32) 1#32)).toNat = _
  have hn := hp.nb
  rw [Scalar.muli_divsi_one, addi_nat (a := 0) rfl (subi_nat (b := 0) hn rfl (by omega) (by omega)) (by omega)]
  omega

include hp in
/-- The block loop makes one trip for each block. -/
theorem t3_trips :
    (k0_t3_loop i v11 v100 v105).trips = nbN (i 1).val t s e := by
  obtain ⟨h1, h2, h3, h4, h5, h6, h7⟩ := hp.facts
  exact trips_nat (a := 0) rfl (t3_ub hp) (by decide) (show nbN (i 1).val t s e < 2 ^ 31 by omega)

/-- The guard "greater than `p`", as the kernel computes it. -/
theorem ne0_sgt {x : BitVec 32} {a p : ℕ} (hx : x.toNat = a) (ha : a < 2 ^ 31) (hp : p < 2 ^ 31) :
    Scalar.cmpi .ne (Scalar.extui (Scalar.cmpi .sgt x (BitVec.ofNat 32 p))) 0#32 = 1#1 ↔ p < a := by
  have : Scalar.cmpi .sgt x (BitVec.ofNat 32 p) = BitVec.ofBool (decide (p < a)) := by
    change BitVec.ofBool (BitVec.slt _ _) = _
    rw [slt_nat (toNat_ofNat_of_lt p (by omega)) hx hp ha]
  rw [this]
  by_cases h : p < a
  · simp only [h, decide_true, iff_true]; decide
  · simp only [h, decide_false, iff_false]; decide

/-- The guard "less than", as the kernel computes it. -/
theorem ne0_slt {x y : BitVec 32} {a b : ℕ} (hx : x.toNat = a) (hy : y.toNat = b) (ha : a < 2 ^ 31) (hb : b < 2 ^ 31) :
    Scalar.cmpi .ne (Scalar.extui (Scalar.cmpi .slt x y)) 0#32 = 1#1 ↔ a < b := by
  have : Scalar.cmpi .slt x y = BitVec.ofBool (decide (a < b)) := by
    change BitVec.ofBool (BitVec.slt _ _) = _
    rw [slt_nat hx hy ha hb]
  rw [this]
  by_cases h : a < b
  · simp only [h, decide_true, iff_true]; decide
  · simp only [h, decide_false, iff_false]; decide

include hp in
/-- The guard on the piece's copy number 1: there are more than 1 blocks. -/
theorem cond1_iff : k0_cond1 i v11 v100 v105 = 1#1 ↔ 1 < nbN (i 1).val t s e := by
  obtain ⟨h1, h2, h3, h4, h5, h6, h7⟩ := hp.facts
  exact ne0_sgt (x := nbW i v11 v100 v105) (hp.nb) (by omega) (by decide)

include hp in
/-- The guard on the piece's copy number 2: there are more than 2 blocks. -/
theorem cond2_iff : k0_cond2 i v11 v100 v105 = 1#1 ↔ 2 < nbN (i 1).val t s e := by
  obtain ⟨h1, h2, h3, h4, h5, h6, h7⟩ := hp.facts
  exact ne0_sgt (x := nbW i v11 v100 v105) (hp.nb) (by omega) (by decide)

include hp in
/-- The guard on the piece's copy number 3: there are more than 3 blocks. -/
theorem cond3_iff : k0_cond3 i v11 v100 v105 = 1#1 ↔ 3 < nbN (i 1).val t s e := by
  obtain ⟨h1, h2, h3, h4, h5, h6, h7⟩ := hp.facts
  exact ne0_sgt (x := nbW i v11 v100 v105) (hp.nb) (by omega) (by decide)

include hp in
/-- The guard on the piece's copy number 4: there are more than 4 blocks. -/
theorem cond4_iff : k0_cond4 i v11 v100 v105 = 1#1 ↔ 4 < nbN (i 1).val t s e := by
  obtain ⟨h1, h2, h3, h4, h5, h6, h7⟩ := hp.facts
  exact ne0_sgt (x := nbW i v11 v100 v105) (hp.nb) (by omega) (by decide)

include hp in
/-- The guard on the piece's copy number 5: there are more than 5 blocks. -/
theorem cond5_iff : k0_cond5 i v11 v100 v105 = 1#1 ↔ 5 < nbN (i 1).val t s e := by
  obtain ⟨h1, h2, h3, h4, h5, h6, h7⟩ := hp.facts
  exact ne0_sgt (x := nbW i v11 v100 v105) (hp.nb) (by omega) (by decide)

include hp in
/-- The guard on the piece's copy number 6: there are more than 6 blocks. -/
theorem cond6_iff : k0_cond6 i v11 v100 v105 = 1#1 ↔ 6 < nbN (i 1).val t s e := by
  obtain ⟨h1, h2, h3, h4, h5, h6, h7⟩ := hp.facts
  exact ne0_sgt (x := nbW i v11 v100 v105) (hp.nb) (by omega) (by decide)

include hp in
/-- The row where block `k` starts. -/
theorem row_nat {d : BitVec 32} {k : ℕ} (hd : d.toNat = 16 * k) (hk : k < nbN (i 1).val t s e) :
    (rowW i v11 v100 d).toNat = a8N (i 1).val t s + 16 * k := by
  obtain ⟨h1, h2, h3, h4, h5, h6, h7⟩ := hp.facts
  exact rowW_nat hp.h11 hp.ht hp.h100 hp.hs hd (by omega)

include hp in
/-- A block's first row is a multiple of eight. -/
theorem row_dvd {d : BitVec 32} {k : ℕ} (hd : d.toNat = 16 * k) (hk : k < nbN (i 1).val t s e) :
    8 ∣ (rowW i v11 v100 d).toNat := by
  obtain ⟨h1, h2, h3, h4, h5, h6, h7⟩ := hp.facts
  rw [row_nat hp hd hk]; omega

/-- The offset of block `k` in the array of rows. -/
def rowOff (i : grid0.Coords) (a8 k : ℕ) : Fin 2 → ℕ := ![a8 + 16 * k, (i 0).val * 256]

include hp in
/-- Where block `k` lies in the array of rows. -/
theorem row_off {d : BitVec 32} {k : ℕ} (hd : d.toNat = 16 * k) (hk : k < nbN (i 1).val t s e) :
    ![(rowW i v11 v100 d).toNat, (colW i).toNat] = rowOff i (a8N (i 1).val t s) k := by
  rw [row_nat hp hd hk, colW_nat]; rfl

include hp in
/-- Block `k` lies within the array of rows. -/
theorem rowOff_inb {k : ℕ} (hk : k < nbN (i 1).val t s e) :
    ∀ a, rowOff i (a8N (i 1).val t s) k a + S16x256.size a ≤ S32768x512.size a := by
  obtain ⟨h1, h2, h3, h4, h5, h6, h7⟩ := hp.facts
  have := i0_lt i
  intro a
  fin_cases a
  · change a8N (i 1).val t s + 16 * k + 16 ≤ 32768; omega
  · change (i 0).val * 256 + 256 ≤ 512; omega

include hp in
/-- So does the block at the offset that the program computes. -/
theorem row_inb {d : BitVec 32} {k : ℕ} (hd : d.toNat = 16 * k) (hk : k < nbN (i 1).val t s e) :
    ∀ a, ![(rowW i v11 v100 d).toNat, (colW i).toNat] a + S16x256.size a ≤ S32768x512.size a := by
  rw [row_off hp hd hk]; exact rowOff_inb hp hk

/-- Sixteen times the loop variable, as a word. -/
theorem iv16_nat {k : ℕ} (hk : k < 2 ^ 16) : (Scalar.muli (Scf.iv 0#32 1#32 k) 16#32).toNat = 16 * k := by
  rw [muli_nat (b := 16) (iv01_nat k (by omega)) rfl (by omega)]; omega

/-- The number of the block seven ahead, as a word. -/
theorem iv7_nat {k : ℕ} (hk : k < 2 ^ 16) : (Scalar.subi (Scalar.addi (Scf.iv 0#32 1#32 k) 8#32) 1#32).toNat = k + 7 := by
  rw [subi_nat (b := 1) (addi_nat (b := 8) (iv01_nat k (by omega)) rfl (by omega)) rfl (by omega) (by omega)]; omega

/-- The row offset of the block seven ahead, as a word. -/
theorem iv716_nat {k : ℕ} (hk : k < 2 ^ 16) :
    (Scalar.muli (Scalar.subi (Scalar.addi (Scf.iv 0#32 1#32 k) 8#32) 1#32) 16#32).toNat = 16 * (k + 7) := by
  rw [muli_nat (b := 16) (iv7_nat hk) rfl (by omega)]; omega

include hp in
/-- A piece has fewer than 2^15 blocks. -/
theorem nbN_lt : nbN (i 1).val t s e < 2 ^ 15 := by
  obtain ⟨h1, h2, h3, h4, h5, h6, h7⟩ := hp.facts
  omega

include hp in
/-- The guard on trip `k`'s copy: there is a block seven ahead. -/
theorem cond7_iff (k : Fin (k0_t3_loop i v11 v100 v105).trips) :
    k0_cond7 i v11 v100 v105 k = 1#1 ↔ k.val + 7 < nbN (i 1).val t s e := by
  have hn := nbN_lt hp
  have hk : k.val < nbN (i 1).val t s e := (t3_trips hp) ▸ k.isLt
  exact ne0_slt (x := Scalar.subi (Scalar.addi (Scf.iv 0#32 1#32 k) 8#32) 1#32) (y := nbW i v11 v100 v105)
    (iv7_nat (by omega)) (hp.nb) (by omega) (by omega)

include hp in
/-- A trip's number is small. -/
theorem t3_lt (k : Fin (k0_t3_loop i v11 v100 v105).trips) : k.val < 2 ^ 31 := by
  have hn := nbN_lt hp
  have hk : k.val < nbN (i 1).val t s e := (t3_trips hp) ▸ k.isLt
  omega

include hp in
/-- Where trip `k` waits: slot `k % 8`. -/
theorem off24_nat (k : Fin (k0_t3_loop i v11 v100 v105).trips) : k0_off24 i v11 v100 v105 k = ![k.val % 8, 0, 0] := by
  change ![(slotW (Scf.iv 0#32 1#32 k)).toNat, 0, 0] = _
  rw [slotW_nat (iv01_nat k (t3_lt hp k)) (t3_lt hp k)]

include hp in
/-- On which semaphore trip `k` waits: that of slot `k % 8`. -/
theorem off26_nat (k : Fin (k0_t3_loop i v11 v100 v105).trips) : k0_off26 i v11 v100 v105 k = ![k.val % 8] := by
  change ![(slotW (Scf.iv 0#32 1#32 k)).toNat] = _
  rw [slotW_nat (iv01_nat k (t3_lt hp k)) (t3_lt hp k)]

include hp in
/-- A trip's number is less than the number of blocks. -/
theorem t3_lt' (k : Fin (k0_t3_loop i v11 v100 v105).trips) : k.val < 2 ^ 16 ∧ k.val < nbN (i 1).val t s e := by
  have hn := nbN_lt hp
  have hk : k.val < nbN (i 1).val t s e := (t3_trips hp) ▸ k.isLt
  omega

include hp in
/-- From where trip `k`'s awaited copy came: block `k`. -/
theorem off25_nat (k : Fin (k0_t3_loop i v11 v100 v105).trips) :
    k0_off25 i v11 v100 v105 k = rowOff i (a8N (i 1).val t s) k :=
  row_off hp (iv16_nat (t3_lt' hp k).1) (t3_lt' hp k).2

include hp in
/-- Where the copy of the block seven ahead goes: slot `(k + 7) % 8`. -/
theorem off27_nat (k : Fin (k0_t3_loop i v11 v100 v105).trips) : k0_off27 i v11 v100 v105 k = ![(k.val + 7) % 8, 0, 0] := by
  have := t3_lt' hp k
  change ![(slotW (Scalar.subi (Scalar.addi (Scf.iv 0#32 1#32 k) 8#32) 1#32)).toNat, 0, 0] = _
  rw [slotW_nat (iv7_nat this.1) (by omega)]

include hp in
/-- Which semaphore that copy credits: that of slot `(k + 7) % 8`. -/
theorem off29_nat (k : Fin (k0_t3_loop i v11 v100 v105).trips) : k0_off29 i v11 v100 v105 k = ![(k.val + 7) % 8] := by
  have := t3_lt' hp k
  change ![(slotW (Scalar.subi (Scalar.addi (Scf.iv 0#32 1#32 k) 8#32) 1#32)).toNat] = _
  rw [slotW_nat (iv7_nat this.1) (by omega)]

include hp in
/-- From where that copy comes: block `k + 7`. -/
theorem off28_nat (k : Fin (k0_t3_loop i v11 v100 v105).trips) (h7 : k.val + 7 < nbN (i 1).val t s e) :
    k0_off28 i v11 v100 v105 k = rowOff i (a8N (i 1).val t s) (k + 7) :=
  row_off hp (iv716_nat (t3_lt' hp k).1) h7

include hp in
/-- Where a row's lanes from 0 on are loaded from: slot `k % 8`, row `4 * k4 + r`. -/
theorem off30_nat (k : Fin (k0_t3_loop i v11 v100 v105).trips) (k4 : Fin k0_t4_loop.trips) {r : ℕ} (hr : r < 4) :
    k0_off30 i v11 v100 v105 k k4 (BitVec.ofNat 32 r) = ![k.val % 8, 4 * k4.val + r, 0] :=
  blkOff_nat 0 (t3_lt hp k) k4.isLt hr

include hp in
/-- Where a row's lanes from 16 on are loaded from: slot `k % 8`, row `4 * k4 + r`. -/
theorem off31_nat (k : Fin (k0_t3_loop i v11 v100 v105).trips) (k4 : Fin k0_t4_loop.trips) {r : ℕ} (hr : r < 4) :
    k0_off31 i v11 v100 v105 k k4 (BitVec.ofNat 32 r) = ![k.val % 8, 4 * k4.val + r, 16] :=
  blkOff_nat 16 (t3_lt hp k) k4.isLt hr

include hp in
/-- Where a row's lanes from 32 on are loaded from: slot `k % 8`, row `4 * k4 + r`. -/
theorem off32_nat (k : Fin (k0_t3_loop i v11 v100 v105).trips) (k4 : Fin k0_t4_loop.trips) {r : ℕ} (hr : r < 4) :
    k0_off32 i v11 v100 v105 k k4 (BitVec.ofNat 32 r) = ![k.val % 8, 4 * k4.val + r, 32] :=
  blkOff_nat 32 (t3_lt hp k) k4.isLt hr

include hp in
/-- Where a row's lanes from 48 on are loaded from: slot `k % 8`, row `4 * k4 + r`. -/
theorem off33_nat (k : Fin (k0_t3_loop i v11 v100 v105).trips) (k4 : Fin k0_t4_loop.trips) {r : ℕ} (hr : r < 4) :
    k0_off33 i v11 v100 v105 k k4 (BitVec.ofNat 32 r) = ![k.val % 8, 4 * k4.val + r, 48] :=
  blkOff_nat 48 (t3_lt hp k) k4.isLt hr

include hp in
/-- Where a row's lanes from 64 on are loaded from: slot `k % 8`, row `4 * k4 + r`. -/
theorem off34_nat (k : Fin (k0_t3_loop i v11 v100 v105).trips) (k4 : Fin k0_t4_loop.trips) {r : ℕ} (hr : r < 4) :
    k0_off34 i v11 v100 v105 k k4 (BitVec.ofNat 32 r) = ![k.val % 8, 4 * k4.val + r, 64] :=
  blkOff_nat 64 (t3_lt hp k) k4.isLt hr

include hp in
/-- Where a row's lanes from 80 on are loaded from: slot `k % 8`, row `4 * k4 + r`. -/
theorem off35_nat (k : Fin (k0_t3_loop i v11 v100 v105).trips) (k4 : Fin k0_t4_loop.trips) {r : ℕ} (hr : r < 4) :
    k0_off35 i v11 v100 v105 k k4 (BitVec.ofNat 32 r) = ![k.val % 8, 4 * k4.val + r, 80] :=
  blkOff_nat 80 (t3_lt hp k) k4.isLt hr

include hp in
/-- Where a row's lanes from 96 on are loaded from: slot `k % 8`, row `4 * k4 + r`. -/
theorem off36_nat (k : Fin (k0_t3_loop i v11 v100 v105).trips) (k4 : Fin k0_t4_loop.trips) {r : ℕ} (hr : r < 4) :
    k0_off36 i v11 v100 v105 k k4 (BitVec.ofNat 32 r) = ![k.val % 8, 4 * k4.val + r, 96] :=
  blkOff_nat 96 (t3_lt hp k) k4.isLt hr

include hp in
/-- Where a row's lanes from 112 on are loaded from: slot `k % 8`, row `4 * k4 + r`. -/
theorem off37_nat (k : Fin (k0_t3_loop i v11 v100 v105).trips) (k4 : Fin k0_t4_loop.trips) {r : ℕ} (hr : r < 4) :
    k0_off37 i v11 v100 v105 k k4 (BitVec.ofNat 32 r) = ![k.val % 8, 4 * k4.val + r, 112] :=
  blkOff_nat 112 (t3_lt hp k) k4.isLt hr

include hp in
/-- Where a row's lanes from 128 on are loaded from: slot `k % 8`, row `4 * k4 + r`. -/
theorem off38_nat (k : Fin (k0_t3_loop i v11 v100 v105).trips) (k4 : Fin k0_t4_loop.trips) {r : ℕ} (hr : r < 4) :
    k0_off38 i v11 v100 v105 k k4 (BitVec.ofNat 32 r) = ![k.val % 8, 4 * k4.val + r, 128] :=
  blkOff_nat 128 (t3_lt hp k) k4.isLt hr

include hp in
/-- Where a row's lanes from 144 on are loaded from: slot `k % 8`, row `4 * k4 + r`. -/
theorem off39_nat (k : Fin (k0_t3_loop i v11 v100 v105).trips) (k4 : Fin k0_t4_loop.trips) {r : ℕ} (hr : r < 4) :
    k0_off39 i v11 v100 v105 k k4 (BitVec.ofNat 32 r) = ![k.val % 8, 4 * k4.val + r, 144] :=
  blkOff_nat 144 (t3_lt hp k) k4.isLt hr

include hp in
/-- Where a row's lanes from 160 on are loaded from: slot `k % 8`, row `4 * k4 + r`. -/
theorem off40_nat (k : Fin (k0_t3_loop i v11 v100 v105).trips) (k4 : Fin k0_t4_loop.trips) {r : ℕ} (hr : r < 4) :
    k0_off40 i v11 v100 v105 k k4 (BitVec.ofNat 32 r) = ![k.val % 8, 4 * k4.val + r, 160] :=
  blkOff_nat 160 (t3_lt hp k) k4.isLt hr

include hp in
/-- Where a row's lanes from 176 on are loaded from: slot `k % 8`, row `4 * k4 + r`. -/
theorem off41_nat (k : Fin (k0_t3_loop i v11 v100 v105).trips) (k4 : Fin k0_t4_loop.trips) {r : ℕ} (hr : r < 4) :
    k0_off41 i v11 v100 v105 k k4 (BitVec.ofNat 32 r) = ![k.val % 8, 4 * k4.val + r, 176] :=
  blkOff_nat 176 (t3_lt hp k) k4.isLt hr

include hp in
/-- Where a row's lanes from 192 on are loaded from: slot `k % 8`, row `4 * k4 + r`. -/
theorem off42_nat (k : Fin (k0_t3_loop i v11 v100 v105).trips) (k4 : Fin k0_t4_loop.trips) {r : ℕ} (hr : r < 4) :
    k0_off42 i v11 v100 v105 k k4 (BitVec.ofNat 32 r) = ![k.val % 8, 4 * k4.val + r, 192] :=
  blkOff_nat 192 (t3_lt hp k) k4.isLt hr

include hp in
/-- Where a row's lanes from 208 on are loaded from: slot `k % 8`, row `4 * k4 + r`. -/
theorem off43_nat (k : Fin (k0_t3_loop i v11 v100 v105).trips) (k4 : Fin k0_t4_loop.trips) {r : ℕ} (hr : r < 4) :
    k0_off43 i v11 v100 v105 k k4 (BitVec.ofNat 32 r) = ![k.val % 8, 4 * k4.val + r, 208] :=
  blkOff_nat 208 (t3_lt hp k) k4.isLt hr

include hp in
/-- Where a row's lanes from 224 on are loaded from: slot `k % 8`, row `4 * k4 + r`. -/
theorem off44_nat (k : Fin (k0_t3_loop i v11 v100 v105).trips) (k4 : Fin k0_t4_loop.trips) {r : ℕ} (hr : r < 4) :
    k0_off44 i v11 v100 v105 k k4 (BitVec.ofNat 32 r) = ![k.val % 8, 4 * k4.val + r, 224] :=
  blkOff_nat 224 (t3_lt hp k) k4.isLt hr

include hp in
/-- Where a row's lanes from 240 on are loaded from: slot `k % 8`, row `4 * k4 + r`. -/
theorem off45_nat (k : Fin (k0_t3_loop i v11 v100 v105).trips) (k4 : Fin k0_t4_loop.trips) {r : ℕ} (hr : r < 4) :
    k0_off45 i v11 v100 v105 k k4 (BitVec.ofNat 32 r) = ![k.val % 8, 4 * k4.val + r, 240] :=
  blkOff_nat 240 (t3_lt hp k) k4.isLt hr

/-- A slot lies within the ring. -/
theorem inb_slot {k : ℕ} : ∀ a, (![k % 8, 0, 0] : Fin 3 → ℕ) a + S1x16x256.size a ≤ S8x16x256.size a := by
  intro a
  fin_cases a
  · change k % 8 + 1 ≤ 8; omega
  · exact le_refl _
  · exact le_refl _

/-- A slot's semaphore is one of the eight. -/
theorem inb_sem {k : ℕ} : ∀ a, (![k % 8] : Fin 1 → ℕ) a + S1.size a ≤ S8.size a := by
  intro a
  fin_cases a
  change k % 8 + 1 ≤ 8; omega

/-- Sixteen lanes of a slot's row lie within the ring. -/
theorem inb_lane {k k4 r j : ℕ} (h4 : k4 < 4) (hr : r < 4) (hj : j + 16 ≤ 256) :
    ∀ a, (![k % 8, 4 * k4 + r, j] : Fin 3 → ℕ) a + S1x1x16.size a ≤ S8x16x256.size a := by
  intro a
  fin_cases a
  · change k % 8 + 1 ≤ 8; omega
  · change 4 * k4 + r + 1 ≤ 16; omega
  · exact hj

include hp in
/-- The side condition on a piece's first copy. -/
theorem chk2 : k0_chk2 i v11 v100 := by
  obtain ⟨-, -, -, -, h5, -⟩ := hp.facts
  exact ⟨row_dvd hp (d := 0#32) (k := 0) rfl h5,
    row_inb hp (d := 0#32) (k := 0) rfl h5⟩

/-- The remainder loop over the blocks makes no trip. -/
theorem t5_no (k : Fin (k0_t5_loop i v11 v100 v105).trips) : False :=
  Scf.rem_no_trip 0#32 (Scalar.subi (nbW i v11 v100 v105) 0#32) k

include hp in
/-- The side conditions on a piece's copies and loads. -/
theorem chk3 : k0_chk3 i v11 v100 v105 := by
  have hn := nbN_lt hp
  have hu := t3_ub hp
  have hl := fun k => t3_lt' hp k
  have h7 := fun k => (cond7_iff hp k).1
  refine ⟨⟨?_, ?_, ?_, ?_, ?_, ?_, ?_, ?_, ?_, ?_, ?_, ?_,
    ok_nat (a := 0) rfl hu (by decide) (by omega),
    ?_, ?_, ?_, ?_, ?_, ?_, ?_, ?_, ?_, ?_, ?_, ?_, ?_, ?_, ?_, ?_, ?_, ?_, ?_⟩, ⟨?_, ?_, ?_, ?_, ?_, ?_, ?_, ?_⟩⟩
  · exact fun h => row_dvd hp (d := 16#32) (k := 1) rfl ((cond1_iff hp).1 h)
  · exact fun h => row_inb hp (d := 16#32) (k := 1) rfl ((cond1_iff hp).1 h)
  · exact fun h => row_dvd hp (d := 32#32) (k := 2) rfl ((cond2_iff hp).1 h)
  · exact fun h => row_inb hp (d := 32#32) (k := 2) rfl ((cond2_iff hp).1 h)
  · exact fun h => row_dvd hp (d := 48#32) (k := 3) rfl ((cond3_iff hp).1 h)
  · exact fun h => row_inb hp (d := 48#32) (k := 3) rfl ((cond3_iff hp).1 h)
  · exact fun h => row_dvd hp (d := 64#32) (k := 4) rfl ((cond4_iff hp).1 h)
  · exact fun h => row_inb hp (d := 64#32) (k := 4) rfl ((cond4_iff hp).1 h)
  · exact fun h => row_dvd hp (d := 80#32) (k := 5) rfl ((cond5_iff hp).1 h)
  · exact fun h => row_inb hp (d := 80#32) (k := 5) rfl ((cond5_iff hp).1 h)
  · exact fun h => row_dvd hp (d := 96#32) (k := 6) rfl ((cond6_iff hp).1 h)
  · exact fun h => row_inb hp (d := 96#32) (k := 6) rfl ((cond6_iff hp).1 h)
  · exact fun k => row_dvd hp (iv16_nat (hl k).1) (hl k).2
  · intro k; rw [off24_nat hp]; exact inb_slot
  · exact fun k => row_inb hp (iv16_nat (hl k).1) (hl k).2
  · intro k; rw [off26_nat hp]; exact inb_sem
  · exact fun k h => row_dvd hp (iv716_nat (hl k).1) (h7 k h)
  · intro k h; rw [off27_nat hp]; exact inb_slot
  · exact fun k h => row_inb hp (iv716_nat (hl k).1) (h7 k h)
  · intro k h; rw [off29_nat hp]; exact inb_sem
  · exact fun k => row_dvd hp (iv16_nat (hl k).1) (hl k).2
  · intro k k4 r; rw [off30_nat hp k k4 r.isLt]; exact inb_lane k4.isLt r.isLt (by decide)
  · intro k k4 r; rw [off31_nat hp k k4 r.isLt]; exact inb_lane k4.isLt r.isLt (by decide)
  · intro k k4 r; rw [off32_nat hp k k4 r.isLt]; exact inb_lane k4.isLt r.isLt (by decide)
  · intro k k4 r; rw [off33_nat hp k k4 r.isLt]; exact inb_lane k4.isLt r.isLt (by decide)
  · intro k k4 r; rw [off34_nat hp k k4 r.isLt]; exact inb_lane k4.isLt r.isLt (by decide)
  · intro k k4 r; rw [off35_nat hp k k4 r.isLt]; exact inb_lane k4.isLt r.isLt (by decide)
  · intro k k4 r; rw [off36_nat hp k k4 r.isLt]; exact inb_lane k4.isLt r.isLt (by decide)
  · intro k k4 r; rw [off37_nat hp k k4 r.isLt]; exact inb_lane k4.isLt r.isLt (by decide)
  · intro k k4 r; rw [off38_nat hp k k4 r.isLt]; exact inb_lane k4.isLt r.isLt (by decide)
  · intro k k4 r; rw [off39_nat hp k k4 r.isLt]; exact inb_lane k4.isLt r.isLt (by decide)
  · intro k k4 r; rw [off40_nat hp k k4 r.isLt]; exact inb_lane k4.isLt r.isLt (by decide)
  · intro k k4 r; rw [off41_nat hp k k4 r.isLt]; exact inb_lane k4.isLt r.isLt (by decide)
  · intro k k4 r; rw [off42_nat hp k k4 r.isLt]; exact inb_lane k4.isLt r.isLt (by decide)
  · intro k k4 r; rw [off43_nat hp k k4 r.isLt]; exact inb_lane k4.isLt r.isLt (by decide)
  · intro k k4 r; rw [off44_nat hp k k4 r.isLt]; exact inb_lane k4.isLt r.isLt (by decide)
  · intro k k4 r; rw [off45_nat hp k k4 r.isLt]; exact inb_lane k4.isLt r.isLt (by decide)
  · exact Scf.rem_ok 0#32 (Scalar.subi (nbW i v11 v100 v105) 0#32)
  · refine ⟨?_, ?_, ?_, ?_, ?_, ?_, ?_, ?_, ?_, ?_, ?_, ?_, ?_, ?_, ?_, ?_, ?_, ?_, ?_, ?_, ?_, ?_, ?_, ?_, ?_⟩ <;> exact fun k => (t5_no k).elim

end Cert.KernelIdeal.DMax
-- ==== Proof.Sizes.lean ====
module

public import proofs.«01_k».proof.Proof.Words
public import proofs.«01_k».proof.Proof.Gen.KernelIdeal.Skeleton

/-! # The segments a tile visits

From the sixteen sizes: the running sums the kernel takes them to, the total, the first segment of a tile and one past
its last, and that a visited segment has a row in the tile's range. -/

@[expose] public section

namespace Cert.KernelIdeal.DMax

open Idealize.ShloMosaic Idealize.ShloMosaic.WordArith Cert.KernelIdeal Cert.KernelIdeal.Gen

/-- Lane `k` of a vector of sixteen. -/
abbrev lane (k : Fin 16) : S16.Idx := Shape.ofLane k

/-- The sum of the first `n` of `z`. -/
def cum (z : ℕ → ℕ) (n : ℕ) : ℕ := ∑ k ∈ Finset.range n, z k

/-- One more number added to the sum of the first `n`. -/
theorem cum_succ (z : ℕ → ℕ) (n : ℕ) : cum z (n + 1) = cum z n + z n := Finset.sum_range_succ _ _

/-- The sums of the first numbers do not fall. -/
theorem cum_mono (z : ℕ → ℕ) {m n : ℕ} (h : m ≤ n) : cum z m ≤ cum z n :=
  Finset.sum_le_sum_of_subset (Finset.range_mono h)

/-- Numbers that are at most `c` sum to at most `n` times `c`. -/
theorem cum_le {z : ℕ → ℕ} {c : ℕ} {n : ℕ} (h : ∀ k < n, z k ≤ c) : cum z n ≤ n * c := by
  induction n with
  | zero => simp [cum]
  | succ n ih =>
    rw [cum_succ, Nat.succ_mul]
    exact Nat.add_le_add (ih fun k hk => h k (by omega)) (h n (by omega))

/-- A running sum, one lane on. -/
theorem scan_succ (v : IVec S16 32) (j : Fin 15) :
    scan .sum v (lane j.succ) = scan .sum v (lane j.castSucc) + v (lane j.succ) := by
  fin_cases j <;> rfl

/-- The running sums of small words, as natural numbers. -/
theorem scan_nat {v : IVec S16 32} {z : ℕ → ℕ} (hv : ∀ k : Fin 16, (v (lane k)).toNat = z k) (hz : cum z 16 < 2 ^ 31)
    (k : Fin 16) : (scan .sum v (lane k)).toNat = cum z (k + 1) := by
  obtain ⟨n, hn⟩ := k
  induction n with
  | zero =>
    have e : scan .sum v (lane ⟨0, hn⟩) = v (lane 0) := rfl
    rw [e, hv 0, cum_succ]
    simp [cum]
  | succ n ih =>
    have e := scan_succ v ⟨n, by omega⟩
    have e' : scan .sum v (lane ⟨n + 1, hn⟩) = scan .sum v (lane ⟨n, by omega⟩) + v (lane ⟨n + 1, hn⟩) := e
    have hm := cum_mono z (show n + 1 + 1 ≤ 16 by omega)
    have hc := cum_succ z (n + 1)
    rw [e', BitVec.toNat_add, ih (by omega), hv ⟨n + 1, hn⟩]
    simp only at *
    omega

/-- The last lane of the running sums of the vector that is `x` at lane `s` and zero elsewhere. -/
theorem pick_nat {v : IVec S16 32} {x s : ℕ} (hs : s < 16) (hv : ∀ k : Fin 16, (v (lane k)).toNat = if k.val = s then x else 0)
    (hx : x < 2 ^ 31) : (scan .sum v (lane 15)).toNat = x := by
  have hc : cum (fun k => if k = s then x else 0) 16 = x := by
    unfold cum
    rw [Finset.sum_ite_eq' (Finset.range 16) s, if_pos (Finset.mem_range.2 hs)]
  rw [scan_nat (z := fun k => if k = s then x else 0) hv (by omega)]
  exact hc

/-- How many of the first `n` numbers satisfy `p`. -/
def cnt (p : ℕ → Prop) [DecidablePred p] (n : ℕ) : ℕ := cum (fun k => if p k then 1 else 0) n

/-- If `p` holds of an initial segment of the numbers, those before the count are the ones that satisfy it. -/
theorem cnt_facts (p : ℕ → Prop) [DecidablePred p] (hp : ∀ k, p (k + 1) → p k) (n : ℕ) :
    cnt p n ≤ n ∧ ∀ s < n, (s < cnt p n ↔ p s) := by
  have hmono : ∀ m k, m ≤ k → p k → p m := by
    intro m k hmk
    induction hmk with
    | refl => exact id
    | step _ ih => exact fun h => ih (hp _ h)
  induction n with
  | zero => exact ⟨by simp [cnt, cum], fun s hs => by omega⟩
  | succ n ih =>
    have e : cnt p (n + 1) = cnt p n + if p n then 1 else 0 := cum_succ _ n
    obtain ⟨h1, h2⟩ := ih
    by_cases hn : p n
    · have hall : cnt p n = n := by
        by_contra hne
        have := (h2 (cnt p n) (by omega)).2 (hmono _ n (by omega) hn)
        omega
      rw [e, if_pos hn, hall]
      exact ⟨le_refl _, fun s hs => ⟨fun _ => hmono s n (by omega) hn, fun _ => hs⟩⟩
    · rw [e, if_neg hn]
      refine ⟨by omega, fun s hs => ?_⟩
      by_cases hsn : s = n
      · subst hsn; exact ⟨fun h => absurd h (by omega), fun h => absurd h hn⟩
      · exact h2 s (by omega)

/-! ## The kernel's words -/

/-- The sizes of the segments. -/
def szN (v0 : IVec S16 32) (k : ℕ) : ℕ := if h : k < 16 then (v0 (lane ⟨k, h⟩)).toNat else 0

/-- A size's word is the size. -/
theorem szN_lane (v0 : IVec S16 32) (k : Fin 16) : (v0 (lane k)).toNat = szN v0 k := by
  unfold szN; rw [dif_pos k.isLt]

/-- The sizes as the input is drawn: at least one row and fewer than 2048 in each segment. -/
def SizesOk (v0 : IVec S16 32) : Prop := ∀ k : Fin 16, 1 ≤ (v0 (lane k)).toNat ∧ (v0 (lane k)).toNat ≤ 2047

variable {F : FTy → Type} [FloatOps F]
variable {v0 : Vec F S16 .i32} (hz : SizesOk v0)

include hz in
/-- Every size is from 1 to 2047. -/
theorem szN_pos {k : ℕ} (hk : k < 16) : 1 ≤ szN v0 k ∧ szN v0 k ≤ 2047 := by
  have := hz ⟨k, hk⟩
  rw [szN_lane v0] at this
  exact this

/-- The number of rows in use. -/
def totN (v0 : IVec S16 32) : ℕ := cum (szN v0) 16

include hz in
/-- The sizes sum to at most 32752. -/
theorem totN_le : totN v0 ≤ 32752 := cum_le (n := 16) (c := 2047) fun k hk => (szN_pos hz hk).2

include hz in
/-- So do the first `n` of them. -/
theorem cum_le_tot {n : ℕ} (hn : n ≤ 16) : cum (szN v0) n ≤ 32752 := (cum_mono _ hn).trans (totN_le hz)

include hz in
/-- The ends of the segments. -/
theorem ends_nat (k : Fin 16) : (k0_pay296 v0 (lane k)).toNat = cum (szN v0) (k + 1) :=
  scan_nat (szN_lane v0) (by have := totN_le hz; unfold totN at this; omega) k

include hz in
/-- The starts of the segments. -/
theorem starts_nat (k : Fin 16) : (k0_pay297 v0 (lane k)).toNat = cum (szN v0) k := by
  have h := cum_succ (szN v0) k
  have hb := cum_le_tot hz (n := k + 1) (by omega)
  have e : (k0_pay297 v0 (lane k)).toNat = cum (szN v0) (k + 1) - szN v0 k :=
    subi_nat (x := k0_pay296 v0 (lane k)) (y := v0 (lane k)) (ends_nat hz k) (szN_lane v0 k) (by omega) (by omega)
  rw [e]; omega

/-- The lane numbers. -/
abbrev iotaW : IVec S16 32 := iota .scVector S16 32 [0] iota_S16_d0_w32_scVector

/-- The lane numbers. -/
theorem iotaW_lane (k : Fin 16) : iotaW (lane k) = BitVec.ofNat 32 k := by
  fin_cases k <;> rfl

/-- Words are equal when the numbers they stand for are. -/
theorem eq_nat {x y : BitVec 32} {a b : ℕ} (hx : x.toNat = a) (hy : y.toNat = b) :
    IntOp.cmpi .eq x y = BitVec.ofBool (decide (a = b)) := by
  change BitVec.ofBool (x == y) = _
  congr 1
  rw [Bool.eq_iff_iff]
  simp only [beq_iff_eq, decide_eq_true_eq]
  rw [← hx, ← hy]
  exact BitVec.toNat_inj.symm

/-- The vector that keeps lane `s` of `x` and is zero elsewhere. -/
theorem keep_nat {x : IVec S16 32} {sw : BitVec 32} {s : ℕ} (hsw : sw.toNat = s) (k : Fin 16) :
    (select (cmpi .eq iotaW (broadcast S16 sw)) x (broadcast S16 0#32) (lane k)).toNat
      = if k.val = s then (x (lane k)).toNat else 0 := by
  change (Scalar.select (IntOp.cmpi .eq (iotaW (lane k)) sw) (x (lane k)) 0#32).toNat = _
  rw [eq_nat (a := k.val) (by rw [iotaW_lane]; exact toNat_ofNat_of_lt _ (by omega)) hsw]
  by_cases h : k.val = s
  · rw [if_pos h, decide_eq_true h]; rfl
  · rw [if_neg h, decide_eq_false h]; rfl

/-- The sum over the lanes that were masked to lane `s` is that lane's number. -/
theorem picked_nat {x : IVec S16 32} {sw : BitVec 32} {s n : ℕ} (hsw : sw.toNat = s) (hs : s < 16)
    (hx : (x (lane ⟨s, hs⟩)).toNat = n) (hn : n < 2 ^ 31) :
    (scan .sum (select (cmpi .eq iotaW (broadcast S16 sw)) x (broadcast S16 0#32)) (lane 15)).toNat = n := by
  refine pick_nat hs (fun k => ?_) hn
  rw [keep_nat hsw k]
  by_cases h : k.val = s
  · rw [if_pos h, if_pos h, ← hx]; congr 2; exact congrArg lane (Fin.ext h)
  · rw [if_neg h, if_neg h]

/-- The total, as the kernel reads it. -/
noncomputable abbrev v11W (v0 : Vec F S16 .i32) : BitVec 32 := extractAt ![15] (k0_pay298 v0) inpos_S16_p15

/-- The extracted element is the last lane. -/
theorem extract15 (v : IVec S16 32) : extractAt ![15] v inpos_S16_p15 = v (lane 15) := by
  unfold extractAt
  congr 1
  funext a
  fin_cases a
  rfl

include hz in
/-- The word of the sizes' sum. -/
theorem v11_nat : (v11W v0).toNat = totN v0 := by
  unfold v11W
  rw [extract15]
  exact picked_nat (x := k0_pay296 v0) (sw := 15#32) (s := 15) rfl (by decide) (ends_nat hz 15)
    (by have := totN_le hz; unfold totN at this; change cum (szN v0) 16 < _; omega)

/-- The first segment with a row at or past `lo`. -/
def sLo (z : ℕ → ℕ) (lo : ℕ) : ℕ := cnt (fun k => cum z (k + 1) ≤ lo) 16
/-- One past the last segment with a row before `hi`. -/
def sHi (z : ℕ → ℕ) (hi : ℕ) : ℕ := cnt (fun k => cum z k < hi) 16

/-- There are at most sixteen segments that end at or before `lo`, and they are the first ones. -/
theorem sLo_facts (z : ℕ → ℕ) (lo : ℕ) : sLo z lo ≤ 16 ∧ ∀ s < 16, (s < sLo z lo ↔ cum z (s + 1) ≤ lo) :=
  cnt_facts _ (fun k h => (cum_mono z (by omega)).trans h) 16
/-- There are at most sixteen segments that start before `hi`, and they are the first ones. -/
theorem sHi_facts (z : ℕ → ℕ) (hi : ℕ) : sHi z hi ≤ 16 ∧ ∀ s < 16, (s < sHi z hi ↔ cum z s < hi) :=
  cnt_facts _ (fun k h => lt_of_le_of_lt (cum_mono z (by omega)) h) 16

/-- A bit as a word is 0 or 1. -/
theorem bit_nat (b : Bool) : ((BitVec.ofBool b).setWidth 32).toNat = if b then 1 else 0 := by
  cases b <;> rfl

include hz in
/-- The word the kernel computes for a tile's first segment is the number of segments that end at or before `lo`. -/
theorem v43_nat {lw : BitVec 32} {lo : ℕ} (hl : lw.toNat = lo) (hlo : lo < 2 ^ 31) :
    (extractAt ![15] (k0_pay306 (k0_pay296 v0) lw) inpos_S16_p15).toNat = sLo (szN v0) lo := by
  rw [extract15]
  refine scan_nat (v := extui 32 (cmpi .sle (k0_pay296 v0) (broadcast S16 lw)) natLt_1_32)
    (z := fun k => if cum (szN v0) (k + 1) ≤ lo then 1 else 0) (fun k => ?_) ?_ 15
  swap
  · have : cum (fun k => if cum (szN v0) (k + 1) ≤ lo then 1 else 0) 16 ≤ 16 := (sLo_facts (szN v0) lo).1
    change cum (fun k => if cum (szN v0) (k + 1) ≤ lo then 1 else 0) 16 < _
    omega
  have := cum_le_tot hz (n := k + 1) (by omega)
  change ((BitVec.ofBool (BitVec.sle (k0_pay296 v0 (lane k)) lw)).setWidth 32).toNat = _
  rw [sle_nat (ends_nat hz k) hl (by omega) hlo, bit_nat]
  simp only [decide_eq_true_eq]

include hz in
/-- The word the kernel computes for one past a tile's last segment is the number of segments that start before `hi`. -/
theorem v49_nat {hw : BitVec 32} {hi : ℕ} (hh : hw.toNat = hi) (hhi : hi < 2 ^ 31) :
    (extractAt ![15] (k0_pay307 (k0_pay297 v0) hw) inpos_S16_p15).toNat = sHi (szN v0) hi := by
  rw [extract15]
  refine scan_nat (v := extui 32 (cmpi .slt (k0_pay297 v0) (broadcast S16 hw)) natLt_1_32)
    (z := fun k => if cum (szN v0) k < hi then 1 else 0) (fun k => ?_) ?_ 15
  swap
  · have : cum (fun k => if cum (szN v0) k < hi then 1 else 0) 16 ≤ 16 := (sHi_facts (szN v0) hi).1
    change cum (fun k => if cum (szN v0) k < hi then 1 else 0) 16 < _
    omega
  have := cum_le_tot hz (n := k) (by omega)
  change ((BitVec.ofBool (BitVec.slt (k0_pay297 v0 (lane k)) hw)).setWidth 32).toNat = _
  rw [slt_nat (starts_nat hz k) hh (by omega) hhi, bit_nat]
  simp only [decide_eq_true_eq]

include hz in
/-- A visited segment has a row in the tile's range; the visited segments are an interval of the sixteen. -/
theorem visit_facts {w : ℕ} :
    sLo (szN v0) (loN w (totN v0)) ≤ sHi (szN v0) (hiN w (totN v0)) ∧ sHi (szN v0) (hiN w (totN v0)) ≤ 16 ∧
    ∀ s, sLo (szN v0) (loN w (totN v0)) ≤ s → s < sHi (szN v0) (hiN w (totN v0)) →
      aN w (totN v0) (cum (szN v0) s) < bN w (totN v0) (cum (szN v0) (s + 1)) := by
  obtain ⟨hl, hl'⟩ := sLo_facts (szN v0) (loN w (totN v0))
  obtain ⟨hh, hh'⟩ := sHi_facts (szN v0) (hiN w (totN v0))
  generalize hL : sLo (szN v0) (loN w (totN v0)) = L at *
  generalize hH : sHi (szN v0) (hiN w (totN v0)) = H at *
  have key : ∀ s < 16, loN w (totN v0) < cum (szN v0) (s + 1) → loN w (totN v0) < hiN w (totN v0) := by
    intro s hs h
    have := cum_mono (szN v0) (show s + 1 ≤ 16 by omega)
    have e : totN v0 = cum (szN v0) 16 := rfl
    have hq : 0 < qN (totN v0) := by unfold qN; omega
    unfold hiN; omega
  refine ⟨?_, hh, ?_⟩
  · by_contra hc
    have hH16 : H < 16 := by omega
    have h1 : ¬ cum (szN v0) H < hiN w (totN v0) := fun h => absurd ((hh' H hH16).2 h) (by omega)
    have h2 := (hl' H hH16).1 (by omega)
    have h3 := cum_succ (szN v0) H
    have h4 := (szN_pos hz hH16).1
    have h5 : hiN w (totN v0) ≤ loN w (totN v0) := by omega
    have h6 := cum_mono (szN v0) (show H + 1 ≤ 16 by omega)
    have e : totN v0 = cum (szN v0) 16 := rfl
    unfold hiN at h1 h5
    omega
  · intro s hs hs'
    have hs16 : s < 16 := by omega
    have h1 := (hh' s hs16).1 hs'
    have h2 : ¬ cum (szN v0) (s + 1) ≤ loN w (totN v0) := fun h => absurd ((hl' s hs16).2 h) (by omega)
    have h3 := cum_succ (szN v0) s
    have h4 := (szN_pos hz hs16).1
    have h5 := key s hs16 (by omega)
    unfold aN bN
    omega

end Cert.KernelIdeal.DMax
-- ==== Proof.Pre.lean ====
module

public import proofs.«01_k».proof.Proof.Sizes
public import proofs.«01_k».proof.Proof.Gen.Pre_sizes_drawn
public import Idealize.ShloMosaic.Lib.ReduceAll

/-!
  The stated precondition gives what the run needs of the sizes: each is between 1 and 2047.
-/

@[expose] public section

noncomputable section

namespace Cert.KernelIdeal.DMax

open Cert.KernelIdeal Cert.KernelIdeal.Gen
open Idealize.ShloMosaic Idealize.ShloMosaic.WordArith

variable {F : FTy → Type} [FloatOps F]

/-- A word that is at least 1 and less than 2048, both compared with sign, is one of 1 … 2047. -/
theorem word_drawn (v : BitVec 32) (h : IntOp.andi (IntOp.cmpi .sge v 1#32) (IntOp.cmpi .slt v 2048#32) = 1#1) :
    1 ≤ v.toNat ∧ v.toNat ≤ 2047 := by
  have e : ∀ p q : Bool, IntOp.andi (BitVec.ofBool p) (BitVec.ofBool q) = 1#1 → p = true ∧ q = true := by decide
  obtain ⟨h1, h2⟩ := e _ _ h
  have h1 : (1#32).sle v = true := h1
  have h2 : v.slt 2048#32 = true := h2
  rw [BitVec.sle_iff_toInt_le] at h1
  rw [BitVec.slt_iff_toInt_lt] at h2
  have e1 : (1#32).toInt = 1 := by decide
  have e2 : (2048#32).toInt = 2048 := by decide
  have := v.isLt
  rw [e1] at h1; rw [e2] at h2
  rw [BitVec.toInt_eq_toNat_cond] at h1 h2
  split at h1 <;> omega

/-- The precondition, all ones, gives every size between 1 and 2047. -/
theorem sizesOk_of_pre (X : FVec F Cert.Pre_sizes_drawn.S32768x512 .f32) (v0 : IVec Cert.Pre_sizes_drawn.S16 32)
    (h : @Cert.Pre_sizes_drawn.fn Cert.Pre_sizes_drawn.Gen.facts F _ X v0 = fun _ => 1#1) : SizesOk v0 := by
  intro k
  haveI := Cert.Pre_sizes_drawn.Gen.facts
  haveI : Subsingleton Cert.Pre_sizes_drawn.S_.Idx := ⟨fun a b => funext fun i => i.elim0⟩
  have e := congrFun h (fun i => i.elim0)
  exact word_drawn _ (Host.reduce_andi_all _ _ _ _ _ e (lane k))

end Cert.KernelIdeal.DMax
end
-- ==== Proof.Base.lean ====
module

public import proofs.«01_k».proof.Proof.Sizes
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import Idealize.ShloMosaic.Lib.Pipeline.Value

/-!
  The setting of the kernel's proof: the program as the launch theorem sees it, the resource algebra, the arrays and
  scratch buffers by name, and the values the kernel computes as functions of its two inputs, over any float family.
-/

@[expose] public section

noncomputable section

namespace Cert.KernelIdeal.DMax

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program with its pipelines, of which there is none. -/
abbrev ΛP : Labels := Pipeline.Sig Λ₀ (Fin 0) fun p => (pcfgs (F := F) p).Adm
/-- The program's SparseCore configuration. -/
abbrev K : SparseCore.Cfg τ sig (ΛP (F := F)) 1 := sc (F := F)
/-- The call runs on sixteen subcores of a SparseCore. -/
theorem nSub_zero : (K (F := F)).nSub 0 = 16 := rfl
/-- The SparseCore of the call's core number `c`. -/
abbrev coreOf (c : Fin ((K (F := F)).nCore 0)) : Fin τ.nSC := (K (F := F)).core 0 c
/-- The definitions of the program. -/
abbrev D [FloatOps F] : Defs nD τ sig (Elt F) (ΛP (F := F)) := Pipeline.defs pcfgs defs₀
/-- The variants of the bodies' loops: none. -/
abbrev 𝒱₀ : Variants := Variants.none
/-- The variants of the whole program. -/
abbrev 𝒱 : Variants := 𝒱₀.lift
/-- The variant that a thread starts at. -/
abbrev v₀ : 𝒱.V := Sum.inl none

/-! ## The resource algebra: the handshakes' rounds, the barrier cells', the transfers' counters -/

/-- The rounds of the handshakes between the cores. -/
abbrev UH : Type := URounds (GSem nD τ sig) ℕ
/-- The rounds of the barrier cells. -/
abbrev UB : Type := URounds (GSem nD τ sig) ℕ
/-- All of the proof's ghost state: handshakes, barrier cells, transfers' counters. -/
abbrev UU : Type := UH × (UB × Counters)

/-- The resources the proof's assertions speak of. -/
abbrev MM (F : FTy → Type) := MT nD τ sig (HIx 1) (Elt F) ℕ UU ℕ

local notation "𝕄" => MT nD τ sig (HIx 1) (Elt F) ℕ UU ℕ

/-- Where the handshakes' rounds lie in it. -/
abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
/-- The barrier cells' rounds lie in the proof's own part of the resources. -/
instance EB_landsIn : (EB : Emb UB 𝕄).LandsIn (upEmb : UEmb _ 𝕄) := by unfold EB; infer_instance

/-! ## The tile's thread, arrays and scratch buffers -/

/-- The tile's SparseCore. -/
abbrev cV (i : grid0.Coords) : Fin τ.nSC := (i 0).castLE hcore0
/-- The tile's subcore. -/
abbrev jV (i : grid0.Coords) : Fin τ.nSub := (i 1).castLE hsub0
/-- The thread of the tile with coordinates `i`. -/
abbrev th (d : Dev nD) (i : grid0.Coords) : Thread nD τ := V d (cV i) (jV i)

/-- The table of rows. -/
abbrev aX : Memref sig .scVector .hbm S32768x512 .f32 := Memref.whole main_arg0_scv
/-- The sizes. -/
abbrev aSz : Memref sig .scVector .hbm S16 .i32 := Memref.whole main_arg1_scv
/-- The tiles' result. -/
abbrev aOut : Memref sig .scVector .hbm S8192 .f32 := Memref.whole main_v0_scv
/-- The tile's copy of the sizes. -/
abbrev bSz : Memref sig .scVector .vmem S16 .i32 := Memref.whole cc0_scratch0
/-- The tile's ring of eight buffers. -/
abbrev bBuf : Memref sig .scVector .vmem S8x16x256 .f32 := Memref.whole cc0_scratch1
/-- The tile's table of partial maxima. -/
abbrev bPart : Memref sig .scVector .vmem S16x256 .f32 := Memref.whole cc0_scratch2
/-- The tile's table of the rows it merges. -/
abbrev bMrg : Memref sig .scVector .vmem S16x256 .f32 := Memref.whole cc0_scratch3
/-- The tile's result row. -/
abbrev bRes : Memref sig .scVector .vmem S256 .f32 := Memref.whole cc0_scratch4
/-- The SparseCore's shared memory. -/
abbrev bSh : Memref sig .scVector .shared S2x16x16x256 .f32 := Memref.whole cc0_scratch6

variable [FloatOps F]

/-! ## Values -/

/-- The least value: what a maximum starts from. -/
abbrev ninf : F .f32 := Scalar.ofBits .f32 0xFF800000#32

/-- The index of row `g`, column `c` of the table. -/
def ix2 (g c : ℕ) : S32768x512.Idx := fun a => match a with
  | 0 => ⟨g % 32768, Nat.mod_lt _ (by decide)⟩
  | 1 => ⟨c % 512, Nat.mod_lt _ (by decide)⟩

/-- The table's entry at row `g`, column `c`. -/
def xAt (X : S32768x512.Idx → F .f32) (g c : ℕ) : F .f32 := X (ix2 g c)

/-- The maximum, in row order, of column `c` over `n` rows from `g0` on, a row outside `[a, b)` counting as the least value. -/
def rowMax (X : S32768x512.Idx → F .f32) (a b c g0 : ℕ) : ℕ → F .f32
  | 0 => ninf
  | n + 1 => FloatOps.maximumf (rowMax X a b c g0 n) (if a ≤ g0 + n ∧ g0 + n < b then xAt X (g0 + n) c else ninf)

/-- `rowMax` at the sixteen columns from `c` on. -/
def accV (X : S32768x512.Idx → F .f32) (a b c g0 n : ℕ) : FVec F S16 .f32 := fun l => rowMax X a b (c + (l 0).val) g0 n

/-- Sixteen columns, from `c` on, of the table's row `g`. -/
def rowV (X : S32768x512.Idx → F .f32) (g c : ℕ) : FVec F S16 .f32 := fun l => xAt X g (c + (l 0).val)

/-- A row of sixteen as a load of a block's row answers it. -/
def ld1 (v : FVec F S16 .f32) : Vec F S1x1x16 .f32 := fun y => v (fun a => match a with | 0 => ⟨(y 2).val, (y 2).isLt⟩)

/-- The loaded row, with its leading axes dropped, is the row. -/
theorem shapeCast_ld1 (v : FVec F S16 .f32) (h : S1x1x16.ShapeCasts S16) : shapeCast S16 (ld1 v) h = v := by
  funext l
  have hl := (l 0).isLt
  rw [Idealize.ShloMosaic.shapeCast_apply (ld1 v) h l (fun a => match a with | 0 => ⟨0, by decide⟩ | 1 => ⟨0, by decide⟩ | 2 => ⟨(l 0).val, hl⟩)
    (by rw [Shape.rowMajor_val_one, Shape.rowMajor_val_three]; simp)]
  unfold ld1
  congr 1
  funext a
  fin_cases a
  rfl

/-- One row taken into sixteen running maxima, when `c` says it is the segment's. -/
abbrev accS (c : BitVec 1) (acc : FVec F S16 .f32) (ld : Vec F S1x1x16 .f32) : FVec F S16 .f32 :=
  maximumf acc (Scalar.select c (shapeCast S16 ld shapeCasts_S1x1x16_S16) (broadcast S16 (Scalar.ofBits .f32 0xFF800000#32)))

/-- One more row taken in: the maxima of `n` rows become those of `n + 1`, when `cw` says whether the row is between `a` and `b`. -/
theorem accS_step {X : S32768x512.Idx → F .f32} {a b c g0 n : ℕ} {cw : BitVec 1} (hc : cw = 1#1 ↔ a ≤ g0 + n ∧ g0 + n < b) :
    accS cw (accV X a b c g0 n) (ld1 (rowV X (g0 + n) c)) = accV X a b c g0 (n + 1) := by
  unfold accS
  rw [shapeCast_ld1]
  funext l
  change FloatOps.maximumf (rowMax X a b (c + (l 0).val) g0 n) (Scalar.select cw (rowV X (g0 + n) c) (broadcast S16 ninf) l) = rowMax X a b (c + (l 0).val) g0 (n + 1)
  rw [rowMax]
  unfold Scalar.select
  by_cases h : cw = (1 : BitVec 1)
  · rw [if_pos h, if_pos (hc.mp h)]; rfl
  · rw [if_neg h, if_neg (mt hc.mpr h)]; rfl

end Cert.KernelIdeal.DMax
-- ==== Proof.Rows.lean ====
module

public import proofs.«01_k».proof.Proof.Base

/-!
  One block of the ring: the sixteen running maxima taken over the block's sixteen rows, four rows to a trip.
-/

@[expose] public section

noncomputable section

namespace Cert.KernelIdeal.DMax

open Cert.KernelIdeal Cert.KernelIdeal.Gen
open Idealize.ShloMosaic Idealize.ShloMosaic.WordArith
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-- The elements of slot `s` of the ring. -/
def slotSet (s : ℕ) : Finset S8x16x256.Idx := Finset.univ.filter fun y => (y 0).val = s

/-- Slot `s` of the ring holds sixteen rows of the table from row `g0` on, at the 256 columns from `c0` on. -/
def SlotIs (X : S32768x512.Idx → F .f32) (s g0 c0 : ℕ) (f : S8x16x256.Idx → F .f32) : Prop :=
  ∀ y : S8x16x256.Idx, (y 0).val = s → f y = xAt X (g0 + (y 1).val) (c0 + (y 2).val)

/-- Slot `s` of the tile's ring, at contents `f`. -/
abbrev slotPts (s : ℕ) (f : S8x16x256.Idx → F .f32) : sProp 𝕄 := (bBuf).view.loc (th d i) ↦[slotSet s]{fullShare} f

/-- A load of sixteen columns of one row of a slot goes on at that part of the table's row. -/
theorem ld_slot {α : Type} {X : S32768x512.Idx → F .f32} {s g0 c0 r j : ℕ} {f : S8x16x256.Idx → F .f32} (hf : SlotIs X s g0 c0 f)
    {off : Fin 3 → ℕ} (hoff : off = ![s, r, j]) {inb : ∀ a, off a + S1x1x16.size a ≤ S8x16x256.size a}
    {hl : (bBuf).view.LoadsAt (Rect.unit (s := S8x16x256) off S1x1x16.size inb).toLoadRect}
    {k : Vec F S1x1x16 .f32 → Prog (TpuEff nD τ sig (Elt F) Λ₀ (.scVector (cV i) (jV i))) α} {Q : α → sProp 𝕄}
    (h : slotPts d i s f ⊢ wp frame (wpE (defs₀ (F := F)) 𝒱₀ (th d i) none) Set.univ (k (ld1 (rowV X (g0 + r) (c0 + j)))) Q) :
    slotPts d i s f ⊢ wp frame (wpE (defs₀ (F := F)) 𝒱₀ (th d i) none) Set.univ
      (.op (.load bBuf (Rect.unit (s := S8x16x256) off S1x1x16.size inb).toLoadRect hl) k) Q := by
  have hsub : (bBuf).view.setOn (Rect.unit (s := S8x16x256) off S1x1x16.size inb).toLoadRect.set ⊆ slotSet s := by
    intro y hy
    obtain ⟨z, hz, rfl⟩ := Finset.mem_map.mp hy
    have := (Rect.mem_set_unit.mp hz) 0
    subst hoff
    change s ≤ (z 0).val ∧ (z 0).val < s + 1 at this
    exact Finset.mem_filter.mpr ⟨Finset.mem_univ _, by change (z 0).val = s; omega⟩
  have hval : (bBuf).view.readAt (Elt F) (Rect.unit (s := S8x16x256) off S1x1x16.size inb).toLoadRect f = ld1 (rowV X (g0 + r) (c0 + j)) := by
    subst hoff
    funext y
    have h0 : (y 0).val = 0 := by have : (y 0).val < 1 := (y 0).isLt; omega
    have h1 : (y 1).val = 0 := by have : (y 1).val < 1 := (y 1).isLt; omega
    refine (hf _ (by change s + 1 * (y 0).val = s; omega)).trans ?_
    change xAt X (g0 + (r + 1 * (y 1).val)) (c0 + (j + 1 * (y 2).val)) = xAt X (g0 + r) (c0 + j + (y 2).val)
    congr 1 <;> omega
  iintro H
  iapply (wp_load 𝒱₀ (th d i) none Set.univ hsub) $$ H
  rw [hval]
  iintro H
  iapply h $$ H

/-- Sixteen vectors of sixteen lanes: a running maximum for each of a tile's 256 columns. -/
abbrev Acc (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- `rowMax` at the 256 columns from `c` on. -/
def accT (X : S32768x512.Idx → F .f32) (a b c g0 n : ℕ) : Acc F :=
  (accV X a b (c + 0) g0 n, accV X a b (c + 16) g0 n, accV X a b (c + 32) g0 n, accV X a b (c + 48) g0 n, accV X a b (c + 64) g0 n, accV X a b (c + 80) g0 n, accV X a b (c + 96) g0 n, accV X a b (c + 112) g0 n, accV X a b (c + 128) g0 n, accV X a b (c + 144) g0 n, accV X a b (c + 160) g0 n, accV X a b (c + 176) g0 n, accV X a b (c + 192) g0 n, accV X a b (c + 208) g0 n, accV X a b (c + 224) g0 n, accV X a b (c + 240) g0 n)

/-- Whether row `r` of a trip's four is one of the segment's, as the kernel asks it. -/
abbrev inW (k4 : Fin k0_t4_loop.trips) (a b g : BitVec 32) (r : BitVec 32) : BitVec 1 :=
  Scalar.andi (Scalar.cmpi .sge (Scalar.addi (Scalar.addi g (Scalar.muli (Scf.iv 0#32 1#32 k4) 4#32)) r) a)
    (Scalar.cmpi .slt (Scalar.addi (Scalar.addi g (Scalar.muli (Scf.iv 0#32 1#32 k4) 4#32)) r) b)

/-- The row's mask is set exactly when the row lies between `a` and `b`. -/
theorem inW_iff {k4 : Fin k0_t4_loop.trips} {aw bw gw : BitVec 32} {a b g r : ℕ} (ha : aw.toNat = a) (ha' : a ≤ 32752) (hb : bw.toNat = b) (hb' : b ≤ 32752)
    (hg : gw.toNat = g) (hg' : g ≤ 32752) (hr : r < 4) :
    inW k4 aw bw gw (BitVec.ofNat 32 r) = 1#1 ↔ a ≤ g + 4 * k4.val + r ∧ g + 4 * k4.val + r < b := by
  have h4 : k4.val < 4 := k4.isLt
  have hrow : (Scalar.addi (Scalar.addi gw (Scalar.muli (Scf.iv 0#32 1#32 k4) 4#32)) (BitVec.ofNat 32 r)).toNat = g + 4 * k4.val + r := by
    rw [addi_nat (addi_nat hg (muli_nat (iv01_nat k4.val (by omega)) (show (4#32).toNat = 4 from rfl) (by omega)) (by omega))
      (toNat_ofNat_of_lt r (by omega)) (by omega)]
    omega
  have h1 : Scalar.cmpi .sge (Scalar.addi (Scalar.addi gw (Scalar.muli (Scf.iv 0#32 1#32 k4) 4#32)) (BitVec.ofNat 32 r)) aw
      = BitVec.ofBool (decide (a ≤ g + 4 * k4.val + r)) := congrArg BitVec.ofBool (sle_nat ha hrow (by omega) (by omega))
  have h2 : Scalar.cmpi .slt (Scalar.addi (Scalar.addi gw (Scalar.muli (Scf.iv 0#32 1#32 k4) 4#32)) (BitVec.ofNat 32 r)) bw
      = BitVec.ofBool (decide (g + 4 * k4.val + r < b)) := congrArg BitVec.ofBool (slt_nat hrow hb (by omega) (by omega))
  unfold inW
  rw [h1, h2]
  by_cases p : a ≤ g + 4 * k4.val + r <;> by_cases q : g + 4 * k4.val + r < b <;> simp [p, q, Scalar.andi, IntOp.andi]

/-- Four rows taken into sixteen running maxima. -/
theorem accS_four {X : S32768x512.Idx → F .f32} {a b c g0 n gb q : ℕ} (hq : gb + q = g0 + n) {w : ℕ → BitVec 1}
    (hw : ∀ r < 4, w r = 1#1 ↔ a ≤ gb + q + r ∧ gb + q + r < b) :
    accS (w 3) (accS (w 2) (accS (w 1) (accS (w 0) (accV X a b c g0 n) (ld1 (rowV X (gb + (q + 0)) c)))
      (ld1 (rowV X (gb + (q + 1)) c))) (ld1 (rowV X (gb + (q + 2)) c))) (ld1 (rowV X (gb + (q + 3)) c)) = accV X a b c g0 (n + 4) := by
  rw [show gb + (q + 0) = g0 + n by omega, show gb + (q + 1) = g0 + (n + 1) by omega, show gb + (q + 2) = g0 + (n + 2) by omega,
    show gb + (q + 3) = g0 + (n + 3) by omega, accS_step (by rw [hw 0 (by omega)]; omega), accS_step (by rw [hw 1 (by omega)]; omega),
    accS_step (by rw [hw 2 (by omega)]; omega), accS_step (by rw [hw 3 (by omega)]; omega)]

/-- A return of the value asked for, the resources kept. -/
theorem ret_eq {α : Type} {x y : α} {P : sProp 𝕄} (h : x = y) :
    P ⊢ wp frame (wpE (defs₀ (F := F)) 𝒱₀ (th d i) none) Set.univ (.ret x) fun r => iprop(⌜r = y⌝ ∗ P) := by
  subst h
  rw [wp_ret]
  iintro H
  imodintro
  isplitr
  · ipureintro; rfl
  · iexact H

variable {v11 v43 v49 v100 v105 : BitVec 32} {t s e : ℕ}

set_option maxHeartbeats 4000000 in
/-- One trip over four rows of a block: the running maxima four rows on, the slot kept. -/
theorem t4_trip (hp : Piece i v11 v100 v105 t s e) {hw1 : k0_chk1 v43 v49} {v50 v51 v52 v53 v54 v55 v56 v57 v58 v59 v60 v61 v62 v63 v64 v65 : FVec F S16 .f32}
    {k2 : Fin (k0_t2_loop v43 v49).trips} {v99 : BitVec 32} {hw3 : k0_chk3 i v11 v100 v105} {v106 v107 v125 v145 : BitVec 32}
    {k3 : Fin (k0_t3_loop i v11 v100 v105).trips} {v254 v264 : BitVec 32} {a b gb g0 n c0 : ℕ} (ha : v106.toNat = a) (ha' : a ≤ 32752) (hb : v107.toNat = b) (hb' : b ≤ 32752)
    (hg : v254.toNat = gb) (hg' : gb ≤ 32752) {X : S32768x512.Idx → F .f32} {f : S8x16x256.Idx → F .f32} (hf : SlotIs X (k3.val % 8) gb c0 f)
    (k4 : Fin k0_t4_loop.trips) (hn : gb + 4 * k4.val = g0 + n) :
    slotPts d i (k3.val % 8) f ⊢ wp frame (wpE (defs₀ (F := F)) 𝒱₀ (th d i) none) Set.univ
      (k0_t4_body i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
        v11 v43 v49 hw1 v50 v51 v52 v53 v54 v55 v56 v57 v58 v59 v60 v61 v62 v63 v64 v65 k2 v99 v100 v105 hw3 v106 v107 v125 v145 k3 v254 v264 k4 (accT X a b c0 g0 n))
      fun r => iprop(⌜r = accT X a b c0 g0 (n + 4)⌝ ∗ slotPts d i (k3.val % 8) f) := by
  unfold k0_t4_body accT
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  refine ld_slot d i hf (off30_nat hp k3 k4 (r := 0) (by decide)) ?_
  refine ld_slot d i hf (off31_nat hp k3 k4 (r := 0) (by decide)) ?_
  refine ld_slot d i hf (off32_nat hp k3 k4 (r := 0) (by decide)) ?_
  refine ld_slot d i hf (off33_nat hp k3 k4 (r := 0) (by decide)) ?_
  refine ld_slot d i hf (off34_nat hp k3 k4 (r := 0) (by decide)) ?_
  refine ld_slot d i hf (off35_nat hp k3 k4 (r := 0) (by decide)) ?_
  refine ld_slot d i hf (off36_nat hp k3 k4 (r := 0) (by decide)) ?_
  refine ld_slot d i hf (off37_nat hp k3 k4 (r := 0) (by decide)) ?_
  refine ld_slot d i hf (off38_nat hp k3 k4 (r := 0) (by decide)) ?_
  refine ld_slot d i hf (off39_nat hp k3 k4 (r := 0) (by decide)) ?_
  refine ld_slot d i hf (off40_nat hp k3 k4 (r := 0) (by decide)) ?_
  refine ld_slot d i hf (off41_nat hp k3 k4 (r := 0) (by decide)) ?_
  refine ld_slot d i hf (off42_nat hp k3 k4 (r := 0) (by decide)) ?_
  refine ld_slot d i hf (off43_nat hp k3 k4 (r := 0) (by decide)) ?_
  refine ld_slot d i hf (off44_nat hp k3 k4 (r := 0) (by decide)) ?_
  refine ld_slot d i hf (off45_nat hp k3 k4 (r := 0) (by decide)) ?_
  refine ld_slot d i hf (off30_nat hp k3 k4 (r := 1) (by decide)) ?_
  refine ld_slot d i hf (off31_nat hp k3 k4 (r := 1) (by decide)) ?_
  refine ld_slot d i hf (off32_nat hp k3 k4 (r := 1) (by decide)) ?_
  refine ld_slot d i hf (off33_nat hp k3 k4 (r := 1) (by decide)) ?_
  refine ld_slot d i hf (off34_nat hp k3 k4 (r := 1) (by decide)) ?_
  refine ld_slot d i hf (off35_nat hp k3 k4 (r := 1) (by decide)) ?_
  refine ld_slot d i hf (off36_nat hp k3 k4 (r := 1) (by decide)) ?_
  refine ld_slot d i hf (off37_nat hp k3 k4 (r := 1) (by decide)) ?_
  refine ld_slot d i hf (off38_nat hp k3 k4 (r := 1) (by decide)) ?_
  refine ld_slot d i hf (off39_nat hp k3 k4 (r := 1) (by decide)) ?_
  refine ld_slot d i hf (off40_nat hp k3 k4 (r := 1) (by decide)) ?_
  refine ld_slot d i hf (off41_nat hp k3 k4 (r := 1) (by decide)) ?_
  refine ld_slot d i hf (off42_nat hp k3 k4 (r := 1) (by decide)) ?_
  refine ld_slot d i hf (off43_nat hp k3 k4 (r := 1) (by decide)) ?_
  refine ld_slot d i hf (off44_nat hp k3 k4 (r := 1) (by decide)) ?_
  refine ld_slot d i hf (off45_nat hp k3 k4 (r := 1) (by decide)) ?_
  refine ld_slot d i hf (off30_nat hp k3 k4 (r := 2) (by decide)) ?_
  refine ld_slot d i hf (off31_nat hp k3 k4 (r := 2) (by decide)) ?_
  refine ld_slot d i hf (off32_nat hp k3 k4 (r := 2) (by decide)) ?_
  refine ld_slot d i hf (off33_nat hp k3 k4 (r := 2) (by decide)) ?_
  refine ld_slot d i hf (off34_nat hp k3 k4 (r := 2) (by decide)) ?_
  refine ld_slot d i hf (off35_nat hp k3 k4 (r := 2) (by decide)) ?_
  refine ld_slot d i hf (off36_nat hp k3 k4 (r := 2) (by decide)) ?_
  refine ld_slot d i hf (off37_nat hp k3 k4 (r := 2) (by decide)) ?_
  refine ld_slot d i hf (off38_nat hp k3 k4 (r := 2) (by decide)) ?_
  refine ld_slot d i hf (off39_nat hp k3 k4 (r := 2) (by decide)) ?_
  refine ld_slot d i hf (off40_nat hp k3 k4 (r := 2) (by decide)) ?_
  refine ld_slot d i hf (off41_nat hp k3 k4 (r := 2) (by decide)) ?_
  refine ld_slot d i hf (off42_nat hp k3 k4 (r := 2) (by decide)) ?_
  refine ld_slot d i hf (off43_nat hp k3 k4 (r := 2) (by decide)) ?_
  refine ld_slot d i hf (off44_nat hp k3 k4 (r := 2) (by decide)) ?_
  refine ld_slot d i hf (off45_nat hp k3 k4 (r := 2) (by decide)) ?_
  refine ld_slot d i hf (off30_nat hp k3 k4 (r := 3) (by decide)) ?_
  refine ld_slot d i hf (off31_nat hp k3 k4 (r := 3) (by decide)) ?_
  refine ld_slot d i hf (off32_nat hp k3 k4 (r := 3) (by decide)) ?_
  refine ld_slot d i hf (off33_nat hp k3 k4 (r := 3) (by decide)) ?_
  refine ld_slot d i hf (off34_nat hp k3 k4 (r := 3) (by decide)) ?_
  refine ld_slot d i hf (off35_nat hp k3 k4 (r := 3) (by decide)) ?_
  refine ld_slot d i hf (off36_nat hp k3 k4 (r := 3) (by decide)) ?_
  refine ld_slot d i hf (off37_nat hp k3 k4 (r := 3) (by decide)) ?_
  refine ld_slot d i hf (off38_nat hp k3 k4 (r := 3) (by decide)) ?_
  refine ld_slot d i hf (off39_nat hp k3 k4 (r := 3) (by decide)) ?_
  refine ld_slot d i hf (off40_nat hp k3 k4 (r := 3) (by decide)) ?_
  refine ld_slot d i hf (off41_nat hp k3 k4 (r := 3) (by decide)) ?_
  refine ld_slot d i hf (off42_nat hp k3 k4 (r := 3) (by decide)) ?_
  refine ld_slot d i hf (off43_nat hp k3 k4 (r := 3) (by decide)) ?_
  refine ld_slot d i hf (off44_nat hp k3 k4 (r := 3) (by decide)) ?_
  refine ld_slot d i hf (off45_nat hp k3 k4 (r := 3) (by decide)) ?_
  refine ret_eq (d := d) (i := i) ?_
  have hw := fun (r : ℕ) (hr : r < 4) => inW_iff (k4 := k4) ha ha' hb hb' hg hg' hr
  refine Prod.ext (accS_four (w := fun r => inW k4 v106 v107 v254 (BitVec.ofNat 32 r)) hn hw) (Prod.ext (accS_four (w := fun r => inW k4 v106 v107 v254 (BitVec.ofNat 32 r)) hn hw) (Prod.ext (accS_four (w := fun r => inW k4 v106 v107 v254 (BitVec.ofNat 32 r)) hn hw) (Prod.ext (accS_four (w := fun r => inW k4 v106 v107 v254 (BitVec.ofNat 32 r)) hn hw) (Prod.ext (accS_four (w := fun r => inW k4 v106 v107 v254 (BitVec.ofNat 32 r)) hn hw) (Prod.ext (accS_four (w := fun r => inW k4 v106 v107 v254 (BitVec.ofNat 32 r)) hn hw) (Prod.ext (accS_four (w := fun r => inW k4 v106 v107 v254 (BitVec.ofNat 32 r)) hn hw) (Prod.ext (accS_four (w := fun r => inW k4 v106 v107 v254 (BitVec.ofNat 32 r)) hn hw) (Prod.ext (accS_four (w := fun r => inW k4 v106 v107 v254 (BitVec.ofNat 32 r)) hn hw) (Prod.ext (accS_four (w := fun r => inW k4 v106 v107 v254 (BitVec.ofNat 32 r)) hn hw) (Prod.ext (accS_four (w := fun r => inW k4 v106 v107 v254 (BitVec.ofNat 32 r)) hn hw) (Prod.ext (accS_four (w := fun r => inW k4 v106 v107 v254 (BitVec.ofNat 32 r)) hn hw) (Prod.ext (accS_four (w := fun r => inW k4 v106 v107 v254 (BitVec.ofNat 32 r)) hn hw) (Prod.ext (accS_four (w := fun r => inW k4 v106 v107 v254 (BitVec.ofNat 32 r)) hn hw) (Prod.ext (accS_four (w := fun r => inW k4 v106 v107 v254 (BitVec.ofNat 32 r)) hn hw) (accS_four (w := fun r => inW k4 v106 v107 v254 (BitVec.ofNat 32 r)) hn hw)))))))))))))))

end Cert.KernelIdeal.DMax
-- ==== Proof.Ring.lean ====
module

public import proofs.«01_k».proof.Proof.Rows

/-!
  The ring of eight slots: a copy of sixteen rows into a slot, the wait for it, and the loop over a segment's blocks.
-/

@[expose] public section

noncomputable section

namespace Cert.KernelIdeal.DMax

open Cert.KernelIdeal Cert.KernelIdeal.Gen
open Idealize.ShloMosaic Idealize.ShloMosaic.WordArith
open Idealize.ShloMosaic.SparseCore (S V T)
open Idealize.ShloMosaic.SparseCore.Cfg (HIx Pay)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-! ## A slot, idle and in flight -/

/-- Sixteen rows of the table at 256 columns, as a copy addresses them. -/
abbrev srcM (off : Fin 2 → ℕ) (inb : ∀ a, off a + S16x256.size a ≤ S32768x512.size a) : Memref sig .scVector .hbm S16x256 .f32 :=
  aX.slice (Rect.unit (s := S32768x512) off S16x256.size inb) (fun _ => rfl)

/-- A slot of the ring, as a copy addresses it. -/
abbrev dstM (off : Fin 3 → ℕ) (inb : ∀ a, off a + S1x16x256.size a ≤ S8x16x256.size a) : Memref sig .scVector .vmem S16x256 .f32 :=
  (bBuf.slice (Rect.unit (s := S8x16x256) off S1x16x256.size inb) (fun _ => rfl)).squeeze S16x256 squeezes_S1x16x256_S16x256

/-- The semaphore of a slot. -/
abbrev semM (off : Fin 1 → ℕ) (inb : ∀ a, off a + S1.size a ≤ S8.size a) : DmaSem sig :=
  ((cc0_scratch5.slice (Rect.unit (s := S8) off S1.size inb)).squeeze S_ squeezes_S1_S_).sem

/-- The semaphore of slot `s`. -/
abbrev semAt (s : ℕ) : DmaSem sig := semM ![s % 8] inb_sem

/-- What a copy into a slot credits its semaphore. -/
abbrev ringN : ℕ := (dstM ![0 % 8, 0, 0] inb_slot).view.dmaCredit

/-- The elements of sixteen rows of the table from `g0` on, at 256 columns from `c0` on. -/
def rowsSet (g0 c0 : ℕ) : Finset S32768x512.Idx :=
  Finset.univ.filter fun y => (g0 ≤ (y 0).val ∧ (y 0).val < g0 + 16) ∧ (c0 ≤ (y 1).val ∧ (y 1).val < c0 + 256)

/-- The table, as a share of it a tile holds. -/
abbrev xPts (S : Finset S32768x512.Idx) (q : PosShare TreeShare) (X : S32768x512.Idx → F .f32) : sProp 𝕄 := (aX).view.loc (th d i) ↦[S]{q} X

variable (q : ℕ → PosShare TreeShare) (X : S32768x512.Idx → F .f32)

/-- Slot `s` with no copy under way: its elements, its share of the table, its semaphore at zero. -/
def Idle (s : ℕ) : sProp 𝕄 :=
  iprop((∃ f, slotPts d i s f) ∗ xPts d i Finset.univ (q s) X ∗ semVal (th d i, .dma (semAt s)) 0)

/-- Slot `s` with a copy under way of the sixteen rows from `g0` on. -/
def Busy (s g0 c0 : ℕ) : sProp 𝕄 :=
  iprop(Flight countersEmb (th d i) (.dma (semAt s)) (default : HIx 1) ringN
      iprop(∃ f, ⌜SlotIs X s g0 c0 f⌝ ∗ slotPts d i s f ∗ xPts d i (rowsSet g0 c0) (q s) X)
    ∗ xPts d i (Finset.univ \ rowsSet g0 c0) (q s) X)

/-- The elements of a copy's source are its sixteen rows at the 256 columns. -/
theorem srcM_set {g0 c0 : ℕ} {off : Fin 2 → ℕ} (h : off = ![g0, c0]) (inb) : (srcM off inb).view.set = rowsSet g0 c0 := by
  subst h
  refine (View.set_slice_whole main_arg0_scv _).trans ?_
  ext y
  rw [Rect.mem_set_unit]
  refine Fin.forall_fin_two.trans ?_
  simp only [rowsSet, Finset.mem_filter, Finset.mem_univ, true_and]
  exact Iff.rfl

/-- The elements of a copy's destination are its slot. -/
theorem dstM_set {s : ℕ} {off : Fin 3 → ℕ} (h : off = ![s, 0, 0]) (inb) : (dstM off inb).view.set = slotSet s := by
  subst h
  refine (View.set_reshape _ _).trans ((View.set_slice_whole cc0_scratch1 _).trans ?_)
  ext y
  rw [Rect.mem_set_unit]
  simp only [slotSet, Finset.mem_filter, Finset.mem_univ, true_and]
  constructor
  · intro hy
    have := hy 0
    change s ≤ (y 0).val ∧ (y 0).val < s + 1 at this
    omega
  · intro hy a
    fin_cases a
    · change s ≤ (y 0).val ∧ (y 0).val < s + 1; omega
    · have := (y 1).isLt
      change 0 ≤ (y 1).val ∧ (y 1).val < 0 + 16
      change (y 1).val < 16 at this; omega
    · have := (y 2).isLt
      change 0 ≤ (y 2).val ∧ (y 2).val < 0 + 256
      change (y 2).val < 256 at this; omega

/-- A slot written with what a copy reads holds the table's rows. -/
theorem slotIs_write {s g0 c0 : ℕ} {offs : Fin 2 → ℕ} {offd : Fin 3 → ℕ} (hs : offs = ![g0, c0]) (hd : offd = ![s, 0, 0]) (inbs) (inbd)
    (fd : S8x16x256.Idx → F .f32) :
    SlotIs X s g0 c0 ((dstM offd inbd).view.write (Elt F) fd ((srcM offs inbs).view.read (Elt F) X) Finset.univ) := by
  subst hs hd
  intro y hy
  have h1 : (y 1).val < 16 := (y 1).isLt
  have h2 : (y 2).val < 256 := (y 2).isLt
  have hg : g0 + 16 ≤ 32768 := inbs 0
  have hc : c0 + 256 ≤ 512 := inbs 1
  let z : S16x256.Idx := fun a => match a with | 0 => ⟨(y 1).val, h1⟩ | 1 => ⟨(y 2).val, h2⟩
  have hz : (dstM ![s, 0, 0] inbd).view.emb z = y := by
    change (Rect.unit (s := S8x16x256) ![s, 0, 0] S1x16x256.size inbd).emb (Shape.reshapeEquiv _ z) = y
    rw [show (Shape.reshapeEquiv (squeezes_S1x16x256_S16x256).numel_eq z) = (Fin.cons ⟨0, Nat.one_pos⟩ z : S1x16x256.Idx) from Shape.reshapeEquiv_cons_one _ z]
    funext a
    fin_cases a
    · exact Fin.ext (by change s + 1 * 0 = (y 0).val; omega)
    · exact Fin.ext (by change 0 + 1 * (y 1).val = (y 1).val; omega)
    · exact Fin.ext (by change 0 + 1 * (y 2).val = (y 2).val; omega)
  rw [← hz]
  refine (View.write_emb_of_mem _ _ (Finset.mem_univ z)).trans ?_
  rw [hz]
  change X _ = X _
  congr 1
  funext a
  fin_cases a
  · exact Fin.ext (by change g0 + 1 * (y 1).val = (g0 + (y 1).val) % 32768; omega)
  · exact Fin.ext (by change c0 + 1 * (y 2).val = (c0 + (y 2).val) % 512; omega)

/-- A copy into an idle slot: the slot is in flight. -/
theorem ring_issue {α : Type} {s g0 c0 : ℕ} {offs : Fin 2 → ℕ} {offd : Fin 3 → ℕ} {offm : Fin 1 → ℕ} (hs : offs = ![g0, c0]) (hd : offd = ![s % 8, 0, 0])
    (hm : offm = ![s % 8]) {inbs} {inbd} {inbm} {hw} {hw'} {hsem}
    {k : PUnit → Prog (TpuEff nD τ sig (Elt F) Λ₀ (.scVector (cV i) (jV i))) α} {Q : α → sProp 𝕄} :
    Idle d i q X (s % 8) ⊢ iprop((Busy d i q X (s % 8) g0 c0 -∗ wp frame (wpE (defs₀ (F := F)) 𝒱₀ (th d i) none) Set.univ (k ⟨⟩) Q)
      -∗ wp frame (wpE (defs₀ (F := F)) 𝒱₀ (th d i) none) Set.univ
        (.op (.enqueueDma (srcM offs inbs) (.here (dstM offd inbd)) (.dma (semM offm inbm)) hw hw' hsem) k) Q) := by
  subst hm
  have hsem' : semAt (s % 8) = semM ![s % 8] inbm := by
    unfold semAt semM
    rw [SemArray.slice_unit_congr cc0_scratch5 (show (![s % 8 % 8] : Fin 1 → ℕ) = ![s % 8] by rw [Nat.mod_mod]) inb_sem inbm]
  unfold Idle Busy
  rw [hsem']
  iintro ⟨⟨%f, Hf⟩, Hx, Hs⟩ Hk
  ihave Hx := (pointsTo_split_subset (Finset.subset_univ (rowsSet g0 c0))).1 $$ Hx
  icases Hx with ⟨Hx, Hr⟩
  iapply (Transfers.wp_dmaLocal countersEmb 𝒱₀ (th d i) none (q := q (s % 8)) (fs := X) (Sd := slotSet (s % 8)) (fd := f) (default : HIx 1) ringN
    (show _ = ringN from rfl) (View.dmaCredit_pos _ (by decide)) (by rw [dstM_set hd])) $$ [Hx Hf Hs]
  · rw [srcM_set hs]
    isplitl [Hx]; · iexact Hx
    isplitl [Hf]; · iexact Hf
    iexact Hs
  iintro HF
  iapply Hk
  isplitl [HF]
  · iapply (Transfers.Flight_mono ?_) $$ HF
    rw [srcM_set hs]
    iintro ⟨Hd, Hx⟩
    iexists _
    isplitr
    · ipureintro
      exact slotIs_write X hs hd inbs inbd f
    isplitl [Hd]; · iexact Hd
    iexact Hx
  · iexact Hr

/-- The wait for a slot's copy: the slot's elements, holding the table's rows, and its whole share of the table back. -/
theorem ring_await {α : Type} {s g0 c0 : ℕ} {offs : Fin 2 → ℕ} {offd : Fin 3 → ℕ} {offm : Fin 1 → ℕ} {O : CellTallies nD τ sig (HIx 1)} {W : Waits sig (HIx 1)}
    (hm : offm = ![s % 8]) {inbs} {inbd} {inbm} {hw} {hw'}
    {k : PUnit → Prog (TpuEff nD τ sig (Elt F) Λ₀ (.scVector (cV i) (jV i))) α} {Q : α → sProp 𝕄} :
    iprop(Busy d i q X (s % 8) g0 c0 ∗ owes (th d i) O W ∗ MayWaits (th d i) (default : HIx 1) O)
      ⊢ iprop(((∃ f, ⌜SlotIs X (s % 8) g0 c0 f⌝ ∗ slotPts d i (s % 8) f ∗ xPts d i Finset.univ (q (s % 8)) X
            ∗ semVal (th d i, .dma (semAt (s % 8))) 0 ∗ owes (th d i) O (insert (.dma (semAt (s % 8)), default) W))
          -∗ wp frame (wpE (defs₀ (F := F)) 𝒱₀ (th d i) none) Set.univ (k ⟨⟩) Q)
      -∗ wp frame (wpE (defs₀ (F := F)) 𝒱₀ (th d i) none) Set.univ
        (.op (.waitDma2 (semM offm inbm) (srcM offs inbs) (dstM offd inbd) hw hw') k) Q) := by
  subst hm
  have hsem' : semAt (s % 8) = semM ![s % 8] inbm := by
    unfold semAt semM
    rw [SemArray.slice_unit_congr cc0_scratch5 (show (![s % 8 % 8] : Fin 1 → ℕ) = ![s % 8] by rw [Nat.mod_mod]) inb_sem inbm]
  unfold Busy
  rw [hsem']
  iintro ⟨⟨HF, Hr⟩, HO, #HM⟩ Hk
  iapply (Transfers.wp_waitLocalO countersEmb 𝒱₀ (th d i) none (hsrc := hw) (hdst := hw') (default : HIx 1) (show _ = ringN from rfl)) $$ [HF HO]
  · isplitl [HF]; · iexact HF
    isplitl [HO]; · iexact HO
    iapply (Transfers.MayWaits.elim (.dma (semM ![s % 8] inbm))) $$ HM
  iintro ⟨⟨%f, %hf, Hf, Hx⟩, Hs, HO⟩
  iapply Hk
  iexists f
  isplitr; · ipureintro; exact hf
  isplitl [Hf]; · iexact Hf
  isplitl [Hx Hr]
  · iapply (pointsTo_split_subset (Finset.subset_univ (rowsSet g0 c0))).2
    isplitl [Hx]; · iexact Hx
    iexact Hr
  isplitl [Hs]; · iexact Hs
  iexact HO

/-! ## The eight slots together -/

/-- The copy slot `s` holds, or is next to hold, when the first `k` have been waited for. -/
def pend (k s : ℕ) : ℕ := k + (s + 8 - k % 8) % 8

/-- Slot `s` when `k` copies have been waited for and `m` issued, of the blocks of sixteen rows from `a8` on. -/
def Slot (a8 c0 k m s : ℕ) : sProp 𝕄 := if pend k s < m then Busy d i q X s (a8 + 16 * pend k s) c0 else Idle d i q X s

/-- Issuing copy `p` leaves every slot but its own as it was. -/
theorem slot_issued {a8 c0 k p s : ℕ} (hs : s < 8) (h : s ≠ p % 8) (h1 : k ≤ p) (h2 : p < k + 8) : Slot d i q X a8 c0 k p s = Slot d i q X a8 c0 k (p + 1) s := by
  have : pend k s < p ↔ pend k s < p + 1 := by unfold pend; omega
  unfold Slot
  simp only [this]

/-- Waiting for copy `k` leaves every slot but its own as it was. -/
theorem slot_waited {a8 c0 k m s : ℕ} (hs : s < 8) (h : s ≠ k % 8) : Slot d i q X a8 c0 k m s = Slot d i q X a8 c0 (k + 1) m s := by
  have : pend k s = pend (k + 1) s := by unfold pend; omega
  unfold Slot
  simp only [this]

/-- The next copy issued, its slot among those held. -/
theorem ring_next {α : Type} {a8 c0 k p : ℕ} {T : Finset ℕ} (hT : T ⊆ Finset.range 8) (hp : p % 8 ∈ T) (h1 : k ≤ p) (h2 : p < k + 8)
    {offs : Fin 2 → ℕ} {offd : Fin 3 → ℕ} {offm : Fin 1 → ℕ} (hs : offs = ![a8 + 16 * p, c0]) (hd : offd = ![p % 8, 0, 0])
    (hm : offm = ![p % 8]) {inbs} {inbd} {inbm} {hw} {hw'} {hsem}
    {kk : PUnit → Prog (TpuEff nD τ sig (Elt F) Λ₀ (.scVector (cV i) (jV i))) α} {Q : α → sProp 𝕄} :
    bigSep T (Slot d i q X a8 c0 k p) ⊢ iprop((bigSep T (Slot d i q X a8 c0 k (p + 1)) -∗ wp frame (wpE (defs₀ (F := F)) 𝒱₀ (th d i) none) Set.univ (kk ⟨⟩) Q)
      -∗ wp frame (wpE (defs₀ (F := F)) 𝒱₀ (th d i) none) Set.univ
        (.op (.enqueueDma (srcM offs inbs) (.here (dstM offd inbd)) (.dma (semM offm inbm)) hw hw' hsem) kk) Q) := by
  have hpd : pend k (p % 8) = p := by unfold pend; omega
  have e1 : Slot d i q X a8 c0 k p (p % 8) = Idle d i q X (p % 8) := by unfold Slot; rw [hpd, if_neg (lt_irrefl p)]
  have e2 : Slot d i q X a8 c0 k (p + 1) (p % 8) = Busy d i q X (p % 8) (a8 + 16 * p) c0 := by unfold Slot; rw [hpd, if_pos (Nat.lt_succ_self p)]
  rw [SparseCore.bigSep_erase' hp, SparseCore.bigSep_erase' hp, e1, e2,
    bigSep_congr (s := T.erase (p % 8)) (fun s hs => slot_issued (k := k) (p := p) d i q X (a8 := a8) (c0 := c0) (Finset.mem_range.1 (hT (Finset.mem_of_mem_erase hs))) (Finset.ne_of_mem_erase hs) h1 h2)]
  iintro ⟨HI, HT⟩ Hk
  iapply (ring_issue d i q X hs hd hm) $$ HI
  iintro HB
  iapply Hk
  isplitl [HB]; · iexact HB
  iexact HT

/-- A copy issued only when there is a block for it: `min p nb` issued before, `min (p + 1) nb` after. -/
theorem ring_cond {α : Type} {a8 c0 k p nb : ℕ} {T : Finset ℕ} (hT : T ⊆ Finset.range 8) (hp : p % 8 ∈ T) (h1 : k ≤ p) (h2 : p < k + 8)
    {c : Prop} [Decidable c] (hc : c ↔ p < nb)
    {offs : Fin 2 → ℕ} {offd : Fin 3 → ℕ} {offm : Fin 1 → ℕ} (hs : p < nb → offs = ![a8 + 16 * p, c0]) (hd : offd = ![p % 8, 0, 0])
    (hm : offm = ![p % 8]) {inbs : c → _} {inbd : c → _} {inbm : c → _}
    {hw : ∀ h : c, (srcM offs (inbs h)).view.WordExact} {hw' : ∀ h : c, (dstM offd (inbd h)).view.WordExact}
    {hsem : ∀ h : c, DmaTarget.Typed (nD := nD) (τ := τ) (p := .scVector (cV i) (jV i)) .hbm (.dma (semM offm (inbm h))) (.here (dstM offd (inbd h)))}
    {rest : Prog (TpuEff nD τ sig (Elt F) Λ₀ (.scVector (cV i) (jV i))) α} {Q : α → sProp 𝕄} :
    bigSep T (Slot d i q X a8 c0 k (min p nb)) ⊢ iprop((bigSep T (Slot d i q X a8 c0 k (min (p + 1) nb)) -∗ wp frame (wpE (defs₀ (F := F)) 𝒱₀ (th d i) none) Set.univ rest Q)
      -∗ wp frame (wpE (defs₀ (F := F)) 𝒱₀ (th d i) none) Set.univ
        (if h : c then
            Prog.lift (.enqueueDma (srcM offs (inbs h)) (.here (dstM offd (inbd h))) (.dma (semM offm (inbm h))) (hw h) (hw' h) (hsem h)) >>= fun _ => rest
          else rest) Q) := by
  by_cases h : c
  · have h' := hc.1 h
    rw [dif_pos h, min_eq_left h'.le, min_eq_left (show p + 1 ≤ nb from h')]
    exact ring_next d i q X hT hp h1 h2 (hs h') hd hm (inbs := inbs h) (inbd := inbd h) (inbm := inbm h) (hw := hw h) (hw' := hw' h) (hsem := hsem h) (kk := fun _ => rest)
  · have h' : nb ≤ p := Nat.le_of_not_lt fun x => h (hc.2 x)
    rw [dif_neg h, min_eq_right h', min_eq_right (h'.trans (Nat.le_succ p))]
    iintro H Hk
    iapply Hk $$ H

/-- What a thread owes, its waits so far added at no call's index. -/
def Owed (O : CellTallies nD τ sig (HIx 1)) (W : Waits sig (HIx 1)) : sProp 𝕄 :=
  iprop(∃ W', ⌜∀ p ∈ W', p ∈ W ∨ p.2 = none⌝ ∗ owes (th d i) O W')

/-- One more wait at no call's index changes nothing of what a thread owes. -/
theorem owed_insert {O : CellTallies nD τ sig (HIx 1)} {W W' : Waits sig (HIx 1)} {sm : SemLoc sig} (h : ∀ p ∈ W', p ∈ W ∨ p.2 = none) :
    (owes (th d i) O (insert (sm, (default : HIx 1)) W') : sProp 𝕄) ⊢ Owed d i O W := by
  unfold Owed
  iintro H
  iexists _
  isplitr
  swap; · iexact H
  ipureintro
  intro p hp
  rcases Finset.mem_insert.1 hp with rfl | hp
  · exact Or.inr rfl
  · exact h p hp

/-- The wait for the next copy, its slot among those held: the block's rows in the slot's elements, the rest beside. -/
theorem ring_take {α : Type} {a8 c0 k m : ℕ} (hm : k < m)
    {offs : Fin 2 → ℕ} {offd : Fin 3 → ℕ} {offm : Fin 1 → ℕ} {O : CellTallies nD τ sig (HIx 1)} {W : Waits sig (HIx 1)}
    (hm' : offm = ![k % 8]) {inbs} {inbd} {inbm} {hw} {hw'}
    {kk : PUnit → Prog (TpuEff nD τ sig (Elt F) Λ₀ (.scVector (cV i) (jV i))) α} {Q : α → sProp 𝕄} :
    iprop(bigSep (Finset.range 8) (Slot d i q X a8 c0 k m) ∗ Owed d i O W ∗ MayWaits (th d i) (default : HIx 1) O)
      ⊢ iprop(((∃ f, ⌜SlotIs X (k % 8) (a8 + 16 * k) c0 f⌝ ∗ slotPts d i (k % 8) f ∗ xPts d i Finset.univ (q (k % 8)) X
            ∗ semVal (th d i, .dma (semAt (k % 8))) 0 ∗ bigSep ((Finset.range 8).erase (k % 8)) (Slot d i q X a8 c0 k m) ∗ Owed d i O W)
          -∗ wp frame (wpE (defs₀ (F := F)) 𝒱₀ (th d i) none) Set.univ (kk ⟨⟩) Q)
      -∗ wp frame (wpE (defs₀ (F := F)) 𝒱₀ (th d i) none) Set.univ
        (.op (.waitDma2 (semM offm inbm) (srcM offs inbs) (dstM offd inbd) hw hw') kk) Q) := by
  have hpd : pend k (k % 8) = k := by unfold pend; omega
  have e1 : Slot d i q X a8 c0 k m (k % 8) = Busy d i q X (k % 8) (a8 + 16 * k) c0 := by unfold Slot; rw [hpd, if_pos hm]
  rw [SparseCore.bigSep_erase' (Finset.mem_range.2 (Nat.mod_lt k (by decide))), e1]
  unfold Owed
  iintro ⟨⟨HB, HT⟩, ⟨%W', %hW', HO⟩, #HM⟩ Hk
  iapply (ring_await d i q X hm') $$ [HB HO]
  · isplitl [HB]; · iexact HB
    isplitl [HO]; · iexact HO
    iexact HM
  iintro ⟨%f, %hf, Hf, Hx, Hs, HO⟩
  iapply Hk
  iexists f
  isplitr; · ipureintro; exact hf
  isplitl [Hf]; · iexact Hf
  isplitl [Hx]; · iexact Hx
  isplitl [Hs]; · iexact Hs
  isplitl [HT]; · iexact HT
  have hOW := owed_insert (F := F) d i (O := O) (sm := .dma (semAt (k % 8))) hW'
  unfold Owed at hOW
  iapply hOW $$ HO

/-- The slot put back. -/
theorem ring_put {a8 c0 k m : ℕ} (hm : m ≤ k + 8) :
    iprop(Idle d i q X (k % 8) ∗ bigSep ((Finset.range 8).erase (k % 8)) (Slot d i q X a8 c0 k m))
      ⊢ bigSep (Finset.range 8) (Slot d i q X a8 c0 (k + 1) m) := by
  have hpd : pend (k + 1) (k % 8) = k + 8 := by unfold pend; omega
  have e1 : Slot d i q X a8 c0 (k + 1) m (k % 8) = Idle d i q X (k % 8) := by unfold Slot; rw [hpd, if_neg (by omega)]
  rw [SparseCore.bigSep_erase' (Finset.mem_range.2 (Nat.mod_lt k (by decide))), e1,
    bigSep_congr (s := (Finset.range 8).erase (k % 8)) (fun s hs => slot_waited d i q X (a8 := a8) (c0 := c0) (m := m) (Finset.mem_range.1 (Finset.mem_of_mem_erase hs)) (Finset.ne_of_mem_erase hs))]

/-- With every issued copy waited for, every slot is idle. -/
theorem ring_idle {a8 c0 k m : ℕ} (hm : m ≤ k) :
    bigSep (Finset.range 8) (Slot d i q X a8 c0 k m) = bigSep (Finset.range 8) (Idle d i q X) :=
  bigSep_congr fun s _ => by unfold Slot; rw [if_neg]; unfold pend; omega

/-! ## Loops whose carried values are known -/

/-- A loop whose trip `k` takes `A k` to `A (k + 1)`, its resources from `R k` to `R (k + 1)`. -/
theorem loop_det {σ : Type} {w : ℕ} {l : Scf.Loop w} (hok : l.OK) (A : ℕ → σ) (R : ℕ → sProp 𝕄)
    {body : Fin l.trips → σ → Prog (TpuEff nD τ sig (Elt F) Λ₀ (.scVector (cV i) (jV i))) σ}
    (h : ∀ k : Fin l.trips, R k.val ⊢ wp frame (wpE (defs₀ (F := F)) 𝒱₀ (th d i) none) Set.univ (body k (A k.val)) fun r => iprop(⌜r = A (k.val + 1)⌝ ∗ R (k.val + 1))) :
    R 0 ⊢ wp frame (wpE (defs₀ (F := F)) 𝒱₀ (th d i) none) Set.univ (Scf.Loop.for l hok (A 0) body) fun r => iprop(⌜r = A l.trips⌝ ∗ R l.trips) := by
  iintro H
  iapply (Scf.wp_for frame (wpE (defs₀ (F := F)) 𝒱₀ (th d i) none) Set.univ l.lb l.ub l.st hok (A 0) body (fun k r => iprop(⌜r = A k⌝ ∗ R k))
    (fun k acc => by
      iintro ⟨%e, H⟩
      subst e
      iapply (h k) $$ H))
  isplitl [H]
  · isplitr
    · ipureintro; rfl
    · iexact H
  iintro %acc H
  iexact H

/-- A program of a known result at the head of another. -/
theorem wp_seq {α β : Type} {p : Prog (TpuEff nD τ sig (Elt F) Λ₀ (.scVector (cV i) (jV i))) α} {v : α}
    {kk : α → Prog (TpuEff nD τ sig (Elt F) Λ₀ (.scVector (cV i) (jV i))) β} {R P : sProp 𝕄} {Q : β → sProp 𝕄}
    (h : R ⊢ wp frame (wpE (defs₀ (F := F)) 𝒱₀ (th d i) none) Set.univ p fun r => iprop(⌜r = v⌝ ∗ P)) :
    R ⊢ iprop((P -∗ wp frame (wpE (defs₀ (F := F)) 𝒱₀ (th d i) none) Set.univ (kk v) Q) -∗ wp frame (wpE (defs₀ (F := F)) 𝒱₀ (th d i) none) Set.univ (p >>= kk) Q) := by
  rw [wp_bind]
  iintro HR Hk
  iapply (wp_wand) $$ [HR] [Hk]
  · iapply h $$ HR
  iintro %r ⟨%e, HP⟩
  subst e
  iapply Hk $$ HP

end Cert.KernelIdeal.DMax
-- ==== Proof.Blocks.lean ====
module

public import proofs.«01_k».proof.Proof.Ring

/-!
  The loop over a segment's blocks: each block waited for, the copy seven blocks on issued, the block's rows taken into the
  running maxima.
-/

@[expose] public section

noncomputable section

namespace Cert.KernelIdeal.DMax

open Cert.KernelIdeal Cert.KernelIdeal.Gen
open Idealize.ShloMosaic Idealize.ShloMosaic.WordArith
open Idealize.ShloMosaic.SparseCore (S V T)
open Idealize.ShloMosaic.SparseCore.Cfg (HIx Pay)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

variable (q : ℕ → PosShare TreeShare) (X : S32768x512.Idx → F .f32)
variable {v11 v43 v49 v100 v105 : BitVec 32} {t s e : ℕ}

/-- The four trips over a block's sixteen rows. -/
theorem t4_loop (hp : Piece i v11 v100 v105 t s e) {hw1 : k0_chk1 v43 v49} {v50 v51 v52 v53 v54 v55 v56 v57 v58 v59 v60 v61 v62 v63 v64 v65 : FVec F S16 .f32}
    {k2 : Fin (k0_t2_loop v43 v49).trips} {v99 : BitVec 32} {hw3 : k0_chk3 i v11 v100 v105} {v106 v107 v125 v145 : BitVec 32}
    {k3 : Fin (k0_t3_loop i v11 v100 v105).trips} {v254 v264 : BitVec 32} {a b gb g0 n c0 : ℕ} (ha : v106.toNat = a) (ha' : a ≤ 32752) (hb : v107.toNat = b) (hb' : b ≤ 32752)
    (hg : v254.toNat = gb) (hg' : gb ≤ 32752) {X : S32768x512.Idx → F .f32} {f : S8x16x256.Idx → F .f32} (hf : SlotIs X (k3.val % 8) gb c0 f)
    (hn : gb = g0 + n) :
    slotPts d i (k3.val % 8) f ⊢ wp frame (wpE (defs₀ (F := F)) 𝒱₀ (th d i) none) Set.univ
      (Scf.Loop.for k0_t4_loop k0_t4_ok (accT X a b c0 g0 n) (k0_t4_body i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
        v11 v43 v49 hw1 v50 v51 v52 v53 v54 v55 v56 v57 v58 v59 v60 v61 v62 v63 v64 v65 k2 v99 v100 v105 hw3 v106 v107 v125 v145 k3 v254 v264))
      fun r => iprop(⌜r = accT X a b c0 g0 (n + 16)⌝ ∗ slotPts d i (k3.val % 8) f) :=
  loop_det d i (l := k0_t4_loop) k0_t4_ok (fun k => accT X a b c0 g0 (n + 4 * k)) (fun _ => slotPts d i (k3.val % 8) f)
    fun k => t4_trip d i hp (hw1 := hw1) ha ha' hb hb' hg hg' hf k (by omega)

/-- The loop over the blocks: before block `k`, `min (k + 7) nb` copies issued and `k` of them waited for. -/
def BlkInv (O : CellTallies nD τ sig (HIx 1)) (W : Waits sig (HIx 1)) (a8 c0 nb k : ℕ) : sProp 𝕄 :=
  iprop(bigSep (Finset.range 8) (Slot d i q X a8 c0 k (min (k + 7) nb)) ∗ Owed d i O W ∗ MayWaits (th d i) (default : HIx 1) O)

/-- One block. -/
theorem t3_trip (hp : Piece i v11 v100 v105 t s e) {hw1 : k0_chk1 v43 v49} {v50 v51 v52 v53 v54 v55 v56 v57 v58 v59 v60 v61 v62 v63 v64 v65 : FVec F S16 .f32}
    {k2 : Fin (k0_t2_loop v43 v49).trips} {v99 : BitVec 32} {hw3 : k0_chk3 i v11 v100 v105} {v106 v107 v125 v145 : BitVec 32}
    (ha : v106.toNat = aN (i 1).val t s) (hb : v107.toNat = bN (i 1).val t e) (h8 : v125.toNat = a8N (i 1).val t s)
    {O : CellTallies nD τ sig (HIx 1)} {W : Waits sig (HIx 1)} (k3 : Fin (k0_t3_loop i v11 v100 v105).trips) :
    BlkInv d i q X O W (a8N (i 1).val t s) ((i 0).val * 256) (nbN (i 1).val t s e) k3.val ⊢ wp frame (wpE (defs₀ (F := F)) 𝒱₀ (th d i) none) Set.univ
      (k0_t3_body i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
        v11 v43 v49 hw1 v50 v51 v52 v53 v54 v55 v56 v57 v58 v59 v60 v61 v62 v63 v64 v65 k2 v99 v100 v105 hw3 v106 v107 v125 v145 k3
        (accT X (aN (i 1).val t s) (bN (i 1).val t e) ((i 0).val * 256) (a8N (i 1).val t s) (16 * k3.val)))
      fun r => iprop(⌜r = accT X (aN (i 1).val t s) (bN (i 1).val t e) ((i 0).val * 256) (a8N (i 1).val t s) (16 * (k3.val + 1))⌝
        ∗ BlkInv d i q X O W (a8N (i 1).val t s) ((i 0).val * 256) (nbN (i 1).val t s e) (k3.val + 1)) := by
  have hk := t3_lt' hp k3
  have hF := hp.facts
  have hmod : (k3.val + 7) % 8 ≠ k3.val % 8 := by omega
  have hrow : (Scalar.minsi (Scalar.addi v125 (Scalar.muli (Scf.iv 0#32 1#32 k3.val) 16#32)) 32752#32).toNat = a8N (i 1).val t s + 16 * k3.val := by
    rw [minsi_nat (addi_nat h8 (iv16_nat hk.1) (by omega)) (show (32752#32).toNat = 32752 from rfl) (by omega) (by decide)]
    omega
  rw [k0_t3_body, k0_part14_eq_skeleton]
  unfold BlkInv
  iintro ⟨HR, HO, #HM⟩
  iapply (ring_take d i q X (k := k3.val) (m := min (k3.val + 7) (nbN (i 1).val t s e)) (by omega) (off26_nat hp k3)) $$ [HR HO]
  · isplitl [HR]; · iexact HR
    isplitl [HO]; · iexact HO
    iexact HM
  iintro ⟨%f, %hf, Hf, Hx, Hs, HT, HO⟩
  iapply (ring_cond d i q X (T := (Finset.range 8).erase (k3.val % 8)) (k := k3.val) (p := k3.val + 7) (Finset.erase_subset _ _)
    (Finset.mem_erase.2 ⟨hmod, Finset.mem_range.2 (Nat.mod_lt _ (by decide))⟩) (by omega) (by omega) (cond7_iff hp k3) (off28_nat hp k3)
    (off27_nat hp k3) (off29_nat hp k3)) $$ HT
  iintro HT
  iapply (wp_seq d i (t4_loop d i hp (hw1 := hw1) ha (by omega) hb hF.1 (gb := a8N (i 1).val t s + 16 * k3.val) hrow (by omega) hf rfl)) $$ Hf
  iintro Hf
  iapply (ret_eq d i (P := BlkInv d i q X O W (a8N (i 1).val t s) ((i 0).val * 256) (nbN (i 1).val t s e) (k3.val + 1)) ?_)
  · rfl
  unfold BlkInv
  isplitl [HT Hf Hx Hs]
  · iapply (ring_put d i q X (by omega))
    isplitr [HT]
    · unfold Idle
      isplitl [Hf]; · iexists f; iexact Hf
      isplitl [Hx]; · iexact Hx
      iexact Hs
    iexact HT
  isplitl [HO]; · iexact HO
  iexact HM

/-- The loop over the blocks: the running maxima over all of them, every slot idle again. -/
theorem t3_loop (hp : Piece i v11 v100 v105 t s e) {hw1 : k0_chk1 v43 v49} {v50 v51 v52 v53 v54 v55 v56 v57 v58 v59 v60 v61 v62 v63 v64 v65 : FVec F S16 .f32}
    {k2 : Fin (k0_t2_loop v43 v49).trips} {v99 : BitVec 32} {hw3 : k0_chk3 i v11 v100 v105} {v106 v107 v125 v145 : BitVec 32}
    (ha : v106.toNat = aN (i 1).val t s) (hb : v107.toNat = bN (i 1).val t e) (h8 : v125.toNat = a8N (i 1).val t s)
    {O : CellTallies nD τ sig (HIx 1)} {W : Waits sig (HIx 1)} {hok : (k0_t3_loop i v11 v100 v105).OK} :
    BlkInv d i q X O W (a8N (i 1).val t s) ((i 0).val * 256) (nbN (i 1).val t s e) 0 ⊢ wp frame (wpE (defs₀ (F := F)) 𝒱₀ (th d i) none) Set.univ
      (Scf.Loop.for (k0_t3_loop i v11 v100 v105) hok
        (accT X (aN (i 1).val t s) (bN (i 1).val t e) ((i 0).val * 256) (a8N (i 1).val t s) 0)
        (k0_t3_body i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
          v11 v43 v49 hw1 v50 v51 v52 v53 v54 v55 v56 v57 v58 v59 v60 v61 v62 v63 v64 v65 k2 v99 v100 v105 hw3 v106 v107 v125 v145))
      fun r => iprop(⌜r = accT X (aN (i 1).val t s) (bN (i 1).val t e) ((i 0).val * 256) (a8N (i 1).val t s) (16 * nbN (i 1).val t s e)⌝
        ∗ BlkInv d i q X O W (a8N (i 1).val t s) ((i 0).val * 256) (nbN (i 1).val t s e) (nbN (i 1).val t s e)) := by
  have h := loop_det d i (l := k0_t3_loop i v11 v100 v105) hok
    (fun k => accT X (aN (i 1).val t s) (bN (i 1).val t e) ((i 0).val * 256) (a8N (i 1).val t s) (16 * k))
    (BlkInv d i q X O W (a8N (i 1).val t s) ((i 0).val * 256) (nbN (i 1).val t s e))
    (fun k => t3_trip d i q X hp (hw1 := hw1) (v50 := v50) (v51 := v51) (v52 := v52) (v53 := v53) (v54 := v54) (v55 := v55) (v56 := v56) (v57 := v57) (v58 := v58) (v59 := v59) (v60 := v60) (v61 := v61) (v62 := v62) (v63 := v63) (v64 := v64) (v65 := v65) (k2 := k2) (v99 := v99) (hw3 := hw3) (v145 := v145) ha hb h8 k)
  rw [t3_trips hp] at h
  exact h

end Cert.KernelIdeal.DMax
-- ==== Proof.Segs.lean ====
module

public import proofs.«01_k».proof.Proof.Blocks

/-!
  The loop over a tile's segments, and the initialization before it: the tile's table of partial maxima after each, as a
  function of the kernel's inputs.
-/

@[expose] public section

noncomputable section

namespace Cert.KernelIdeal.DMax

open Cert.KernelIdeal Cert.KernelIdeal.Gen
open Idealize.ShloMosaic Idealize.ShloMosaic.WordArith
open Idealize.ShloMosaic.SparseCore (S V T)
open Idealize.ShloMosaic.SparseCore.Cfg (HIx Pay)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The words of the segment loop -/

section Words

variable {v43 v49 : BitVec 32} {L H : ℕ} (h43 : v43.toNat = L) (h49 : v49.toNat = H) (hLH : L ≤ H) (hH : H ≤ 16)

include h43 h49 hLH hH in
/-- The segment loop ends where the visited segments end. -/
theorem t2_ub : (k0_t2_loop v43 v49).ub.toNat = H := by
  change (Scalar.addi v43 (Scalar.muli (Scalar.divsi (Scalar.subi v49 v43) 1#32) 1#32)).toNat = _
  rw [Scalar.muli_divsi_one, addi_nat h43 (subi_nat h49 h43 hLH (by omega)) (by omega)]
  omega

include h43 h49 hLH hH in
/-- One trip for each visited segment. -/
theorem t2_trips : (k0_t2_loop v43 v49).trips = H - L :=
  trips_nat h43 (t2_ub h43 h49 hLH hH) (by omega) (by omega)

/-- The remainder loop over the segments makes no trip. -/
theorem t7_no (k : Fin (k0_t7_loop v43 v49).trips) : False :=
  Scf.rem_no_trip v43 (Scalar.subi v49 v43) k

include h43 h49 hLH hH in
/-- Trip `k` visits segment `L + k`. -/
theorem seg_nat (k : Fin (k0_t2_loop v43 v49).trips) : (Scf.iv v43 1#32 k).toNat = L + k.val := by
  have := t2_trips h43 h49 hLH hH
  exact iv_nat h43 (by omega)

include h43 h49 hLH hH in
/-- Where a trip's row of maxima lies. -/
theorem seg_off (k : Fin (k0_t2_loop v43 v49).trips) (c : ℕ) :
    (![(Scf.iv v43 1#32 k).toNat, c] : Fin 2 → ℕ) = ![L + k.val, c] := by
  rw [seg_nat h43 h49 hLH hH k]

include h43 h49 hLH hH in
/-- Sixteen lanes of the visited segment's row lie within the table of partial maxima. -/
theorem seg_inb (k : Fin (k0_t2_loop v43 v49).trips) {c : ℕ} (hc : c + 16 ≤ 256) :
    ∀ a, (![(Scf.iv v43 1#32 k).toNat, c] : Fin 2 → ℕ) a + S1x16.size a ≤ S16x256.size a := by
  rw [seg_off h43 h49 hLH hH k c]
  have := t2_trips h43 h49 hLH hH
  refine Fin.forall_fin_two.2 ⟨?_, hc⟩
  change L + k.val + 1 ≤ 16
  omega

include h43 h49 hLH hH in
/-- The side conditions of the segment loop. -/
theorem chk1 : k0_chk1 v43 v49 :=
  ⟨⟨ok_nat h43 (t2_ub h43 h49 hLH hH) (by omega) (by omega),
    fun k => seg_inb h43 h49 hLH hH k (c := 0) (by decide),
    fun k => seg_inb h43 h49 hLH hH k (c := 16) (by decide),
    fun k => seg_inb h43 h49 hLH hH k (c := 32) (by decide),
    fun k => seg_inb h43 h49 hLH hH k (c := 48) (by decide),
    fun k => seg_inb h43 h49 hLH hH k (c := 64) (by decide),
    fun k => seg_inb h43 h49 hLH hH k (c := 80) (by decide),
    fun k => seg_inb h43 h49 hLH hH k (c := 96) (by decide),
    fun k => seg_inb h43 h49 hLH hH k (c := 112) (by decide),
    fun k => seg_inb h43 h49 hLH hH k (c := 128) (by decide),
    fun k => seg_inb h43 h49 hLH hH k (c := 144) (by decide),
    fun k => seg_inb h43 h49 hLH hH k (c := 160) (by decide),
    fun k => seg_inb h43 h49 hLH hH k (c := 176) (by decide),
    fun k => seg_inb h43 h49 hLH hH k (c := 192) (by decide),
    fun k => seg_inb h43 h49 hLH hH k (c := 208) (by decide),
    fun k => seg_inb h43 h49 hLH hH k (c := 224) (by decide),
    fun k => seg_inb h43 h49 hLH hH k (c := 240) (by decide),
    Scf.rem_ok v43 (Scalar.subi v49 v43),
    fun k => (t7_no k).elim, fun k => (t7_no k).elim, fun k => (t7_no k).elim, fun k => (t7_no k).elim, fun k => (t7_no k).elim, fun k => (t7_no k).elim, fun k => (t7_no k).elim, fun k => (t7_no k).elim, fun k => (t7_no k).elim, fun k => (t7_no k).elim, fun k => (t7_no k).elim, fun k => (t7_no k).elim, fun k => (t7_no k).elim, fun k => (t7_no k).elim⟩,
    fun k => (t7_no k).elim, fun k => (t7_no k).elim⟩

end Words

variable (d : Dev nD) (i : grid0.Coords)

/-! ## Stores into a row of the table of maxima -/

/-- The table of partial maxima holding `f`. -/
abbrev partPts (f : S16x256.Idx → F .f32) : sProp 𝕄 := (bPart).view.loc (th d i) ↦[Finset.univ]{fullShare} f

/-- `f` with the first `c` columns of row `s` replaced by `R`. -/
def upTo (f : S16x256.Idx → F .f32) (s : ℕ) (R : ℕ → F .f32) (c : ℕ) : S16x256.Idx → F .f32 :=
  fun y => if (y 0).val = s ∧ (y 1).val < c then R (y 1).val else f y

/-- With no column replaced, the table is as it was. -/
theorem upTo_zero (f : S16x256.Idx → F .f32) (s : ℕ) (R : ℕ → F .f32) : upTo f s R 0 = f := by
  funext y; unfold upTo; rw [if_neg (by omega)]

/-- With all columns replaced, row `s` is the new one. -/
theorem upTo_full (f : S16x256.Idx → F .f32) (s : ℕ) (R : ℕ → F .f32) :
    upTo f s R 256 = fun y => if (y 0).val = s then R (y 1).val else f y := by
  funext y
  have : (y 1).val < 256 := (y 1).isLt
  unfold upTo
  simp only [this, and_true]

/-- The lane `l` of sixteen. -/
theorem row_write {s c : ℕ} {off : Fin 2 → ℕ} (hoff : off = ![s, c]) (inb : ∀ a, off a + S1x16.size a ≤ S16x256.size a)
    (f : S16x256.Idx → F .f32) (R : ℕ → F .f32) (v : FVec F S16 .f32) (hv : ∀ l, v l = R (c + (l 0).val)) :
    ((bPart).access (Rect.unit (s := S16x256) off S1x16.size inb)).write (Elt F) (upTo f s R c)
      (shapeCast S1x16 v shapeCasts_S16_S1x16) Finset.univ = upTo f s R (c + 16) := by
  subst hoff
  have hb : c + 16 ≤ 256 := inb 1
  funext y
  by_cases h : (y 0).val = s ∧ c ≤ (y 1).val ∧ (y 1).val < c + 16
  · obtain ⟨h0, h1, h2⟩ := h
    have e : y = ((bPart).access (Rect.unit (s := S16x256) ![s, c] S1x16.size inb)).emb
        (fun a => match a with | 0 => ⟨0, Nat.zero_lt_one⟩ | 1 => ⟨(y 1).val - c, by show _ < 16; omega⟩) := by
      funext a
      refine Fin.ext ?_
      fin_cases a
      · change (y 0).val = s + 1 * 0; omega
      · change (y 1).val = c + 1 * ((y 1).val - c); omega
    conv_lhs => rw [e]
    rw [View.write_emb_of_mem _ _ (Finset.mem_univ _)]
    refine Eq.trans (Idealize.ShloMosaic.shapeCast_apply v shapeCasts_S16_S1x16 _
      (fun a => match a with | 0 => ⟨(y 1).val - c, by show _ < 16; omega⟩)
      (by rw [Shape.rowMajor_val_one, Shape.rowMajor_val_two]; simp)) ?_
    rw [hv]
    unfold upTo
    rw [if_pos ⟨h0, h2⟩]
    change R (c + ((y 1).val - c)) = _
    congr 1; omega
  · rw [View.write_of_not_mem]
    · unfold upTo
      by_cases h0 : (y 0).val = s
      · have : (y 1).val < c ↔ (y 1).val < c + 16 := by
          constructor
          · omega
          · intro h2; by_contra h3; exact h ⟨h0, by omega, h2⟩
        simp only [this]
      · rw [if_neg (fun hh => h0 hh.1), if_neg (fun hh => h0 hh.1)]
    · intro hy
      obtain ⟨x, -, hx⟩ := Finset.mem_map.mp hy
      have e0 : (y 0).val = s + 1 * (x 0).val := by rw [← hx]; rfl
      have e1 : (y 1).val = c + 1 * (x 1).val := by rw [← hx]; rfl
      have b0 : (x 0).val < 1 := (x 0).isLt
      have b1 : (x 1).val < 16 := (x 1).isLt
      exact h ⟨by omega, by omega, by omega⟩

/-- Sixteen columns of a row stored. -/
theorem st_part {α : Type} {s c : ℕ} {off off' : Fin 2 → ℕ} (hoff : off = ![s, c]) {f : S16x256.Idx → F .f32} {R : ℕ → F .f32} {v : FVec F S16 .f32}
    (hv : ∀ l, v l = R (c + (l 0).val)) {inb : ∀ a, off a + S1x16.size a ≤ S16x256.size a} {inb' : ∀ a, off' a + S1x16.size a ≤ S16x256.size a}
    {hl : (bPart).view.LoadsAt (Rect.unit (s := S16x256) off' S1x16.size inb').toLoadRect}
    {hx : ((bPart).access (Rect.unit (s := S16x256) off S1x16.size inb)).Stores Finset.univ}
    {hm : (Finset.univ : Finset (Rect.unit (s := S16x256) off S1x16.size inb).shape.Idx) = Finset.univ ∨ ∀ a, (Rect.unit (s := S16x256) off S1x16.size inb).stride a = 1}
    {k : PUnit → Prog (TpuEff nD τ sig (Elt F) Λ₀ (.scVector (cV i) (jV i))) α} {Q : α → sProp 𝕄} :
    partPts d i (upTo f s R c) ⊢ iprop((partPts d i (upTo f s R (c + 16)) -∗ wp frame (wpE (defs₀ (F := F)) 𝒱₀ (th d i) none) Set.univ (k ⟨⟩) Q)
      -∗ wp frame (wpE (defs₀ (F := F)) 𝒱₀ (th d i) none) Set.univ
        (.op (.load bPart (Rect.unit (s := S16x256) off' S1x16.size inb').toLoadRect hl) fun _ =>
          .op (.store bPart (Rect.unit (s := S16x256) off S1x16.size inb) (shapeCast S1x16 v shapeCasts_S16_S1x16) Finset.univ hx hm) k) Q) := by
  iintro H Hk
  iapply (wp_load 𝒱₀ (th d i) none Set.univ (Finset.subset_univ _)) $$ H
  iintro H
  iapply (wp_store 𝒱₀ (th d i) none Set.univ (m := bPart) (r := Rect.unit (s := S16x256) off S1x16.size inb) (Mk := Finset.univ) (Finset.subset_univ _)) $$ H
  rw [row_write hoff inb f R v hv]
  iexact Hk

/-! ## The initialization -/

/-- The loop that clears the table of partial maxima makes sixteen trips. -/
theorem t1_trips : k0_t1_loop.trips = 16 := by decide

/-- The first `k` rows hold the least value. -/
def Init (k : ℕ) : sProp 𝕄 := iprop(∃ f : S16x256.Idx → F .f32, ⌜∀ y, (y 0).val < k → f y = ninf⌝ ∗ partPts d i f)

/-- One row set to the least value. -/
theorem t1_trip {v2 v3 v4 : IVec S16 32} {v11 v31 v33 c0 c0' c1 : BitVec 32} (k : Fin k0_t1_loop.trips) :
    Init d i k.val ⊢ wp frame (wpE (defs₀ (F := F)) 𝒱₀ (th d i) none) Set.univ
      (k0_t1_body i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
        v2 v3 v4 v11 v31 v33 c0 c0' c1 k 0#32)
      fun r => iprop(⌜r = 0#32⌝ ∗ Init d i (k.val + 1)) := by
  have hk : k.val < 16 := lt_of_lt_of_eq k.isLt t1_trips
  have ho : ∀ c, (![(Scf.iv 0#32 1#32 k).toNat, c] : Fin 2 → ℕ) = ![k.val, c] := fun c => by
    rw [iv_nat (x := 0#32) (a := 0) rfl (by omega), Nat.zero_add]
  rw [k0_t1_body, k0_part1_eq_skeleton]
  unfold Init
  iintro ⟨%f, %hf, H⟩
  rw [← upTo_zero f k.val (fun _ => ninf)]
  iapply (st_part d i (c := 0) (ho 0) (fun _ => rfl)) $$ H; iintro H
  iapply (st_part d i (c := 16) (ho 16) (fun _ => rfl)) $$ H; iintro H
  iapply (st_part d i (c := 32) (ho 32) (fun _ => rfl)) $$ H; iintro H
  iapply (st_part d i (c := 48) (ho 48) (fun _ => rfl)) $$ H; iintro H
  iapply (st_part d i (c := 64) (ho 64) (fun _ => rfl)) $$ H; iintro H
  iapply (st_part d i (c := 80) (ho 80) (fun _ => rfl)) $$ H; iintro H
  iapply (st_part d i (c := 96) (ho 96) (fun _ => rfl)) $$ H; iintro H
  iapply (st_part d i (c := 112) (ho 112) (fun _ => rfl)) $$ H; iintro H
  iapply (st_part d i (c := 128) (ho 128) (fun _ => rfl)) $$ H; iintro H
  iapply (st_part d i (c := 144) (ho 144) (fun _ => rfl)) $$ H; iintro H
  iapply (st_part d i (c := 160) (ho 160) (fun _ => rfl)) $$ H; iintro H
  iapply (st_part d i (c := 176) (ho 176) (fun _ => rfl)) $$ H; iintro H
  iapply (st_part d i (c := 192) (ho 192) (fun _ => rfl)) $$ H; iintro H
  iapply (st_part d i (c := 208) (ho 208) (fun _ => rfl)) $$ H; iintro H
  iapply (st_part d i (c := 224) (ho 224) (fun _ => rfl)) $$ H; iintro H
  iapply (st_part d i (c := 240) (ho 240) (fun _ => rfl)) $$ H; iintro H
  iapply (ret_eq d i (P := iprop(∃ f : S16x256.Idx → F .f32, ⌜∀ y, (y 0).val < k.val + 1 → f y = ninf⌝ ∗ partPts d i f)) ?_)
  · rfl
  iexists (upTo f k.val (fun _ => ninf) 256)
  isplitr
  · ipureintro
    intro y hy
    rw [upTo_full]
    by_cases h : (y 0).val = k.val
    · exact if_pos h
    · exact (if_neg h).trans (hf y (by omega))
  iexact H

/-- Every row set to the least value. -/
theorem t1_loop {v2 v3 v4 : IVec S16 32} {v11 v31 v33 c0 c0' c1 : BitVec 32} {hok : k0_t1_loop.OK} :
    iprop(∃ f, partPts d i f) ⊢ wp frame (wpE (defs₀ (F := F)) 𝒱₀ (th d i) none) Set.univ
      (Scf.Loop.for k0_t1_loop hok 0#32 (k0_t1_body i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
        v2 v3 v4 v11 v31 v33 c0 c0' c1))
      fun r => iprop(⌜r = 0#32⌝ ∗ partPts d i fun _ => ninf) := by
  have h := loop_det (F := F) d i (l := k0_t1_loop) hok (fun _ => 0#32) (Init d i)
    (fun k => t1_trip d i (v2 := v2) (v3 := v3) (v4 := v4) (v11 := v11) (v31 := v31) (v33 := v33) (c0 := c0) (c0' := c0') (c1 := c1) k)
  have pre : iprop(∃ f, partPts d i f) ⊢ Init (F := F) d i 0 := by
    unfold Init
    iintro ⟨%f, H⟩
    iexists f
    isplitr
    · ipureintro; intro y hy; omega
    iexact H
  have post : ∀ r : BitVec 32, iprop(⌜r = 0#32⌝ ∗ Init (F := F) d i k0_t1_loop.trips) ⊢ iprop(⌜r = 0#32⌝ ∗ partPts d i fun _ => ninf) := by
    intro r
    rw [t1_trips]
    unfold Init
    iintro ⟨%hr, %f, %hf, H⟩
    have e : f = fun _ => ninf := funext fun y => hf y (y 0).isLt
    subst e
    isplitr
    · ipureintro; exact hr
    iexact H
  exact pre.trans (h.trans (wp_mono _ _ _ post))

/-! ## One segment -/

/-- A program that only answers, what holds of the answer shown. -/
theorem ret_post {α : Type} {x : α} {Q : α → sProp 𝕄} :
    Q x ⊢ wp frame (wpE (defs₀ (F := F)) 𝒱₀ (th d i) none) Set.univ (.ret x) Q := by
  rw [wp_ret]
  iintro H
  imodintro
  iexact H

section Segment

variable (q : ℕ → PosShare TreeShare) (X : S32768x512.Idx → F .f32)
variable {v11 v43 v49 v100 v105 : BitVec 32} {t s e : ℕ}

/-- The word a block count is the sixteenth part of. -/
abbrev spanW (i : grid0.Coords) (v11 v100 v105 : BitVec 32) : BitVec 32 :=
  Scalar.subi (Scalar.addi (Scalar.subi (bW i v11 v105) (a8W i v11 v100)) 16#32) 1#32

/-- A segment's words computed, their side conditions met. -/
theorem part28 {v2 v3 v4 : IVec S16 32} {k2 : Fin (k0_t2_loop v43 v49).trips}
    (hp : Piece i v11 (extractAt ![15] (k0_pay143 v3 v4 v43 v49 1#32 k2) inpos_S16_p15) (extractAt ![15] (k0_pay144 v2 v4 v43 v49 1#32 k2) inpos_S16_p15) t s e)
    {R : sProp 𝕄} :
    R ⊢ wp frame (wpE (defs₀ (F := F)) 𝒱₀ (th d i) none) Set.univ
      (k0_part28 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 v2 v3 v4 v11 (loW i v11) (hiW i v11) v43 v49 1#32 k2)
      fun r => iprop(⌜r = ⟨Scf.iv v43 1#32 k2, extractAt ![15] (k0_pay143 v3 v4 v43 v49 1#32 k2) inpos_S16_p15, chk2 hp,
        extractAt ![15] (k0_pay144 v2 v4 v43 v49 1#32 k2) inpos_S16_p15, chk3 hp,
        aW i v11 (extractAt ![15] (k0_pay143 v3 v4 v43 v49 1#32 k2) inpos_S16_p15), bW i v11 (extractAt ![15] (k0_pay144 v2 v4 v43 v49 1#32 k2) inpos_S16_p15),
        a8W i v11 (extractAt ![15] (k0_pay143 v3 v4 v43 v49 1#32 k2) inpos_S16_p15),
        spanW i v11 (extractAt ![15] (k0_pay143 v3 v4 v43 v49 1#32 k2) inpos_S16_p15) (extractAt ![15] (k0_pay144 v2 v4 v43 v49 1#32 k2) inpos_S16_p15), 16#32,
        Scalar.divsi (spanW i v11 (extractAt ![15] (k0_pay143 v3 v4 v43 v49 1#32 k2) inpos_S16_p15) (extractAt ![15] (k0_pay144 v2 v4 v43 v49 1#32 k2) inpos_S16_p15)) 16#32,
        Scalar.extui (Scalar.cmpi .sgt (spanW i v11 (extractAt ![15] (k0_pay143 v3 v4 v43 v49 1#32 k2) inpos_S16_p15) (extractAt ![15] (k0_pay144 v2 v4 v43 v49 1#32 k2) inpos_S16_p15)) 0#32),
        Scalar.extui (Scalar.cmpi .slt (spanW i v11 (extractAt ![15] (k0_pay143 v3 v4 v43 v49 1#32 k2) inpos_S16_p15) (extractAt ![15] (k0_pay144 v2 v4 v43 v49 1#32 k2) inpos_S16_p15)) 0#32)⟩⌝ ∗ R) := by
  rw [k0_part28_eq_skeleton]
  iintro H
  iapply (wp_assume 𝒱₀ (th d i) none Set.univ (chk2 hp))
  iapply (wp_assume 𝒱₀ (th d i) none Set.univ (chk3 hp))
  iapply (ret_post d i)
  isplitr
  · ipureintro; rfl
  iexact H

/-- A quotient rounded down, from the quotient rounded to zero and the words it was computed of. -/
def floorW (v128 c16 v129 v131 v133 : BitVec 32) : BitVec 32 :=
  Scalar.select (Scalar.andi (Scalar.cmpi .ne (Scalar.subi v131 v133)
      (Scalar.subi (Scalar.extui (Scalar.cmpi .sgt c16 0#32)) (Scalar.extui (Scalar.cmpi .slt c16 0#32))))
    (Scalar.cmpi .ne (Scalar.remsi v128 c16) 0#32)) (Scalar.subi v129 1#32) v129

/-- The first five copies of a segment issued. -/
theorem part29 (hp : Piece i v11 v100 v105 t s e) {hw2 : k0_chk2 i v11 v100} {hw3 : k0_chk3 i v11 v100 v105} {v125 v128 c16 v129 v131 v133 : BitVec 32} :
    bigSep (Finset.range 8) (Idle d i q X) ⊢ wp frame (wpE (defs₀ (F := F)) 𝒱₀ (th d i) none) Set.univ
      (k0_part29 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 v11 v100 hw2 v105 hw3 v125 v128 c16 v129 v131 v133)
      fun r => iprop(⌜r = floorW v128 c16 v129 v131 v133⌝ ∗ bigSep (Finset.range 8) (Slot d i q X (a8N (i 1).val t s) ((i 0).val * 256) 0 (min 5 (nbN (i 1).val t s e)))) := by
  obtain ⟨h1, h2, h3, h4, h5, h6, h7⟩ := hp.facts
  have hnb : 0 < nbN (i 1).val t s e := by omega
  have hT : ∀ p, p % 8 ∈ Finset.range 8 := fun p => Finset.mem_range.2 (Nat.mod_lt _ (by decide))
  have ho : ∀ {b : BitVec 32} {p : ℕ}, b.toNat = 16 * p → p < nbN (i 1).val t s e →
      ![(rowW i v11 v100 b).toNat, (colW i).toNat] = ![a8N (i 1).val t s + 16 * p, (i 0).val * 256] := fun hb hk => row_off hp hb hk
  rw [k0_part29_eq_skeleton, ← ring_idle d i q X (a8 := a8N (i 1).val t s) (c0 := (i 0).val * 256) (k := 0) (m := 0) (le_refl 0)]
  iintro HT
  iapply (ring_next d i q X (k := 0) (p := 0) (Finset.Subset.refl _) (hT 0) (le_refl 0) (by decide) (ho (b := 0#32) rfl hnb) rfl rfl) $$ HT
  rw [show (0 : ℕ) + 1 = min 1 (nbN (i 1).val t s e) from by omega]
  iintro HT
  iapply (ring_cond d i q X (k := 0) (p := 1) (Finset.Subset.refl _) (hT 1) (by decide) (by decide) (cond1_iff hp) (ho (b := 16#32) rfl) rfl rfl) $$ HT
  iintro HT
  iapply (ring_cond d i q X (k := 0) (p := 2) (Finset.Subset.refl _) (hT 2) (by decide) (by decide) (cond2_iff hp) (ho (b := 32#32) rfl) rfl rfl) $$ HT
  iintro HT
  iapply (ring_cond d i q X (k := 0) (p := 3) (Finset.Subset.refl _) (hT 3) (by decide) (by decide) (cond3_iff hp) (ho (b := 48#32) rfl) rfl rfl) $$ HT
  iintro HT
  iapply (ring_cond d i q X (k := 0) (p := 4) (Finset.Subset.refl _) (hT 4) (by decide) (by decide) (cond4_iff hp) (ho (b := 64#32) rfl) rfl rfl) $$ HT
  iintro HT
  iapply (ret_post d i)
  isplitr
  · ipureintro; rfl
  iexact HT

/-- The maxima of a segment's rows among the tile's, by column of the core's half. -/
def segR (t s e : ℕ) (c : ℕ) : F .f32 :=
  rowMax X (aN (i 1).val t s) (bN (i 1).val t e) ((i 0).val * 256 + c) (a8N (i 1).val t s) (16 * nbN (i 1).val t s e)

/-- The maxima after all of a piece's blocks are the segment's among the tile's rows. -/
theorem accV_segR (t s e c : ℕ) (l : S16.Idx) :
    accV X (aN (i 1).val t s) (bN (i 1).val t e) ((i 0).val * 256 + c) (a8N (i 1).val t s) (16 * nbN (i 1).val t s e) l
      = segR i X t s e (c + (l 0).val) := by
  unfold accV segR
  rw [Nat.add_assoc]

/-- The loop over what a whole number of trips leaves makes no trip. -/
theorem t5_skip {acc : Acc F} {P : sProp 𝕄} {hok : (k0_t5_loop i v11 v100 v105).OK}
    {body : Fin (k0_t5_loop i v11 v100 v105).trips → Acc F → Prog (TpuEff nD τ sig (Elt F) Λ₀ (.scVector (cV i) (jV i))) (Acc F)} :
    P ⊢ wp frame (wpE (defs₀ (F := F)) 𝒱₀ (th d i) none) Set.univ (Scf.Loop.for (k0_t5_loop i v11 v100 v105) hok acc body)
      fun r => iprop(⌜r = acc⌝ ∗ P) :=
  loop_det d i (l := k0_t5_loop i v11 v100 v105) hok (fun _ => acc) (fun _ => P) fun k => (t5_no k).elim

/-- The remaining copies issued, the blocks taken into the running maxima, the first seven groups of columns stored. -/
theorem part30 (hp : Piece i v11 v100 v105 t s e) {hw1 : k0_chk1 v43 v49} {k2 : Fin (k0_t2_loop v43 v49).trips}
    {v99 : BitVec 32} {hw3 : k0_chk3 i v11 v100 v105} {v106 v107 v125 v145 : BitVec 32}
    (ha : v106.toNat = aN (i 1).val t s) (hb : v107.toNat = bN (i 1).val t e) (h8 : v125.toNat = a8N (i 1).val t s)
    {n : ℕ} (ho : ∀ c, (![(Scf.iv v43 1#32 k2).toNat, c] : Fin 2 → ℕ) = ![n, c]) (f : S16x256.Idx → F .f32)
    {O : CellTallies nD τ sig (HIx 1)} {W : Waits sig (HIx 1)} :
    iprop(bigSep (Finset.range 8) (Slot d i q X (a8N (i 1).val t s) ((i 0).val * 256) 0 (min 5 (nbN (i 1).val t s e)))
        ∗ partPts d i f ∗ Owed d i O W ∗ MayWaits (th d i) (default : HIx 1) O)
      ⊢ wp frame (wpE (defs₀ (F := F)) 𝒱₀ (th d i) none) Set.univ
      (k0_part30 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 v11 v43 v49 hw1 (k0_pay308 (F := F)) (k0_pay309 (F := F)) (k0_pay310 (F := F)) (k0_pay311 (F := F)) (k0_pay312 (F := F)) (k0_pay313 (F := F)) (k0_pay314 (F := F)) (k0_pay315 (F := F)) (k0_pay316 (F := F)) (k0_pay317 (F := F)) (k0_pay318 (F := F)) (k0_pay319 (F := F)) (k0_pay320 (F := F)) (k0_pay321 (F := F)) (k0_pay322 (F := F)) (k0_pay323 (F := F)) k2 v99 v100 v105 hw3 v106 v107 v125 v145)
      fun r => iprop(⌜r = ⟨accV X (aN (i 1).val t s) (bN (i 1).val t e) ((i 0).val * 256 + 112) (a8N (i 1).val t s) (16 * nbN (i 1).val t s e),
          accV X (aN (i 1).val t s) (bN (i 1).val t e) ((i 0).val * 256 + 128) (a8N (i 1).val t s) (16 * nbN (i 1).val t s e),
          accV X (aN (i 1).val t s) (bN (i 1).val t e) ((i 0).val * 256 + 144) (a8N (i 1).val t s) (16 * nbN (i 1).val t s e),
          accV X (aN (i 1).val t s) (bN (i 1).val t e) ((i 0).val * 256 + 160) (a8N (i 1).val t s) (16 * nbN (i 1).val t s e),
          accV X (aN (i 1).val t s) (bN (i 1).val t e) ((i 0).val * 256 + 176) (a8N (i 1).val t s) (16 * nbN (i 1).val t s e),
          accV X (aN (i 1).val t s) (bN (i 1).val t e) ((i 0).val * 256 + 192) (a8N (i 1).val t s) (16 * nbN (i 1).val t s e),
          accV X (aN (i 1).val t s) (bN (i 1).val t e) ((i 0).val * 256 + 208) (a8N (i 1).val t s) (16 * nbN (i 1).val t s e),
          accV X (aN (i 1).val t s) (bN (i 1).val t e) ((i 0).val * 256 + 224) (a8N (i 1).val t s) (16 * nbN (i 1).val t s e),
          accV X (aN (i 1).val t s) (bN (i 1).val t e) ((i 0).val * 256 + 240) (a8N (i 1).val t s) (16 * nbN (i 1).val t s e)⟩⌝
        ∗ bigSep (Finset.range 8) (Idle d i q X) ∗ partPts d i (upTo f n (segR i X t s e) 112) ∗ Owed d i O W ∗ MayWaits (th d i) (default : HIx 1) O) := by
  have hT : ∀ p, p % 8 ∈ Finset.range 8 := fun p => Finset.mem_range.2 (Nat.mod_lt _ (by decide))
  have hof : ∀ {b : BitVec 32} {p : ℕ}, b.toNat = 16 * p → p < nbN (i 1).val t s e →
      ![(rowW i v11 v100 b).toNat, (colW i).toNat] = ![a8N (i 1).val t s + 16 * p, (i 0).val * 256] := fun hb hk => row_off hp hb hk
  have hv := accV_segR i X t s e
  rw [k0_part30_eq_skeleton]
  iintro ⟨HT, H, HO, #HM⟩
  iapply (ring_cond d i q X (k := 0) (p := 5) (Finset.Subset.refl _) (hT 5) (by decide) (by decide) (cond5_iff hp) (hof (b := 80#32) rfl) rfl rfl) $$ HT
  iintro HT
  iapply (ring_cond d i q X (k := 0) (p := 6) (Finset.Subset.refl _) (hT 6) (by decide) (by decide) (cond6_iff hp) (hof (b := 96#32) rfl) rfl rfl) $$ HT
  iintro HT
  iapply (wp_seq d i (t3_loop d i q X hp (hw1 := hw1) (O := O) (W := W) ha hb h8)) $$ [HT HO]
  · unfold BlkInv
    isplitl [HT]; · iexact HT
    isplitl [HO]; · iexact HO
    iexact HM
  unfold BlkInv
  rw [ring_idle d i q X (Nat.min_le_right _ _)]
  iintro ⟨HT, HO, -⟩
  unfold accT
  iapply (wp_seq d i (t5_skip d i (v11 := v11) (v100 := v100) (v105 := v105) (hok := k0_t5_ok i v11 v100 v105 hw3) (P := partPts d i f))) $$ H
  iintro H
  rw [← upTo_zero f n (segR i X t s e)]
  iapply (st_part d i (c := 0) (ho 0) (hv 0)) $$ H; iintro H
  iapply (st_part d i (c := 16) (ho 16) (hv 16)) $$ H; iintro H
  iapply (st_part d i (c := 32) (ho 32) (hv 32)) $$ H; iintro H
  iapply (st_part d i (c := 48) (ho 48) (hv 48)) $$ H; iintro H
  iapply (st_part d i (c := 64) (ho 64) (hv 64)) $$ H; iintro H
  iapply (st_part d i (c := 80) (ho 80) (hv 80)) $$ H; iintro H
  iapply (st_part d i (c := 96) (ho 96) (hv 96)) $$ H; iintro H
  iapply (ret_post d i)
  isplitr
  · ipureintro; rfl
  rw [upTo_zero]
  isplitl [HT]; · iexact HT
  isplitl [H]; · iexact H
  isplitl [HO]; · iexact HO
  iexact HM

end Segment

/-! ## The loop over the visited segments -/

section Visit

variable (q : ℕ → PosShare TreeShare) (X : S32768x512.Idx → F .f32) (v0 : Vec F S16 .i32)

/-- The first segment the tile visits. -/
abbrev segLo : ℕ := sLo (szN v0) (loN (i 1).val (totN v0))
/-- One past the last segment the tile visits. -/
abbrev segHi : ℕ := sHi (szN v0) (hiN (i 1).val (totN v0))

/-- The tile's partial maxima of segment `s`, by column of the core's half. -/
def partRow (s c : ℕ) : F .f32 :=
  if segLo i v0 ≤ s ∧ s < segHi i v0 then segR i X (totN v0) (cum (szN v0) s) (cum (szN v0) (s + 1)) c else ninf

/-- The table of partial maxima with the segments before `n` done. -/
def partF (n : ℕ) : S16x256.Idx → F .f32 := fun y => if (y 0).val < n then partRow i X v0 (y 0).val (y 1).val else ninf

/-- Before the first visited segment the table is −∞ throughout. -/
theorem partF_lo : partF i X v0 (segLo i v0) = fun _ => ninf := by
  funext y
  unfold partF partRow
  split
  · rw [if_neg (by omega)]
  · rfl

/-- After the last visited segment every row is done. -/
theorem partF_hi : partF i X v0 (segHi i v0) = fun y => partRow i X v0 (y 0).val (y 1).val := by
  funext y
  unfold partF
  split
  · rfl
  · unfold partRow; rw [if_neg (by omega)]

/-- Writing segment `n`'s maxima takes the table with the segments before `n` done to the one with `n` done too. -/
theorem partF_step {n : ℕ} (h1 : segLo i v0 ≤ n) (h2 : n < segHi i v0) :
    upTo (partF i X v0 n) n (segR i X (totN v0) (cum (szN v0) n) (cum (szN v0) (n + 1))) 256 = partF i X v0 (n + 1) := by
  rw [upTo_full]
  funext y
  unfold partF
  by_cases h : (y 0).val = n
  · rw [if_pos h, if_pos (by omega), h]; unfold partRow; rw [if_pos ⟨h1, h2⟩]
  · rw [if_neg h]
    by_cases h' : (y 0).val < n
    · rw [if_pos h', if_pos (by omega)]
    · rw [if_neg h', if_neg (by omega)]

variable {v0} (hz : SizesOk v0)

/-- Before the visit of segment `n`. -/
def SegInv (O : CellTallies nD τ sig (HIx 1)) (W : Waits sig (HIx 1)) (n : ℕ) : sProp 𝕄 :=
  iprop(partPts d i (partF i X v0 n) ∗ bigSep (Finset.range 8) (Idle d i q X) ∗ Owed d i O W ∗ MayWaits (th d i) (default : HIx 1) O)

/-- The word of the first visited segment. -/
abbrev v43W : BitVec 32 := extractAt ![15] (k0_pay306 (k0_pay296 v0) (loW i (v11W v0))) inpos_S16_p15
/-- The word one past the last visited segment. -/
abbrev v49W : BitVec 32 := extractAt ![15] (k0_pay307 (k0_pay297 v0) (hiW i (v11W v0))) inpos_S16_p15

include hz in
/-- The visited segments are an interval of the sixteen, and each has a row in the tile's range. -/
theorem visit_segs : segLo i v0 ≤ segHi i v0 ∧ segHi i v0 ≤ 16 ∧ ∀ s, segLo i v0 ≤ s → s < segHi i v0 →
    aN (i 1).val (totN v0) (cum (szN v0) s) < bN (i 1).val (totN v0) (cum (szN v0) (s + 1)) := visit_facts hz

/-- The word a trip picks out of a vector of sixteen, by the trip's segment. -/
theorem seg_start {v3 : IVec S16 32} {v43 v49 : BitVec 32} {k : Fin (k0_t2_loop v43 v49).trips} {s n : ℕ} (hk : (Scf.iv v43 1#32 k).toNat = s) (hs : s < 16)
    (hx : (v3 (lane ⟨s, hs⟩)).toNat = n) (hn : n < 2 ^ 31) :
    (extractAt ![15] (k0_pay143 v3 iotaW v43 v49 1#32 k) inpos_S16_p15).toNat = n := by
  have e : k0_pay143 v3 iotaW v43 v49 1#32 k = scan .sum (select (cmpi .eq iotaW (broadcast S16 (Scf.iv v43 1#32 k.val))) v3 (broadcast S16 0#32)) := rfl
  rw [extract15, e]
  exact picked_nat hk hs hx hn

/-- The word a trip picks out of the second vector of sixteen, by the trip's segment. -/
theorem seg_end {v2 : IVec S16 32} {v43 v49 : BitVec 32} {k : Fin (k0_t2_loop v43 v49).trips} {s n : ℕ} (hk : (Scf.iv v43 1#32 k).toNat = s) (hs : s < 16)
    (hx : (v2 (lane ⟨s, hs⟩)).toNat = n) (hn : n < 2 ^ 31) :
    (extractAt ![15] (k0_pay144 v2 iotaW v43 v49 1#32 k) inpos_S16_p15).toNat = n := by
  have e : k0_pay144 v2 iotaW v43 v49 1#32 k = scan .sum (select (cmpi .eq iotaW (broadcast S16 (Scf.iv v43 1#32 k.val))) v2 (broadcast S16 0#32)) := rfl
  rw [extract15, e]
  exact picked_nat hk hs hx hn

include hz in
/-- The word of the first visited segment. -/
theorem segLo_nat : (v43W i (v0 := v0)).toNat = segLo i v0 := by
  have h := totN_le hz
  exact v43_nat hz (loW_nat (i := i) (v11_nat hz) h) (by have := loN_le _ (i1_lt i) h; omega)

include hz in
/-- The word of one past the last visited segment. -/
theorem segHi_nat : (v49W i (v0 := v0)).toNat = segHi i v0 := by
  have h := totN_le hz
  exact v49_nat hz (hiW_nat (i := i) (v11_nat hz) h) (by have : hiN (i 1).val (totN v0) ≤ totN v0 := Nat.min_le_right _ _; omega)

include hz in
/-- The side condition on the loop over the visited segments. -/
theorem visit_chk1 : k0_chk1 (v43W i (v0 := v0)) (v49W i (v0 := v0)) :=
  chk1 (segLo_nat i hz) (segHi_nat i hz) (visit_segs i hz).1 (visit_segs i hz).2.1

include hz in
/-- A visited segment's rows among the tile's. -/
theorem visit_piece (k : Fin (k0_t2_loop (v43W i (v0 := v0)) (v49W i (v0 := v0))).trips) :
    Piece i (v11W v0) (extractAt ![15] (k0_pay143 (k0_pay297 v0) iotaW (v43W i (v0 := v0)) (v49W i (v0 := v0)) 1#32 k) inpos_S16_p15)
      (extractAt ![15] (k0_pay144 (k0_pay296 v0) iotaW (v43W i (v0 := v0)) (v49W i (v0 := v0)) 1#32 k) inpos_S16_p15)
      (totN v0) (cum (szN v0) (segLo i v0 + k.val)) (cum (szN v0) (segLo i v0 + k.val + 1)) := by
  obtain ⟨f1, f2, f3⟩ := visit_segs i hz
  have hk : k.val < segHi i v0 - segLo i v0 := lt_of_lt_of_eq k.isLt (t2_trips (segLo_nat i hz) (segHi_nat i hz) f1 f2)
  have hs : segLo i v0 + k.val < 16 := by omega
  have hn := seg_nat (segLo_nat i hz) (segHi_nat i hz) f1 f2 k
  have c0 := cum_le_tot hz (n := segLo i v0 + k.val) (by omega)
  have c1 := cum_le_tot hz (n := segLo i v0 + k.val + 1) (by omega)
  refine ⟨v11_nat hz, totN_le hz, ?_, c0, ?_, c1, f3 _ (by omega) (by omega)⟩
  · exact seg_start hn hs (starts_nat hz ⟨_, hs⟩) (by omega)
  · exact seg_end hn hs (ends_nat hz ⟨_, hs⟩) (by omega)

include hz in
/-- One segment visited. -/
theorem t2_trip {c8 c9 c11 : BitVec 32} {hw1 : k0_chk1 (v43W i (v0 := v0)) (v49W i (v0 := v0))}
    {O : CellTallies nD τ sig (HIx 1)} {W : Waits sig (HIx 1)} (k : Fin (k0_t2_loop (v43W i (v0 := v0)) (v49W i (v0 := v0))).trips) :
    SegInv d i q X (v0 := v0) O W (segLo i v0 + k.val) ⊢ wp frame (wpE (defs₀ (F := F)) 𝒱₀ (th d i) none) Set.univ
      (k0_t2_body i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
        (k0_pay296 v0) (k0_pay297 v0) iotaW (v11W v0) (loW i (v11W v0)) (hiW i (v11W v0)) c8 c9 c11 (v43W i (v0 := v0)) (v49W i (v0 := v0)) hw1 k 0#32)
      fun r => iprop(⌜r = 0#32⌝ ∗ SegInv d i q X (v0 := v0) O W (segLo i v0 + (k.val + 1))) := by
  obtain ⟨f1, f2, f3⟩ := visit_segs i hz
  have hk : k.val < segHi i v0 - segLo i v0 := lt_of_lt_of_eq k.isLt (t2_trips (segLo_nat i hz) (segHi_nat i hz) f1 f2)
  have hp := visit_piece i hz k
  have ho := seg_off (segLo_nat i hz) (segHi_nat i hz) f1 f2 k
  have hv := accV_segR i X (totN v0) (cum (szN v0) (segLo i v0 + k.val)) (cum (szN v0) (segLo i v0 + k.val + 1))
  rw [k0_t2_body]
  unfold SegInv
  iintro ⟨H, HT, HO, #HM⟩
  iapply (wp_seq d i (part28 d i hp)) $$ HT
  iintro HT
  iapply (wp_seq d i (part29 d i q X hp (hw2 := chk2 hp) (hw3 := chk3 hp))) $$ HT
  iintro HT
  iapply (wp_seq d i (part30 d i q X hp (hw1 := hw1) (hw3 := chk3 hp) (O := O) (W := W) (aW_nat hp.h11 hp.ht hp.h100 hp.hs) (bW_nat hp.h11 hp.ht hp.h105 hp.he)
    (a8W_nat hp.h11 hp.ht hp.h100 hp.hs) ho (partF i X v0 (segLo i v0 + k.val)))) $$ [HT H HO]
  · isplitl [HT]; · iexact HT
    isplitl [H]; · iexact H
    isplitl [HO]; · iexact HO
    iexact HM
  iintro ⟨HT, H, HO, -⟩
  iapply (st_part d i (c := 112) (ho 112) (hv 112)) $$ H; iintro H
  iapply (st_part d i (c := 128) (ho 128) (hv 128)) $$ H; iintro H
  iapply (st_part d i (c := 144) (ho 144) (hv 144)) $$ H; iintro H
  iapply (st_part d i (c := 160) (ho 160) (hv 160)) $$ H; iintro H
  iapply (st_part d i (c := 176) (ho 176) (hv 176)) $$ H; iintro H
  iapply (st_part d i (c := 192) (ho 192) (hv 192)) $$ H; iintro H
  iapply (st_part d i (c := 208) (ho 208) (hv 208)) $$ H; iintro H
  iapply (st_part d i (c := 224) (ho 224) (hv 224)) $$ H; iintro H
  iapply (st_part d i (c := 240) (ho 240) (hv 240)) $$ H; iintro H
  iapply (ret_post d i)
  isplitr
  · ipureintro; rfl
  rw [partF_step i X v0 (n := segLo i v0 + k.val) (by omega) (by omega)]
  isplitl [H]; · iexact H
  isplitl [HT]; · iexact HT
  isplitl [HO]; · iexact HO
  iexact HM

include hz in
/-- Every visited segment visited: the table of partial maxima whole. -/
theorem t2_loop {c8 c9 c11 : BitVec 32} {hw1 : k0_chk1 (v43W i (v0 := v0)) (v49W i (v0 := v0))}
    {O : CellTallies nD τ sig (HIx 1)} {W : Waits sig (HIx 1)} {hok : (k0_t2_loop (v43W i (v0 := v0)) (v49W i (v0 := v0))).OK} :
    iprop((partPts d i fun _ => ninf) ∗ bigSep (Finset.range 8) (Idle d i q X) ∗ Owed d i O W ∗ MayWaits (th d i) (default : HIx 1) O)
      ⊢ wp frame (wpE (defs₀ (F := F)) 𝒱₀ (th d i) none) Set.univ
      (Scf.Loop.for (k0_t2_loop (v43W i (v0 := v0)) (v49W i (v0 := v0))) hok 0#32 (k0_t2_body i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
        (k0_pay296 v0) (k0_pay297 v0) iotaW (v11W v0) (loW i (v11W v0)) (hiW i (v11W v0)) c8 c9 c11 (v43W i (v0 := v0)) (v49W i (v0 := v0)) hw1))
      fun r => iprop(⌜r = 0#32⌝ ∗ (partPts d i fun y => partRow i X v0 (y 0).val (y 1).val) ∗ bigSep (Finset.range 8) (Idle d i q X) ∗ Owed d i O W ∗ MayWaits (th d i) (default : HIx 1) O) := by
  obtain ⟨f1, f2, f3⟩ := visit_segs i hz
  have h := loop_det (F := F) d i (l := k0_t2_loop (v43W i (v0 := v0)) (v49W i (v0 := v0))) hok (fun _ => 0#32)
    (fun k => SegInv d i q X (v0 := v0) O W (segLo i v0 + k)) (fun k => t2_trip d i q X hz (hw1 := hw1) (c8 := c8) (c9 := c9) (c11 := c11) k)
  rw [t2_trips (segLo_nat i hz) (segHi_nat i hz) f1 f2, show segLo i v0 + (segHi i v0 - segLo i v0) = segHi i v0 from by omega] at h
  unfold SegInv at h
  rw [partF_hi, Nat.add_zero, partF_lo] at h
  exact h

/-- The remainder loop over the segments does nothing. -/
theorem t7_skip {v43 v49 acc : BitVec 32} {P : sProp 𝕄} {hok : (k0_t7_loop v43 v49).OK}
    {body : Fin (k0_t7_loop v43 v49).trips → BitVec 32 → Prog (TpuEff nD τ sig (Elt F) Λ₀ (.scVector (cV i) (jV i))) (BitVec 32)} :
    P ⊢ wp frame (wpE (defs₀ (F := F)) 𝒱₀ (th d i) none) Set.univ (Scf.Loop.for (k0_t7_loop v43 v49) hok acc body)
      fun r => iprop(⌜r = acc⌝ ∗ P) :=
  loop_det d i (l := k0_t7_loop v43 v49) hok (fun _ => acc) (fun _ => P) fun k => (t7_no k).elim

end Visit

end Cert.KernelIdeal.DMax
-- ==== Proof.Copies.lean ====
module

public import proofs.«01_k».proof.Proof.Segs

/-!
  A tile's copies of its rows of partial maxima into the shared memory, each row into the row of the tile that merges it,
  and what is in the shared memory afterwards, as a function of the kernel's inputs.
-/

@[expose] public section

noncomputable section

namespace Cert.KernelIdeal.DMax

open Cert.KernelIdeal Cert.KernelIdeal.Gen
open Idealize.ShloMosaic Idealize.ShloMosaic.WordArith
open Idealize.ShloMosaic.SparseCore (S V T)
open Idealize.ShloMosaic.SparseCore.Cfg (HIx Pay)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Leading axes of size one -/

/-- A leading coordinate on an axis of size one does not count in the row-major number. -/
theorem rowMajor_one {n : ℕ} (d : Fin n → ℕ) (x : (⟨n, d⟩ : Shape).Idx) :
    ((Shape.rowMajorPi (Matrix.vecCons 1 d) (Fin.cons ⟨0, Nat.one_pos⟩ x) : Fin _) : ℕ) = (Shape.rowMajorPi d x : ℕ) := by
  rw [Shape.rowMajorPi_succ_val]
  change 0 * _ + (Shape.rowMajorPi d x : ℕ) = _
  rw [Nat.zero_mul, Nat.zero_add]

/-- Two dropped leading axes of size one. -/
theorem drop_two {n : ℕ} {d : Fin n → ℕ} (h : (⟨n, d⟩ : Shape).numel = (⟨n + 2, Matrix.vecCons 1 (Matrix.vecCons 1 d)⟩ : Shape).numel)
    (x : (⟨n, d⟩ : Shape).Idx) : Shape.reshapeEquiv h x = Fin.cons ⟨0, Nat.one_pos⟩ (Fin.cons ⟨0, Nat.one_pos⟩ x) :=
  Shape.reshapeEquiv_eq_of_rowMajor h ((rowMajor_one _ _).trans (rowMajor_one _ _))

/-- Three dropped leading axes of size one. -/
theorem drop_three {n : ℕ} {d : Fin n → ℕ}
    (h : (⟨n, d⟩ : Shape).numel = (⟨n + 3, Matrix.vecCons 1 (Matrix.vecCons 1 (Matrix.vecCons 1 d))⟩ : Shape).numel) (x : (⟨n, d⟩ : Shape).Idx) :
    Shape.reshapeEquiv h x = Fin.cons ⟨0, Nat.one_pos⟩ (Fin.cons ⟨0, Nat.one_pos⟩ (Fin.cons ⟨0, Nat.one_pos⟩ x)) :=
  Shape.reshapeEquiv_eq_of_rowMajor h (((rowMajor_one _ _).trans (rowMajor_one _ _)).trans (rowMajor_one _ _))

/-! ## What the shared memory holds -/

/-- The partial maximum tile `w` of half `h` has of segment `s`, column `c` of that half. -/
def partN (h w : ℕ) (X : S32768x512.Idx → F .f32) (v0 : IVec S16 32) (s c : ℕ) : F .f32 :=
  if sLo (szN v0) (loN w (totN v0)) ≤ s ∧ s < sHi (szN v0) (hiN w (totN v0)) then
    rowMax X (aN w (totN v0) (cum (szN v0) s)) (bN w (totN v0) (cum (szN v0) (s + 1))) (h * 256 + c)
      (a8N w (totN v0) (cum (szN v0) s)) (16 * nbN w (totN v0) (cum (szN v0) s) (cum (szN v0) (s + 1)))
  else ninf

/-- The shared memory after every tile's copies: at (half, segment, tile, column), that tile's partial maximum. -/
def shF (X : S32768x512.Idx → F .f32) (v0 : IVec S16 32) (y : S2x16x16x256.Idx) : F .f32 :=
  partN (y 0).val (y 2).val X v0 (y 1).val (y 3).val

/-- A tile's row of partial maxima is its coordinates' `partN`. -/
theorem partRow_eq (i : grid0.Coords) (X : S32768x512.Idx → F .f32) (v0 : IVec S16 32) (s c : ℕ) :
    partRow i X v0 s c = partN (i 0).val (i 1).val X v0 s c := rfl

variable (d : Dev nD) (i : grid0.Coords)

/-- Ownership of a set of the shared memory's elements, at given contents. -/
abbrev shPts (S : Finset S2x16x16x256.Idx) (g : S2x16x16x256.Idx → F .f32) : sProp 𝕄 :=
  (bSh).view.loc (th d i) ↦[S]{fullShare} g

/-- The row of the shared memory tile `w` of half `h` fills for segment `s`. -/
def shSet (h s w : ℕ) : Finset S2x16x16x256.Idx := Finset.univ.filter fun y => (y 0).val = h ∧ (y 1).val = s ∧ (y 2).val = w

/-- A row of a tile's table of partial maxima. -/
def partSet (k : ℕ) : Finset S16x256.Idx := Finset.univ.filter fun y => (y 0).val = k

/-- Row `k` of the table of partial maxima. -/
abbrev rowM (k : ℕ) (inb : ∀ a, (![k, 0] : Fin 2 → ℕ) a + S1x256.size a ≤ S16x256.size a) : Memref sig .scVector .vmem S256 .f32 :=
  (bPart.slice (Rect.unit (s := S16x256) ![k, 0] S1x256.size inb) (fun _ => rfl)).squeeze S256 squeezes_S1x256_S256

/-- The row of the shared memory at an offset. -/
abbrev shM (off : Fin 4 → ℕ) (inb : ∀ a, off a + S1x1x1x256.size a ≤ S2x16x16x256.size a) : Memref sig .scVector .shared S256 .f32 :=
  (bSh.slice (Rect.unit (s := S2x16x16x256) off S1x1x1x256.size inb) (fun _ => rfl)).squeeze S256 squeezes_S1x1x1x256_S256

/-- Its elements are those of row `k`. -/
theorem rowM_set {k : ℕ} (inb) : (rowM k inb).view.set = partSet k := by
  refine (View.set_reshape _ _).trans ((View.set_slice_whole cc0_scratch2 _).trans ?_)
  ext y
  rw [Rect.mem_set_unit]
  simp only [partSet, Finset.mem_filter, Finset.mem_univ, true_and]
  refine Fin.forall_fin_two.trans ?_
  change (k ≤ (y 0).val ∧ (y 0).val < k + 1) ∧ (0 ≤ (y 1).val ∧ (y 1).val < 0 + 256) ↔ _
  have h1 : (y 1).val < 256 := (y 1).isLt
  omega

/-- Its elements are those tile `w` of half `h` fills for segment `s`. -/
theorem shM_set {h s w : ℕ} {off : Fin 4 → ℕ} (ho : off = ![h, s, w, 0]) (inb) : (shM off inb).view.set = shSet h s w := by
  subst ho
  refine (View.set_reshape _ _).trans ((View.set_slice_whole cc0_scratch6 _).trans ?_)
  ext y
  rw [Rect.mem_set_unit]
  simp only [shSet, Finset.mem_filter, Finset.mem_univ, true_and]
  have h3 : (y 3).val < 256 := (y 3).isLt
  constructor
  · intro hy
    have e0 : h ≤ (y 0).val ∧ (y 0).val < h + 1 := hy 0
    have e1 : s ≤ (y 1).val ∧ (y 1).val < s + 1 := hy 1
    have e2 : w ≤ (y 2).val ∧ (y 2).val < w + 1 := hy 2
    omega
  · rintro ⟨e0, e1, e2⟩ a
    match a with
    | 0 => change h ≤ (y 0).val ∧ (y 0).val < h + 1; omega
    | 1 => change s ≤ (y 1).val ∧ (y 1).val < s + 1; omega
    | 2 => change w ≤ (y 2).val ∧ (y 2).val < w + 1; omega
    | 3 => change 0 ≤ (y 3).val ∧ (y 3).val < 0 + 256; omega

/-- The contents of a tile's table whose rows are its partial maxima. -/
abbrev partT (X : S32768x512.Idx → F .f32) (v0 : IVec S16 32) : S16x256.Idx → F .f32 :=
  fun y => partRow i X v0 (y 0).val (y 1).val

/-- Row `k` of a table, at a row's index. -/
def rowIx (k : ℕ) (z : S256.Idx) : S16x256.Idx := fun a => match a with
  | 0 => ⟨k % 16, Nat.mod_lt _ (by decide)⟩
  | 1 => z 0

/-- The element of a table's row a copy reads. -/
theorem rowM_emb {k : ℕ} (hk : k < 16) (inb) (z : S256.Idx) : (rowM k inb).view.emb z = rowIx k z := by
  change (Rect.unit (s := S16x256) ![k, 0] S1x256.size inb).emb (Shape.reshapeEquiv _ z) = _
  rw [show (Shape.reshapeEquiv (squeezes_S1x256_S256).numel_eq z) = (Fin.cons ⟨0, Nat.one_pos⟩ z : S1x256.Idx) from Shape.reshapeEquiv_cons_one _ z]
  funext a
  match a with
  | 0 => exact Fin.ext (by change k + 1 * 0 = k % 16; omega)
  | 1 => exact Fin.ext (by change 0 + 1 * (z 0).val = (z 0).val; omega)

/-- The element of the shared memory a copy writes at column `c`. -/
theorem shM_emb {h s w : ℕ} {off : Fin 4 → ℕ} (ho : off = ![h, s, w, 0]) (inb) (z : S256.Idx) (y : S2x16x16x256.Idx)
    (e0 : (y 0).val = h) (e1 : (y 1).val = s) (e2 : (y 2).val = w) (e3 : (y 3).val = (z 0).val) : (shM off inb).view.emb z = y := by
  subst ho
  change (Rect.unit (s := S2x16x16x256) ![h, s, w, 0] S1x1x1x256.size inb).emb (Shape.reshapeEquiv _ z) = y
  rw [show (Shape.reshapeEquiv (squeezes_S1x1x1x256_S256).numel_eq z) = (Fin.cons ⟨0, Nat.one_pos⟩ (Fin.cons ⟨0, Nat.one_pos⟩ (Fin.cons ⟨0, Nat.one_pos⟩ z)) : S1x1x1x256.Idx) from drop_three _ z]
  funext a
  match a with
  | 0 => exact Fin.ext (by change h + 1 * 0 = (y 0).val; omega)
  | 1 => exact Fin.ext (by change s + 1 * 0 = (y 1).val; omega)
  | 2 => exact Fin.ext (by change w + 1 * 0 = (y 2).val; omega)
  | 3 => exact Fin.ext (by change 0 + 1 * (z 0).val = (y 3).val; omega)

/-- A copy of a row reads the row. -/
theorem rowM_read {k : ℕ} (hk : k < 16) (inb) (f : S16x256.Idx → F .f32) (z : S256.Idx) :
    (rowM k inb).view.read (Elt F) f z = f (rowIx k z) :=
  congrArg f (rowM_emb hk inb z)

/-- A copy's row of the table, at its values. -/
theorem partT_row (X : S32768x512.Idx → F .f32) (v0 : IVec S16 32) {k : ℕ} (hk : k < 16) (z : S256.Idx) :
    partT i X v0 (rowIx k z) = partN (i 0).val (i 1).val X v0 k (z 0).val := by
  change partN (i 0).val (i 1).val X v0 (k % 16) (z 0).val = _
  rw [Nat.mod_eq_of_lt hk]

/-- A copied row holds what the table's row held. -/
theorem row_copied (f : S16x256.Idx → F .f32) (G : S2x16x16x256.Idx → F .f32) {h s w : ℕ} (hs : s < 16) {off : Fin 4 → ℕ} (ho : off = ![h, s, w, 0]) (inbs) (inbd)
    (hG : ∀ y ∈ shSet h s w, ∀ z : S256.Idx, (y 3).val = (z 0).val → f (rowIx s z) = G y) (fd : S2x16x16x256.Idx → F .f32) :
    ∀ y ∈ shSet h s w, (shM off inbd).view.write (Elt F) fd ((rowM s inbs).view.read (Elt F) f) Finset.univ y = G y := by
  intro y hy
  obtain ⟨e0, e1, e2⟩ : (y 0).val = h ∧ (y 1).val = s ∧ (y 2).val = w := by
    simpa only [shSet, Finset.mem_filter, Finset.mem_univ, true_and] using hy
  have h3 : (y 3).val < 256 := (y 3).isLt
  obtain ⟨z, hz⟩ : ∃ z : S256.Idx, (y 3).val = (z 0).val := ⟨fun a => match a with | 0 => ⟨(y 3).val, h3⟩, rfl⟩
  have hm : (shM off inbd).view.emb z = y := shM_emb ho inbd z y e0 e1 e2 hz
  have hw := View.write_emb_of_mem (v := (shM off inbd).view) (Val := Elt F) fd ((rowM s inbs).view.read (Elt F) f) (Finset.mem_univ z)
  rw [hm] at hw
  exact hw.trans ((rowM_read hs inbs f z).trans (hG y hy z hz))

/-- A tile's rows of partial maxima are what `shF` says of them. -/
theorem partT_sh (X : S32768x512.Idx → F .f32) (v0 : IVec S16 32) {k : ℕ} (hk : k < 16) :
    ∀ y ∈ shSet (i 0).val k (i 1).val, ∀ z : S256.Idx, (y 3).val = (z 0).val → partT i X v0 (rowIx k z) = shF X v0 y := by
  intro y hy z hz
  obtain ⟨e0, e1, e2⟩ : (y 0).val = (i 0).val ∧ (y 1).val = k ∧ (y 2).val = (i 1).val := by
    simpa only [shSet, Finset.mem_filter, Finset.mem_univ, true_and] using hy
  refine (partT_row i X v0 hk z).trans ?_
  unfold shF
  rw [e0, e1, e2, hz]

/-! ## One copy -/

/-- The first row lies within the shared memory. -/
theorem inb_sh : ∀ a, (![0, 0, 0, 0] : Fin 4 → ℕ) a + S1x1x1x256.size a ≤ S2x16x16x256.size a := by decide

/-- What a row's copy counts on its semaphore. -/
abbrev rowN : ℕ := (shM ![0, 0, 0, 0] inb_sh).view.dmaCredit

/-- A row not yet copied: its row of the shared memory at any contents, its semaphore at zero. -/
def RowTodo (k : ℕ) (sm : DmaSem sig) : sProp 𝕄 :=
  iprop((∃ g, shPts d i (shSet (i 0).val k (i 1).val) g) ∗ semVal (th d i, .dma sm) 0)

/-- A row copied. -/
def RowDone (X : S32768x512.Idx → F .f32) (v0 : IVec S16 32) (k : ℕ) (sm : DmaSem sig) : sProp 𝕄 :=
  iprop(shPts d i (shSet (i 0).val k (i 1).val) (shF X v0) ∗ semVal (th d i, .dma sm) 0)

/-- A row's copy in flight: the row of the table and of the shared memory come back with it. -/
def RowBusy (X : S32768x512.Idx → F .f32) (v0 : IVec S16 32) (k : ℕ) (sm : DmaSem sig) : sProp 𝕄 :=
  iprop(Flight countersEmb (th d i) (.dma sm) default rowN
      (iprop(shPts d i (shSet (i 0).val k (i 1).val) (shF X v0) ∗ (bPart).view.loc (th d i) ↦[partSet k]{fullShare} partT i X v0))
    ∗ (bPart).view.loc (th d i) ↦[Finset.univ \ partSet k]{fullShare} partT i X v0)

/-- A copy of a row issued: it is in flight. -/
theorem row_issue {α : Type} {X : S32768x512.Idx → F .f32} {v0 : IVec S16 32} {k : ℕ} (hk : k < 16) {off : Fin 4 → ℕ} {sm : DmaSem sig}
    (ho : off = ![(i 0).val, k, (i 1).val, 0]) {inbs} {inbd} {hw} {hw'} {hsem}
    {kk : PUnit → Prog (TpuEff nD τ sig (Elt F) Λ₀ (.scVector (cV i) (jV i))) α} {Q : α → sProp 𝕄} :
    iprop(partPts d i (partT i X v0) ∗ RowTodo d i k sm)
      ⊢ iprop((RowBusy d i X v0 k sm -∗ wp frame (wpE (defs₀ (F := F)) 𝒱₀ (th d i) none) Set.univ (kk ⟨⟩) Q)
      -∗ wp frame (wpE (defs₀ (F := F)) 𝒱₀ (th d i) none) Set.univ
        (.op (.enqueueDma (rowM k inbs) (.here (shM off inbd)) (.dma sm) hw hw' hsem) kk) Q) := by
  unfold RowTodo RowBusy
  iintro ⟨Hp, ⟨%g, Hg⟩, Hs⟩ Hk
  ihave Hp := (pointsTo_split_subset (Finset.subset_univ (partSet k))).1 $$ Hp
  icases Hp with ⟨Hp, Hr⟩
  iapply (Transfers.wp_dmaLocal countersEmb 𝒱₀ (th d i) none (q := fullShare) (fs := partT i X v0) (Sd := shSet (i 0).val k (i 1).val) (fd := g) (default : HIx 1) rowN
    (show _ = rowN from rfl) (View.dmaCredit_pos _ (by decide)) (by rw [shM_set ho])) $$ [Hp Hg Hs]
  · rw [rowM_set]
    isplitl [Hp]; · iexact Hp
    isplitl [Hg]; · iexact Hg
    iexact Hs
  iintro HF
  iapply Hk
  isplitl [HF]
  · iapply (Transfers.Flight_mono ?_) $$ HF
    rw [rowM_set]
    iintro ⟨Hd, Hx⟩
    isplitl [Hd]
    · iapply (Entails.of_eq (pointsTo_congr (row_copied (partT i X v0) (shF X v0) hk ho inbs inbd (partT_sh i X v0 hk) g))) $$ Hd
    iexact Hx
  · iexact Hr

/-- The wait for a row's copy: the table whole again, the row of the shared memory at its values. -/
theorem row_await {α : Type} {X : S32768x512.Idx → F .f32} {v0 : IVec S16 32} {k : ℕ} {off : Fin 4 → ℕ} {sm : DmaSem sig}
    {O : CellTallies nD τ sig (HIx 1)} {W : Waits sig (HIx 1)} {inbs} {inbd} {hw} {hw'}
    {kk : PUnit → Prog (TpuEff nD τ sig (Elt F) Λ₀ (.scVector (cV i) (jV i))) α} {Q : α → sProp 𝕄} :
    iprop(RowBusy d i X v0 k sm ∗ Owed d i O W ∗ MayWaits (th d i) (default : HIx 1) O)
      ⊢ iprop((iprop(partPts d i (partT i X v0) ∗ RowDone d i X v0 k sm ∗ Owed d i O W)
          -∗ wp frame (wpE (defs₀ (F := F)) 𝒱₀ (th d i) none) Set.univ (kk ⟨⟩) Q)
      -∗ wp frame (wpE (defs₀ (F := F)) 𝒱₀ (th d i) none) Set.univ
        (.op (.waitDma2 sm (rowM k inbs) (shM off inbd) hw hw') kk) Q) := by
  unfold RowBusy RowDone
  iintro ⟨⟨HF, Hr⟩, HO, #HM⟩ Hk
  unfold Owed
  icases HO with ⟨%W', %hW, HO⟩
  iapply (Transfers.wp_waitLocalO countersEmb 𝒱₀ (th d i) none (hsrc := hw) (hdst := hw') (default : HIx 1) (show _ = rowN from rfl)) $$ [HF HO]
  · isplitl [HF]; · iexact HF
    isplitl [HO]; · iexact HO
    iapply (Transfers.MayWaits.elim (.dma sm)) $$ HM
  iintro ⟨⟨Hd, Hx⟩, Hs, HO⟩
  iapply Hk
  isplitl [Hx Hr]
  · iapply (pointsTo_split_subset (Finset.subset_univ (partSet k))).2
    isplitl [Hx]; · iexact Hx
    iexact Hr
  isplitl [Hd Hs]
  · isplitl [Hd]; · iexact Hd
    iexact Hs
  ihave HO := (owed_insert d i hW) $$ HO
  unfold Owed
  iexact HO

/-- The offset that the program computes for segment `k`'s row is (half, segment, tile, 0). -/
theorem sh_off (k : ℕ) : (![(BitVec.ofNat 32 (i 0).val).toNat, k, (BitVec.ofNat 32 (i 1).val).toNat, 0] : Fin 4 → ℕ) = ![(i 0).val, k, (i 1).val, 0] := by
  have h0 : (i 0).val < 2 := (i 0).isLt
  have h1 : (i 1).val < 16 := (i 1).isLt
  rw [BitVec.toNat_ofNat, BitVec.toNat_ofNat, Nat.mod_eq_of_lt (by omega), Nat.mod_eq_of_lt (by omega)]

/-! ## The sixteen copies -/

variable {X : S32768x512.Idx → F .f32} {v0 : IVec S16 32} {O : CellTallies nD τ sig (HIx 1)} {W : Waits sig (HIx 1)}

/-- What every copy's wait needs beside the copy. -/
abbrev Rest (O : CellTallies nD τ sig (HIx 1)) (W : Waits sig (HIx 1)) : sProp 𝕄 :=
  iprop(Owed d i O W ∗ MayWaits (th d i) (default : HIx 1) O)

/-- Copies of the table's rows 0 to 1. -/
theorem part63 :
    iprop(partPts d i (partT i X v0) ∗ RowTodo d i 0 cc0_scoped1.sem ∗ RowTodo d i 1 cc0_scoped2.sem ∗ Rest d i O W)
      ⊢ wp frame (wpE (defs₀ (F := F)) 𝒱₀ (th d i) none) Set.univ
      (k0_part63 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18)
      fun r => iprop(⌜r = ⟨⟩⌝ ∗ partPts d i (partT i X v0) ∗ RowDone d i X v0 0 cc0_scoped1.sem ∗ RowDone d i X v0 1 cc0_scoped2.sem ∗ Rest d i O W) := by
  rw [k0_part63_eq_skeleton]
  iintro ⟨Hp, H1, H2, HO, #HM⟩
  iapply (row_issue d i (X := X) (v0 := v0) (k := 0) (by decide) (sh_off i 0)) $$ [Hp H1]
  · isplitl [Hp]; · iexact Hp
    iexact H1
  iintro H1
  iapply (row_await d i (X := X) (v0 := v0) (k := 0)) $$ [H1 HO]
  · isplitl [H1]; · iexact H1
    isplitl [HO]; · iexact HO
    iexact HM
  iintro ⟨Hp, H1, HO⟩
  iapply (row_issue d i (X := X) (v0 := v0) (k := 1) (by decide) (sh_off i 1)) $$ [Hp H2]
  · isplitl [Hp]; · iexact Hp
    iexact H2
  iintro H2
  iapply (row_await d i (X := X) (v0 := v0) (k := 1)) $$ [H2 HO]
  · isplitl [H2]; · iexact H2
    isplitl [HO]; · iexact HO
    iexact HM
  iintro ⟨Hp, H2, HO⟩
  iapply (ret_post d i)
  isplitr; · ipureintro; rfl
  isplitl [Hp]; · iexact Hp
  isplitl [H1]; · iexact H1
  isplitl [H2]; · iexact H2
  isplitl [HO]; · iexact HO
  iexact HM

/-- Copies of the table's rows 2 to 3. -/
theorem part64 :
    iprop(partPts d i (partT i X v0) ∗ RowTodo d i 2 cc0_scoped3.sem ∗ RowTodo d i 3 cc0_scoped4.sem ∗ Rest d i O W)
      ⊢ wp frame (wpE (defs₀ (F := F)) 𝒱₀ (th d i) none) Set.univ
      (k0_part64 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18)
      fun r => iprop(⌜r = ⟨⟩⌝ ∗ partPts d i (partT i X v0) ∗ RowDone d i X v0 2 cc0_scoped3.sem ∗ RowDone d i X v0 3 cc0_scoped4.sem ∗ Rest d i O W) := by
  rw [k0_part64_eq_skeleton]
  iintro ⟨Hp, H3, H4, HO, #HM⟩
  iapply (row_issue d i (X := X) (v0 := v0) (k := 2) (by decide) (sh_off i 2)) $$ [Hp H3]
  · isplitl [Hp]; · iexact Hp
    iexact H3
  iintro H3
  iapply (row_await d i (X := X) (v0 := v0) (k := 2)) $$ [H3 HO]
  · isplitl [H3]; · iexact H3
    isplitl [HO]; · iexact HO
    iexact HM
  iintro ⟨Hp, H3, HO⟩
  iapply (row_issue d i (X := X) (v0 := v0) (k := 3) (by decide) (sh_off i 3)) $$ [Hp H4]
  · isplitl [Hp]; · iexact Hp
    iexact H4
  iintro H4
  iapply (row_await d i (X := X) (v0 := v0) (k := 3)) $$ [H4 HO]
  · isplitl [H4]; · iexact H4
    isplitl [HO]; · iexact HO
    iexact HM
  iintro ⟨Hp, H4, HO⟩
  iapply (ret_post d i)
  isplitr; · ipureintro; rfl
  isplitl [Hp]; · iexact Hp
  isplitl [H3]; · iexact H3
  isplitl [H4]; · iexact H4
  isplitl [HO]; · iexact HO
  iexact HM

/-- Copies of the table's rows 4 to 5. -/
theorem part65 :
    iprop(partPts d i (partT i X v0) ∗ RowTodo d i 4 cc0_scoped5.sem ∗ RowTodo d i 5 cc0_scoped6.sem ∗ Rest d i O W)
      ⊢ wp frame (wpE (defs₀ (F := F)) 𝒱₀ (th d i) none) Set.univ
      (k0_part65 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18)
      fun r => iprop(⌜r = ⟨⟩⌝ ∗ partPts d i (partT i X v0) ∗ RowDone d i X v0 4 cc0_scoped5.sem ∗ RowDone d i X v0 5 cc0_scoped6.sem ∗ Rest d i O W) := by
  rw [k0_part65_eq_skeleton]
  iintro ⟨Hp, H5, H6, HO, #HM⟩
  iapply (row_issue d i (X := X) (v0 := v0) (k := 4) (by decide) (sh_off i 4)) $$ [Hp H5]
  · isplitl [Hp]; · iexact Hp
    iexact H5
  iintro H5
  iapply (row_await d i (X := X) (v0 := v0) (k := 4)) $$ [H5 HO]
  · isplitl [H5]; · iexact H5
    isplitl [HO]; · iexact HO
    iexact HM
  iintro ⟨Hp, H5, HO⟩
  iapply (row_issue d i (X := X) (v0 := v0) (k := 5) (by decide) (sh_off i 5)) $$ [Hp H6]
  · isplitl [Hp]; · iexact Hp
    iexact H6
  iintro H6
  iapply (row_await d i (X := X) (v0 := v0) (k := 5)) $$ [H6 HO]
  · isplitl [H6]; · iexact H6
    isplitl [HO]; · iexact HO
    iexact HM
  iintro ⟨Hp, H6, HO⟩
  iapply (ret_post d i)
  isplitr; · ipureintro; rfl
  isplitl [Hp]; · iexact Hp
  isplitl [H5]; · iexact H5
  isplitl [H6]; · iexact H6
  isplitl [HO]; · iexact HO
  iexact HM

/-- Copies of the table's rows 6 to 8, the last not waited for. -/
theorem part66 :
    iprop(partPts d i (partT i X v0) ∗ RowTodo d i 6 cc0_scoped7.sem ∗ RowTodo d i 7 cc0_scoped8.sem ∗ RowTodo d i 8 cc0_scoped9.sem ∗ Rest d i O W)
      ⊢ wp frame (wpE (defs₀ (F := F)) 𝒱₀ (th d i) none) Set.univ
      (k0_part66 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18)
      fun r => iprop(⌜r = ⟨⟩⌝ ∗ RowDone d i X v0 6 cc0_scoped7.sem ∗ RowDone d i X v0 7 cc0_scoped8.sem ∗ RowBusy d i X v0 8 cc0_scoped9.sem ∗ Rest d i O W) := by
  rw [k0_part66_eq_skeleton]
  iintro ⟨Hp, H7, H8, H9, HO, #HM⟩
  iapply (row_issue d i (X := X) (v0 := v0) (k := 6) (by decide) (sh_off i 6)) $$ [Hp H7]
  · isplitl [Hp]; · iexact Hp
    iexact H7
  iintro H7
  iapply (row_await d i (X := X) (v0 := v0) (k := 6)) $$ [H7 HO]
  · isplitl [H7]; · iexact H7
    isplitl [HO]; · iexact HO
    iexact HM
  iintro ⟨Hp, H7, HO⟩
  iapply (row_issue d i (X := X) (v0 := v0) (k := 7) (by decide) (sh_off i 7)) $$ [Hp H8]
  · isplitl [Hp]; · iexact Hp
    iexact H8
  iintro H8
  iapply (row_await d i (X := X) (v0 := v0) (k := 7)) $$ [H8 HO]
  · isplitl [H8]; · iexact H8
    isplitl [HO]; · iexact HO
    iexact HM
  iintro ⟨Hp, H8, HO⟩
  iapply (row_issue d i (X := X) (v0 := v0) (k := 8) (by decide) (sh_off i 8)) $$ [Hp H9]
  · isplitl [Hp]; · iexact Hp
    iexact H9
  iintro H9
  iapply (ret_post d i)
  isplitr; · ipureintro; rfl
  isplitl [H7]; · iexact H7
  isplitl [H8]; · iexact H8
  isplitl [H9]; · iexact H9
  isplitl [HO]; · iexact HO
  iexact HM

/-- Copies of the table's rows 8 to 10, the first already issued, the last not waited for. -/
theorem part67 :
    iprop(RowBusy d i X v0 8 cc0_scoped9.sem ∗ RowTodo d i 9 cc0_scoped10.sem ∗ RowTodo d i 10 cc0_scoped11.sem ∗ Rest d i O W)
      ⊢ wp frame (wpE (defs₀ (F := F)) 𝒱₀ (th d i) none) Set.univ
      (k0_part67 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18)
      fun r => iprop(⌜r = ⟨⟩⌝ ∗ RowDone d i X v0 8 cc0_scoped9.sem ∗ RowDone d i X v0 9 cc0_scoped10.sem ∗ RowBusy d i X v0 10 cc0_scoped11.sem ∗ Rest d i O W) := by
  rw [k0_part67_eq_skeleton]
  iintro ⟨H9, H10, H11, HO, #HM⟩
  iapply (row_await d i (X := X) (v0 := v0) (k := 8)) $$ [H9 HO]
  · isplitl [H9]; · iexact H9
    isplitl [HO]; · iexact HO
    iexact HM
  iintro ⟨Hp, H9, HO⟩
  iapply (row_issue d i (X := X) (v0 := v0) (k := 9) (by decide) (sh_off i 9)) $$ [Hp H10]
  · isplitl [Hp]; · iexact Hp
    iexact H10
  iintro H10
  iapply (row_await d i (X := X) (v0 := v0) (k := 9)) $$ [H10 HO]
  · isplitl [H10]; · iexact H10
    isplitl [HO]; · iexact HO
    iexact HM
  iintro ⟨Hp, H10, HO⟩
  iapply (row_issue d i (X := X) (v0 := v0) (k := 10) (by decide) (sh_off i 10)) $$ [Hp H11]
  · isplitl [Hp]; · iexact Hp
    iexact H11
  iintro H11
  iapply (ret_post d i)
  isplitr; · ipureintro; rfl
  isplitl [H9]; · iexact H9
  isplitl [H10]; · iexact H10
  isplitl [H11]; · iexact H11
  isplitl [HO]; · iexact HO
  iexact HM

/-- Copies of the table's rows 10 to 12, the first already issued, the last not waited for. -/
theorem part68 :
    iprop(RowBusy d i X v0 10 cc0_scoped11.sem ∗ RowTodo d i 11 cc0_scoped12.sem ∗ RowTodo d i 12 cc0_scoped13.sem ∗ Rest d i O W)
      ⊢ wp frame (wpE (defs₀ (F := F)) 𝒱₀ (th d i) none) Set.univ
      (k0_part68 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18)
      fun r => iprop(⌜r = ⟨⟩⌝ ∗ RowDone d i X v0 10 cc0_scoped11.sem ∗ RowDone d i X v0 11 cc0_scoped12.sem ∗ RowBusy d i X v0 12 cc0_scoped13.sem ∗ Rest d i O W) := by
  rw [k0_part68_eq_skeleton]
  iintro ⟨H11, H12, H13, HO, #HM⟩
  iapply (row_await d i (X := X) (v0 := v0) (k := 10)) $$ [H11 HO]
  · isplitl [H11]; · iexact H11
    isplitl [HO]; · iexact HO
    iexact HM
  iintro ⟨Hp, H11, HO⟩
  iapply (row_issue d i (X := X) (v0 := v0) (k := 11) (by decide) (sh_off i 11)) $$ [Hp H12]
  · isplitl [Hp]; · iexact Hp
    iexact H12
  iintro H12
  iapply (row_await d i (X := X) (v0 := v0) (k := 11)) $$ [H12 HO]
  · isplitl [H12]; · iexact H12
    isplitl [HO]; · iexact HO
    iexact HM
  iintro ⟨Hp, H12, HO⟩
  iapply (row_issue d i (X := X) (v0 := v0) (k := 12) (by decide) (sh_off i 12)) $$ [Hp H13]
  · isplitl [Hp]; · iexact Hp
    iexact H13
  iintro H13
  iapply (ret_post d i)
  isplitr; · ipureintro; rfl
  isplitl [H11]; · iexact H11
  isplitl [H12]; · iexact H12
  isplitl [H13]; · iexact H13
  isplitl [HO]; · iexact HO
  iexact HM

/-- Copies of the table's rows 12 to 14, the first already issued. -/
theorem part69 :
    iprop(RowBusy d i X v0 12 cc0_scoped13.sem ∗ RowTodo d i 13 cc0_scoped14.sem ∗ RowTodo d i 14 cc0_scoped15.sem ∗ Rest d i O W)
      ⊢ wp frame (wpE (defs₀ (F := F)) 𝒱₀ (th d i) none) Set.univ
      (k0_part69 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18)
      fun r => iprop(⌜r = ⟨⟩⌝ ∗ partPts d i (partT i X v0) ∗ RowDone d i X v0 12 cc0_scoped13.sem ∗ RowDone d i X v0 13 cc0_scoped14.sem ∗ RowDone d i X v0 14 cc0_scoped15.sem ∗ Rest d i O W) := by
  rw [k0_part69_eq_skeleton]
  iintro ⟨H13, H14, H15, HO, #HM⟩
  iapply (row_await d i (X := X) (v0 := v0) (k := 12)) $$ [H13 HO]
  · isplitl [H13]; · iexact H13
    isplitl [HO]; · iexact HO
    iexact HM
  iintro ⟨Hp, H13, HO⟩
  iapply (row_issue d i (X := X) (v0 := v0) (k := 13) (by decide) (sh_off i 13)) $$ [Hp H14]
  · isplitl [Hp]; · iexact Hp
    iexact H14
  iintro H14
  iapply (row_await d i (X := X) (v0 := v0) (k := 13)) $$ [H14 HO]
  · isplitl [H14]; · iexact H14
    isplitl [HO]; · iexact HO
    iexact HM
  iintro ⟨Hp, H14, HO⟩
  iapply (row_issue d i (X := X) (v0 := v0) (k := 14) (by decide) (sh_off i 14)) $$ [Hp H15]
  · isplitl [Hp]; · iexact Hp
    iexact H15
  iintro H15
  iapply (row_await d i (X := X) (v0 := v0) (k := 14)) $$ [H15 HO]
  · isplitl [H15]; · iexact H15
    isplitl [HO]; · iexact HO
    iexact HM
  iintro ⟨Hp, H15, HO⟩
  iapply (ret_post d i)
  isplitr; · ipureintro; rfl
  isplitl [Hp]; · iexact Hp
  isplitl [H13]; · iexact H13
  isplitl [H14]; · iexact H14
  isplitl [H15]; · iexact H15
  isplitl [HO]; · iexact HO
  iexact HM

end Cert.KernelIdeal.DMax
end
-- ==== Proof.Front.lean ====
module

public import proofs.«01_k».proof.Proof.Copies

/-!
  The first half of a tile's task: the sizes brought in, their words computed, and the tile's table of partial maxima
  made, over any float family.
-/

@[expose] public section

noncomputable section

namespace Cert.KernelIdeal.DMax

open Cert.KernelIdeal Cert.KernelIdeal.Gen
open Idealize.ShloMosaic Idealize.ShloMosaic.WordArith
open Idealize.ShloMosaic.SparseCore (S V T)
open Idealize.ShloMosaic.SparseCore.Cfg (HIx Pay)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-- Ownership of the sizes array, at a share. -/
abbrev szPts (q : PosShare TreeShare) (z : IVec S16 32) : sProp 𝕄 := (aSz).view.loc (th d i) ↦[Finset.univ]{q} z

/-- Ownership of a tile's own copy of the sizes. -/
abbrev bszPts (z : IVec S16 32) : sProp 𝕄 := (bSz).view.loc (th d i) ↦[Finset.univ]{fullShare} z

/-- A load of the sizes' copy answers the sizes. -/
theorem read_sizes (z : IVec S16 32) :
    (bSz).view.readAt (Elt F) (Rect.unit (s := S16) ![0] S16.size inb_S16_S16_0).toLoadRect z = z := by
  funext l
  change z _ = z l
  congr 1
  funext a
  match a with
  | 0 => exact Fin.ext (by change 0 + 1 * (l 0).val = (l 0).val; omega)

/-- What the sizes' copy counts on its semaphore. -/
abbrev sizesN : ℕ := (bSz).view.dmaCredit

variable {O : CellTallies nD τ sig (HIx 1)} {W : Waits sig (HIx 1)}

/-- What a tile owes, written out. -/
theorem owed_elim : (Owed d i O W : sProp 𝕄) ⊢ iprop(∃ W', ⌜∀ p ∈ W', p ∈ W ∨ p.2 = none⌝ ∗ owes (th d i) O W') := by
  unfold Owed
  exact BI.Entails.refl _

/-- The sizes brought in, and the words of a tile's range of rows. -/
theorem part61 {q : PosShare TreeShare} {v0 : Vec F S16 .i32} :
    iprop(szPts (F := F) d i q v0 ∗ (∃ f, bszPts (F := F) d i f) ∗ semVal (th d i, .dma cc0_scoped0.sem) 0 ∗ Rest d i O W)
      ⊢ wp frame (wpE (defs₀ (F := F)) 𝒱₀ (th d i) none) Set.univ
      (k0_part61 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18)
      fun r => iprop(⌜r = ⟨BitVec.ofNat 32 (i 1).val, k0_pay296 v0, k0_pay297 v0, iotaW, v11W v0, loW i (v11W v0), hiW i (v11W v0),
          Scalar.muli (BitVec.ofNat 32 (i 0).val) 256#32, 0#32, 0#32, 1#32⟩⌝
        ∗ szPts (F := F) d i q v0 ∗ bszPts (F := F) d i v0 ∗ semVal (th d i, .dma cc0_scoped0.sem) 0 ∗ Rest d i O W) := by
  rw [k0_part61_eq_skeleton]
  iintro ⟨Hz, ⟨%f, Hb⟩, Hs, HO, #HM⟩
  iapply (Transfers.wp_dmaLocal countersEmb 𝒱₀ (th d i) none (q := q) (fs := v0) (Sd := Finset.univ) (fd := f) (default : HIx 1) sizesN
    (show _ = sizesN from rfl) (View.dmaCredit_pos _ (by decide)) (Finset.subset_univ _)) $$ [Hz Hb Hs]
  · rw [View.set_whole]
    isplitl [Hz]; · iexact Hz
    isplitl [Hb]; · iexact Hb
    iexact Hs
  rw [View.set_whole]
  iintro HF
  ihave HO := (owed_elim d i) $$ HO
  icases HO with ⟨%W', %hW, HO⟩
  iapply (Transfers.wp_waitLocalO countersEmb 𝒱₀ (th d i) none (hsrc := (Memref.isWhole_whole _).wordExact) (hdst := (Memref.isWhole_whole _).wordExact) (default : HIx 1) (show _ = sizesN from rfl)) $$ [HF HO]
  · isplitl [HF]; · iexact HF
    isplitl [HO]; · iexact HO
    iapply (Transfers.MayWaits.elim (.dma cc0_scoped0.sem)) $$ HM
  iintro ⟨⟨Hb, Hz⟩, Hs, HO⟩
  ihave HO := (owed_insert d i hW) $$ HO
  ihave Hb := (show _ ⊢ bszPts (F := F) d i v0 from Entails.of_eq (by rw [View.write_whole_univ]; rfl)) $$ Hb
  iapply (wp_load 𝒱₀ (th d i) none Set.univ (Finset.subset_univ _)) $$ Hb
  rw [read_sizes]
  iintro Hb
  iapply (ret_post d i)
  isplitr; · ipureintro; rfl
  isplitl [Hz]; · iexact Hz
  isplitl [Hb]; · iexact Hb
  isplitl [Hs]; · iexact Hs
  isplitl [HO]; · iexact HO
  iexact HM

/-- The tile's table of partial maxima made. -/
theorem part62 (q : ℕ → PosShare TreeShare) (X : S32768x512.Idx → F .f32) {v0 : Vec F S16 .i32} (hz : SizesOk v0) {c8 c9 c11 : BitVec 32} (hc : c8 = 0#32) :
    iprop((∃ f, partPts d i f) ∗ bigSep (Finset.range 8) (Idle d i q X) ∗ Rest d i O W)
      ⊢ wp frame (wpE (defs₀ (F := F)) 𝒱₀ (th d i) none) Set.univ
      (k0_part62 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
        (k0_pay296 v0) (k0_pay297 v0) iotaW (v11W v0) (loW i (v11W v0)) (hiW i (v11W v0)) c8 c9 c11)
      fun r => iprop(⌜r = ⟨k0_pay308, k0_pay309, k0_pay310, k0_pay311, k0_pay312, k0_pay313, k0_pay314, k0_pay315, k0_pay316, k0_pay317, k0_pay318, k0_pay319, k0_pay320, k0_pay321, k0_pay322, k0_pay323⟩⌝
        ∗ partPts d i (partT i X v0) ∗ bigSep (Finset.range 8) (Idle d i q X) ∗ Rest d i O W) := by
  subst hc
  rw [k0_part62_eq_skeleton]
  iintro ⟨Hp, HI, HO, #HM⟩
  iapply (wp_seq d i (t1_loop d i (hok := k0_t1_ok))) $$ Hp
  iintro Hp
  iapply (wp_assume 𝒱₀ (th d i) none Set.univ (visit_chk1 i hz))
  iapply (wp_seq d i (t2_loop d i q X hz (O := O) (W := W) (hok := k0_t2_ok _ _ (visit_chk1 i hz)))) $$ [Hp HI HO]
  · isplitl [Hp]; · iexact Hp
    isplitl [HI]; · iexact HI
    isplitl [HO]; · iexact HO
    iexact HM
  iintro H
  iapply (wp_seq d i (t7_skip d i (hok := k0_t7_ok _ _ (visit_chk1 i hz)))) $$ H
  iintro ⟨Hp, HI, HO, -⟩
  iapply (ret_post d i)
  isplitr; · ipureintro; rfl
  isplitl [Hp]; · iexact Hp
  isplitl [HI]; · iexact HI
  isplitl [HO]; · iexact HO
  iexact HM

end Cert.KernelIdeal.DMax
end
-- ==== Proof.Merge.lean ====
module

public import proofs.«01_k».proof.Proof.Front

/-!
  The second half of a tile's task: the sixteen tiles' rows of partial maxima brought back from the shared memory and
  merged, and the merged row sent out, over any float family.
-/

@[expose] public section

noncomputable section

namespace Cert.KernelIdeal.DMax

open Cert.KernelIdeal Cert.KernelIdeal.Gen
open Idealize.ShloMosaic Idealize.ShloMosaic.WordArith
open Idealize.ShloMosaic.SparseCore (S V T)
open Idealize.ShloMosaic.SparseCore.Cfg (HIx Pay)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-! ## Values -/

/-- The maximum, in order, of the first `n` of a sequence, from the least value on. -/
def mergeN (g : ℕ → F .f32) : ℕ → F .f32
  | 0 => ninf
  | n + 1 => FloatOps.maximumf (mergeN g n) (g n)

/-- Segment `s`'s maximum at column `c` of half `h`: the sixteen tiles' partial maxima merged. -/
def outN (h s : ℕ) (X : S32768x512.Idx → F .f32) (v0 : IVec S16 32) (c : ℕ) : F .f32 := mergeN (fun t => partN h t X v0 s c) 16

/-- The kernel's result as the tiles write it: segment after segment, 512 columns each. -/
def outF (X : S32768x512.Idx → F .f32) (v0 : IVec S16 32) (y : S8192.Idx) : F .f32 :=
  outN ((y 0).val % 512 / 256) ((y 0).val / 512) X v0 ((y 0).val % 256)

/-- Sixteen columns of the merge of the first `n` rows. -/
def mrgV (R : ℕ → ℕ → F .f32) (n c : ℕ) : FVec F S16 .f32 := fun l => mergeN (fun t => R t (c + (l 0).val)) n

/-- A table by its rows. -/
def tableF (R : ℕ → ℕ → F .f32) : S16x256.Idx → F .f32 := fun y => R (y 0).val (y 1).val

/-- Sixteen columns of a table's row, as a load answers them. -/
def ld2 (R : ℕ → ℕ → F .f32) (n c : ℕ) : Vec F S1x16 .f32 := fun y => R n (c + (y 1).val)

/-- One row merged. -/
theorem mrgV_step (R : ℕ → ℕ → F .f32) (n c : ℕ) (h : S1x16.ShapeCasts S16) :
    maximumf (mrgV R n c) (shapeCast S16 (ld2 R n c) h) = mrgV R (n + 1) c := by
  funext l
  have hl : (l 0).val < 16 := (l 0).isLt
  have e : shapeCast S16 (ld2 R n c) h l = R n (c + (l 0).val) := by
    rw [Idealize.ShloMosaic.shapeCast_apply (ld2 R n c) h l (fun a => match a with | 0 => ⟨0, by decide⟩ | 1 => ⟨(l 0).val, hl⟩)
      (by rw [Shape.rowMajor_val_one, Shape.rowMajor_val_two]; simp)]
    rfl
  change FloatOps.maximumf (mrgV R n c l) (shapeCast S16 (ld2 R n c) h l) = _
  rw [e]
  rfl

/-! ## The merge -/

/-- Ownership of a tile's merge table. -/
abbrev mrgPts (f : S16x256.Idx → F .f32) : sProp 𝕄 := (bMrg).view.loc (th d i) ↦[Finset.univ]{fullShare} f

/-- A load of sixteen columns of a row of the merge table. -/
theorem ld_mrg {α : Type} {R : ℕ → ℕ → F .f32} {n c : ℕ} {off : Fin 2 → ℕ} (ho : off = ![n, c]) {inb : ∀ a, off a + S1x16.size a ≤ S16x256.size a}
    {hl : (bMrg).view.LoadsAt (Rect.unit (s := S16x256) off S1x16.size inb).toLoadRect}
    {k : Vec F S1x16 .f32 → Prog (TpuEff nD τ sig (Elt F) Λ₀ (.scVector (cV i) (jV i))) α} {Q : α → sProp 𝕄} :
    mrgPts d i (tableF R) ⊢ iprop((mrgPts d i (tableF R) -∗ wp frame (wpE (defs₀ (F := F)) 𝒱₀ (th d i) none) Set.univ (k (ld2 R n c)) Q)
      -∗ wp frame (wpE (defs₀ (F := F)) 𝒱₀ (th d i) none) Set.univ
        (.op (.load bMrg (Rect.unit (s := S16x256) off S1x16.size inb).toLoadRect hl) k) Q) := by
  subst ho
  have hval : (bMrg).view.readAt (Elt F) (Rect.unit (s := S16x256) ![n, c] S1x16.size inb).toLoadRect (tableF R) = ld2 R n c := by
    funext y
    have h0 : (y 0).val < 1 := (y 0).isLt
    change R (n + 1 * (y 0).val) (c + 1 * (y 1).val) = R n (c + (y 1).val)
    congr 1 <;> omega
  iintro H Hk
  iapply (wp_load 𝒱₀ (th d i) none Set.univ (Finset.subset_univ _)) $$ H
  rw [hval]
  iexact Hk

/-- Trip `k` of the merge reads row `k`. -/
theorem t12_off (k : Fin k0_t12_loop.trips) (c : ℕ) :
    (![(Scalar.indexCast (Scf.iv 0#32 1#32 k)).toNat, c] : Fin 2 → ℕ) = ![k.val, c] := by
  have hk : k.val < 16 := k.isLt
  change (![(Scf.iv 0#32 1#32 k).toNat, c] : Fin 2 → ℕ) = _
  rw [iv_nat (x := 0#32) (a := 0) rfl (by omega), Nat.zero_add]

/-- The first twelve vectors of a row merged, the last of them loaded. -/
theorem part60 (R : ℕ → ℕ → F .f32) (k : Fin k0_t12_loop.trips) :
    mrgPts d i (tableF R) ⊢ wp frame (wpE (defs₀ (F := F)) 𝒱₀ (th d i) none) Set.univ
      (k0_part60 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
        0#32 1#32 k (mrgV R k.val 0) (mrgV R k.val 16) (mrgV R k.val 32) (mrgV R k.val 48) (mrgV R k.val 64) (mrgV R k.val 80) (mrgV R k.val 96) (mrgV R k.val 112) (mrgV R k.val 128) (mrgV R k.val 144) (mrgV R k.val 160))
      fun r => iprop(⌜r = ⟨Scf.iv 0#32 1#32 k, mrgV R (k.val + 1) 0, mrgV R (k.val + 1) 16, mrgV R (k.val + 1) 32, mrgV R (k.val + 1) 48, mrgV R (k.val + 1) 64, mrgV R (k.val + 1) 80, mrgV R (k.val + 1) 96, mrgV R (k.val + 1) 112, mrgV R (k.val + 1) 128, mrgV R (k.val + 1) 144, mrgV R (k.val + 1) 160, shapeCast S16 (ld2 R k.val 176) shapeCasts_S1x16_S16⟩⌝ ∗ mrgPts d i (tableF R)) := by
  rw [k0_part60_eq_skeleton]
  simp only [← mrgV_step R k.val _ shapeCasts_S1x16_S16]
  iintro H
  iapply (ld_mrg d i (R := R) (n := k.val) (c := 0) (t12_off k 0)) $$ H; iintro H
  iapply (ld_mrg d i (R := R) (n := k.val) (c := 16) (t12_off k 16)) $$ H; iintro H
  iapply (ld_mrg d i (R := R) (n := k.val) (c := 32) (t12_off k 32)) $$ H; iintro H
  iapply (ld_mrg d i (R := R) (n := k.val) (c := 48) (t12_off k 48)) $$ H; iintro H
  iapply (ld_mrg d i (R := R) (n := k.val) (c := 64) (t12_off k 64)) $$ H; iintro H
  iapply (ld_mrg d i (R := R) (n := k.val) (c := 80) (t12_off k 80)) $$ H; iintro H
  iapply (ld_mrg d i (R := R) (n := k.val) (c := 96) (t12_off k 96)) $$ H; iintro H
  iapply (ld_mrg d i (R := R) (n := k.val) (c := 112) (t12_off k 112)) $$ H; iintro H
  iapply (ld_mrg d i (R := R) (n := k.val) (c := 128) (t12_off k 128)) $$ H; iintro H
  iapply (ld_mrg d i (R := R) (n := k.val) (c := 144) (t12_off k 144)) $$ H; iintro H
  iapply (ld_mrg d i (R := R) (n := k.val) (c := 160) (t12_off k 160)) $$ H; iintro H
  iapply (ld_mrg d i (R := R) (n := k.val) (c := 176) (t12_off k 176)) $$ H; iintro H
  iapply (ret_post d i)
  isplitr; · ipureintro; rfl
  iexact H

/-- A row merged. -/
theorem t12_trip (R : ℕ → ℕ → F .f32) {v50 v51 v52 v53 v54 v55 v56 v57 v58 v59 v60 v61 v62 v63 v64 v65 : FVec F S16 .f32} (k : Fin k0_t12_loop.trips) :
    mrgPts d i (tableF R) ⊢ wp frame (wpE (defs₀ (F := F)) 𝒱₀ (th d i) none) Set.univ
      (k0_t12_body i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
        v50 v51 v52 v53 v54 v55 v56 v57 v58 v59 v60 v61 v62 v63 v64 v65 k (mrgV R k.val 0, mrgV R k.val 16, mrgV R k.val 32, mrgV R k.val 48, mrgV R k.val 64, mrgV R k.val 80, mrgV R k.val 96, mrgV R k.val 112, mrgV R k.val 128, mrgV R k.val 144, mrgV R k.val 160, mrgV R k.val 176, mrgV R k.val 192, mrgV R k.val 208, mrgV R k.val 224, mrgV R k.val 240))
      fun r => iprop(⌜r = (mrgV R (k.val + 1) 0, mrgV R (k.val + 1) 16, mrgV R (k.val + 1) 32, mrgV R (k.val + 1) 48, mrgV R (k.val + 1) 64, mrgV R (k.val + 1) 80, mrgV R (k.val + 1) 96, mrgV R (k.val + 1) 112, mrgV R (k.val + 1) 128, mrgV R (k.val + 1) 144, mrgV R (k.val + 1) 160, mrgV R (k.val + 1) 176, mrgV R (k.val + 1) 192, mrgV R (k.val + 1) 208, mrgV R (k.val + 1) 224, mrgV R (k.val + 1) 240)⌝ ∗ mrgPts d i (tableF R)) := by
  rw [k0_t12_body]
  iintro H
  iapply (wp_seq d i (part60 d i R k)) $$ H
  iintro H
  iapply (ld_mrg d i (R := R) (n := k.val) (c := 192) (t12_off k 192)) $$ H; iintro H
  iapply (ld_mrg d i (R := R) (n := k.val) (c := 208) (t12_off k 208)) $$ H; iintro H
  iapply (ld_mrg d i (R := R) (n := k.val) (c := 224) (t12_off k 224)) $$ H; iintro H
  iapply (ld_mrg d i (R := R) (n := k.val) (c := 240) (t12_off k 240)) $$ H; iintro H
  iapply (ret_post d i)
  isplitr
  · ipureintro
    simp only [← mrgV_step R k.val 176 shapeCasts_S1x16_S16, ← mrgV_step R k.val 192 shapeCasts_S1x16_S16, ← mrgV_step R k.val 208 shapeCasts_S1x16_S16,
      ← mrgV_step R k.val 224 shapeCasts_S1x16_S16, ← mrgV_step R k.val 240 shapeCasts_S1x16_S16]
    rfl
  iexact H

/-- The sixteen rows merged. -/
theorem t12_loop (R : ℕ → ℕ → F .f32) {v50 v51 v52 v53 v54 v55 v56 v57 v58 v59 v60 v61 v62 v63 v64 v65 : FVec F S16 .f32} {hok : k0_t12_loop.OK} :
    mrgPts d i (tableF R) ⊢ wp frame (wpE (defs₀ (F := F)) 𝒱₀ (th d i) none) Set.univ
      (Scf.Loop.for k0_t12_loop hok (k0_pay308, k0_pay309, k0_pay310, k0_pay311, k0_pay312, k0_pay313, k0_pay314, k0_pay315, k0_pay316, k0_pay317, k0_pay318, k0_pay319, k0_pay320, k0_pay321, k0_pay322, k0_pay323)
        (k0_t12_body i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
        v50 v51 v52 v53 v54 v55 v56 v57 v58 v59 v60 v61 v62 v63 v64 v65))
      fun r => iprop(⌜r = (mrgV R 16 0, mrgV R 16 16, mrgV R 16 32, mrgV R 16 48, mrgV R 16 64, mrgV R 16 80, mrgV R 16 96, mrgV R 16 112, mrgV R 16 128, mrgV R 16 144, mrgV R 16 160, mrgV R 16 176, mrgV R 16 192, mrgV R 16 208, mrgV R 16 224, mrgV R 16 240)⌝ ∗ mrgPts d i (tableF R)) :=
  loop_det (F := F) d i (l := k0_t12_loop) hok (fun n => (mrgV R n 0, mrgV R n 16, mrgV R n 32, mrgV R n 48, mrgV R n 64, mrgV R n 80, mrgV R n 96, mrgV R n 112, mrgV R n 128, mrgV R n 144, mrgV R n 160, mrgV R n 176, mrgV R n 192, mrgV R n 208, mrgV R n 224, mrgV R n 240)) (fun _ => mrgPts d i (tableF R)) (fun k => t12_trip d i R k)

/-! ## The tile's segment of the shared memory, brought in -/

/-- The rows of the shared memory tile `s` of half `h` merges. -/
def tileSet (h s : ℕ) : Finset S2x16x16x256.Idx := Finset.univ.filter fun y => (y 0).val = h ∧ (y 1).val = s

/-- The sixteen rows of the shared memory at an offset. -/
abbrev segM (off : Fin 4 → ℕ) (inb : ∀ a, off a + S1x1x16x256.size a ≤ S2x16x16x256.size a) : Memref sig .scVector .shared S16x256 .f32 :=
  (bSh.slice (Rect.unit (s := S2x16x16x256) off S1x1x16x256.size inb) (fun _ => rfl)).squeeze S16x256 squeezes_S1x1x16x256_S16x256

/-- Its elements are those tile `s` of half `h` merges. -/
theorem segM_set {h s : ℕ} {off : Fin 4 → ℕ} (ho : off = ![h, s, 0, 0]) (inb) : (segM off inb).view.set = tileSet h s := by
  subst ho
  refine (View.set_reshape _ _).trans ((View.set_slice_whole cc0_scratch6 _).trans ?_)
  ext y
  rw [Rect.mem_set_unit]
  simp only [tileSet, Finset.mem_filter, Finset.mem_univ, true_and]
  have h2 : (y 2).val < 16 := (y 2).isLt
  have h3 : (y 3).val < 256 := (y 3).isLt
  constructor
  · intro hy
    have e0 : h ≤ (y 0).val ∧ (y 0).val < h + 1 := hy 0
    have e1 : s ≤ (y 1).val ∧ (y 1).val < s + 1 := hy 1
    omega
  · rintro ⟨e0, e1⟩ a
    match a with
    | 0 => change h ≤ (y 0).val ∧ (y 0).val < h + 1; omega
    | 1 => change s ≤ (y 1).val ∧ (y 1).val < s + 1; omega
    | 2 => change 0 ≤ (y 2).val ∧ (y 2).val < 0 + 16; omega
    | 3 => change 0 ≤ (y 3).val ∧ (y 3).val < 0 + 256; omega

/-- The index of the shared memory at (half, segment) of a table's index. -/
def shIx (h s : ℕ) (z : S16x256.Idx) : S2x16x16x256.Idx := fun a => match a with
  | 0 => ⟨h % 2, Nat.mod_lt _ (by decide)⟩
  | 1 => ⟨s % 16, Nat.mod_lt _ (by decide)⟩
  | 2 => z 0
  | 3 => z 1

/-- Where an index of the sixteen rows lies in the shared memory. -/
theorem segM_emb {h s : ℕ} (hh : h < 2) (hs : s < 16) {off : Fin 4 → ℕ} (ho : off = ![h, s, 0, 0]) (inb) (z : S16x256.Idx) :
    (segM off inb).view.emb z = shIx h s z := by
  subst ho
  change (Rect.unit (s := S2x16x16x256) ![h, s, 0, 0] S1x1x16x256.size inb).emb (Shape.reshapeEquiv _ z) = _
  rw [show (Shape.reshapeEquiv (squeezes_S1x1x16x256_S16x256).numel_eq z) = (Fin.cons ⟨0, Nat.one_pos⟩ (Fin.cons ⟨0, Nat.one_pos⟩ z) : S1x1x16x256.Idx) from drop_two _ z]
  funext a
  match a with
  | 0 => exact Fin.ext (by change h + 1 * 0 = h % 2; omega)
  | 1 => exact Fin.ext (by change s + 1 * 0 = s % 16; omega)
  | 2 => exact Fin.ext (by change 0 + 1 * (z 0).val = (z 0).val; omega)
  | 3 => exact Fin.ext (by change 0 + 1 * (z 1).val = (z 1).val; omega)

/-- The segment's rows as a table. -/
abbrev segRows (X : S32768x512.Idx → F .f32) (v0 : IVec S16 32) : ℕ → ℕ → F .f32 := fun t c => partN (i 0).val t X v0 (i 1).val c

/-- What reading the sixteen rows gives. -/
theorem segM_read {h s : ℕ} (hh : h < 2) (hs : s < 16) {off : Fin 4 → ℕ} (ho : off = ![h, s, 0, 0]) (inb) (G : S2x16x16x256.Idx → F .f32) :
    (segM off inb).view.read (Elt F) G = fun z => G (shIx h s z) :=
  funext fun z => congrArg G (segM_emb hh hs ho inb z)

/-- The shared memory's value at the tile's segment is the sixteen partial rows of that segment. -/
theorem shF_rows (X : S32768x512.Idx → F .f32) (v0 : IVec S16 32) :
    (fun z => shF X v0 (shIx (i 0).val (i 1).val z)) = tableF (segRows i X v0) := by
  have h0 : (i 0).val < 2 := (i 0).isLt
  have h1 : (i 1).val < 16 := (i 1).isLt
  funext z
  change partN ((i 0).val % 2) (z 0).val X v0 ((i 1).val % 16) (z 1).val = partN (i 0).val (z 0).val X v0 (i 1).val (z 1).val
  rw [Nat.mod_eq_of_lt h0, Nat.mod_eq_of_lt h1]

/-- The offset that the program computes for the tile's segment is (half, segment, 0, 0). -/
theorem seg_off167 : (![(BitVec.ofNat 32 (i 0).val).toNat, (BitVec.ofNat 32 (i 1).val).toNat, 0, 0] : Fin 4 → ℕ) = ![(i 0).val, (i 1).val, 0, 0] := by
  have h0 : (i 0).val < 2 := (i 0).isLt
  have h1 : (i 1).val < 16 := (i 1).isLt
  rw [BitVec.toNat_ofNat, BitVec.toNat_ofNat, Nat.mod_eq_of_lt (by omega), Nat.mod_eq_of_lt (by omega)]

/-- What the segment's copy counts on its semaphore. -/
abbrev segN : ℕ := (bMrg).view.dmaCredit

variable {X : S32768x512.Idx → F .f32} {v0 : IVec S16 32} {O : CellTallies nD τ sig (HIx 1)} {W : Waits sig (HIx 1)}

/-- The segment's rows copied into the merge table, and the wait. -/
theorem seg_copy {α : Type} {sm : DmaSem sig} {off : Fin 4 → ℕ} (ho : off = ![(i 0).val, (i 1).val, 0, 0]) {inb inb'} {hw hw' hsem h1 h2}
    {kk : PUnit → Prog (TpuEff nD τ sig (Elt F) Λ₀ (.scVector (cV i) (jV i))) α} {Q : α → sProp 𝕄} :
    iprop(shPts d i (tileSet (i 0).val (i 1).val) (shF X v0) ∗ (∃ f, mrgPts d i f) ∗ semVal (th d i, .dma sm) 0 ∗ Rest d i O W)
      ⊢ iprop((iprop(shPts d i (tileSet (i 0).val (i 1).val) (shF X v0) ∗ mrgPts d i (tableF (segRows i X v0)) ∗ semVal (th d i, .dma sm) 0 ∗ Rest d i O W)
          -∗ wp frame (wpE (defs₀ (F := F)) 𝒱₀ (th d i) none) Set.univ (kk ⟨⟩) Q)
      -∗ wp frame (wpE (defs₀ (F := F)) 𝒱₀ (th d i) none) Set.univ
        (.op (.enqueueDma (segM off inb) (.here bMrg) (.dma sm) hw hw' hsem) fun _ => .op (.waitDma2 sm (segM off inb') bMrg h1 h2) kk) Q) := by
  have e0 : (i 0).val < 2 := (i 0).isLt
  have e1 : (i 1).val < 16 := (i 1).isLt
  iintro ⟨Hg, ⟨%f, Hb⟩, Hs, HO, #HM⟩ Hk
  iapply (Transfers.wp_dmaLocal countersEmb 𝒱₀ (th d i) none (q := fullShare) (fs := shF X v0) (Sd := Finset.univ) (fd := f) (default : HIx 1) segN
    (show _ = segN from rfl) (View.dmaCredit_pos _ (by decide)) (Finset.subset_univ _)) $$ [Hg Hb Hs]
  · rw [segM_set ho]
    isplitl [Hg]; · iexact Hg
    isplitl [Hb]; · iexact Hb
    iexact Hs
  rw [segM_set ho, segM_read e0 e1 ho, shF_rows]
  iintro HF
  ihave HO := (owed_elim d i) $$ HO
  icases HO with ⟨%W', %hW, HO⟩
  iapply (Transfers.wp_waitLocalO countersEmb 𝒱₀ (th d i) none (hsrc := h1) (hdst := h2) (default : HIx 1) (show _ = segN from rfl)) $$ [HF HO]
  · isplitl [HF]; · iexact HF
    isplitl [HO]; · iexact HO
    iapply (Transfers.MayWaits.elim (.dma sm)) $$ HM
  iintro ⟨⟨Hb, Hg⟩, Hs, HO⟩
  ihave HO := (owed_insert d i hW) $$ HO
  ihave Hb := (show _ ⊢ mrgPts d i (tableF (segRows i X v0)) from Entails.of_eq (by rw [View.write_whole_univ])) $$ Hb
  iapply Hk
  isplitl [Hg]; · iexact Hg
  isplitl [Hb]; · iexact Hb
  isplitl [Hs]; · iexact Hs
  isplitl [HO]; · iexact HO
  iexact HM

/-! ## The merged row -/

/-- Ownership of a tile's result row. -/
abbrev resPts (f : S256.Idx → F .f32) : sProp 𝕄 := (bRes).view.loc (th d i) ↦[Finset.univ]{fullShare} f

/-- A result row written up to column `c`. -/
def resTo (f : S256.Idx → F .f32) (R : ℕ → F .f32) (c : ℕ) : S256.Idx → F .f32 := fun y => if (y 0).val < c then R (y 0).val else f y

/-- Storing sixteen lanes at column `c` takes a row written up to `c` to one written up to `c + 16`. -/
theorem res_write {c : ℕ} (inb : ∀ a, (![c] : Fin 1 → ℕ) a + S16.size a ≤ S256.size a) (f : S256.Idx → F .f32) (R : ℕ → F .f32) (v : FVec F S16 .f32)
    (hv : ∀ l, v l = R (c + (l 0).val)) :
    ((bRes).access (Rect.unit (s := S256) ![c] S16.size inb)).write (Elt F) (resTo f R c) v Finset.univ = resTo f R (c + 16) := by
  funext y
  by_cases h : c ≤ (y 0).val ∧ (y 0).val < c + 16
  · have e : y = ((bRes).access (Rect.unit (s := S256) ![c] S16.size inb)).emb
        (fun a => match a with | 0 => ⟨(y 0).val - c, by show _ < 16; omega⟩) := by
      funext a
      match a with
      | 0 => exact Fin.ext (by change (y 0).val = c + 1 * ((y 0).val - c); omega)
    conv_lhs => rw [e]
    rw [View.write_emb_of_mem _ _ (Finset.mem_univ _), hv]
    unfold resTo
    rw [if_pos h.2]
    change R (c + ((y 0).val - c)) = _
    congr 1; omega
  · rw [View.write_of_not_mem]
    · unfold resTo
      have : (y 0).val < c ↔ (y 0).val < c + 16 := by
        constructor
        · omega
        · intro h2; by_contra h3; exact h ⟨by omega, h2⟩
      simp only [this]
    · intro hy
      obtain ⟨x, -, hx⟩ := Finset.mem_map.mp hy
      have e0 : (y 0).val = c + 1 * (x 0).val := by rw [← hx]; rfl
      have b0 : (x 0).val < 16 := (x 0).isLt
      exact h ⟨by omega, by omega⟩

/-- Sixteen columns of the result row stored. -/
theorem st_res {α : Type} {c : ℕ} {f : S256.Idx → F .f32} {R : ℕ → F .f32} {v : FVec F S16 .f32}
    (hv : ∀ l, v l = R (c + (l 0).val)) {inb inb' : ∀ a, (![c] : Fin 1 → ℕ) a + S16.size a ≤ S256.size a}
    {hl : (bRes).view.LoadsAt (Rect.unit (s := S256) ![c] S16.size inb').toLoadRect}
    {hx : ((bRes).access (Rect.unit (s := S256) ![c] S16.size inb)).Stores Finset.univ}
    {hm : (Finset.univ : Finset (Rect.unit (s := S256) ![c] S16.size inb).shape.Idx) = Finset.univ ∨ ∀ a, (Rect.unit (s := S256) ![c] S16.size inb).stride a = 1}
    {k : PUnit → Prog (TpuEff nD τ sig (Elt F) Λ₀ (.scVector (cV i) (jV i))) α} {Q : α → sProp 𝕄} :
    resPts d i (resTo f R c) ⊢ iprop((resPts d i (resTo f R (c + 16)) -∗ wp frame (wpE (defs₀ (F := F)) 𝒱₀ (th d i) none) Set.univ (k ⟨⟩) Q)
      -∗ wp frame (wpE (defs₀ (F := F)) 𝒱₀ (th d i) none) Set.univ
        (.op (.load bRes (Rect.unit (s := S256) ![c] S16.size inb').toLoadRect hl) fun _ =>
          .op (.store bRes (Rect.unit (s := S256) ![c] S16.size inb) v Finset.univ hx hm) k) Q) := by
  iintro H Hk
  iapply (wp_load 𝒱₀ (th d i) none Set.univ (Finset.subset_univ _)) $$ H
  iintro H
  iapply (wp_store 𝒱₀ (th d i) none Set.univ (m := bRes) (r := Rect.unit (s := S256) ![c] S16.size inb) (Mk := Finset.univ) (Finset.subset_univ _)) $$ H
  rw [res_write inb f R v hv]
  iexact Hk

/-- Written up to column 256, the row is the new one. -/
theorem resTo_full (f : S256.Idx → F .f32) (R : ℕ → F .f32) : resTo f R 256 = fun y => R (y 0).val :=
  funext fun y => if_pos (y 0).isLt

/-- Written up to column 0, the row is the old one. -/
theorem resTo_zero (f : S256.Idx → F .f32) (R : ℕ → F .f32) : resTo f R 0 = f :=
  funext fun y => if_neg (Nat.not_lt_zero _)

/-! ## The result sent out -/

/-- Ownership of a set of the result's elements. -/
abbrev outPts (S : Finset S8192.Idx) (f : S8192.Idx → F .f32) : sProp 𝕄 := (aOut).view.loc (th d i) ↦[S]{fullShare} f

/-- The elements of the result tile `s` of half `h` writes. -/
def outSet (h s : ℕ) : Finset S8192.Idx := Finset.univ.filter fun y => s * 512 + h * 256 ≤ (y 0).val ∧ (y 0).val < s * 512 + h * 256 + 256

/-- The 256 elements of the tiles' result from an offset on. -/
abbrev outM (off : Fin 1 → ℕ) (inb : ∀ a, off a + S256.size a ≤ S8192.size a) : Memref sig .scVector .hbm S256 .f32 :=
  aOut.slice (Rect.unit (s := S8192) off S256.size inb) (fun _ => rfl)

/-- Its elements are the 256 from `n` on. -/
theorem outM_set {n : ℕ} {off : Fin 1 → ℕ} (ho : off = ![n]) (inb) :
    (outM off inb).view.set = Finset.univ.filter fun y => n ≤ (y 0).val ∧ (y 0).val < n + 256 := by
  subst ho
  refine (View.set_slice_whole main_v0_scv _).trans ?_
  ext y
  rw [Rect.mem_set_unit]
  simp only [Finset.mem_filter, Finset.mem_univ, true_and]
  constructor
  · intro hy; exact hy 0
  · intro hy a
    match a with
    | 0 => exact hy

/-- The tile writes its row at 512 times its subcore's number plus 256 times its core's. -/
theorem out_off : k0_off184 i = ![(i 1).val * 512 + (i 0).val * 256] := by
  have h0 : (i 0).val < 2 := (i 0).isLt
  have h1 : (i 1).val < 16 := (i 1).isLt
  change (![(BitVec.ofNat 32 (i 1).val * 512#32 + BitVec.ofNat 32 (i 0).val * 256#32).toNat] : Fin 1 → ℕ) = _
  congr 1
  change (BitVec.ofNat 32 (i 1).val * 512#32 + BitVec.ofNat 32 (i 0).val * 256#32).toNat = _
  rw [BitVec.toNat_add, BitVec.toNat_mul, BitVec.toNat_mul, BitVec.toNat_ofNat, BitVec.toNat_ofNat, BitVec.toNat_ofNat, BitVec.toNat_ofNat]
  omega

/-- The result's elements a tile wrote hold its merged row. -/
theorem out_written {h s : ℕ} (hh : h < 2) (R : ℕ → F .f32) (hR : ∀ c, c < 256 → R c = outN h s X v0 c) {off : Fin 1 → ℕ} (ho : off = ![s * 512 + h * 256])
    (inb) (fd : S8192.Idx → F .f32) :
    ∀ y ∈ outSet h s, (outM off inb).view.write (Elt F) fd (fun z : S256.Idx => R (z 0).val) Finset.univ y = outF X v0 y := by
  subst ho
  intro y hy
  obtain ⟨e1, e2⟩ : s * 512 + h * 256 ≤ (y 0).val ∧ (y 0).val < s * 512 + h * 256 + 256 := by
    simpa only [outSet, Finset.mem_filter, Finset.mem_univ, true_and] using hy
  obtain ⟨z, hz⟩ : ∃ z : S256.Idx, (y 0).val = s * 512 + h * 256 + (z 0).val :=
    ⟨fun a => match a with | 0 => ⟨(y 0).val - (s * 512 + h * 256), by show _ < 256; omega⟩, by change _ = _ + ((y 0).val - _); omega⟩
  have hm : (outM ![s * 512 + h * 256] inb).view.emb z = y := by
    funext a
    match a with
    | 0 => exact Fin.ext (by change s * 512 + h * 256 + 1 * (z 0).val = (y 0).val; omega)
  have hw := View.write_emb_of_mem (v := (outM ![s * 512 + h * 256] inb).view) (Val := Elt F) fd (fun z : S256.Idx => R (z 0).val) (Finset.mem_univ z)
  rw [hm] at hw
  have hz' : (z 0).val < 256 := (z 0).isLt
  refine hw.trans ((hR _ hz').trans ?_)
  unfold outF
  congr 1 <;> omega

/-- What the result's copy counts on its semaphore. -/
abbrev outCopyN : ℕ := (bRes).view.dmaCredit

/-- The result's copy in flight. -/
def OutBusy (X : S32768x512.Idx → F .f32) (v0 : IVec S16 32) (sm : DmaSem sig) : sProp 𝕄 :=
  Flight countersEmb (th d i) (.dma sm) (default : HIx 1) outCopyN
    iprop(outPts d i (outSet (i 0).val (i 1).val) (outF X v0) ∗ ∃ f, resPts d i f)

/-- The result row's copy issued. -/
theorem out_issue {α : Type} {sm : DmaSem sig} {off : Fin 1 → ℕ} (ho : off = ![(i 1).val * 512 + (i 0).val * 256]) {inb} {hw hw' hsem}
    {kk : PUnit → Prog (TpuEff nD τ sig (Elt F) Λ₀ (.scVector (cV i) (jV i))) α} {Q : α → sProp 𝕄} :
    iprop(resPts d i (fun y => outN (i 0).val (i 1).val X v0 (y 0).val) ∗ (∃ g, outPts d i (outSet (i 0).val (i 1).val) g) ∗ semVal (th d i, .dma sm) 0)
      ⊢ iprop((OutBusy d i X v0 sm -∗ wp frame (wpE (defs₀ (F := F)) 𝒱₀ (th d i) none) Set.univ (kk ⟨⟩) Q)
      -∗ wp frame (wpE (defs₀ (F := F)) 𝒱₀ (th d i) none) Set.univ
        (.op (.enqueueDma bRes (.here (outM off inb)) (.dma sm) hw hw' hsem) kk) Q) := by
  have e0 : (i 0).val < 2 := (i 0).isLt
  unfold OutBusy
  iintro ⟨Hb, ⟨%g, Hg⟩, Hs⟩ Hk
  iapply (Transfers.wp_dmaLocal countersEmb 𝒱₀ (th d i) none (q := fullShare) (fs := fun y : S256.Idx => outN (i 0).val (i 1).val X v0 (y 0).val)
    (Sd := outSet (i 0).val (i 1).val) (fd := g) (default : HIx 1) outCopyN
    (show _ = outCopyN from rfl) (View.dmaCredit_pos _ (by decide)) (by rw [outM_set ho]; exact Finset.Subset.refl _)) $$ [Hb Hg Hs]
  · rw [View.set_whole]
    isplitl [Hb]; · iexact Hb
    isplitl [Hg]; · iexact Hg
    iexact Hs
  rw [View.set_whole]
  iintro HF
  iapply Hk
  iapply (Transfers.Flight_mono ?_) $$ HF
  iintro ⟨Hd, Hb⟩
  isplitl [Hd]
  · iapply (Entails.of_eq (pointsTo_congr (out_written (X := X) (v0 := v0) e0 (fun c => outN (i 0).val (i 1).val X v0 c) (fun _ _ => rfl) ho inb g))) $$ Hd
  iexists _
  iexact Hb

/-- The wait for it. -/
theorem out_await {α : Type} {sm : DmaSem sig} {off : Fin 1 → ℕ} {inb} {hw hw'}
    {kk : PUnit → Prog (TpuEff nD τ sig (Elt F) Λ₀ (.scVector (cV i) (jV i))) α} {Q : α → sProp 𝕄} :
    iprop(OutBusy d i X v0 sm ∗ Rest d i O W)
      ⊢ iprop((iprop(outPts d i (outSet (i 0).val (i 1).val) (outF X v0) ∗ (∃ f, resPts d i f) ∗ semVal (th d i, .dma sm) 0 ∗ Owed d i O W)
          -∗ wp frame (wpE (defs₀ (F := F)) 𝒱₀ (th d i) none) Set.univ (kk ⟨⟩) Q)
      -∗ wp frame (wpE (defs₀ (F := F)) 𝒱₀ (th d i) none) Set.univ
        (.op (.waitDma2 sm bRes (outM off inb) hw hw') kk) Q) := by
  unfold OutBusy
  iintro ⟨HF, HO, #HM⟩ Hk
  ihave HO := (owed_elim d i) $$ HO
  icases HO with ⟨%W', %hW, HO⟩
  iapply (Transfers.wp_waitLocalO countersEmb 𝒱₀ (th d i) none (hsrc := hw) (hdst := hw') (default : HIx 1) (show _ = outCopyN from rfl)) $$ [HF HO]
  · isplitl [HF]; · iexact HF
    isplitl [HO]; · iexact HO
    iapply (Transfers.MayWaits.elim (.dma sm)) $$ HM
  iintro ⟨⟨Hd, Hb⟩, Hs, HO⟩
  ihave HO := (owed_insert d i hW) $$ HO
  iapply Hk
  isplitl [Hd]; · iexact Hd
  isplitl [Hb]; · iexact Hb
  isplitl [Hs]; · iexact Hs
  iexact HO

end Cert.KernelIdeal.DMax
end
-- ==== Proof.Barrier.lean ====
module

public import proofs.«01_k».proof.Proof.Merge
public import Idealize.SL.BI.BigOpNat

/-!
  The barrier among a SparseCore's sixteen tiles: each tile hands every other the row of partial maxima it wrote for it
  in the shared memory, and receives, for its own segment, the sixteen tiles' rows.
-/

@[expose] public section

noncomputable section

namespace Cert.KernelIdeal.DMax

open Cert.KernelIdeal Cert.KernelIdeal.Gen
open Idealize.ShloMosaic Idealize.ShloMosaic.WordArith
open Idealize.ShloMosaic.SparseCore (S V T)
open Idealize.ShloMosaic.SparseCore.Cfg (HIx Pay ownBufs ownSems0 ownCells ownRefs mem_ownCells mem_ownRefs)
open Idealize.ShloMosaic.Rounds
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The arrays -/

/-- The side conditions of the SparseCore launch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The table, the sizes, the tiles' result and the kernel's result, as the host names them. -/
abbrev xLoc (d : Dev nD) : Loc nD τ sig := (SparseCore.T d).loc main_arg0
/-- The sizes. -/
abbrev szLoc (d : Dev nD) : Loc nD τ sig := (SparseCore.T d).loc main_arg1
/-- The tiles' result. -/
abbrev oLoc (d : Dev nD) : Loc nD τ sig := (SparseCore.T d).loc main_v0
/-- The kernel's result. -/
abbrev rLoc (d : Dev nD) : Loc nD τ sig := (SparseCore.T d).loc main_v1

/-- SparseCore `c`'s shared memory, as every tile of it addresses it. -/
abbrev shRef (c : Fin τ.nSC) : DevRef τ sig := ⟨.shared, ⟨0, by decide⟩, c⟩
/-- The same, on a device. -/
abbrev shLoc (d : Dev nD) (c : Fin τ.nSC) : Loc nD τ sig := (d, shRef c)

/-! ## The barrier's cells -/

/-- Tile `(c, j)`'s barrier semaphore of device `d`. -/
abbrev bcell (d : Dev nD) (c : Fin τ.nSC) (j : Fin τ.nSub) : GSem nD τ sig := (V d c j, .reg sc_bar0)

/-- The barrier's semaphore is not the one tasks are started by. -/
theorem sc_bar0_ne_go : (sc_bar0 : Sem sig) ≠ sc_go := by decide

/-- Whether a cell is a tile's barrier semaphore. -/
def isBar (g : GSem nD τ sig) : Bool :=
  match g with
  | ((_, .scVector _ _), sm) => decide (sm = .reg sc_bar0)
  | _ => false

/-- A tile's barrier semaphore is one. -/
@[simp] theorem isBar_bcell (d : Dev nD) (c : Fin τ.nSC) (j : Fin τ.nSub) : isBar (bcell d c j) = true := by simp [isBar]

variable (X : Dev nD → S32768x512.Idx → F .f32) (Z : Dev nD → Vec F S16 .i32)

/-- What tile `n`'s arrival at tile `j`'s cell hands over: the row it wrote for segment `j` in the shared memory. -/
def bPay (g : GSem nD τ sig) (n : ℕ) : sProp 𝕄 :=
  match g with
  | ((d, .scVector c j), _) => iprop(shLoc d c ↦[shSet c.val j.val n]{fullShare} (shF (X d) (Z d) : S2x16x16x256.Idx → F .f32))
  | _ => iprop(emp)

/-- The barrier cells' schedule: one round on each, of one unit duty per tile of the SparseCore, named by its number. -/
def bRd : Rounds.Schedule (GSem nD τ sig) ℕ 𝕄 where
  duties g r := if isBar g ∧ r = 0 then (Finset.univ : Finset (Fin τ.nSub)).image Fin.val else ∅
  amount _ _ _ := 1
  payload g _ n := bPay X Z g n
  amount_pos _ _ _ _ := Nat.one_pos

/-- What the barrier hands over can be kept in an invariant. -/
instance bRd_payload_storable (g : GSem nD τ sig) (r n : ℕ) : BI.Storable (upEmb : UEmb _ 𝕄) ((bRd (F := F) X Z).payload g r n) := by
  show BI.Storable upEmb (bPay X Z g n)
  unfold bPay
  rcases g with ⟨⟨d, _ | c | ⟨c, i⟩⟩, sm⟩ <;> dsimp only <;> infer_instance

/-- The duties of a barrier cell's one round: one per tile. -/
theorem bRd_duties₀ (d : Dev nD) (c : Fin τ.nSC) (j : Fin τ.nSub) : (bRd (F := F) X Z).duties (bcell d c j) 0 = (Finset.univ : Finset (Fin τ.nSub)).image Fin.val := by
  simp [bRd, isBar]

/-- There is no duty after the one round. -/
theorem bRd_duties_succ (g : GSem nD τ sig) (r : ℕ) (hr : 1 ≤ r) : (bRd (F := F) X Z).duties g r = ∅ :=
  if_neg fun h => absurd h.2 (Nat.ne_of_gt hr)

/-- Every tile has a duty on every cell. -/
theorem bRd_mem₀ (d : Dev nD) (c : Fin τ.nSC) (j i : Fin τ.nSub) : i.val ∈ (bRd (F := F) X Z).duties (bcell d c j) 0 := by
  rw [bRd_duties₀]; exact Finset.mem_image_of_mem _ (Finset.mem_univ i)

/-- The one round asks for sixteen units. -/
theorem bRd_expect (d : Dev nD) (c : Fin τ.nSC) (j : Fin τ.nSub) : 0 + grid0.bound 1 = (bRd (F := F) X Z).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile owes for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

/-- None of it at no call's index. -/
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

/-- Where some of it is owed: at a tile's cell, at the call's index. -/
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its own
    position at the origin of round 0, its duty token in every tile's round, and the credit for the units of its own. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) X Z) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the barrier moves -/

/-- The numbers below sixteen, as the tiles' numbers. -/
theorem range_tiles : Finset.range 16 = (Finset.univ : Finset (Fin 16)).map Fin.valEmbedding := by decide

/-- A separating conjunction over the numbers below sixteen is one over the tiles. -/
theorem bigSep_tile16 (A : ℕ → sProp 𝕄) : bigSep (Finset.range 16) A = bigSep Finset.univ fun j : Fin 16 => A j.val := by
  rw [range_tiles, bigSep_map]
  rfl

variable (d : Dev nD) (i : grid0.Coords)

/-- The sixteen rows a tile wrote are what its arrivals hand over. -/
theorem pays_intro : (bigSep (Finset.range 16) fun k => shPts d i (shSet (i 0).val k (i 1).val) (shF (X d) (Z d)))
    ⊢ (bigSep Finset.univ fun j : Fin (grid0.bound 1) => (bRd (F := F) X Z).payload (bcell d (cV i) (j.castLE hsub0)) 0 (jV i).val : sProp 𝕄) := by
  rw [bigSep_tile16]
  exact Entails.of_eq rfl

/-- What a tile's own round collected is its segment's sixteen rows. -/
theorem pays_elim : (bigSep ((bRd (F := F) X Z).duties (bcell d (cV i) (jV i)) 0 \ ∅) fun n => (bRd (F := F) X Z).payload (bcell d (cV i) (jV i)) 0 n)
    ⊢ (shPts d i (tileSet (i 0).val (i 1).val) (shF (X d) (Z d)) : sProp 𝕄) := by
  rw [Finset.sdiff_empty, bRd_duties₀, show (Finset.univ : Finset (Fin τ.nSub)).image Fin.val = Finset.range 16 by decide]
  have hd : ∀ a ∈ Finset.range 16, ∀ b ∈ Finset.range 16, a ≠ b → Disjoint (shSet (i 0).val (i 1).val a) (shSet (i 0).val (i 1).val b) := by
    intro a _ b _ hab
    rw [Finset.disjoint_left]
    intro y hy hy'
    simp only [shSet, Finset.mem_filter] at hy hy'
    exact hab (hy.2.2.2.symm.trans hy'.2.2.2)
  have hu : (Finset.range 16).biUnion (fun n => shSet (i 0).val (i 1).val n) = tileSet (i 0).val (i 1).val := by
    ext y
    simp only [Finset.mem_biUnion, shSet, tileSet, Finset.mem_filter, Finset.mem_univ, true_and, Finset.mem_range]
    constructor
    · rintro ⟨n, -, h0, h1, -⟩; exact ⟨h0, h1⟩
    · rintro ⟨h0, h1⟩; exact ⟨(y 2).val, (y 2).isLt, h0, h1, rfl⟩
  rw [← hu]
  exact Entails.of_eq (pointsTo_biUnion (Finset.range 16) (ℓ := shLoc d (cV i)) (fun n => shSet (i 0).val (i 1).val n) hd).symm

end Cert.KernelIdeal.DMax
end
-- ==== Proof.Tile.lean ====
module

public import proofs.«01_k».proof.Proof.Barrier

/-!
  A tile's whole task: its partial maxima, their exchange through the shared memory around the barrier, the merge of its
  own segment and its row of the result sent out, with the values it leaves.
-/

@[expose] public section

noncomputable section

namespace Cert.KernelIdeal.DMax

open Cert.KernelIdeal Cert.KernelIdeal.Gen
open Idealize.ShloMosaic Idealize.ShloMosaic.WordArith
open Idealize.ShloMosaic.SparseCore (S V T)
open Idealize.ShloMosaic.SparseCore.Cfg (HIx Pay ownBufs ownSems0 ownCells ownRefs mem_ownCells mem_ownRefs)
open Idealize.ShloMosaic.Rounds
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (X : Dev nD → S32768x512.Idx → F .f32) (Z : Dev nD → Vec F S16 .i32)
variable (d : Dev nD) (i : grid0.Coords) {O : CellTallies nD τ sig (HIx 1)} {W : Waits sig (HIx 1)}

/-- What a tile owes after the barrier, its waits so far at no call's index or at the call's. -/
def RestB (O : CellTallies nD τ sig (HIx 1)) (W : Waits sig (HIx 1)) : sProp 𝕄 :=
  iprop(∃ W', ⌜∀ p ∈ W', p ∈ W ∨ p.2 = none ∨ p.2 = some (0 : Fin 1)⌝ ∗ Rest d i O W')

/-- The sixteen rows a tile writes for the segments. -/
abbrev rowsOut (n : ℕ) : sProp 𝕄 := bigSep (Finset.range n) fun k => shPts d i (shSet (i 0).val k (i 1).val) (shF (X d) (Z d))

set_option maxHeartbeats 4000000 in
/-- The barrier: a tile's sixteen rows handed over, its segment's sixteen rows received. -/
theorem barrier_step {α : Type} {kk : PUnit → Prog (TpuEff nD τ sig (Elt F) Λ₀ (.scVector (cV i) (jV i))) α} {Q : α → sProp 𝕄}
    (hO : ∀ g, O g none = 0) (hOlev : ∀ g ι, 0 < O g ι → 8 * (0 : Fin 1).val + 6 ≤ (K (F := F)).lev g ι) :
    iprop(levAts (K (F := F)).L (K (F := F)).lev ∗ bkit X Z d (cV i) (jV i) ∗ rowsOut X Z d i 16 ∗ Owed d i (O + oxV d (cV i)) W)
      ⊢ iprop((iprop(shPts d i (tileSet (i 0).val (i 1).val) (shF (X d) (Z d)) ∗ semVal (bcell d (cV i) (jV i)) 0 ∗ RestB d i O W)
          -∗ wp frame (wpE (defs₀ (F := F)) 𝒱₀ (th d i) none) Set.univ (kk ⟨⟩) Q)
      -∗ wp frame (wpE (defs₀ (F := F)) 𝒱₀ (th d i) none) Set.univ (SparseCore.subcoreBarrier sc_bar0 (grid0.bound 1) hsub0 >>= kk) Q) := by
  unfold bkit
  iintro ⟨#Hlv, ⟨⟨%κ, #Hinv⟩, Htoks, #Hrch, Hat, Hcred⟩, Hrows, HO⟩ Hk
  ihave HO := (owed_elim d i) $$ HO
  icases HO with ⟨%W', %hW, HO⟩
  ihave Hpays := (pays_intro (F := F) X Z d i) $$ Hrows
  iapply (SparseCore.wp_subcoreBarrier 𝒱₀ none EB (bRd (F := F) X Z) d (sc := cV i) (i := jV i) sc_bar0 (grid0.bound 1) hsub0 (i 1) rfl κ (fun _ => 0) (jV i).val
      (fun j => bRd_mem₀ X Z d _ _ _) (fun _ => rfl) (bRd_expect X Z d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := th d i) 3 (fun p hp => by
        rw [Finset.mem_singleton] at hp; subst hp
        show (K (F := F)).lev (bcell d (cV i) (jV i)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd (F := F) X Z) (g := bcell d (cV i) (jV i)) (Set.mem_univ (κ _)) (fun h => h) (bRd_duties_succ X Z _)) $$ [Hat] with Hbar
  · isplitr
    · iapply (SparseCore.ent (bigSep_elim (Φ := fun j : Fin (grid0.bound 1) =>
        (cellInv EB (bRd (F := F) X Z) (κ (bcell d (cV i) (j.castLE hsub0))) (bcell d (cV i) (j.castLE hsub0)) : sProp 𝕄)) (Finset.mem_univ (i 1)))); iexact Hinv
    · iexact Hat
  ihave Hseg := (pays_elim (F := F) X Z d i) $$ Hgot
  ihave Hmw := (show levAts (K (F := F)).L (K (F := F)).lev ⊢ Transfers.MayWaits (th d i) (default : HIx 1) O from
    (K (F := F)).mayWaits_none (thr := th d i) hO) $$ Hlv
  iapply Hk
  isplitl [Hseg]; · iexact Hseg
  isplitl [Hbar]; · iexact Hbar
  unfold RestB
  iexists (insert (SemLoc.reg sc_bar0, some 0) W')
  isplitr
  · ipureintro
    intro p hp
    rcases Finset.mem_insert.1 hp with rfl | hp
    · exact .inr (.inr rfl)
    · rcases hW p hp with h | h
      · exact .inl h
      · exact .inr (.inl h)
  unfold Rest
  isplitl [HO]
  · unfold Owed
    iexists _
    isplitr
    swap; · iexact HO
    ipureintro
    exact fun p hp => .inl hp
  iexact Hmw

/-- Sixteen columns of the merged row, each the merge at its column. -/
theorem mrg_out (c : ℕ) (l : S16.Idx) : mrgV (segRows i (X d) (Z d)) 16 c l = outN (i 0).val (i 1).val (X d) (Z d) (c + (l 0).val) := rfl

set_option maxHeartbeats 8000000 in
/-- The last row copied, the barrier, the segment's rows brought back and merged, the first 32 columns stored. -/
theorem part70 (hO : ∀ g, O g none = 0) (hOlev : ∀ g ι, 0 < O g ι → 8 * (0 : Fin 1).val + 6 ≤ (K (F := F)).lev g ι) :
    iprop(levAts (K (F := F)).L (K (F := F)).lev ∗ bkit X Z d (cV i) (jV i) ∗ partPts d i (partT i (X d) (Z d)) ∗ rowsOut X Z d i 15
        ∗ RowTodo d i 15 cc0_scoped16.sem ∗ (∃ f, mrgPts d i f) ∗ (∃ f, resPts d i f) ∗ semVal (th d i, .dma cc0_scoped17.sem) 0
        ∗ Rest d i (O + oxV d (cV i)) W)
      ⊢ wp frame (wpE (defs₀ (F := F)) 𝒱₀ (th d i) none) Set.univ
      (k0_part70 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
        k0_pay308 k0_pay309 k0_pay310 k0_pay311 k0_pay312 k0_pay313 k0_pay314 k0_pay315 k0_pay316 k0_pay317 k0_pay318 k0_pay319 k0_pay320 k0_pay321 k0_pay322 k0_pay323)
      fun r => iprop(⌜r = ⟨mrgV (segRows i (X d) (Z d)) 16 32, mrgV (segRows i (X d) (Z d)) 16 48, mrgV (segRows i (X d) (Z d)) 16 64, mrgV (segRows i (X d) (Z d)) 16 80, mrgV (segRows i (X d) (Z d)) 16 96, mrgV (segRows i (X d) (Z d)) 16 112, mrgV (segRows i (X d) (Z d)) 16 128, mrgV (segRows i (X d) (Z d)) 16 144, mrgV (segRows i (X d) (Z d)) 16 160, mrgV (segRows i (X d) (Z d)) 16 176, mrgV (segRows i (X d) (Z d)) 16 192, mrgV (segRows i (X d) (Z d)) 16 208, mrgV (segRows i (X d) (Z d)) 16 224, mrgV (segRows i (X d) (Z d)) 16 240⟩⌝ ∗ (∃ f, resPts d i (resTo f (outN (i 0).val (i 1).val (X d) (Z d)) 32))
        ∗ partPts d i (partT i (X d) (Z d)) ∗ shPts d i (tileSet (i 0).val (i 1).val) (shF (X d) (Z d)) ∗ (∃ f, mrgPts d i f)
        ∗ semVal (th d i, .dma cc0_scoped16.sem) 0 ∗ semVal (th d i, .dma cc0_scoped17.sem) 0 ∗ semVal (bcell d (cV i) (jV i)) 0 ∗ RestB d i O W) := by
  rw [k0_part70_eq_skeleton]
  iintro ⟨#Hlv, Hkit, Hp, Hrows, H15, Hmrg, ⟨%fr, Hres⟩, Hs17, HO, #HM⟩
  iapply (row_issue d i (X := X d) (v0 := Z d) (k := 15) (by decide) (sh_off i 15)) $$ [Hp H15]
  · isplitl [Hp]; · iexact Hp
    iexact H15
  iintro H15
  iapply (row_await d i (X := X d) (v0 := Z d) (k := 15)) $$ [H15 HO]
  · isplitl [H15]; · iexact H15
    isplitl [HO]; · iexact HO
    iexact HM
  iintro ⟨Hp, H15, HO⟩
  ihave H15 := (show RowDone d i (X d) (Z d) 15 cc0_scoped16.sem ⊢ iprop(shPts d i (shSet (i 0).val 15 (i 1).val) (shF (X d) (Z d)) ∗ semVal (th d i, .dma cc0_scoped16.sem) 0)
    from Entails.of_eq rfl) $$ H15
  icases H15 with ⟨H15, Hs16⟩
  iapply (barrier_step X Z d i (W := W) hO hOlev) $$ [Hkit Hrows H15 HO]
  · isplitr; · iexact Hlv
    isplitl [Hkit]; · iexact Hkit
    isplitl [Hrows H15]
    · unfold rowsOut
      rw [bigSep_range_succ 15]
      isplitl [H15]; · iexact H15
      iexact Hrows
    iexact HO
  iintro ⟨Hseg, Hbar, HR⟩
  ihave HR := (show RestB d i O W ⊢ iprop(∃ W', ⌜∀ p ∈ W', p ∈ W ∨ p.2 = none ∨ p.2 = some (0 : Fin 1)⌝ ∗ Rest (F := F) d i O W') from Entails.of_eq rfl) $$ HR
  icases HR with ⟨%W1, %hW1, HR⟩
  iapply (seg_copy d i (X := X d) (v0 := Z d) (sm := cc0_scoped17.sem) (O := O) (W := W1) (seg_off167 i)) $$ [Hseg Hmrg Hs17 HR]
  · isplitl [Hseg]; · iexact Hseg
    isplitl [Hmrg]; · iexact Hmrg
    isplitl [Hs17]; · iexact Hs17
    iexact HR
  iintro ⟨Hseg, Hmrg, Hs17, HR⟩
  iapply (wp_seq d i (t12_loop d i (segRows i (X d) (Z d)) (hok := k0_t12_ok))) $$ Hmrg
  iintro Hmrg
  rw [← resTo_zero fr (outN (i 0).val (i 1).val (X d) (Z d))]
  iapply (st_res d i (mrg_out X Z d i 0)) $$ Hres
  iintro Hres
  iapply (st_res d i (mrg_out X Z d i 16)) $$ Hres
  iintro Hres
  iapply (ret_post d i)
  isplitr; · ipureintro; rfl
  isplitl [Hres]; · iexists _; iexact Hres
  isplitl [Hp]; · iexact Hp
  isplitl [Hseg]; · iexact Hseg
  isplitl [Hmrg]; · iexists _; iexact Hmrg
  isplitl [Hs16]; · iexact Hs16
  isplitl [Hs17]; · iexact Hs17
  isplitl [Hbar]; · iexact Hbar
  unfold RestB
  iexists W1
  isplitr; · ipureintro; exact hW1
  iexact HR

/-- A separating conjunction over the numbers below sixteen, written out. -/
theorem list16 (A : ℕ → sProp 𝕄) : bigSep (Finset.range 16) A = iprop(A 15 ∗ A 14 ∗ A 13 ∗ A 12 ∗ A 11 ∗ A 10 ∗ A 9 ∗ A 8 ∗ A 7 ∗ A 6 ∗ A 5 ∗ A 4 ∗ A 3 ∗ A 2 ∗ A 1 ∗ A 0 ∗ emp) := by
  rw [bigSep_range_succ 15, bigSep_range_succ 14, bigSep_range_succ 13, bigSep_range_succ 12, bigSep_range_succ 11, bigSep_range_succ 10, bigSep_range_succ 9, bigSep_range_succ 8, bigSep_range_succ 7, bigSep_range_succ 6, bigSep_range_succ 5, bigSep_range_succ 4, bigSep_range_succ 3, bigSep_range_succ 2, bigSep_range_succ 1, bigSep_range_succ 0, Finset.range_zero, bigSep_empty]
  rfl

/-- The same over the numbers below fifteen. -/
theorem list15 (A : ℕ → sProp 𝕄) : bigSep (Finset.range 15) A = iprop(A 14 ∗ A 13 ∗ A 12 ∗ A 11 ∗ A 10 ∗ A 9 ∗ A 8 ∗ A 7 ∗ A 6 ∗ A 5 ∗ A 4 ∗ A 3 ∗ A 2 ∗ A 1 ∗ A 0 ∗ emp) := by
  rw [bigSep_range_succ 14, bigSep_range_succ 13, bigSep_range_succ 12, bigSep_range_succ 11, bigSep_range_succ 10, bigSep_range_succ 9, bigSep_range_succ 8, bigSep_range_succ 7, bigSep_range_succ 6, bigSep_range_succ 5, bigSep_range_succ 4, bigSep_range_succ 3, bigSep_range_succ 2, bigSep_range_succ 1, bigSep_range_succ 0, Finset.range_zero, bigSep_empty]
  rfl

/-- The semaphore of the copy of row `k`. -/
def rowSem (k : ℕ) : DmaSem sig := ⟨(9 + k) % 27, Nat.mod_lt _ (by decide)⟩

/-- What a tile starts from, its arrays and semaphores. -/
def Start (q : PosShare TreeShare) (p : ℕ → PosShare TreeShare) : sProp 𝕄 :=
  iprop(szPts (F := F) d i q (Z d) ∗ (∃ f, bszPts (F := F) d i f) ∗ (∃ f, partPts d i f) ∗ bigSep (Finset.range 8) (Idle d i p (X d))
    ∗ (bigSep (Finset.range 16) fun k => RowTodo d i k (rowSem k)) ∗ (∃ f, mrgPts d i f) ∗ (∃ f, resPts d i f)
    ∗ semVal (th d i, .dma cc0_scoped0.sem) 0 ∗ semVal (th d i, .dma cc0_scoped17.sem) 0 ∗ semVal (th d i, .dma cc0_scoped18.sem) 0
    ∗ ∃ g, outPts d i (outSet (i 0).val (i 1).val) g)

/-- What a tile ends with: the same arrays and semaphores, its segment's rows of the shared memory, its row of the result
    at its value. -/
def Finish (q : PosShare TreeShare) (p : ℕ → PosShare TreeShare) : sProp 𝕄 :=
  iprop(szPts (F := F) d i q (Z d) ∗ (∃ f, bszPts (F := F) d i f) ∗ (∃ f, partPts d i f) ∗ bigSep (Finset.range 8) (Idle d i p (X d))
    ∗ (bigSep (Finset.range 16) fun k => semVal (th d i, .dma (rowSem k)) 0) ∗ (∃ f, mrgPts d i f) ∗ (∃ f, resPts d i f)
    ∗ semVal (th d i, .dma cc0_scoped0.sem) 0 ∗ semVal (th d i, .dma cc0_scoped17.sem) 0 ∗ semVal (th d i, .dma cc0_scoped18.sem) 0
    ∗ outPts d i (outSet (i 0).val (i 1).val) (outF (X d) (Z d)) ∗ shPts d i (tileSet (i 0).val (i 1).val) (shF (X d) (Z d)) ∗ semVal (bcell d (cV i) (jV i)) 0)

/-- What a tile holds while its row of the result is being sent out. -/
def Sending (q : PosShare TreeShare) (p : ℕ → PosShare TreeShare) : sProp 𝕄 :=
  iprop(szPts (F := F) d i q (Z d) ∗ (∃ f, bszPts (F := F) d i f) ∗ (∃ f, partPts d i f) ∗ bigSep (Finset.range 8) (Idle d i p (X d))
    ∗ (bigSep (Finset.range 16) fun k => semVal (th d i, .dma (rowSem k)) 0) ∗ (∃ f, mrgPts d i f)
    ∗ semVal (th d i, .dma cc0_scoped0.sem) 0 ∗ semVal (th d i, .dma cc0_scoped17.sem) 0
    ∗ OutBusy d i (X d) (Z d) cc0_scoped18.sem ∗ shPts d i (tileSet (i 0).val (i 1).val) (shF (X d) (Z d)) ∗ semVal (bcell d (cV i) (jV i)) 0)

/-- A row copied, taken apart. -/
theorem rowDone_elim (k : ℕ) (sm : DmaSem sig) : RowDone d i (X d) (Z d) k sm
    ⊢ iprop(shPts d i (shSet (i 0).val k (i 1).val) (shF (X d) (Z d)) ∗ semVal (th d i, .dma sm) 0) :=
  Entails.of_eq rfl

set_option maxHeartbeats 16000000 in
/-- The task up to its last wait. -/
theorem part71 {q : PosShare TreeShare} {p : ℕ → PosShare TreeShare} (hz : SizesOk (Z d)) (hO : ∀ g, O g none = 0) (hOlev : ∀ g ι, 0 < O g ι → 8 * (0 : Fin 1).val + 6 ≤ (K (F := F)).lev g ι) :
    iprop(levAts (K (F := F)).L (K (F := F)).lev ∗ bkit X Z d (cV i) (jV i) ∗ Start X Z d i q p ∗ Rest d i (O + oxV d (cV i)) W)
      ⊢ wp frame (wpE (defs₀ (F := F)) 𝒱₀ (th d i) none) Set.univ
      (k0_part71 i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18)
      fun r => iprop(⌜r = ⟨⟩⌝ ∗ Sending X Z d i q p ∗ RestB d i O W) := by
  rw [k0_part71_eq_skeleton]
  unfold Start Sending
  rw [list16, list16]
  iintro ⟨#Hlv, Hkit, ⟨Hsz, Hbsz, Hp, HI, ⟨H15, H14, H13, H12, H11, H10, H9, H8, H7, H6, H5, H4, H3, H2, H1, H0, -⟩, Hmrg, Hres, Hs0, Hs17, Hs18, Hout⟩, HR⟩
  iapply (wp_seq d i (part61 d i (q := q) (v0 := Z d) (O := O + oxV d (cV i)) (W := W))) $$ [Hsz Hbsz Hs0 HR]
  · isplitl [Hsz]; · iexact Hsz
    isplitl [Hbsz]; · iexact Hbsz
    isplitl [Hs0]; · iexact Hs0
    iexact HR
  iintro ⟨Hsz, Hbsz, Hs0, HR⟩
  iapply (wp_seq d i (part62 d i (O := O + oxV d (cV i)) (W := W) p (X d) hz rfl)) $$ [Hp HI HR]
  · isplitl [Hp]; · iexact Hp
    isplitl [HI]; · iexact HI
    iexact HR
  iintro ⟨Hp, HI, HR⟩
  iapply (wp_seq d i (part63 d i (X := X d) (v0 := Z d) (O := O + oxV d (cV i)) (W := W))) $$ [Hp H0 H1 HR]
  · isplitl [Hp]; · iexact Hp
    isplitl [H0]; · iexact H0
    isplitl [H1]; · iexact H1
    iexact HR
  iintro ⟨Hp, H0, H1, HR⟩
  iapply (wp_seq d i (part64 d i (X := X d) (v0 := Z d) (O := O + oxV d (cV i)) (W := W))) $$ [Hp H2 H3 HR]
  · isplitl [Hp]; · iexact Hp
    isplitl [H2]; · iexact H2
    isplitl [H3]; · iexact H3
    iexact HR
  iintro ⟨Hp, H2, H3, HR⟩
  iapply (wp_seq d i (part65 d i (X := X d) (v0 := Z d) (O := O + oxV d (cV i)) (W := W))) $$ [Hp H4 H5 HR]
  · isplitl [Hp]; · iexact Hp
    isplitl [H4]; · iexact H4
    isplitl [H5]; · iexact H5
    iexact HR
  iintro ⟨Hp, H4, H5, HR⟩
  iapply (wp_seq d i (part66 d i (X := X d) (v0 := Z d) (O := O + oxV d (cV i)) (W := W))) $$ [Hp H6 H7 H8 HR]
  · isplitl [Hp]; · iexact Hp
    isplitl [H6]; · iexact H6
    isplitl [H7]; · iexact H7
    isplitl [H8]; · iexact H8
    iexact HR
  iintro ⟨H6, H7, H8, HR⟩
  iapply (wp_seq d i (part67 d i (X := X d) (v0 := Z d) (O := O + oxV d (cV i)) (W := W))) $$ [H8 H9 H10 HR]
  · isplitl [H8]; · iexact H8
    isplitl [H9]; · iexact H9
    isplitl [H10]; · iexact H10
    iexact HR
  iintro ⟨H8, H9, H10, HR⟩
  iapply (wp_seq d i (part68 d i (X := X d) (v0 := Z d) (O := O + oxV d (cV i)) (W := W))) $$ [H10 H11 H12 HR]
  · isplitl [H10]; · iexact H10
    isplitl [H11]; · iexact H11
    isplitl [H12]; · iexact H12
    iexact HR
  iintro ⟨H10, H11, H12, HR⟩
  iapply (wp_seq d i (part69 d i (X := X d) (v0 := Z d) (O := O + oxV d (cV i)) (W := W))) $$ [H12 H13 H14 HR]
  · isplitl [H12]; · iexact H12
    isplitl [H13]; · iexact H13
    isplitl [H14]; · iexact H14
    iexact HR
  iintro ⟨Hp, H12, H13, H14, HR⟩
  ihave H0 := (rowDone_elim X Z d i 0 cc0_scoped1.sem) $$ H0
  icases H0 with ⟨H0, Hr0⟩
  ihave H1 := (rowDone_elim X Z d i 1 cc0_scoped2.sem) $$ H1
  icases H1 with ⟨H1, Hr1⟩
  ihave H2 := (rowDone_elim X Z d i 2 cc0_scoped3.sem) $$ H2
  icases H2 with ⟨H2, Hr2⟩
  ihave H3 := (rowDone_elim X Z d i 3 cc0_scoped4.sem) $$ H3
  icases H3 with ⟨H3, Hr3⟩
  ihave H4 := (rowDone_elim X Z d i 4 cc0_scoped5.sem) $$ H4
  icases H4 with ⟨H4, Hr4⟩
  ihave H5 := (rowDone_elim X Z d i 5 cc0_scoped6.sem) $$ H5
  icases H5 with ⟨H5, Hr5⟩
  ihave H6 := (rowDone_elim X Z d i 6 cc0_scoped7.sem) $$ H6
  icases H6 with ⟨H6, Hr6⟩
  ihave H7 := (rowDone_elim X Z d i 7 cc0_scoped8.sem) $$ H7
  icases H7 with ⟨H7, Hr7⟩
  ihave H8 := (rowDone_elim X Z d i 8 cc0_scoped9.sem) $$ H8
  icases H8 with ⟨H8, Hr8⟩
  ihave H9 := (rowDone_elim X Z d i 9 cc0_scoped10.sem) $$ H9
  icases H9 with ⟨H9, Hr9⟩
  ihave H10 := (rowDone_elim X Z d i 10 cc0_scoped11.sem) $$ H10
  icases H10 with ⟨H10, Hr10⟩
  ihave H11 := (rowDone_elim X Z d i 11 cc0_scoped12.sem) $$ H11
  icases H11 with ⟨H11, Hr11⟩
  ihave H12 := (rowDone_elim X Z d i 12 cc0_scoped13.sem) $$ H12
  icases H12 with ⟨H12, Hr12⟩
  ihave H13 := (rowDone_elim X Z d i 13 cc0_scoped14.sem) $$ H13
  icases H13 with ⟨H13, Hr13⟩
  ihave H14 := (rowDone_elim X Z d i 14 cc0_scoped15.sem) $$ H14
  icases H14 with ⟨H14, Hr14⟩
  ihave Hrows := (show iprop(shPts d i (shSet (i 0).val 14 (i 1).val) (shF (X d) (Z d)) ∗ shPts d i (shSet (i 0).val 13 (i 1).val) (shF (X d) (Z d)) ∗ shPts d i (shSet (i 0).val 12 (i 1).val) (shF (X d) (Z d)) ∗ shPts d i (shSet (i 0).val 11 (i 1).val) (shF (X d) (Z d)) ∗ shPts d i (shSet (i 0).val 10 (i 1).val) (shF (X d) (Z d)) ∗ shPts d i (shSet (i 0).val 9 (i 1).val) (shF (X d) (Z d)) ∗ shPts d i (shSet (i 0).val 8 (i 1).val) (shF (X d) (Z d)) ∗ shPts d i (shSet (i 0).val 7 (i 1).val) (shF (X d) (Z d)) ∗ shPts d i (shSet (i 0).val 6 (i 1).val) (shF (X d) (Z d)) ∗ shPts d i (shSet (i 0).val 5 (i 1).val) (shF (X d) (Z d)) ∗ shPts d i (shSet (i 0).val 4 (i 1).val) (shF (X d) (Z d)) ∗ shPts d i (shSet (i 0).val 3 (i 1).val) (shF (X d) (Z d)) ∗ shPts d i (shSet (i 0).val 2 (i 1).val) (shF (X d) (Z d)) ∗ shPts d i (shSet (i 0).val 1 (i 1).val) (shF (X d) (Z d)) ∗ shPts d i (shSet (i 0).val 0 (i 1).val) (shF (X d) (Z d)) ∗ emp) ⊢ rowsOut X Z d i 15 from
    Entails.of_eq (list15 fun k => shPts d i (shSet (i 0).val k (i 1).val) (shF (X d) (Z d))).symm) $$ [H0 H1 H2 H3 H4 H5 H6 H7 H8 H9 H10 H11 H12 H13 H14]
  · isplitl [H14]; · iexact H14
    isplitl [H13]; · iexact H13
    isplitl [H12]; · iexact H12
    isplitl [H11]; · iexact H11
    isplitl [H10]; · iexact H10
    isplitl [H9]; · iexact H9
    isplitl [H8]; · iexact H8
    isplitl [H7]; · iexact H7
    isplitl [H6]; · iexact H6
    isplitl [H5]; · iexact H5
    isplitl [H4]; · iexact H4
    isplitl [H3]; · iexact H3
    isplitl [H2]; · iexact H2
    isplitl [H1]; · iexact H1
    isplitl [H0]; · iexact H0
    iempintro
  iapply (wp_seq d i (part70 X Z d i (W := W) hO hOlev)) $$ [Hkit Hp Hrows H15 Hmrg Hres Hs17 HR]
  · isplitr; · iexact Hlv
    isplitl [Hkit]; · iexact Hkit
    isplitl [Hp]; · iexact Hp
    isplitl [Hrows]; · iexact Hrows
    isplitl [H15]; · iexact H15
    isplitl [Hmrg]; · iexact Hmrg
    isplitl [Hres]; · iexact Hres
    isplitl [Hs17]; · iexact Hs17
    iexact HR
  iintro ⟨⟨%fr, Hres⟩, Hp, Hseg, Hmrg, Hr15, Hs17, Hbar, HR⟩
  iapply (st_res d i (mrg_out X Z d i 32)) $$ Hres
  iintro Hres
  iapply (st_res d i (mrg_out X Z d i 48)) $$ Hres
  iintro Hres
  iapply (st_res d i (mrg_out X Z d i 64)) $$ Hres
  iintro Hres
  iapply (st_res d i (mrg_out X Z d i 80)) $$ Hres
  iintro Hres
  iapply (st_res d i (mrg_out X Z d i 96)) $$ Hres
  iintro Hres
  iapply (st_res d i (mrg_out X Z d i 112)) $$ Hres
  iintro Hres
  iapply (st_res d i (mrg_out X Z d i 128)) $$ Hres
  iintro Hres
  iapply (st_res d i (mrg_out X Z d i 144)) $$ Hres
  iintro Hres
  iapply (st_res d i (mrg_out X Z d i 160)) $$ Hres
  iintro Hres
  iapply (st_res d i (mrg_out X Z d i 176)) $$ Hres
  iintro Hres
  iapply (st_res d i (mrg_out X Z d i 192)) $$ Hres
  iintro Hres
  iapply (st_res d i (mrg_out X Z d i 208)) $$ Hres
  iintro Hres
  iapply (st_res d i (mrg_out X Z d i 224)) $$ Hres
  iintro Hres
  iapply (st_res d i (mrg_out X Z d i 240)) $$ Hres
  iintro Hres
  rw [resTo_full]
  iapply (out_issue d i (X := X d) (v0 := Z d) (sm := cc0_scoped18.sem) (out_off i)) $$ [Hres Hout Hs18]
  · isplitl [Hres]; · iexact Hres
    isplitl [Hout]; · iexact Hout
    iexact Hs18
  iintro Hout
  iapply (ret_post d i)
  isplitr; · ipureintro; rfl
  isplitr [HR]; swap; · iexact HR
  isplitl [Hsz]; · iexact Hsz
  isplitl [Hbsz]; · iexists _; iexact Hbsz
  isplitl [Hp]; · iexists _; iexact Hp
  isplitl [HI]; · iexact HI
  isplitl [Hr0 Hr1 Hr2 Hr3 Hr4 Hr5 Hr6 Hr7 Hr8 Hr9 Hr10 Hr11 Hr12 Hr13 Hr14 Hr15]
  · isplitl [Hr15]; · iexact Hr15
    isplitl [Hr14]; · iexact Hr14
    isplitl [Hr13]; · iexact Hr13
    isplitl [Hr12]; · iexact Hr12
    isplitl [Hr11]; · iexact Hr11
    isplitl [Hr10]; · iexact Hr10
    isplitl [Hr9]; · iexact Hr9
    isplitl [Hr8]; · iexact Hr8
    isplitl [Hr7]; · iexact Hr7
    isplitl [Hr6]; · iexact Hr6
    isplitl [Hr5]; · iexact Hr5
    isplitl [Hr4]; · iexact Hr4
    isplitl [Hr3]; · iexact Hr3
    isplitl [Hr2]; · iexact Hr2
    isplitl [Hr1]; · iexact Hr1
    isplitl [Hr0]; · iexact Hr0
    iempintro
  isplitl [Hmrg]; · iexact Hmrg
  isplitl [Hs0]; · iexact Hs0
  isplitl [Hs17]; · iexact Hs17
  isplitl [Hout]; · iexact Hout
  isplitl [Hseg]; · iexact Hseg
  iexact Hbar

set_option maxHeartbeats 4000000 in
/-- The task. -/
theorem task {q : PosShare TreeShare} {p : ℕ → PosShare TreeShare} (hz : SizesOk (Z d)) (hO : ∀ g, O g none = 0) (hOlev : ∀ g ι, 0 < O g ι → 8 * (0 : Fin 1).val + 6 ≤ (K (F := F)).lev g ι) :
    iprop(levAts (K (F := F)).L (K (F := F)).lev ∗ bkit X Z d (cV i) (jV i) ∗ Start X Z d i q p ∗ Rest d i (O + oxV d (cV i)) W)
      ⊢ wp frame (wpE (defs₀ (F := F)) 𝒱₀ (th d i) none) Set.univ
      (cc0__dmax_body i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18)
      fun _ => iprop(Finish X Z d i q p ∗ ∃ W', ⌜∀ p ∈ W', p ∈ W ∨ p.2 = none ∨ p.2 = some (0 : Fin 1)⌝ ∗ owes (th d i) O W') := by
  rw [cc0__dmax_body_eq_skeleton]
  iintro H
  iapply (wp_seq d i (part71 X Z d i (q := q) (p := p) (W := W) hz hO hOlev)) $$ H
  unfold Sending Finish
  iintro ⟨⟨Hsz, Hbsz, Hp, HI, Hrs, Hmrg, Hs0, Hs17, Hout, Hseg, Hbar⟩, HR⟩
  ihave HR := (show RestB d i O W ⊢ iprop(∃ W', ⌜∀ p ∈ W', p ∈ W ∨ p.2 = none ∨ p.2 = some (0 : Fin 1)⌝ ∗ Rest (F := F) d i O W') from Entails.of_eq rfl) $$ HR
  icases HR with ⟨%W1, %hW1, HR⟩
  iapply (out_await d i (X := X d) (v0 := Z d) (sm := cc0_scoped18.sem) (O := O) (W := W1)) $$ [Hout HR]
  · isplitl [Hout]; · iexact Hout
    iexact HR
  iintro ⟨Hout, Hres, Hs18, HO⟩
  iapply (ret_post d i)
  isplitr [HO]
  · isplitl [Hsz]; · iexact Hsz
    isplitl [Hbsz]; · iexact Hbsz
    isplitl [Hp]; · iexact Hp
    isplitl [HI]; · iexact HI
    isplitl [Hrs]; · iexact Hrs
    isplitl [Hmrg]; · iexact Hmrg
    isplitl [Hres]; · iexact Hres
    isplitl [Hs0]; · iexact Hs0
    isplitl [Hs17]; · iexact Hs17
    isplitl [Hs18]; · iexact Hs18
    isplitl [Hout]; · iexact Hout
    isplitl [Hseg]; · iexact Hseg
    iexact Hbar
  ihave HO := (owed_elim d i) $$ HO
  icases HO with ⟨%W', %hW, HO⟩
  iexists _
  isplitr
  swap; · iexact HO
  ipureintro
  intro p hp
  rcases hW p hp with h | h
  · exact hW1 p h
  · exact .inr (.inl h)

end Cert.KernelIdeal.DMax
end
-- ==== Proof.Deal.lean ====
module

public import proofs.«01_k».proof.Proof.Tile

/-!
  How the launch's hand-over to a tile becomes what its task starts from, and what its task ends with the hand-over back:
  the tile's own buffers and semaphores, its share of the table and of the sizes, its part of the shared memory.
-/

@[expose] public section

noncomputable section

namespace Cert.KernelIdeal.DMax

open Cert.KernelIdeal Cert.KernelIdeal.Gen
open Idealize.ShloMosaic Idealize.ShloMosaic.WordArith
open Idealize.ShloMosaic.SparseCore (S V T)
open Idealize.ShloMosaic.SparseCore.Cfg (HIx Pay ownBufs ownSems0 ownCells ownRefs mem_ownCells mem_ownRefs)
open Idealize.ShloMosaic.Rounds
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Families of conjuncts -/

/-- Nothing beside a resource is the resource. -/
theorem sep_emp_eq (P : sProp 𝕄) : (iprop(P ∗ emp) : sProp 𝕄) = P := by
  refine BI.equiv_iff.mp ⟨?_, ?_⟩
  · show iprop(P ∗ emp) ⊢ P
    iintro ⟨H, -⟩; iexact H
  · show P ⊢ iprop(P ∗ emp)
    iintro H
    isplitl; · iexact H
    iempintro

/-- The first two of three conjuncts exchanged. -/
theorem sep_left_eq (P Q R : sProp 𝕄) : (iprop(P ∗ Q ∗ R) : sProp 𝕄) = iprop(Q ∗ P ∗ R) := by
  have h : ∀ P Q R : sProp 𝕄, iprop(P ∗ Q ∗ R) ⊢ iprop(Q ∗ P ∗ R) := fun P Q R => by
    iintro ⟨HP, HQ, HR⟩
    isplitl [HQ]; · iexact HQ
    isplitl [HP]; · iexact HP
    iexact HR
  exact BI.equiv_iff.mp ⟨h P Q R, h Q P R⟩

/-- A separating conjunction over the numbers below `m + b` is one over those below `m` and one over the `b` after. -/
theorem bigSep_range_append (m : ℕ) (A : ℕ → sProp 𝕄) : ∀ b : ℕ,
    bigSep (Finset.range (m + b)) A = iprop(bigSep (Finset.range m) A ∗ bigSep (Finset.range b) fun k => A (m + k))
  | 0 => by
    rw [Finset.range_zero, bigSep_empty]
    exact (sep_emp_eq _).symm
  | b + 1 => by
    rw [← Nat.add_assoc, bigSep_range_succ, bigSep_range_succ, bigSep_range_append m A b]
    exact sep_left_eq _ _ _

/-- An array held whole at some contents is its parts, each held at some contents. -/
theorem parts_split {ℓ : Loc nD τ sig} {T : Type} (S : Finset T) (A : T → Finset (Idx ℓ)) (hd : ∀ a ∈ S, ∀ b ∈ S, a ≠ b → Disjoint (A a) (A b)) :
    (iprop(∃ f, ℓ ↦[S.biUnion A]{fullShare} f) : sProp 𝕄) ⊢ bigSep S fun a => iprop(∃ f, ℓ ↦[A a]{fullShare} f) := by
  iintro ⟨%f, H⟩
  ihave H := (Entails.of_eq (pointsTo_biUnion S (ℓ := ℓ) A hd)) $$ H
  iapply (SparseCore.ent (bigSep_mono (s := S) (Φ := fun a => (ℓ ↦[A a]{fullShare} f : sProp 𝕄)) (Ψ := fun a => iprop(∃ f, ℓ ↦[A a]{fullShare} f))
    fun a _ => BI.BIClass.exists_intro (Φ := fun f => (ℓ ↦[A a]{fullShare} f : sProp 𝕄)) f))
  iexact H

/-- Parts of an array, each held at some contents, are their union held at some contents. -/
theorem parts_join {ℓ : Loc nD τ sig} [Nonempty (Buf (Elt F) ℓ)] {T : Type} [DecidableEq T] (S : Finset T) (A : T → Finset (Idx ℓ)) (hd : ∀ a ∈ S, ∀ b ∈ S, a ≠ b → Disjoint (A a) (A b)) :
    (bigSep S fun a => iprop(∃ f, ℓ ↦[A a]{fullShare} f)) ⊢ (iprop(∃ f, ℓ ↦[S.biUnion A]{fullShare} f) : sProp 𝕄) := by
  refine (bigSep_exists_pi S (fun a (f : Buf (Elt F) ℓ) => (ℓ ↦[A a]{fullShare} f : sProp 𝕄))).trans ?_
  iintro ⟨%fs, H⟩
  ihave H' := (pointsTo_biUnion_join S A fs (Classical.arbitrary _) hd) $$ H
  icases H' with ⟨%g, -, Hg⟩
  iexists g; iexact Hg

variable (X : Dev nD → S32768x512.Idx → F .f32) (Z : Dev nD → Vec F S16 .i32)
variable (d : Dev nD) (i : grid0.Coords)

/-! ## A tile's semaphores -/

/-- DMA semaphore number `k`. -/
abbrev semN (k : ℕ) : DmaSem sig := ⟨k % 27, Nat.mod_lt _ (by decide)⟩

/-- A tile's twenty-seven DMA semaphores. -/
def cellsV : Finset (GSem nD τ sig) := (Finset.range 27).image fun k => (th d i, SemLoc.dma (semN k))

/-- They are the tile's own. -/
theorem cellsV_sub : cellsV d i ⊆ ownCells (th d i) := by
  intro g hg
  obtain ⟨k, -, rfl⟩ := Finset.mem_image.1 hg
  exact mem_ownCells.2 ⟨rfl, (show ∀ s : DmaSem sig, (SemLoc.dma s : SemLoc sig).isScoped .scVector = true by decide) (semN k)⟩

/-- The conjuncts over a tile's semaphores, one by one or by range. -/
theorem sems_listed : (bigSep (cellsV d i) fun g => (semVal g 0 : sProp 𝕄))
    = iprop((bigSep (Finset.range 8) fun s => semVal (th d i, .dma (semAt s)) 0) ∗ semVal (th d i, .dma cc0_scoped0.sem) 0
        ∗ (bigSep (Finset.range 16) fun k => semVal (th d i, .dma (rowSem k)) 0)
        ∗ semVal (th d i, .dma cc0_scoped17.sem) 0 ∗ semVal (th d i, .dma cc0_scoped18.sem) 0) := by
  unfold cellsV
  rw [SparseCore.bigSep_image_of_injOn]
  · rw [show (27 : ℕ) = 8 + (1 + (16 + (1 + 1))) from rfl, bigSep_range_append, bigSep_range_append 1, bigSep_range_append 16, bigSep_range_append 1]
    have one : ∀ A : ℕ → sProp 𝕄, bigSep (Finset.range 1) A = A 0 := fun A => by rw [Finset.range_one, bigSep_singleton]
    rw [one, one, one]
    have h8 : ∀ k < 8, (semN k : DmaSem sig) = semAt k := by decide
    have h16 : ∀ k : ℕ, (semN (8 + (1 + k)) : DmaSem sig) = rowSem k := fun k => Fin.ext (by show (8 + (1 + k)) % 27 = (9 + k) % 27; congr 1; omega)
    have e0 : (semN (8 + 0) : DmaSem sig) = cc0_scoped0.sem := by decide
    have e17 : rowSem (16 + 0) = cc0_scoped17.sem := by decide
    have e18 : rowSem (16 + (1 + 0)) = cc0_scoped18.sem := by decide
    simp only [h16, e0, e17, e18]
    rw [bigSep_congr (s := Finset.range 8) (Φ := fun k => (semVal (th d i, SemLoc.dma (semN k)) 0 : sProp 𝕄)) (Ψ := fun s => semVal (th d i, .dma (semAt s)) 0)
      fun k hk => by rw [h8 k (Finset.mem_range.1 hk)]]
  · intro a ha b hb e
    have ha' := Finset.mem_range.1 (Finset.mem_coe.1 ha)
    have hb' := Finset.mem_range.1 (Finset.mem_coe.1 hb)
    have e2 : (semN a : DmaSem sig) = semN b := SemLoc.dma.inj (Prod.mk.inj e).2
    have e3 : a % 27 = b % 27 := congrArg Fin.val e2
    omega

/-- A tile's semaphores, by what they serve: the ring's eight, the sizes' copy, the sixteen rows', the segment's and the
    result's, and the rest. -/
theorem ownSems_tile : (ownSems0 (th d i) : sProp 𝕄)
    = iprop(((bigSep (Finset.range 8) fun s => semVal (th d i, .dma (semAt s)) 0) ∗ semVal (th d i, .dma cc0_scoped0.sem) 0
        ∗ (bigSep (Finset.range 16) fun k => semVal (th d i, .dma (rowSem k)) 0)
        ∗ semVal (th d i, .dma cc0_scoped17.sem) 0 ∗ semVal (th d i, .dma cc0_scoped18.sem) 0)
      ∗ bigSep (ownCells (th d i) \ cellsV d i) fun g => semVal g 0) := by
  unfold SparseCore.Cfg.ownSems0
  rw [SparseCore.bigSep_sdiff_split' (cellsV_sub d i), sems_listed]

/-! ## A tile's buffers -/

/-- The tile's buffer number `k` of its own five. -/
abbrev ref0 : DevRef τ sig := (Proc.scVector (cV i) (jV i)).devRef cc0_scratch0
/-- The tile's ring of buffers. -/
abbrev ref1 : DevRef τ sig := (Proc.scVector (cV i) (jV i)).devRef cc0_scratch1
/-- The tile's table of partial maxima. -/
abbrev ref2 : DevRef τ sig := (Proc.scVector (cV i) (jV i)).devRef cc0_scratch2
/-- The tile's table of the rows it merges. -/
abbrev ref3 : DevRef τ sig := (Proc.scVector (cV i) (jV i)).devRef cc0_scratch3
/-- The tile's result row. -/
abbrev ref4 : DevRef τ sig := (Proc.scVector (cV i) (jV i)).devRef cc0_scratch4

/-- A tile's own buffers besides its five. -/
abbrev otherRefs : Finset (DevRef τ sig) :=
  (((((ownRefs (τ := τ) (sig := sig) (.scVector (cV i) (jV i))).erase (ref0 i)).erase (ref1 i)).erase (ref2 i)).erase (ref3 i)).erase (ref4 i)

/-- The tile's copy of the sizes is one of its own buffers. -/
theorem ref_mem0 : ref0 i ∈ ownRefs (τ := τ) (sig := sig) (.scVector (cV i) (jV i)) := SparseCore.Cfg.mem_ownRefs_of_owner rfl
/-- Different buffers of the tile are different buffers of the device. -/
theorem ref_ne {a b : Ref sig .scVector} (h : a ≠ b) : (Proc.scVector (cV i) (jV i)).devRef a ≠ (Proc.scVector (cV i) (jV i)).devRef b :=
  fun e => h ((Proc.scVector (cV i) (jV i)).devRef_injective e)

/-- A tile's own buffers: its five arrays, each at some contents, and the rest. -/
theorem ownBufs_tile : (ownBufs (th d i) : sProp 𝕄)
    = iprop((∃ f, bszPts (F := F) d i f) ∗ (∃ f, (bBuf).view.loc (th d i) ↦[Finset.univ]{fullShare} f) ∗ (∃ f, partPts d i f) ∗ (∃ f, mrgPts d i f) ∗ (∃ f, resPts d i f)
      ∗ bigSep (otherRefs i) fun b => iprop(∃ f, ((d, b) : Loc nD τ sig) ↦{fullShare} f)) := by
  unfold SparseCore.Cfg.ownBufs
  have m0 : ref0 i ∈ ownRefs (τ := τ) (sig := sig) (.scVector (cV i) (jV i)) := SparseCore.Cfg.mem_ownRefs_of_owner rfl
  have m1 : ref1 i ∈ ownRefs (τ := τ) (sig := sig) (.scVector (cV i) (jV i)) := SparseCore.Cfg.mem_ownRefs_of_owner rfl
  have m2 : ref2 i ∈ ownRefs (τ := τ) (sig := sig) (.scVector (cV i) (jV i)) := SparseCore.Cfg.mem_ownRefs_of_owner rfl
  have m3 : ref3 i ∈ ownRefs (τ := τ) (sig := sig) (.scVector (cV i) (jV i)) := SparseCore.Cfg.mem_ownRefs_of_owner rfl
  have m4 : ref4 i ∈ ownRefs (τ := τ) (sig := sig) (.scVector (cV i) (jV i)) := SparseCore.Cfg.mem_ownRefs_of_owner rfl
  rw [SparseCore.bigSep_erase' m0,
    SparseCore.bigSep_erase' (Finset.mem_erase.2 ⟨ref_ne i (by decide), m1⟩),
    SparseCore.bigSep_erase' (Finset.mem_erase.2 ⟨ref_ne i (by decide), Finset.mem_erase.2 ⟨ref_ne i (by decide), m2⟩⟩),
    SparseCore.bigSep_erase' (Finset.mem_erase.2 ⟨ref_ne i (by decide), Finset.mem_erase.2 ⟨ref_ne i (by decide), Finset.mem_erase.2 ⟨ref_ne i (by decide), m3⟩⟩⟩),
    SparseCore.bigSep_erase' (Finset.mem_erase.2 ⟨ref_ne i (by decide), Finset.mem_erase.2 ⟨ref_ne i (by decide), Finset.mem_erase.2 ⟨ref_ne i (by decide),
      Finset.mem_erase.2 ⟨ref_ne i (by decide), m4⟩⟩⟩⟩)]
  rfl

/-! ## The parts of the shared memory -/

/-- The part of a SparseCore's shared memory a tile starts with: the rows of every segment with its number. -/
def colSet (w : ℕ) : Finset S2x16x16x256.Idx := Finset.univ.filter fun y => (y 2).val = w
/-- What of it is not of the tile's own half. -/
def restSet (h w : ℕ) : Finset S2x16x16x256.Idx := Finset.univ.filter fun y => (y 0).val ≠ h ∧ (y 2).val = w
/-- The part a tile ends with: its segment's rows, and what it did not use. -/
def retSet (h w : ℕ) : Finset S2x16x16x256.Idx := Finset.univ.filter fun y => ((y 0).val = h ∧ (y 1).val = w) ∨ ((y 0).val ≠ h ∧ (y 2).val = w)

/-- A tile's rows for different segments have no element in common. -/
theorem shSet_disjoint (h w : ℕ) : ∀ a ∈ Finset.range 16, ∀ b ∈ Finset.range 16, a ≠ b → Disjoint (shSet h a w) (shSet h b w) := by
  intro a _ b _ hab
  rw [Finset.disjoint_left]
  intro y hy hy'
  simp only [shSet, Finset.mem_filter] at hy hy'
  exact hab (hy.2.2.1.symm.trans hy'.2.2.1)

/-- What a tile starts with is its sixteen rows of its own half, and the rest. -/
theorem colSet_eq (h w : ℕ) : colSet w = (Finset.range 16).biUnion (fun k => shSet h k w) ∪ restSet h w := by
  ext y
  simp only [colSet, restSet, shSet, Finset.mem_union, Finset.mem_biUnion, Finset.mem_filter, Finset.mem_univ, true_and, Finset.mem_range]
  constructor
  · intro e
    by_cases h0 : (y 0).val = h
    · exact Or.inl ⟨(y 1).val, (y 1).isLt, h0, rfl, e⟩
    · exact Or.inr ⟨h0, e⟩
  · rintro (⟨k, -, -, -, e⟩ | ⟨-, e⟩) <;> exact e

/-- The sixteen rows and the rest have no element in common. -/
theorem col_disjoint (h w : ℕ) : Disjoint ((Finset.range 16).biUnion (fun k => shSet h k w)) (restSet h w) := by
  rw [Finset.disjoint_left]
  intro y hy hy'
  simp only [restSet, shSet, Finset.mem_biUnion, Finset.mem_filter, Finset.mem_univ, true_and] at hy hy'
  obtain ⟨k, -, e, -⟩ := hy
  exact hy'.1 e

/-- What a tile ends with is the rows it merged, and the rest. -/
theorem retSet_eq (h w : ℕ) : retSet h w = tileSet h w ∪ restSet h w := by
  ext y
  simp only [retSet, tileSet, restSet, Finset.mem_union, Finset.mem_filter, Finset.mem_univ, true_and]

/-- The rows it merged and the rest have no element in common. -/
theorem ret_disjoint (h w : ℕ) : Disjoint (tileSet h w) (restSet h w) := by
  rw [Finset.disjoint_left]
  intro y hy hy'
  simp only [restSet, tileSet, Finset.mem_filter] at hy hy'
  exact hy'.2.1 hy.2.1

/-- A tile's part of the shared memory at the start: its sixteen rows and the rest. -/
theorem col_split (h w : ℕ) : (iprop(∃ f, shPts d i (colSet w) f) : sProp 𝕄)
    ⊢ iprop((bigSep (Finset.range 16) fun k => iprop(∃ g, shPts d i (shSet h k w) g)) ∗ ∃ f, shPts d i (restSet h w) f) := by
  iintro ⟨%f, H⟩
  ihave H := ((Entails.of_eq (by rw [colSet_eq h w])).trans (pointsTo_union (col_disjoint h w)).1) $$ H
  icases H with ⟨H1, H2⟩
  isplitl [H1]
  · iapply (parts_split (F := F) (ℓ := (bSh).view.loc (th d i)) (Finset.range 16) (fun k => shSet h k w) (shSet_disjoint h w))
    iexists f; iexact H1
  iexists f; iexact H2

/-- A tile's part of it at the end. -/
theorem ret_join (h w : ℕ) {g : S2x16x16x256.Idx → F .f32} : (iprop(shPts d i (tileSet h w) g ∗ ∃ f, shPts d i (restSet h w) f) : sProp 𝕄)
    ⊢ iprop(∃ f, shPts d i (retSet h w) f) := by
  iintro ⟨H1, %f, H2⟩
  ihave H := (pointsTo_join (ℓ := (bSh).view.loc (th d i)) (q := fullShare) (f := g) (g := f) (ret_disjoint h w)) $$ [H1 H2]
  · isplitl [H1]; · iexact H1
    iexact H2
  rw [retSet_eq]
  iexists _; iexact H

/-! ## The ring's slots -/

/-- Different slots of the ring have no element in common. -/
theorem slot_disjoint : ∀ a ∈ Finset.range 8, ∀ b ∈ Finset.range 8, a ≠ b → Disjoint (slotSet a) (slotSet b) := by
  intro a _ b _ hab
  rw [Finset.disjoint_left]
  intro y hy hy'
  simp only [slotSet, Finset.mem_filter] at hy hy'
  exact hab (hy.2.symm.trans hy'.2)

/-- The eight slots are the whole ring. -/
theorem slot_cover : (Finset.range 8).biUnion slotSet = Finset.univ := by
  ext y
  simp only [slotSet, Finset.mem_biUnion, Finset.mem_filter, Finset.mem_univ, true_and, Finset.mem_range, iff_true]
  exact ⟨(y 0).val, (y 0).isLt, rfl⟩

/-- The share of the table a tile's slot holds, of the tile's. -/
abbrev slotShare (q : PosShare TreeShare) (s : ℕ) : PosShare TreeShare := Transfers.dealOf q (Finset.range 8) s

/-- The ring at rest is its slots, the tile's share of the table and the slots' semaphores. -/
theorem idle_parts (q : PosShare TreeShare) (x : S32768x512.Idx → F .f32) : (bigSep (Finset.range 8) (Idle d i (slotShare q) x) : sProp 𝕄)
    = iprop((bigSep (Finset.range 8) fun s => iprop(∃ f, slotPts d i s f)) ∗ (xPts d i Finset.univ q x)
      ∗ bigSep (Finset.range 8) fun s => semVal (th d i, .dma (semAt s)) 0) := by
  rw [show (xPts d i Finset.univ q x : sProp 𝕄) = bigSep (Finset.range 8) fun s => xPts d i Finset.univ (slotShare q s) x from
    Transfers.pointsTo_deal (Finset.range 8) ⟨0, by decide⟩ q, ← bigSep_sep', ← bigSep_sep']
  rfl

/-- The ring can hold something. -/
instance slots_nonempty : Nonempty (Buf (Elt F) ((bBuf).view.loc (th d i))) := ⟨fun _ => (ninf : F .f32)⟩

/-! ## The hand-over -/

/-- What the launch hands a tile: shares of the table and the sizes, its row of the result, its part of the shared memory. -/
def goRes (c : Fin τ.nSC) (w : ℕ) (q : PosShare TreeShare) (g : S8192.Idx → F .f32) : sProp 𝕄 :=
  iprop((xLoc d ↦[Finset.univ]{q} X d) ∗ (szLoc d ↦[Finset.univ]{q} Z d) ∗ (oLoc d ↦[outSet c.val w]{fullShare} g) ∗ ∃ f, shLoc d c ↦[colSet w]{fullShare} f)

/-- What a tile hands back: the same shares, its row of the result at its value, a part of the shared memory. -/
def tdRes (c : Fin τ.nSC) (w : ℕ) (q : PosShare TreeShare) : sProp 𝕄 :=
  iprop((xLoc d ↦[Finset.univ]{q} X d) ∗ (szLoc d ↦[Finset.univ]{q} Z d) ∗ (oLoc d ↦[outSet c.val w]{fullShare} (outF (X d) (Z d) : S8192.Idx → F .f32))
    ∗ ∃ f, shLoc d c ↦[retSet c.val w]{fullShare} f)

/-- What a tile's task leaves aside. -/
def Aside : sProp 𝕄 :=
  iprop((bigSep (otherRefs i) fun b => iprop(∃ f, ((d, b) : Loc nD τ sig) ↦{fullShare} f))
    ∗ (bigSep (ownCells (th d i) \ cellsV d i) fun g => semVal g 0) ∗ ∃ f, shPts (F := F) d i (restSet (i 0).val (i 1).val) f)

/-- The hand-over is what the task starts from, and what it leaves aside. -/
theorem start_intro (q : PosShare TreeShare) (g : S8192.Idx → F .f32) :
    iprop(goRes X Z d (cV i) (jV i).val q g ∗ ownBufs (th d i) ∗ ownSems0 (th d i)) ⊢ iprop(Start X Z d i q (slotShare q) ∗ Aside (F := F) d i) := by
  rw [ownBufs_tile, ownSems_tile]
  unfold goRes Start Aside
  rw [idle_parts]
  unfold RowTodo
  rw [bigSep_sep']
  iintro ⟨⟨Hx, Hz, Ho, Hsh⟩, ⟨Hb0, Hb1, Hb2, Hb3, Hb4, Hbufs⟩, ⟨⟨Hring, Hs0, Hrows, Hs17, Hs18⟩, Hsems⟩⟩
  ihave Hsh := (col_split (F := F) d i (i 0).val (i 1).val) $$ [Hsh]
  · iexact Hsh
  icases Hsh with ⟨Hsh, Hrest⟩
  isplitr [Hbufs Hsems Hrest]
  · isplitl [Hz]; · iexact Hz
    isplitl [Hb0]; · iexact Hb0
    isplitl [Hb2]; · iexact Hb2
    isplitl [Hb1 Hx Hring]
    · isplitl [Hb1]
      · iapply (parts_split (F := F) (ℓ := (bBuf).view.loc (th d i)) (Finset.range 8) slotSet slot_disjoint)
        rw [slot_cover]
        iexact Hb1
      isplitl [Hx]; · iexact Hx
      iexact Hring
    isplitl [Hsh Hrows]
    · isplitl [Hsh]; · iexact Hsh
      iexact Hrows
    isplitl [Hb3]; · iexact Hb3
    isplitl [Hb4]; · iexact Hb4
    isplitl [Hs0]; · iexact Hs0
    isplitl [Hs17]; · iexact Hs17
    isplitl [Hs18]; · iexact Hs18
    iexists g; iexact Ho
  isplitl [Hbufs]; · iexact Hbufs
  isplitl [Hsems]; · iexact Hsems
  iexact Hrest

/-- What the task ends with, and what it left aside, is the hand-over back. -/
theorem finish_elim (q : PosShare TreeShare) :
    iprop(Finish X Z d i q (slotShare q) ∗ Aside (F := F) d i)
      ⊢ iprop((tdRes X Z d (cV i) (jV i).val q ∗ semVal (bcell d (cV i) (jV i)) 0) ∗ ownBufs (th d i) ∗ ownSems0 (th d i)) := by
  rw [ownBufs_tile, ownSems_tile]
  unfold tdRes Finish Aside
  rw [idle_parts]
  iintro ⟨⟨Hz, Hb0, Hb2, ⟨Hb1, Hx, Hring⟩, Hrows, Hb3, Hb4, Hs0, Hs17, Hs18, Ho, Hseg, Hbar⟩, Hbufs, Hsems, Hrest⟩
  isplitl [Hx Hz Ho Hseg Hrest Hbar]
  · isplitr [Hbar]; swap; · iexact Hbar
    isplitl [Hx]; · iexact Hx
    isplitl [Hz]; · iexact Hz
    isplitl [Ho]; · iexact Ho
    iapply (ret_join (F := F) d i (i 0).val (i 1).val)
    isplitl [Hseg]; · iexact Hseg
    iexact Hrest
  isplitl [Hb0 Hb1 Hb2 Hb3 Hb4 Hbufs]
  · isplitl [Hb0]; · iexact Hb0
    isplitl [Hb1]
    · ihave Hb1 := (parts_join (F := F) (ℓ := (bBuf).view.loc (th d i)) (Finset.range 8) slotSet slot_disjoint) $$ [Hb1]
      · iexact Hb1
      rw [slot_cover]
      iexact Hb1
    isplitl [Hb2]; · iexact Hb2
    isplitl [Hb3]; · iexact Hb3
    isplitl [Hb4]; · iexact Hb4
    iexact Hbufs
  isplitr [Hsems]; swap; · iexact Hsems
  isplitl [Hring]; · iexact Hring
  isplitl [Hs0]; · iexact Hs0
  isplitl [Hrows]; · iexact Hrows
  isplitl [Hs17]; · iexact Hs17
  iexact Hs18

end Cert.KernelIdeal.DMax
end
-- ==== Proof.Pay.lean ====
module

public import proofs.«01_k».proof.Proof.Deal

/-!
  The call's protocol: what its start hands each SparseCore and each tile, what they hand back, that a tile's task keeps
  to it, and how a SparseCore's share is split among its tiles and joined again.
-/

@[expose] public section

noncomputable section

namespace Cert.KernelIdeal.DMax

open Cert.KernelIdeal Cert.KernelIdeal.Gen
open Idealize.ShloMosaic Idealize.ShloMosaic.WordArith
open Idealize.ShloMosaic.SparseCore (S V T)
open Idealize.ShloMosaic.SparseCore.Cfg (HIx Pay ownBufs ownSems0 ownCells ownRefs mem_ownCells mem_ownRefs)
open Idealize.ShloMosaic.Rounds
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (X : Dev nD → S32768x512.Idx → F .f32) (Z : Dev nD → Vec F S16 .i32)

/-! ## A tile's task -/

section Tile
variable (d : Dev nD) (i : grid0.Coords)

/-- A tile's task, from what the launch hands it to what it hands back, every wait it makes allowed. -/
theorem tile_body (hF : (K (F := F)).Facts) {q : PosShare TreeShare} {g : S8192.Idx → F .f32} (hz : SizesOk (Z d)) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit X Z d (cV i) (jV i) ∗ goRes X Z d (cV i) (jV i).val q g
        ∗ scopedBufs (th d i) ∗ scopedSems0 (th d i) ∗ owes (th d i) (O + oxV d (cV i)) W)
      ⊢ wp frame (wpE (defs₀ (F := F)) 𝒱₀ (th d i) none) Set.univ
      (cc0__dmax_body i aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18)
      fun _ => iprop((tdRes X Z d (cV i) (jV i).val q ∗ semVal (bcell d (cV i) (jV i)) 0)
        ∗ scopedBufs (th d i) ∗ scopedSems0 (th d i)
        ∗ ∃ W', ⌜∀ p ∈ W', p ∈ W ∨ p.2 = none ∨ p.2 = some (0 : Fin 1)⌝ ∗ owes (th d i) O W') := by
  rw [(K (F := F)).scopedBufs_V hF d (cV i) (jV i), SparseCore.Cfg.scopedSems0_V (Val := Elt F) d (cV i) (jV i)]
  have hO' : ∀ g, (O + oxV d (cV i)) g none = 0 := fun g => by rw [Pi.add_apply, Finsupp.add_apply, hO g, oxV_none]
  have hpost := task X Z d i (q := q) (p := slotShare q) (O := O) (W := W) hz hO hOlev
  iintro ⟨#Hlv, Hkit, Hgo, Hbufs, Hsems, HO⟩
  ihave Hmw := (show levAts (K (F := F)).L (K (F := F)).lev ⊢ MayWaits (th d i) (default : HIx 1) (O + oxV d (cV i)) from
    (K (F := F)).mayWaits_none (thr := th d i) hO') $$ Hlv
  ihave H := (start_intro X Z d i q g) $$ [Hgo Hbufs Hsems]
  · isplitl [Hgo]; · iexact Hgo
    isplitl [Hbufs]; · iexact Hbufs
    iexact Hsems
  icases H with ⟨Hst, Has⟩
  iapply (wp_wand) $$ [Hkit Hst HO Hmw] [Has]
  · iapply hpost
    isplitr; · iexact Hlv
    isplitl [Hkit]; · iexact Hkit
    isplitl [Hst]; · iexact Hst
    isplitl [HO]
    · unfold Owed
      iexists W
      isplitr; · ipureintro; exact fun p hp => Or.inl hp
      iexact HO
    iexact Hmw
  iintro %r ⟨Hfin, HO⟩
  ihave H := (finish_elim X Z d i q) $$ [Hfin Has]
  · isplitl [Hfin]; · iexact Hfin
    iexact Has
  icases H with ⟨H1, H2, H3⟩
  isplitl [H1]; · iexact H1
  isplitl [H2]; · iexact H2
  isplitl [H3]; · iexact H3
  iexact HO

end Tile

/-! ## Shares -/

/-- A SparseCore's share of the table and of the sizes. -/
abbrev qC (c : ℕ) : PosShare TreeShare := Transfers.dealOf fullShare (Finset.range 2) c
/-- A tile's share, of its SparseCore's. -/
abbrev qT (c w : ℕ) : PosShare TreeShare := Transfers.dealOf (qC c) (Finset.range 16) w

/-- An array read alike by the sixteen tiles of a SparseCore is a share for each. -/
theorem shares_tiles (ℓ : Loc nD τ sig) (c : ℕ) (f : Buf (Elt F) ℓ) :
    (ℓ ↦[Finset.univ]{qC c} f : sProp 𝕄) = bigSep Finset.univ fun w : Fin 16 => ℓ ↦[Finset.univ]{qT c w.val} f := by
  rw [← bigSep_tile16 (F := F) (fun w => iprop(ℓ ↦[Finset.univ]{qT c w} f))]
  exact Transfers.pointsTo_deal (Finset.range 16) ⟨0, by decide⟩ (qC c)

/-- An array read alike by the two SparseCores is a share for each. -/
theorem shares_cores (ℓ : Loc nD τ sig) (f : Buf (Elt F) ℓ) :
    (ℓ ↦{fullShare} f : sProp 𝕄) = iprop((ℓ ↦[Finset.univ]{qC 0} f) ∗ ℓ ↦[Finset.univ]{qC 1} f) := by
  rw [Transfers.pointsTo_deal (ℓ := ℓ) (f := f) (Finset.range 2) ⟨0, by decide⟩ fullShare]
  have h (A : ℕ → sProp 𝕄) : bigSep (Finset.range 2) A = iprop(A 0 ∗ A 1) := by
    rw [show Finset.range 2 = {0, 1} by decide, SparseCore.bigSep_insert' (by decide), bigSep_singleton]
  exact h fun c => iprop(ℓ ↦[Finset.univ]{qC c} f)

/-! ## Parts of the result and of the shared memory -/

/-- A SparseCore's half of the tiles' result: of every segment's row, its columns. -/
def halfSet (c : ℕ) : Finset S8192.Idx := Finset.univ.filter fun y => (y 0).val % 512 / 256 = c

/-- The rows of a SparseCore's different tiles have no element in common. -/
theorem outSet_disjoint (c : ℕ) : ∀ a ∈ Finset.range 16, ∀ b ∈ Finset.range 16, a ≠ b → Disjoint (outSet c a) (outSet c b) := by
  intro a _ b _ hab
  rw [Finset.disjoint_left]
  intro y hy hy'
  simp only [outSet, Finset.mem_filter, Finset.mem_univ, true_and] at hy hy'
  omega

/-- The sixteen tiles' rows are the SparseCore's half of the result. -/
theorem halfSet_eq (c : ℕ) (hc : c < 2) : (Finset.range 16).biUnion (outSet c) = halfSet c := by
  ext y
  have h0 : (y 0).val < 8192 := (y 0).isLt
  simp only [outSet, halfSet, Finset.mem_biUnion, Finset.mem_filter, Finset.mem_univ, true_and, Finset.mem_range]
  constructor
  · rintro ⟨a, ha, h1, h2⟩; omega
  · intro h; exact ⟨(y 0).val / 512, by omega, by omega, by omega⟩

/-- The two halves have no element in common. -/
theorem halfSet_disjoint : Disjoint (halfSet 0) (halfSet 1) := by
  rw [Finset.disjoint_left]
  intro y hy hy'
  simp only [halfSet, Finset.mem_filter, Finset.mem_univ, true_and] at hy hy'
  omega

/-- The two halves are the whole result. -/
theorem halfSet_union : halfSet 0 ∪ halfSet 1 = Finset.univ := by
  ext y
  have h0 : (y 0).val < 8192 := (y 0).isLt
  simp only [halfSet, Finset.mem_union, Finset.mem_filter, Finset.mem_univ, true_and, iff_true]
  omega

/-- A SparseCore's half of the tiles' result is a part for each tile. -/
theorem out_tiles (d : Dev nD) (c : ℕ) (hc : c < 2) (f : S8192.Idx → F .f32) :
    (oLoc d ↦[halfSet c]{fullShare} f : sProp 𝕄) = bigSep Finset.univ fun w : Fin 16 => oLoc d ↦[outSet c w.val]{fullShare} f := by
  rw [← bigSep_tile16 (F := F) (fun w => iprop(oLoc d ↦[outSet c w]{fullShare} f)), ← halfSet_eq c hc]
  exact pointsTo_biUnion (Finset.range 16) (ℓ := oLoc d) (outSet c) (outSet_disjoint c)

/-- The tiles' result is the two SparseCores' halves. -/
theorem out_cores (d : Dev nD) (f : S8192.Idx → F .f32) :
    (oLoc d ↦{fullShare} f : sProp 𝕄) = iprop((oLoc d ↦[halfSet 0]{fullShare} f) ∗ oLoc d ↦[halfSet 1]{fullShare} f) := by
  have h : (oLoc d ↦[halfSet 0 ∪ halfSet 1]{fullShare} f : sProp 𝕄) ⊣⊢ iprop((oLoc d ↦[halfSet 0]{fullShare} f) ∗ oLoc d ↦[halfSet 1]{fullShare} f) :=
    pointsTo_union halfSet_disjoint
  rw [halfSet_union] at h
  exact BI.equiv_iff.mp ⟨h.1, h.2⟩

/-- What different tiles start with of the shared memory has no element in common. -/
theorem colSet_disjoint : ∀ a ∈ Finset.range 16, ∀ b ∈ Finset.range 16, a ≠ b → Disjoint (colSet a) (colSet b) := by
  intro a _ b _ hab
  rw [Finset.disjoint_left]
  intro y hy hy'
  simp only [colSet, Finset.mem_filter, Finset.mem_univ, true_and] at hy hy'
  exact hab (hy.symm.trans hy')

/-- What the sixteen tiles start with is the whole shared memory. -/
theorem colSet_cover : (Finset.range 16).biUnion colSet = Finset.univ := by
  ext y
  simp only [colSet, Finset.mem_biUnion, Finset.mem_filter, Finset.mem_univ, true_and, Finset.mem_range, iff_true]
  exact ⟨(y 2).val, (y 2).isLt, rfl⟩

/-- What different tiles end with of the shared memory has no element in common. -/
theorem retSet_disjoint (h : ℕ) : ∀ a ∈ Finset.range 16, ∀ b ∈ Finset.range 16, a ≠ b → Disjoint (retSet h a) (retSet h b) := by
  intro a _ b _ hab
  rw [Finset.disjoint_left]
  intro y hy hy'
  simp only [retSet, Finset.mem_filter, Finset.mem_univ, true_and] at hy hy'
  rcases hy with ⟨e, e1⟩ | ⟨e, e1⟩ <;> rcases hy' with ⟨e', e1'⟩ | ⟨e', e1'⟩
  · exact hab (e1.symm.trans e1')
  · exact e' e
  · exact e e'
  · exact hab (e1.symm.trans e1')

/-- What the sixteen tiles end with is the whole shared memory. -/
theorem retSet_cover (h : ℕ) : (Finset.range 16).biUnion (retSet h) = Finset.univ := by
  ext y
  simp only [retSet, Finset.mem_biUnion, Finset.mem_filter, Finset.mem_univ, true_and, Finset.mem_range, iff_true]
  by_cases e : (y 0).val = h
  · exact ⟨(y 1).val, (y 1).isLt, Or.inl ⟨e, rfl⟩⟩
  · exact ⟨(y 2).val, (y 2).isLt, Or.inr ⟨e, rfl⟩⟩

/-- The shared memory can hold something. -/
instance shared_nonempty (d : Dev nD) (c : Fin τ.nSC) : Nonempty (Buf (Elt F) (shLoc d c)) := ⟨fun _ => (ninf : F .f32)⟩

/-- A SparseCore's shared memory is a part for each tile to start with. -/
theorem sh_split (d : Dev nD) (c : Fin τ.nSC) : (iprop(∃ f, shLoc d c ↦{fullShare} f) : sProp 𝕄)
    ⊢ bigSep Finset.univ fun w : Fin 16 => iprop(∃ f, shLoc d c ↦[colSet w.val]{fullShare} f) := by
  rw [← bigSep_tile16 (F := F) (fun w => iprop(∃ f, shLoc d c ↦[colSet w]{fullShare} f))]
  have h := parts_split (F := F) (ℓ := shLoc d c) (Finset.range 16) colSet colSet_disjoint
  rw [colSet_cover] at h
  exact h

/-- The parts the tiles hand back are the shared memory whole. -/
theorem sh_join (d : Dev nD) (c : Fin τ.nSC) : (bigSep Finset.univ fun w : Fin 16 => iprop(∃ f, shLoc d c ↦[retSet c.val w.val]{fullShare} f))
    ⊢ (iprop(∃ f, shLoc d c ↦{fullShare} f) : sProp 𝕄) := by
  rw [← bigSep_tile16 (F := F) (fun w => iprop(∃ f, shLoc d c ↦[retSet c.val w]{fullShare} f))]
  have h := parts_join (F := F) (ℓ := shLoc d c) (Finset.range 16) (retSet c.val) (retSet_disjoint c.val)
  rw [retSet_cover] at h
  exact h

/-! ## The protocol -/

/-- What a SparseCore holds of the call's arrays: shares of the table and the sizes, its half of the tiles' result. -/
def coreRes (d : Dev nD) (c : ℕ) (g : S8192.Idx → F .f32) : sProp 𝕄 :=
  iprop((xLoc d ↦[Finset.univ]{qC c} X d) ∗ (szLoc d ↦[Finset.univ]{qC c} Z d) ∗ oLoc d ↦[halfSet c]{fullShare} g)

/-- The barrier semaphores of a SparseCore's tiles, at zero. -/
def bars (d : Dev nD) (c : Fin τ.nSC) : sProp 𝕄 := bigSep Finset.univ fun w : Fin 16 => semVal (bcell d c w) 0

/-- A SparseCore's arrays can be kept in an invariant. -/
instance coreRes_storable (d : Dev nD) (c : ℕ) (g : S8192.Idx → F .f32) : BI.Storable (upEmb : UEmb _ 𝕄) (coreRes X Z d c g) := by
  unfold coreRes; infer_instance
/-- The barrier semaphores can be kept in an invariant. -/
instance bars_storable (d : Dev nD) (c : Fin τ.nSC) : BI.Storable (upEmb : UEmb _ 𝕄) (bars (F := F) d c) := by
  unfold bars; infer_instance
/-- What a tile is handed can be kept in an invariant. -/
instance goRes_storable (d : Dev nD) (c : Fin τ.nSC) (w : ℕ) (q : PosShare TreeShare) (g : S8192.Idx → F .f32) : BI.Storable (upEmb : UEmb _ 𝕄) (goRes X Z d c w q g) := by
  unfold goRes; infer_instance
/-- What a tile hands back can be kept in an invariant. -/
instance tdRes_storable (d : Dev nD) (c : Fin τ.nSC) (w : ℕ) (q : PosShare TreeShare) : BI.Storable (upEmb : UEmb _ 𝕄) (tdRes X Z d c w q) := by
  unfold tdRes; infer_instance

variable (G : Dev nD → S8192.Idx → F .f32)

/-- The call's protocol: each SparseCore takes shares of the table and the sizes and its half of the result, hands them
    back with the result at its value; so each tile, with its part of the shared memory and, at the end, its barrier
    semaphore closed. Each tile's proof starts from its barrier kit; each tile owes its arrivals. -/
def P : (K (F := F)).Pay (nD := nD) (Val := Elt F) (Name := ℕ) (U := UU) where
  st := fun q d c => match q with | 0 => coreRes X Z d (coreOf (F := F) c).val (G d)
  dn := fun q d c => match q with | 0 => iprop(coreRes X Z d (coreOf (F := F) c).val (outF (X d) (Z d)) ∗ bars d (coreOf c))
  go := fun q d c i => match q with | 0 => goRes X Z d (coreOf c) i.val (qT (coreOf (F := F) c).val i.val) (G d)
  td := fun q d c i => match q with
    | 0 => iprop(tdRes X Z d (coreOf c) i.val (qT (coreOf (F := F) c).val i.val) ∗ semVal (bcell d (coreOf c) ((K (F := F)).sub 0 i)) 0)
  x := fun _ thr => match thr with
    | (d, .scVector c i) => bkit X Z d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

/-- Everything that the protocol hands over can be kept in an invariant. -/
instance P_storable : (P (F := F) X Z G).IsStorable where
  st q d c := match q with
    | 0 => (inferInstance : BI.Storable (upEmb : UEmb _ 𝕄) (coreRes X Z d (coreOf (F := F) c).val (G d)))
  dn q d c := match q with
    | 0 => (inferInstance : BI.Storable (upEmb : UEmb _ 𝕄) iprop(coreRes X Z d (coreOf (F := F) c).val (outF (X d) (Z d)) ∗ bars d (coreOf c)))
  go q d c i := match q with
    | 0 => (inferInstance : BI.Storable (upEmb : UEmb _ 𝕄) (goRes X Z d (coreOf c) i.val (qT (coreOf (F := F) c).val i.val) (G d)))
  td q d c i := match q with
    | 0 => (inferInstance : BI.Storable (upEmb : UEmb _ 𝕄)
      iprop(tdRes X Z d (coreOf c) i.val (qT (coreOf (F := F) c).val i.val) ∗ semVal (bcell d (coreOf c) ((K (F := F)).sub 0 i)) 0))

/-- A tile's coordinates in the call's grid. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs for the call: the body at its coordinates. -/
theorem defs₀_vector (c : Fin τ.nSC) (s : Fin τ.nSub) :
    defs₀ (F := F) (.scVector c s) 0 ()
      = SparseCore.onTile hcore0 hsub0 (fun c s => cc0__dmax_body (coordsV c s)
          aX (Memref.isWhole_whole _) aSz (Memref.isWhole_whole _) aOut (Memref.isWhole_whole _) bSz (Memref.isWhole_whole _) bBuf (Memref.isWhole_whole _) bPart (Memref.isWhole_whole _) bMrg (Memref.isWhole_whole _) bRes (Memref.isWhole_whole _) cc0_scratch5 bSh (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18) ⟨⟩ c s := rfl

set_option maxRecDepth 16384 in
/-- Every tile's task keeps to the protocol. -/
theorem tileObl (hF : (K (F := F)).Facts) (hz : ∀ d, SizesOk (Z d)) : (K (F := F)).TileObl (D (F := F)) 𝒱 (P X Z G) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body X Z d (coordsV ⟨_, hci.1⟩ ⟨_, hci.2⟩) hF (hz d) O W hO hOlev

/-- A SparseCore's own buffers are its shared memory, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- What a SparseCore takes is dealt to its tiles, and what they hand back is what it hands back. -/
theorem vecSplit : (K (F := F)).VecSplit (P X Z G) 0 := by
  intro d c
  show iprop(coreRes X Z d (coreOf (F := F) c).val (G d) ∗ ownBufs (S d (coreOf c))) ⊢ |={Set.univ}=> iprop(
      (bigSep Finset.univ fun i : Fin 16 => goRes X Z d (coreOf c) i.val (qT (coreOf (F := F) c).val i.val) (G d))
      ∗ ((bigSep Finset.univ fun i : Fin 16 => iprop(tdRes X Z d (coreOf c) i.val (qT (coreOf (F := F) c).val i.val) ∗ semVal (bcell d (coreOf c) i) 0))
          -∗ iprop(iprop(coreRes X Z d (coreOf (F := F) c).val (outF (X d) (Z d)) ∗ bars d (coreOf c)) ∗ ownBufs (S d (coreOf c)))))
  unfold coreRes goRes tdRes bars
  rw [ownBufs_S, bigSep_sep', bigSep_sep', bigSep_sep', bigSep_sep', bigSep_sep', bigSep_sep', bigSep_sep', shares_tiles (xLoc d), shares_tiles (szLoc d),
    out_tiles d _ (coreOf c).isLt, out_tiles d _ (coreOf c).isLt]
  iintro ⟨⟨Hx, Hz, Ho⟩, Hsh, Hrest⟩; imodintro
  isplitl [Hx Hz Ho Hsh]
  · isplitl [Hx]; · iexact Hx
    isplitl [Hz]; · iexact Hz
    isplitl [Ho]; · iexact Ho
    iapply (sh_split (F := F) d (coreOf c)); iexact Hsh
  iintro ⟨⟨Hx, Hz, Ho, Hsh⟩, Hbars⟩
  isplitl [Hx Hz Ho Hbars]
  · isplitr [Hbars]; swap; · iexact Hbars
    isplitl [Hx]; · iexact Hx
    isplitl [Hz]; · iexact Hz
    iexact Ho
  isplitl [Hsh]; · iapply (sh_join (F := F) d (coreOf c)); iexact Hsh
  iexact Hrest

end Cert.KernelIdeal.DMax
end
-- ==== Proof.Launch.lean ====
module

public import proofs.«01_k».proof.Proof.Pay

/-!
  The launch: the ghost state of the barrier's cells dealt to the tiles, the host's program around the call, and the
  program's run, with its result's value.
-/

@[expose] public section

noncomputable section

namespace Cert.KernelIdeal.DMax

open Cert.KernelIdeal Cert.KernelIdeal.Gen
open Idealize.ShloMosaic Idealize.ShloMosaic.WordArith
open Idealize.ShloMosaic.SparseCore (S V T)
open Idealize.ShloMosaic.SparseCore.Cfg (HIx Pay ownBufs ownSems0 ownCells ownRefs mem_ownCells mem_ownRefs)
open Idealize.ShloMosaic.Rounds
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Ghost
variable (X : Dev nD → S32768x512.Idx → F .f32) (Z : Dev nD → Vec F S16 .i32) (G : Dev nD → S8192.Idx → F .f32)

/-! ## The barrier cells at the launch -/

/-- A tile of a device. -/
abbrev DCI : Type := Dev nD × Fin τ.nSC × Fin τ.nSub
/-- Its barrier semaphore. -/
abbrev bcell₃ (x : DCI) : GSem nD τ sig := bcell x.1 x.2.1 x.2.2
/-- The tiles' barrier semaphores, which the proof takes at the launch. -/
def bCells : Finset (GSem nD τ sig) := (Finset.univ : Finset DCI).image bcell₃
/-- Every tile's token in every tile's cell of its SparseCore. -/
def bToks : Finset (GSem nD τ sig × ℕ × ℕ) :=
  ((Finset.univ : Finset DCI) ×ˢ Finset.univ).image fun x : DCI × Fin (grid0.bound 1) => (bcell x.1.1 x.1.2.1 (x.2.castLE hsub0), 0, x.1.2.2.val)
/-- The ghost state the proof starts from. -/
def u₀ : UU := (initOf (K (F := F)).hsCells (K (F := F)).hsToks, (initOf bCells bToks, 1))

omit [FloatOps F] in
/-- Different tiles have different barrier semaphores. -/
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The launch's ghost state is the handshakes' and the barrier cells'. -/
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
/-- A family over the cells is one over the tiles. -/
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- The barrier semaphores at zero, out of the free semaphores of the launch. -/
theorem sems_b : ((K (F := F)).freeOn (· ∈ bCells) : sProp 𝕄) ⊢ bigSep bCells fun g => semVal g 0 := by
  rw [bCells_eq]
  unfold SparseCore.Cfg.freeOn
  refine sep_elim_right.trans (bigSep_mono fun x _ => ?_)
  exact bigSep_elim (Φ := fun sm : SemLoc sig => (semVal (V x.1 x.2.1 x.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (Finset.mem_univ x)⟩)

/-- The barrier cells' invariants, allocated together. -/
theorem invs_b : iprop((bigSep bCells fun g => (semVal g 0 : sProp 𝕄)) ∗ bigSep bCells fun g => roundState EB (bRd (F := F) X Z) g 0)
    ⊢ |={Set.univ}=> iprop(∃ κ : GSem nD τ sig → ℕ, bigSep bCells fun g => cellInv EB (bRd (F := F) X Z) (κ g) g) := by
  refine (Rounds.bodies_intro EB (bRd (F := F) X Z) bCells).trans ((inv_alloc_family bCells (Rounds.body EB (bRd (F := F) X Z)) ∅ (E := Set.univ)).trans ?_)
  iintro H
  imod H with ⟨%κ, -, Hinv⟩
  imodintro; iexists κ; iexact Hinv

omit [FloatOps F] in
/-- `n` units owed one by one are `n` owed at once. -/
theorem units (g : GSem nD τ sig) (ι : HIx 1) (n : ℕ) : ∑ _ : Fin n, tallyAt g ι 1 = (tallyAt g ι n : CellTallies nD τ sig (HIx 1)) := by
  induction n with
  | zero => rw [tallyAt_zero]; rfl
  | succ n ih => rw [Fin.sum_univ_castSucc, ih, tallyAt_add]

/-- The credit for the tiles' arrivals, by the tile that waits for them: sixteen units of its own cell. -/
theorem creds_b : ((P (F := F) X Z G).oxCred : sProp 𝕄) ⊢ bigSep Finset.univ fun x : DCI => cred (tallyAt (bcell₃ x) (some 0) (grid0.bound 1)) := by
  unfold SparseCore.Cfg.Pay.oxCred
  rw [SparseCore.Cfg.bigSep_threads (fun thr : Thread nD τ => (cred ((P (F := F) X Z G).oxFrom 0 thr) : sProp 𝕄))]
  refine sep_elim_right.trans (sep_elim_right.trans ?_)
  rw [bigSep_univ_prod, bigSep_univ_prod (fun x : DCI => (cred (tallyAt (bcell₃ x) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) X Z G).oxFrom 0 (V d c i) = oxV d c := fun i => by
    rw [show (0 : ℕ) = (0 : Fin 1).val from rfl, (P X Z G).oxFrom_step, (P X Z G).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, units]; rfl

omit [FloatOps F] in
/-- A family of nothings is nothing. -/
theorem none_each {I : Type} (s : Finset I) : (bigSep s fun _ => iprop(emp)) = (iprop(emp) : sProp 𝕄) := bigSep_emp_const s

omit [FloatOps F] in
/-- A persistent resource beside a family goes to each member. -/
theorem persist_each {I : Type} [DecidableEq I] {R : sProp 𝕄} [BI.Persistent R] (s : Finset I) {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
/-- A persistent family gives each of finitely many its member. -/
theorem persist_pick {I J : Type} [DecidableEq J] [Fintype I] {Φ : I → sProp 𝕄} [∀ i, BI.Persistent (Φ i)] [DecidableEq I] (s : Finset J) (p : J → I) :
    bigSep Finset.univ Φ ⊢ bigSep s fun j => Φ (p j) := by
  refine BI.Entails.trans ?_ (persist_each (R := bigSep Finset.univ Φ) (Φ := fun _ : J => iprop(emp)) s fun j _ =>
    sep_elim_left.trans (bigSep_elim (Finset.mem_univ (p j))))
  rw [none_each]
  show bigSep Finset.univ Φ ⊢ iprop(bigSep Finset.univ Φ ∗ emp)
  iintro H
  isplitl; · iexact H
  iempintro

omit [FloatOps F] in
/-- The tokens, by the tile that holds them. -/
theorem toks_eq : (bigSep bToks fun x => (dutyTok EB x.1 x.2.1 x.2.2 : sProp 𝕄))
    = bigSep Finset.univ fun x : DCI => bigSep Finset.univ fun j : Fin (grid0.bound 1) => dutyTok EB (bcell x.1 x.2.1 (j.castLE hsub0)) 0 x.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

/-- What every tile is handed alike: the cells' invariants, and that each has reached its one round. -/
abbrev shared : sProp 𝕄 :=
  iprop((∃ κ : GSem nD τ sig → ℕ, bigSep Finset.univ fun x : DCI => cellInv EB (bRd (F := F) X Z) (κ (bcell₃ x)) (bcell₃ x))
    ∗ bigSep Finset.univ fun x : DCI => reached EB (bcell₃ x) 0)
/-- What each tile is handed of its own: its position, its tokens, its credit. -/
abbrev mine (x : DCI) : sProp 𝕄 :=
  iprop(atPos EB (bcell₃ x) 0 ∅ 0
    ∗ (bigSep Finset.univ fun j : Fin (grid0.bound 1) => dutyTok EB (bcell x.1 x.2.1 (j.castLE hsub0)) 0 x.2.2.val)
    ∗ cred (tallyAt (bcell₃ x) (some 0) (grid0.bound 1)))

/-- One tile's kit, out of those. -/
theorem kit_intro (x : DCI) : iprop(shared (F := F) X Z ∗ mine x) ⊢ (bkit (F := F) X Z x.1 x.2.1 x.2.2 : sProp 𝕄) := by
  iintro ⟨⟨#Hinv, #Hr⟩, Hat, Htok, Hcred⟩
  unfold bkit
  isplitr
  · icases Hinv with ⟨%κ, Hinv⟩
    iexists κ
    iapply (SparseCore.ent (persist_pick (Φ := fun x : DCI => cellInv EB (bRd (F := F) X Z) (κ (bcell₃ x)) (bcell₃ x)) (Finset.univ : Finset (Fin (grid0.bound 1)))
      fun j => ((x.1, x.2.1, j.castLE hsub0) : DCI)))
    iexact Hinv
  isplitl [Htok]; · iexact Htok
  isplitr
  · iapply (SparseCore.ent (persist_pick (Φ := fun x : DCI => (reached EB (bcell₃ x) 0 : sProp 𝕄)) (Finset.univ : Finset (Fin (grid0.bound 1)))
      fun j => ((x.1, x.2.1, j.castLE hsub0) : DCI)))
    iexact Hr
  isplitl [Hat]; · iexact Hat
  iexact Hcred

/-- The host's thread gets nothing beside the protocol. -/
theorem Px_T (d : Dev nD) : (bigSep Finset.univ fun q : Fin 1 => (P (F := F) X Z G).x q (SparseCore.T d)) = iprop(emp) :=
  bigSep_univ_of_subsingleton (0 : Fin 1)
/-- A SparseCore's sequencer gets nothing beside the protocol. -/
theorem Px_S (d : Dev nD) (c : Fin τ.nSC) : (bigSep Finset.univ fun q : Fin 1 => (P (F := F) X Z G).x q (S d c)) = iprop(emp) :=
  bigSep_univ_of_subsingleton (0 : Fin 1)
/-- A tile gets its barrier kit. -/
theorem Px_V (d : Dev nD) (c : Fin τ.nSC) (i : Fin τ.nSub) :
    (bigSep Finset.univ fun q : Fin 1 => (P (F := F) X Z G).x q (V d c i)) = bkit X Z d c i :=
  bigSep_univ_of_subsingleton (0 : Fin 1)

/-- Each tile its kit. -/
theorem kits_deal :
    iprop(shared (F := F) X Z ∗ (bigSep Finset.univ fun x : DCI => atPos EB (bcell₃ x) 0 ∅ 0)
        ∗ (bigSep Finset.univ fun x : DCI => bigSep Finset.univ fun j : Fin (grid0.bound 1) => dutyTok EB (bcell x.1 x.2.1 (j.castLE hsub0)) 0 x.2.2.val)
        ∗ (bigSep Finset.univ fun x : DCI => cred (tallyAt (bcell₃ x) (some 0) (grid0.bound 1))))
      ⊢ (bigSep Finset.univ fun thr : Thread nD τ => bigSep Finset.univ fun q : Fin 1 => (P (F := F) X Z G).x q thr : sProp 𝕄) := by
  rw [SparseCore.Cfg.bigSep_threads (fun thr : Thread nD τ => bigSep Finset.univ fun q : Fin 1 => (P X Z G).x q thr)]
  simp only [Px_T, Px_S, Px_V, none_each]
  iintro ⟨#Hsh, Hat, Htok, Hcred⟩
  isplitr; · iempintro
  isplitr; · iempintro
  iapply (persist_each (R := shared (F := F) X Z) (Φ := mine (F := F)) Finset.univ fun x _ => kit_intro (F := F) X Z x)
  isplitr; · iexact Hsh
  unfold mine
  rw [bigSep_sep', bigSep_sep']
  isplitl [Hat]; · iexact Hat
  isplitl [Htok]; · iexact Htok
  iexact Hcred

/-- The launch's ghost state funds the handshakes and every tile's kit. -/
theorem hu₀ : iprop(ownU (u₀ (F := F)) ∗ (P (F := F) X Z G).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P (F := F) X Z G).x q thr) : sProp 𝕄) := by
  unfold u₀
  iintro ⟨Hu, Hcred, Hfree⟩
  ihave H := (ownU_split _ _) $$ Hu
  icases H with ⟨HH, HB⟩
  imod (Rounds.fund EB (bRd (F := F) X Z) bCells bToks) $$ HB with ⟨Hst, #Hr, Hat, Htok⟩
  ihave Hsems := (sems_b (F := F)) $$ Hfree
  imod (invs_b (F := F) X Z) $$ [Hsems Hst] with ⟨%κ, #Hinv⟩
  · isplitl [Hsems] <;> iassumption
  ihave Hcred' := (creds_b X Z G) $$ Hcred
  ihave Hinv' := (Entails.of_eq (bCells_eq (F := F) fun g => cellInv EB (bRd (F := F) X Z) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [none_each]; iempintro
  iapply (kits_deal X Z G)
  isplitr
  · isplitl; · iexists κ; iexact Hinv'
    iexact Hr'
  isplitl [Hat']; · iexact Hat'
  isplitl [Htok']; · iexact Htok'
  iexact Hcred'

end Ghost

end Cert.KernelIdeal.DMax
end
-- ==== Proof.Host.lean ====
module

public import proofs.«01_k».proof.Proof.Launch
public import Idealize.ShloMosaic.Lib.StableHlo.Run

/-!
  The host's program around the call, and the program's run: from any memory whose sizes are as drawn it ends with the
  kernel's result at its value, the arguments unchanged and every semaphore at zero.
-/

@[expose] public section

noncomputable section

namespace Cert.KernelIdeal.DMax

open Cert.KernelIdeal Cert.KernelIdeal.Gen
open Idealize.ShloMosaic Idealize.ShloMosaic.WordArith
open Idealize.ShloMosaic.SparseCore (S V T)
open Idealize.ShloMosaic.SparseCore.Cfg (HIx Pay ownBufs ownSems0 ownCells ownRefs mem_ownCells mem_ownRefs)
open Idealize.ShloMosaic.StableHlo (held wp_hlo_within)
open Idealize.ShloMosaic.Rounds
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-- The launch's table. -/
abbrev X₀ : Dev nD → S32768x512.Idx → F .f32 := fun d => m (xLoc d)
/-- The launch's sizes. -/
abbrev Z₀ : Dev nD → Vec F S16 .i32 := fun d => m (szLoc d)
/-- What the tiles' result holds at the launch. -/
abbrev G₀ : Dev nD → S8192.Idx → F .f32 := fun d => m (oLoc d)
/-- The call's protocol at the launch's contents. -/
abbrev P₀ : (K (F := F)).Pay (nD := nD) (Val := Elt F) (Name := ℕ) (U := UU) := P (X₀ m) (Z₀ m) (G₀ m)

/-- The kernel's result: at segment `s` and column `c`, the merge of the tiles' partial maxima. -/
def resF (X : S32768x512.Idx → F .f32) (v0 : IVec S16 32) (y : S16x512.Idx) : F .f32 :=
  outN ((y 1).val / 256) (y 0).val X v0 ((y 1).val % 256)

/-- The tiles' result at the kernel's shape is the kernel's result. -/
theorem reshape_outF (X : S32768x512.Idx → F .f32) (v0 : IVec S16 32) (h : S8192.ShapeCasts S16x512) :
    shapeCast S16x512 (outF X v0) h = resF X v0 := by
  funext y
  have h0 : (y 0).val < 16 := (y 0).isLt
  have h1 : (y 1).val < 512 := (y 1).isLt
  rw [Idealize.ShloMosaic.shapeCast_apply (outF X v0) h y (fun a => match a with | 0 => ⟨(y 0).val * 512 + (y 1).val, by show _ < 8192; omega⟩)
    (by rw [Shape.rowMajor_val_one, Shape.rowMajor_val_two]; rfl)]
  unfold outF resF
  show outN (((y 0).val * 512 + (y 1).val) % 512 / 256) (((y 0).val * 512 + (y 1).val) / 512) X v0 (((y 0).val * 512 + (y 1).val) % 256) = _
  rw [show ((y 0).val * 512 + (y 1).val) % 512 / 256 = (y 1).val / 256 by omega, show ((y 0).val * 512 + (y 1).val) / 512 = (y 0).val by omega,
    show ((y 0).val * 512 + (y 1).val) % 256 = (y 1).val % 256 by omega]

/-! ## The host's arrays -/

/-- The tiles' result, on a device. -/
abbrev o' : DevRef τ sig := Proc.devRef .tc (main_v0 : Ref sig .tc)
/-- The kernel's result, on a device. -/
abbrev r' : DevRef τ sig := Proc.devRef .tc (main_v1 : Ref sig .tc)
/-- The host's one operation after the call: the result at its shape. -/
abbrev opShape : HloOp τ sig (Elt F) := StableHlo.reshape main_v0 main_v1 (rfl : (.f32 : EltTy) = .f32) shapeCasts_S8192_S16x512
/-- The arrays it touches. -/
abbrev S2 : Finset (DevRef τ sig) := {o', r'}

omit [FloatOps F] in
/-- To hold the two arrays of the host's operation is to own each of them. -/
theorem held_S2 (d : Dev nD) (W : Valuation τ sig (Elt F)) :
    (held (SparseCore.T d) S2 W : sProp 𝕄) = iprop((oLoc d ↦{fullShare} W o') ∗ rLoc d ↦{fullShare} W r') := by
  unfold held S2
  rw [SparseCore.bigSep_insert' (by decide), bigSep_singleton]

omit [FloatOps F] in
/-- The host's arrays are the table, the sizes, the tiles' result and the kernel's result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (szLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The arrays' contents after the call. -/
def V1 (d : Dev nD) : Valuation τ sig (Elt F) := Function.update (fun b => m (d, b)) o' (outF (X₀ m d) (Z₀ m d) : S8192.Idx → F .f32)

/-- After the call the tiles' result holds its value. -/
theorem V1_o (d : Dev nD) : V1 m d o' = (outF (X₀ m d) (Z₀ m d) : S8192.Idx → F .f32) := Function.update_self _ _ _
/-- The call leaves the kernel's result array as it was. -/
theorem V1_r (d : Dev nD) : V1 m d r' = m (rLoc d) := Function.update_of_ne (show r' ≠ o' by decide) _ _

/-- After the host's operation the kernel's result holds its value. -/
theorem V2_r (d : Dev nD) : (opShape (F := F)).result (V1 m d) r' = (resF (X₀ m d) (Z₀ m d) : S16x512.Idx → F .f32) := by
  rw [StableHlo.reshape_result]
  show (fun i => shapeCast S16x512 (V1 m d o' : S8192.Idx → F .f32) shapeCasts_S8192_S16x512 i) = _
  rw [V1_o]
  exact reshape_outF _ _ _

/-- The host's operation touches only its operand and its result. -/
theorem hShape : (opShape (F := F)).bufs ⊆ S2 := show ({o', r'} : Finset (DevRef τ sig)) ⊆ S2 by decide

/-- What the call takes for the two SparseCores. -/
theorem st0_eq (d : Dev nD) : (bigSep Finset.univ fun c : Fin ((K (F := F)).nCore 0) => (P₀ m).st 0 d c)
    = iprop(coreRes (X₀ m) (Z₀ m) d 0 (G₀ m d) ∗ coreRes (X₀ m) (Z₀ m) d 1 (G₀ m d)) := by
  show (bigSep (Finset.univ : Finset (Fin 2)) fun c => coreRes (X₀ m) (Z₀ m) d c.val (G₀ m d)) = _
  rw [show (Finset.univ : Finset (Fin 2)) = {0, 1} by decide, SparseCore.bigSep_insert' (by decide), bigSep_singleton]
  rfl

/-- What it hands back. -/
theorem dn0_eq (d : Dev nD) : (bigSep Finset.univ fun c : Fin ((K (F := F)).nCore 0) => (P₀ m).dn 0 d c)
    = iprop((coreRes (X₀ m) (Z₀ m) d 0 (outF (X₀ m d) (Z₀ m d)) ∗ bars d 0) ∗ coreRes (X₀ m) (Z₀ m) d 1 (outF (X₀ m d) (Z₀ m d)) ∗ bars d 1) := by
  show (bigSep (Finset.univ : Finset (Fin 2)) fun c => iprop(coreRes (X₀ m) (Z₀ m) d c.val (outF (X₀ m d) (Z₀ m d)) ∗ bars d c)) = _
  rw [show (Finset.univ : Finset (Fin 2)) = {0, 1} by decide, SparseCore.bigSep_insert' (by decide), bigSep_singleton]
  rfl

/-- The two SparseCores' holdings are the arrays whole. -/
theorem cores_eq (d : Dev nD) (g : S8192.Idx → F .f32) : iprop(coreRes (X₀ m) (Z₀ m) d 0 g ∗ coreRes (X₀ m) (Z₀ m) d 1 g)
    ⊣⊢ iprop((xLoc d ↦{fullShare} m (xLoc d)) ∗ (szLoc d ↦{fullShare} m (szLoc d)) ∗ oLoc d ↦{fullShare} g : sProp 𝕄) := by
  rw [shares_cores (xLoc d), shares_cores (szLoc d), out_cores d g]
  unfold coreRes
  constructor
  · iintro ⟨⟨H1, H2, H3⟩, H4, H5, H6⟩
    isplitl [H1 H4]; · isplitl [H1] <;> iassumption
    isplitl [H2 H5]; · isplitl [H2] <;> iassumption
    isplitl [H3] <;> iassumption
  · iintro ⟨⟨H1, H4⟩, ⟨H2, H5⟩, H3, H6⟩
    isplitl [H1 H2 H3]
    · isplitl [H1]; · iexact H1
      isplitl [H2]; · iexact H2
      iexact H3
    isplitl [H4]; · iexact H4
    isplitl [H5]; · iexact H5
    iexact H6

/-- What the host's program leaves: the arguments unchanged, the result at its value, the barrier semaphores at zero. -/
abbrev FIN (d : Dev nD) : sProp 𝕄 :=
  iprop((xLoc d ↦{fullShare} m (xLoc d)) ∗ (szLoc d ↦{fullShare} m (szLoc d)) ∗ (rLoc d ↦{fullShare} (resF (X₀ m d) (Z₀ m d) : S16x512.Idx → F .f32)) ∗ bars d 0 ∗ bars d 1)

/-- The host's program on a device: the call, and the result brought to its shape. -/
theorem hmain (κ : GSem nD τ sig → ℕ) (d : Dev nD) :
    iprop((K (F := F)).ctx EH (P₀ m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hz, Ho, Hr⟩, Hts, -⟩, -⟩
  iapply ((K (F := F)).wp_run (D (F := F)) 𝒱 (EH := EH) (P := P₀ m) κ d 0) $$ [Hst Hx Hz Ho Hb Hr Hts]
  isplitr; · iexact Hctx
  isplitl [Hst]; · iexact Hst
  isplitl [Hx Hz Ho]
  · rw [st0_eq]
    iapply (cores_eq m d (G₀ m d)).2
    isplitl [Hx]; · iexact Hx
    isplitl [Hz]; · iexact Hz
    iexact Ho
  iintro ⟨Hst, Hdn⟩
  ihave Hdn' := (Entails.of_eq (dn0_eq m d)) $$ Hdn
  icases Hdn' with ⟨⟨Hc0, Hb0⟩, Hc1, Hb1⟩
  ihave Hc := (cores_eq m d (outF (X₀ m d) (Z₀ m d))).1 $$ [Hc0 Hc1]
  · isplitl [Hc0] <;> iassumption
  icases Hc with ⟨Hx, Hz, Ho⟩
  iapply (wp_hlo_within 𝒱 (SparseCore.T d) none Set.univ (op := opShape) (S := S2) hShape (V := V1 m d)) $$ [Hb Ho Hr]
  · isplitl [Hb]; · iexact Hb
    rw [held_S2, V1_o, V1_r]
    isplitl [Ho]; · iexact Ho
    iexact Hr
  iintro ⟨Hb, Hheld⟩
  ihave Hh := (Entails.of_eq (held_S2 (F := F) d _)) $$ Hheld
  icases Hh with ⟨-, Hr⟩
  rw [V2_r, wp_ret]; imodintro; imodintro
  isplitl [Hst]; · iexact Hst
  isplitr [Hb Hts]
  · isplitl [Hx]; · iexact Hx
    isplitl [Hz]; · iexact Hz
    isplitl [Hr]; · iexact Hr
    isplitl [Hb0] <;> iassumption
  isplitl [Hb] <;> iassumption

/-! ## The final state -/

/-- What holds of a device's part of the final state. -/
def fq (d : Dev nD) (s' : Phys nD τ sig (Elt F)) : Prop :=
  (s'.mem.mem (xLoc d) = m (xLoc d) ∧ s'.mem.mem (szLoc d) = m (szLoc d) ∧ s'.mem.mem (rLoc d) = (resF (X₀ m d) (Z₀ m d) : S16x512.Idx → F .f32))
    ∧ ∀ (c : Fin τ.nSC) (w : Fin τ.nSub), s'.mem.sem (bcell d c w) = 0

/-- An array owned whole is, in the final state, at its contents. -/
theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- A SparseCore's barrier semaphores owned at zero are at zero in the final state. -/
theorem read_bars (d : Dev nD) (c : Fin τ.nSC) (w : Fin τ.nSub) (s' : Phys nD τ sig (Elt F)) :
    iprop(bars d c ∗ SI s') ⊢ (⌜s'.mem.sem (bcell d c w) = 0⌝ : sProp 𝕄) :=
  (sep_mono_left (SparseCore.ent (bigSep_elim (Finset.mem_univ w)))).trans (SparseCore.Cfg.semVal_zero_read _ s')

/-- What a device holds at the end tells its part of the final state. -/
theorem hfin (d : Dev nD) (s' : Phys nD τ sig (Elt F)) : iprop(FIN m d ∗ SI s') ⊢ (⌜fq m d s'⌝ : sProp 𝕄) :=
  fun x hx => by
    refine ⟨⟨?_, ?_, ?_⟩, fun c w => ?_⟩
    · exact ((sep_mono_left sep_elim_left).trans (read_whole (xLoc d) _ s')) x hx
    · exact ((sep_mono_left (sep_elim_right.trans sep_elim_left)).trans (read_whole (szLoc d) _ s')) x hx
    · exact ((sep_mono_left (sep_elim_right.trans (sep_elim_right.trans sep_elim_left))).trans (read_whole (rLoc d) _ s')) x hx
    · match c with
      | 0 => exact ((sep_mono_left (sep_elim_right.trans (sep_elim_right.trans (sep_elim_right.trans sep_elim_left)))).trans (read_bars d 0 w s')) x hx
      | 1 => exact ((sep_mono_left (sep_elim_right.trans (sep_elim_right.trans (sep_elim_right.trans sep_elim_right)))).trans (read_bars d 1 w s')) x hx

/-- The cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 c i

/-- The run's outcome: on every device the arguments unchanged and the result at its value; every semaphore at zero. -/
def QC : PUnit × MemSt nD τ sig (Elt F) → Prop := fun r =>
  (∀ c : Dev nD, r.2.mem (xLoc c) = m (xLoc c) ∧ r.2.mem (szLoc c) = m (szLoc c) ∧ r.2.mem (rLoc c) = (resF (X₀ m c) (Z₀ m c) : S16x512.Idx → F .f32)) ∧ r.2.sem = fun _ => 0

/-- The program's run, over any carrier, from any memory whose sizes are as drawn. -/
theorem run_main [∀ e, Nonempty (Elt F e)] (hz : ∀ d, SizesOk (Z₀ m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P₀ m) (hA := hA m) DMax.facts v₀
    (fun q hq => match q with | 0 => nomatch hq)
    (fun q _ => match q with | 0 => tileObl (X₀ m) (Z₀ m) (G₀ m) DMax.facts hz)
    (fun q _ => match q with | 0 => vecSplit (X₀ m) (Z₀ m) (G₀ m))
    m ρ main (fun _ => iprop(emp)) (FIN m) (u₀ (F := F)) (hu₀ (X₀ m) (Z₀ m) (G₀ m)) (hmain m ρ) (fq m) (hfin m) (QC m) (fun _ h hz => ⟨fun c => (h c).1, hz⟩)

end Cert.KernelIdeal.DMax
end
-- ==== Proof.Frames.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Pre
public import proofs.«01_k».proof.Proof.Host

/-!
  The three frames: each program runs to its end, its arguments unchanged and every semaphore at zero.
-/

@[expose] public section

noncomputable section

namespace Cert.Proof

open Idealize.ShloMosaic Idealize.SL.Sem
open Cert.KernelIdeal.DMax (run_main sizesOk_of_pre)

attribute [local instance] Cert.Kernel.Gen.facts Cert.KernelIdeal.Gen.facts Cert.ReferenceIdeal.Gen.facts Cert.Pre_sizes_drawn.Gen.facts

set_option maxHeartbeats 0 in
/-- The kernel as printed, over the bit patterns, is the run of its idealization's text over them with the value dropped. -/
theorem frame_kernel : Cert.quiescent_Kernel := fun m ρ hp =>
  (θ_run (Cert.KernelIdeal.defs (F := Bits)) _ _).mono (fun _ h => ⟨fun c => ⟨(h.1 c).1, (h.1 c).2.1⟩, h.2⟩)
    (run_main (F := Bits) m ρ fun d => sizesOk_of_pre _ _ (hp d))

/-- The idealized kernel is the same run over the extended reals with the value dropped. -/
theorem frame_kernelIdeal : Cert.quiescent_KernelIdeal := fun m ρ hp =>
  (θ_run (Cert.KernelIdeal.defs (F := Ideal)) _ _).mono (fun _ h => ⟨fun c => ⟨(h.1 c).1, (h.1 c).2.1⟩, h.2⟩)
    (run_main (F := Ideal) m ρ fun d => sizesOk_of_pre _ _ (hp d))

/-- The reference declares no semaphore, and its operations write neither argument. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

end Cert.Proof
end
-- ==== Proof.RefIds.lean ====
module

public import proofs.«01_k».proof.Proof.Sizes
public import proofs.«01_k».proof.Proof.Gen.ReferenceIdeal.Run
public import Idealize.ShloMosaic.Lib.Routing.OpsSet
public import Idealize.ShloMosaic.Lib.Routing.Ops
public import Idealize.ShloMosaic.PureOps.Ideal.Laws

/-!
  The reference's integer arrays, read at a row: the segments' ends, the segment a row lies in, and whether the row counts.
-/

@[expose] public section

noncomputable section

namespace Cert.ReferenceIdeal.DMaxRef

open Cert.ReferenceIdeal Cert.ReferenceIdeal.Gen
open Idealize.ShloMosaic Idealize.ShloMosaic.ValueIdx Idealize.ShloMosaic.Routing
open Cert.KernelIdeal.DMax (SizesOk szN szN_lane szN_pos cum cum_succ cum_mono cum_le_tot lane sLo sLo_facts cnt
  addi_nat subi_nat minsi_nat maxsi_nat slt_nat sle_nat eq_nat)

/-- The segments' ends. -/
def offV (v0 : IVec S16 32) : IVec S16 32 :=
  Host.reduceWindow IntOp.addi ![16] ![1] ![15] ![0] v0 (broadcastInDim S_ ![] bcast_S_S_ (constantI S_ 32 0#32)) reduceWindows_S16_S16_w16s1p15_0 h_S_

/-- Per row, the number of segments that end at or before it. -/
def idsV (v0 : IVec S16 32) : IVec S32768 32 :=
  Host.reduce IntOp.addi (extui 32 (cmpi .sle (broadcastInDim S32768x16 ![0, 1] bcast_S1x16_S32768x16_0_1 (broadcastInDim S1x16 ![1] bcast_S16_S1x16_1 (offV v0))) (broadcastInDim S32768x16 ![0, 1] bcast_S32768x1_S32768x16_0_1 (broadcastInDim S32768x1 ![0] bcast_S32768_S32768x1_0 (iotaInDim S32768 32 0)))) natLt_1_32) (constantI S_ 32 0#32) reducesTo_S32768x16_S32768_d1 h_S_

/-- The same, kept inside the sixteen segments. -/
def clipV (v0 : IVec S16 32) : IVec S32768 32 :=
  minsi (broadcastInDim S32768 ![] bcast_S_S32768 (id (constantI S_ 32 15#32))) (maxsi (broadcastInDim S32768 ![] bcast_S_S32768 (id (constantI S_ 32 0#32))) (idsV v0))

/-- The index the takes use. -/
def idxV (v0 : IVec S16 32) : IVec S32768 32 :=
  select (cmpi .slt (clipV v0) (broadcastInDim S32768 ![] bcast_S_S32768 (constantI S_ 32 0#32))) (addi (clipV v0) (broadcastInDim S32768 ![] bcast_S_S32768 (constantI S_ 32 16#32))) (clipV v0)

/-- Per row, the start of its segment. -/
def startV (v0 : IVec S16 32) : IVec S32768 32 :=
  Host.gather gather_S16_S32768x1_S32768_n_0_n_n_0_1_1 (subi (offV v0) v0) (broadcastInDim S32768x1 ![0] bcast_S32768_S32768x1_0 (idxV v0))

/-- Per row, the length of its segment. -/
def sizeV (v0 : IVec S16 32) : IVec S32768 32 :=
  Host.gather gather_S16_S32768x1_S32768_n_0_n_n_0_1_1 v0 (broadcastInDim S32768x1 ![0] bcast_S32768_S32768x1_0 (idxV v0))

/-- Per row, whether it counts. -/
def validV (v0 : IVec S16 32) : IVec S32768 1 :=
  andi (cmpi .slt (idsV v0) (broadcastInDim S32768 ![] bcast_S_S32768 (constantI S_ 32 16#32))) (cmpi .slt (subi (iotaInDim S32768 32 0) (startV v0)) (addi (subi (sizeV v0) (broadcastInDim S32768 ![] bcast_S_S32768 (constantI S_ 32 1#32))) (broadcastInDim S32768 ![] bcast_S_S32768 (constantI S_ 32 1#32))))

/-- The one index of a vector, in its two spellings. -/
theorem ix1_lane (k : Fin 16) : (ix1 k : S16.Idx) = lane k := by
  funext a; fin_cases k <;> fin_cases a <;> rfl

/-- The list sum over a range is the running sum. -/
theorem list_sum_cum (z : ℕ → ℕ) (n : ℕ) : ((List.range n).map z).sum = cum z n := by
  induction n with
  | zero => rfl
  | succ n ih => rw [List.range_succ, List.map_append, List.sum_append, ih, cum_succ]; simp

/-- Counting below `n` is the running sum of the indicator. -/
theorem count_cnt (p : ℕ → Prop) [DecidablePred p] (n : ℕ) : Nat.count p n = cnt p n := by
  induction n with
  | zero => rfl
  | succ n ih => rw [Nat.count_succ, ih]; unfold cnt; rw [cum_succ]

variable {v0 : IVec S16 32} (hz : SizesOk v0)

/-- A constant spread over the rows reads the constant. -/
theorem splat_at (w : BitVec 32) (r : Fin 32768) : broadcastInDim S32768 ![] bcast_S_S32768 (constantI S_ 32 w) (ix1 r) = w :=
  bc0 _ _ _

/-- A comparison at an index compares the elements. -/
theorem cmpi_at {s : Shape} (p : CmpIPredicate) (x y : IVec s 32) (j : s.Idx) : cmpi p x y j = IntOp.cmpi p (x j) (y j) := rfl

/-- A choice at an index chooses between the elements. -/
theorem select_at {s : Shape} {α : Type} (c : IVec s 1) (x y : s.Idx → α) (j : s.Idx) : select c x y j = Scalar.select (c j) (x j) (y j) := rfl

/-- The conjunction of two masks at an index. -/
theorem andi_at {s : Shape} (x y : IVec s 1) (j : s.Idx) : andi x y j = IntOp.andi (x j) (y j) := rfl

/-- A signed comparison of two small words, as the word it answers. -/
theorem cmp_slt {x y : BitVec 32} {a b : ℕ} (hx : x.toNat = a) (hy : y.toNat = b) (ha : a < 2 ^ 31) (hb : b < 2 ^ 31) :
    IntOp.cmpi .slt x y = BitVec.ofBool (decide (a < b)) := by
  show BitVec.ofBool (x.slt y) = _
  rw [slt_nat hx hy ha hb]

/-- A row number as a word. -/
theorem row_nat (r : Fin 32768) : (iotaInDim S32768 32 0 (ix1 r)).toNat = r.val := by
  show (BitVec.ofNat 32 r.val).toNat = r.val
  rw [BitVec.toNat_ofNat]; have := r.isLt; omega

include hz in
/-- The segments' ends are the running sums of the sizes. -/
theorem off_nat (k : Fin 16) : (offV v0 (ix1 k)).toNat = cum (szN v0) (k.val + 1) := by
  unfold offV
  rw [cumsum1 (Nm1 := 15) rfl v0 (szN v0) (fun i => by
    rw [← szN_lane v0 i, ix1_lane, BitVec.ofNat_toNat, BitVec.setWidth_eq]) _ rfl _ _ k, list_sum_cum, BitVec.toNat_ofNat]
  have := cum_le_tot (F := Ideal) hz (n := k.val + 1) (by have := k.isLt; omega)
  omega

include hz in
/-- A row's segment number is the number of segments that end at or before it. -/
theorem ids_nat (r : Fin 32768) : (idsV v0 (ix1 r)).toNat = sLo (szN v0) r.val := by
  unfold idsV
  rw [reduce_count (m := 16) (by decide) _ _ _ _ r (fun k => cum (szN v0) (k + 1) ≤ r.val) (fun q => ?_), count_cnt, BitVec.toNat_ofNat]
  · have := (sLo_facts (szN v0) r.val).1
    unfold sLo at *
    omega
  · show IntOp.cmpi .sle _ _ = 1#1 ↔ _
    rw [bcCols, bcRows]
    have hr := r.isLt
    have hb := cum_le_tot (F := Ideal) hz (n := q.val + 1) (by have := q.isLt; omega)
    show BitVec.ofBool (BitVec.sle _ _) = 1#1 ↔ _
    rw [sle_nat (off_nat hz q) (row_nat r) (by omega) (by omega)]
    by_cases h : cum (szN v0) (q.val + 1) ≤ r.val <;> simp [h]

include hz in
/-- A row's clipped segment number: the number of segments that end at or before it, at most 15. -/
theorem clip_nat (r : Fin 32768) : (clipV v0 (ix1 r)).toNat = min 15 (sLo (szN v0) r.val) := by
  have h16 := (sLo_facts (szN v0) r.val).1
  unfold clipV
  refine minsi_nat (congrArg BitVec.toNat (splat_at 15#32 r))
    ((maxsi_nat (a := 0) (b := sLo (szN v0) r.val) (congrArg BitVec.toNat (splat_at 0#32 r)) (ids_nat hz r) (by decide) (by omega)).trans
      (Nat.zero_max _)) (by decide) (by omega)

include hz in
/-- The number is not negative, so wrapping negative indices around leaves it as it is. -/
theorem idx_eq (r : Fin 32768) : idxV v0 (ix1 r) = clipV v0 (ix1 r) := by
  have h16 := (sLo_facts (szN v0) r.val).1
  have hc := clip_nat hz r
  unfold idxV
  rw [select_at, cmpi_at, splat_at, cmp_slt (b := 0) hc rfl (by omega) (by decide), decide_eq_false (Nat.not_lt_zero _)]
  exact if_neg (by decide)

include hz in
/-- A take at the row's index reads the table at the row's segment. -/
theorem take_eq (x : IVec S16 32) (r : Fin 32768) (b : Fin 16) (hb : b.val = min 15 (sLo (szN v0) r.val)) :
    Host.gather gather_S16_S32768x1_S32768_n_0_n_n_0_1_1 x (broadcastInDim S32768x1 ![0] bcast_S32768_S32768x1_0 (idxV v0)) (ix1 r) = x (ix1 b) := by
  refine gather_take1 _ rfl rfl rfl rfl x _ r b ?_ (by decide)
  rw [bcCol, idx_eq hz r]
  apply BitVec.eq_of_toNat_eq
  rw [clip_nat hz r, BitVec.toNat_ofNat]
  omega

include hz in
/-- A row counts if it lies in one of the sixteen segments. -/
theorem valid_iff (r : Fin 32768) : validV v0 (ix1 r) = 1#1 ↔ sLo (szN v0) r.val < 16 := by
  have h16 := (sLo_facts (szN v0) r.val).1
  have hr := r.isLt
  have e1 : cmpi .slt (idsV v0) (broadcastInDim S32768 ![] bcast_S_S32768 (constantI S_ 32 16#32)) (ix1 r)
      = BitVec.ofBool (decide (sLo (szN v0) r.val < 16)) := by
    rw [cmpi_at, splat_at, cmp_slt (b := 16) (ids_nat hz r) rfl (by omega) (by decide)]
  unfold validV
  rw [andi_at, e1]
  by_cases hn : sLo (szN v0) r.val < 16
  · have hlo := (sLo_facts (szN v0) r.val).2
    generalize hs : sLo (szN v0) r.val = n at *
    have hend : r.val < cum (szN v0) (n + 1) := not_le.mp fun q => by have := (hlo n hn).mpr q; omega
    have hst : cum (szN v0) n ≤ r.val := by
      rcases Nat.eq_zero_or_pos n with rfl | hp
      · simp [cum]
      · have := (hlo (n - 1) (by omega)).mp (by omega)
        rwa [Nat.sub_add_cancel hp] at this
    have hsucc := cum_succ (szN v0) n
    have hbd := cum_le_tot (F := Ideal) hz (n := n + 1) (by omega)
    obtain ⟨p1, p2⟩ := szN_pos (F := Ideal) hz hn
    have es : (startV v0 (ix1 r)).toNat = cum (szN v0) n := by
      unfold startV
      rw [take_eq hz _ r ⟨n, hn⟩ (by show n = _; rw [hs]; omega)]
      refine (subi_nat (b := szN v0 n) (off_nat hz ⟨n, hn⟩) (by rw [ix1_lane]; exact szN_lane v0 ⟨n, hn⟩) (by show szN v0 n ≤ cum (szN v0) (n + 1); omega)
        (by show cum (szN v0) (n + 1) < _; omega)).trans ?_
      show cum (szN v0) (n + 1) - szN v0 n = _
      omega
    have ez : (sizeV v0 (ix1 r)).toNat = szN v0 n := by
      unfold sizeV
      rw [take_eq hz _ r ⟨n, hn⟩ (by show n = _; rw [hs]; omega), ix1_lane]
      exact szN_lane v0 ⟨n, hn⟩
    have e1 : (broadcastInDim S32768 ![] bcast_S_S32768 (constantI S_ 32 1#32) (ix1 r)).toNat = 1 := congrArg BitVec.toNat (splat_at 1#32 r)
    have el : (subi (iotaInDim S32768 32 0) (startV v0) (ix1 r)).toNat = r.val - cum (szN v0) n :=
      subi_nat (row_nat r) es hst (by omega)
    have er : (addi (subi (sizeV v0) (broadcastInDim S32768 ![] bcast_S_S32768 (constantI S_ 32 1#32))) (broadcastInDim S32768 ![] bcast_S_S32768 (constantI S_ 32 1#32)) (ix1 r)).toNat
        = szN v0 n - 1 + 1 :=
      addi_nat (subi_nat ez e1 p1 (by omega)) e1 (by omega)
    have e2 : cmpi .slt (subi (iotaInDim S32768 32 0) (startV v0)) (addi (subi (sizeV v0) (broadcastInDim S32768 ![] bcast_S_S32768 (constantI S_ 32 1#32))) (broadcastInDim S32768 ![] bcast_S_S32768 (constantI S_ 32 1#32))) (ix1 r) = 1#1 := by
      rw [cmpi_at, cmp_slt el er (by omega) (by omega), decide_eq_true (by omega)]; rfl
    rw [e2, decide_eq_true hn]
    exact ⟨fun _ => hn, fun _ => rfl⟩
  · rw [decide_eq_false hn]
    refine ⟨fun h => ?_, fun h => absurd h hn⟩
    exfalso
    have : ∀ b : BitVec 1, IntOp.andi (BitVec.ofBool false) b ≠ 1#1 := by decide
    exact this _ h

end Cert.ReferenceIdeal.DMaxRef
end
-- ==== Proof.Seg.lean ====
module

public import proofs.«01_k».proof.Proof.Merge
public import Idealize.ShloMosaic.PureOps.Ideal.Laws

/-!
  The kernel's value over the extended reals: what lies above the merged maximum of a segment is what lies above every row
  of the segment.
-/

@[expose] public section

noncomputable section

namespace Cert.KernelIdeal.DMax

open Cert.KernelIdeal Cert.KernelIdeal.Gen
open Idealize.ShloMosaic Idealize.ShloMosaic.WordArith

/-- The least value is below every extended real. -/
theorem ninf_le (u : Ideal .f32) : (ninf : Ideal .f32) ≤ u := by
  have h : (ninf : Ideal .f32) = (⊥ : EReal) := by
    show Ideal.ofBits .f32 0xFF800000#32 = (⊥ : EReal)
    simp [Ideal.ofBits, Ideal.ieee]
  rw [h]; exact bot_le

/-- A bound of the maximum over a run of rows bounds each of the rows kept. -/
theorem rowMax_le_iff (X : S32768x512.Idx → Ideal .f32) (a b c g0 n : ℕ) (u : Ideal .f32) :
    rowMax X a b c g0 n ≤ u ↔ ∀ k < n, a ≤ g0 + k → g0 + k < b → xAt X (g0 + k) c ≤ u := by
  induction n with
  | zero => exact ⟨fun _ k hk => absurd hk (Nat.not_lt_zero k), fun _ => ninf_le u⟩
  | succ n ih =>
    rw [rowMax, Ideal.maximumf_def, max_le_iff, ih]
    constructor
    · rintro ⟨h1, h2⟩ k hk ha hb
      rcases Nat.lt_succ_iff_lt_or_eq.mp hk with h | rfl
      · exact h1 k h ha hb
      · rwa [if_pos ⟨ha, hb⟩] at h2
    · intro h
      refine ⟨fun k hk => h k (by omega), ?_⟩
      split
      · next hc => exact h n (by omega) hc.1 hc.2
      · exact ninf_le u

/-- A bound of the merge bounds every partial maximum. -/
theorem mergeN_le_iff (g : ℕ → Ideal .f32) (n : ℕ) (u : Ideal .f32) : mergeN g n ≤ u ↔ ∀ t < n, g t ≤ u := by
  induction n with
  | zero => exact ⟨fun _ k hk => absurd hk (Nat.not_lt_zero k), fun _ => ninf_le u⟩
  | succ n ih =>
    rw [mergeN, Ideal.maximumf_def, max_le_iff, ih]
    constructor
    · rintro ⟨h1, h2⟩ t ht
      rcases Nat.lt_succ_iff_lt_or_eq.mp ht with h | rfl
      · exact h1 t h
      · exact h2
    · exact fun h => ⟨fun t ht => h t (by omega), h n (by omega)⟩

variable {v0 : Vec Ideal S16 .i32} (hz : SizesOk v0)

include hz in
/-- A bound of one tile's partial maximum of a segment bounds each row of the segment in the tile's range. -/
theorem partN_le_iff (h w : ℕ) (X : S32768x512.Idx → Ideal .f32) (s c : ℕ) (hs : s < 16) (u : Ideal .f32) :
    partN h w X v0 s c ≤ u ↔ ∀ r, cum (szN v0) s ≤ r → r < cum (szN v0) (s + 1) → loN w (totN v0) ≤ r →
      r < hiN w (totN v0) → xAt X r (h * 256 + c) ≤ u := by
  have hl := (sLo_facts (szN v0) (loN w (totN v0))).2 s hs
  have hh := (sHi_facts (szN v0) (hiN w (totN v0))).2 s hs
  unfold partN
  by_cases hv : sLo (szN v0) (loN w (totN v0)) ≤ s ∧ s < sHi (szN v0) (hiN w (totN v0))
  · rw [if_pos hv, rowMax_le_iff]
    have hab := (visit_facts hz (w := w)).2.2 s hv.1 hv.2
    obtain ⟨-, h1, -, -, -, h2, -⟩ := piece_facts (s := cum (szN v0) s) (e := cum (szN v0) (s + 1)) (totN_le hz) hab
    have ea : aN w (totN v0) (cum (szN v0) s) = max (cum (szN v0) s) (loN w (totN v0)) := rfl
    have eb : bN w (totN v0) (cum (szN v0) (s + 1)) = min (cum (szN v0) (s + 1)) (hiN w (totN v0)) := rfl
    constructor
    · intro H r r1 r2 r3 r4
      have := H (r - a8N w (totN v0) (cum (szN v0) s)) (by omega) (by omega) (by omega)
      rwa [Nat.add_sub_cancel' (by omega)] at this
    · intro H k hk ka kb
      exact H _ (by omega) (by omega) (by omega) (by omega)
  · rw [if_neg hv]
    refine ⟨fun _ r r1 r2 r3 r4 => ?_, fun _ => ninf_le u⟩
    exfalso
    apply hv
    exact ⟨not_lt.mp fun q => by have := hl.mp q; omega, hh.mpr (by omega)⟩

/-- Every row in use lies in one tile's range. -/
theorem tile_of {t r : ℕ} (h : r < t) : ∃ w < 16, loN w t ≤ r ∧ r < hiN w t := by
  have hq : 0 < qN t := by unfold qN; omega
  have h1 := Nat.div_add_mod r (qN t)
  have h2 := Nat.mod_lt r hq
  rw [Nat.mul_comm] at h1
  refine ⟨r / qN t, ?_, ?_, ?_⟩
  · rw [Nat.div_lt_iff_lt_mul hq]; unfold qN; omega
  · unfold loN; omega
  · unfold hiN loN; omega

include hz in
/-- A bound of the kernel's result at (segment, column) bounds the column's entry at each row of the segment. -/
theorem outN_le_iff (X : S32768x512.Idx → Ideal .f32) (s c : ℕ) (hs : s < 16) (u : Ideal .f32) :
    outN (c / 256) s X v0 (c % 256) ≤ u ↔ ∀ r, cum (szN v0) s ≤ r → r < cum (szN v0) (s + 1) → xAt X r c ≤ u := by
  have ec : c / 256 * 256 + c % 256 = c := Nat.div_add_mod' c 256
  unfold outN
  rw [mergeN_le_iff]
  constructor
  · intro H r r1 r2
    obtain ⟨w, hw, w1, w2⟩ := tile_of (t := totN v0) (r := r) (lt_of_lt_of_le r2 (cum_mono _ (by omega)))
    have := (partN_le_iff hz (c / 256) w X s (c % 256) hs u).mp (H w hw) r r1 r2 w1 w2
    rwa [ec] at this
  · intro H t _
    refine (partN_le_iff hz (c / 256) t X s (c % 256) hs u).mpr fun r r1 r2 _ _ => ?_
    rw [ec]; exact H r r1 r2

end Cert.KernelIdeal.DMax
end
-- ==== Proof.RefMax.lean ====
module

public import proofs.«01_k».proof.Proof.RefIds
public import proofs.«01_k».proof.Proof.Seg
public import Idealize.ShloMosaic.PureOps.Reduce

/-!
  The reference's value over the extended reals: what lies above its result at (segment, column) is what lies above the
  column's entry at every row of the segment.
-/

@[expose] public section

noncomputable section

namespace Cert.ReferenceIdeal.DMaxRef

open Cert.ReferenceIdeal Cert.ReferenceIdeal.Gen
open Idealize.ShloMosaic Idealize.ShloMosaic.ValueIdx Idealize.ShloMosaic.Routing
open Cert.KernelIdeal.DMax (SizesOk szN cum sLo sLo_facts ninf ninf_le minsi_nat xAt eq_nat outN outN_le_iff cum_mono cum_le_tot)

/-- The table with the rows that do not count at the least value. -/
def xmV (X : FVec Ideal S32768x512 .f32) (v0 : IVec S16 32) : FVec Ideal S32768x512 .f32 :=
  select (broadcastInDim S32768x512 ![0, 1] bcast_S32768x1_S32768x512_0_1 (broadcastInDim S32768x1 ![0] bcast_S32768_S32768x1_0 (validV v0))) X (broadcastInDim S32768x512 ![] bcast_S_S32768x512 (constant S_ .f32 0xFF800000#32))

/-- At (segment, row), whether the row is counted to the segment. -/
def hereV (v0 : IVec S16 32) : IVec S16x32768 1 :=
  cmpi .eq (broadcastInDim S16x32768 ![0, 1] bcast_S1x32768_S16x32768_0_1 (broadcastInDim S1x32768 ![1] bcast_S32768_S1x32768_1 (clipV v0))) (broadcastInDim S16x32768 ![0, 1] bcast_S16x1_S16x32768_0_1 (broadcastInDim S16x1 ![0] bcast_S16_S16x1_0 (iotaInDim S16 32 0)))

/-- At (segment, row, column), what the maximum over the rows is taken of. -/
def pickV (X : FVec Ideal S32768x512 .f32) (v0 : IVec S16 32) : FVec Ideal S16x32768x512 .f32 :=
  select (broadcastInDim S16x32768x512 ![0, 1, 2] bcast_S16x32768x1_S16x32768x512_0_1_2 (broadcastInDim S16x32768x1 ![0, 1] bcast_S16x32768_S16x32768x1_0_1 (hereV v0))) (broadcastInDim S16x32768x512 ![0, 1, 2] bcast_S1x32768x512_S16x32768x512_0_1_2 (broadcastInDim S1x32768x512 ![1, 2] bcast_S32768x512_S1x32768x512_1_2 (xmV X v0))) (broadcastInDim S16x32768x512 ![] bcast_S_S16x32768x512 (id (constant S_ .f32 0xFF800000#32)))

/-- The reference's result. -/
def refV (X : FVec Ideal S32768x512 .f32) (v0 : IVec S16 32) : FVec Ideal S16x512 .f32 :=
  Host.reduce FloatOps.maximumf (pickV X v0) (constant S_ .f32 0xFF800000#32) reducesTo_S16x32768x512_S16x512_d1 h_S_

/-- The generated term is that result. -/
theorem res_eq (m : (ℓ : Loc nD τ sig) → Buf (Elt Ideal) ℓ) (c : Dev nD) :
    Cert.ReferenceIdeal.Value.res_main_v46 m c = refV (m ((c.tc : Thread nD τ).loc main_arg0)) (m ((c.tc : Thread nD τ).loc main_arg1)) := rfl

/-- A bound of a left fold by the maximum bounds the start and every element. -/
theorem foldl_max_le {ι : Type} (f : ι → Ideal .f32) (l : List ι) (a u : Ideal .f32) :
    l.foldl (fun r n => FloatOps.maximumf r (f n)) a ≤ u ↔ a ≤ u ∧ ∀ n ∈ l, f n ≤ u := by
  induction l generalizing a with
  | nil => simp
  | cons n l ih =>
    rw [List.foldl_cons, ih, Ideal.maximumf_def, max_le_iff, List.forall_mem_cons, and_assoc]

/-- A choice by a bit that says a proposition is the choice by the proposition. -/
theorem select_iff {α : Type} {c : BitVec 1} {p : Prop} [Decidable p] (h : c = 1#1 ↔ p) (x y : α) : Scalar.select c x y = if p then x else y := by
  unfold Scalar.select
  by_cases hp : p
  · rw [if_pos hp]; exact if_pos (h.mpr hp)
  · rw [if_neg hp]; exact if_neg (mt h.mp hp)

variable {v0 : IVec S16 32} (hz : SizesOk v0)

include hz in
/-- A row is counted to a segment if its number, kept inside the sixteen, is the segment's. -/
theorem here_iff (s : Fin 16) (r : Fin 32768) : hereV v0 (ix2 s r) = 1#1 ↔ min 15 (sLo (szN v0) r.val) = s.val := by
  unfold hereV
  rw [cmpi_at, bcCols, bcRows, eq_nat (clip_nat hz r) (show (iotaInDim S16 32 0 (ix1 s)).toNat = s.val from by
    show (BitVec.ofNat 32 s.val).toNat = s.val
    rw [BitVec.toNat_ofNat]; have := s.isLt; omega)]
  by_cases h : min 15 (sLo (szN v0) r.val) = s.val <;> simp [h]

include hz in
/-- A counted row keeps its entries; any other is at the least value. -/
theorem xm_at (X : FVec Ideal S32768x512 .f32) (r : Fin 32768) (c : Fin 512) :
    xmV X v0 (ix2 r c) = if sLo (szN v0) r.val < 16 then X (ix2 r c) else ninf := by
  unfold xmV
  rw [select_at, bcRows, bc0]
  exact select_iff (valid_iff hz r) _ _

/-- A (segment, row) mask spread over the columns. -/
theorem bcMask {α : Type} (x : S16x32768.Idx → α) (s : Fin 16) (r : Fin 32768) (c : Fin 512) :
    broadcastInDim S16x32768x512 ![0, 1, 2] bcast_S16x32768x1_S16x32768x512_0_1_2 (broadcastInDim S16x32768x1 ![0, 1] bcast_S16x32768_S16x32768x1_0_1 x) (ix3 s r c)
      = x (ix2 s r) :=
  (broadcastInDim_apply _ _ _ _ (ix3 s r (0 : Fin 1)) fun a => by match a with | ⟨0, _⟩ => rfl | ⟨1, _⟩ => rfl | ⟨2, _⟩ => rfl).trans
    (broadcastInDim_apply _ _ _ _ (ix2 s r) fun a => by match a with | ⟨0, _⟩ => rfl | ⟨1, _⟩ => rfl)

/-- A (row, column) table spread over the segments. -/
theorem bcTable {α : Type} (x : S32768x512.Idx → α) (s : Fin 16) (r : Fin 32768) (c : Fin 512) :
    broadcastInDim S16x32768x512 ![0, 1, 2] bcast_S1x32768x512_S16x32768x512_0_1_2 (broadcastInDim S1x32768x512 ![1, 2] bcast_S32768x512_S1x32768x512_1_2 x) (ix3 s r c)
      = x (ix2 r c) :=
  (broadcastInDim_apply _ _ _ _ (ix3 (0 : Fin 1) r c) fun a => by match a with | ⟨0, _⟩ => rfl | ⟨1, _⟩ => rfl | ⟨2, _⟩ => rfl).trans
    (broadcastInDim_apply _ _ _ _ (ix2 r c) fun a => by match a with | ⟨0, _⟩ => rfl | ⟨1, _⟩ => rfl)

include hz in
/-- What the maximum is taken of at (segment, row, column). -/
theorem pick_at (X : FVec Ideal S32768x512 .f32) (s : Fin 16) (r : Fin 32768) (c : Fin 512) :
    pickV X v0 (ix3 s r c) = if min 15 (sLo (szN v0) r.val) = s.val then (if sLo (szN v0) r.val < 16 then X (ix2 r c) else ninf) else ninf := by
  unfold pickV
  rw [select_at, bcMask, bcTable, bc0, xm_at hz]
  exact select_iff (here_iff hz s r) _ _

/-- A row's number is a segment's exactly if the row lies in the segment. -/
theorem sLo_eq_iff (z : ℕ → ℕ) (r s : ℕ) (hs : s < 16) : sLo z r = s ↔ cum z s ≤ r ∧ r < cum z (s + 1) := by
  obtain ⟨h16, h⟩ := sLo_facts z r
  constructor
  · rintro rfl
    refine ⟨?_, not_le.mp fun q => by have := (h _ hs).mpr q; omega⟩
    rcases Nat.eq_zero_or_pos (sLo z r) with e | hp
    · rw [e]; simp [cum]
    · have := (h (sLo z r - 1) (by omega)).mp (by omega)
      rwa [Nat.sub_add_cancel hp] at this
  · rintro ⟨h1, h2⟩
    refine le_antisymm (not_lt.mp fun q => ?_) (not_lt.mp fun q => ?_)
    · have := (h s hs).mp q; omega
    · have := (h (sLo z r) (by omega)).mpr ((cum_mono z (by omega)).trans h1)
      omega

/-- The index (segment, row, column) drops to (segment, column). -/
theorem drop_eq (i : S16x32768x512.Idx) (j : S16x512.Idx) (h : reducesTo_S16x32768x512_S16x512_d1.drop i = j) :
    i = ix3 (j 0) (i 1) (j 1) := by
  subst h
  funext a
  match a with
  | ⟨0, _⟩ => rfl
  | ⟨1, _⟩ => rfl
  | ⟨2, _⟩ => rfl

/-- (segment, row, column) drops to (segment, column). -/
theorem drop_ix3 (j : S16x512.Idx) (r : Fin 32768) : reducesTo_S16x32768x512_S16x512_d1.drop (ix3 (j 0) r (j 1)) = j := by
  funext a
  match a with
  | ⟨0, _⟩ => rfl
  | ⟨1, _⟩ => rfl

include hz in
/-- A bound of the reference's result at (segment, column) bounds the column's entry at each row of the segment. -/
theorem ref_le_iff (X : FVec Ideal S32768x512 .f32) (j : S16x512.Idx) (u : Ideal .f32) :
    refV X v0 j ≤ u ↔ ∀ r, cum (szN v0) (j 0).val ≤ r → r < cum (szN v0) ((j 0).val + 1) → xAt X r (j 1).val ≤ u := by
  have hj0 := (j 0).isLt
  have hj1 := (j 1).isLt
  have hj0 : (j 0).val < 16 := hj0
  have hj1 : (j 1).val < 512 := hj1
  unfold refV
  rw [Host.reduce_eq_foldl, foldl_max_le]
  constructor
  · rintro ⟨-, H⟩ r r1 r2
    have hr := cum_le_tot (F := Ideal) hz (n := (j 0).val + 1) (by omega)
    have hn := (sLo_eq_iff (szN v0) r (j 0).val hj0).mpr ⟨r1, r2⟩
    have hr' : r < 32768 := by omega
    have h := H (ix3 (j 0) (⟨r, hr'⟩ : Fin 32768) (j 1)) (by
      rw [List.mem_filter]
      exact ⟨List.mem_map.2 ⟨S16x32768x512.rowMajor (ix3 (j 0) (⟨r, hr'⟩ : Fin 32768) (j 1)), List.mem_finRange _, Equiv.symm_apply_apply _ _⟩,
        decide_eq_true (drop_ix3 j _)⟩)
    have e := pick_at hz X (j 0) (⟨r, hr'⟩ : Fin 32768) (j 1)
    rw [if_pos (by show min 15 (sLo (szN v0) r) = _; rw [hn]; omega), if_pos (by show sLo (szN v0) r < 16; omega)] at e
    have ex : xAt X r (j 1).val = X (ix2 (⟨r, hr'⟩ : Fin 32768) (j 1)) := by
      unfold xAt
      refine congrArg X (funext fun a => ?_)
      match a with
      | ⟨0, _⟩ => exact Fin.ext (Nat.mod_eq_of_lt hr')
      | ⟨1, _⟩ => exact Fin.ext (Nat.mod_eq_of_lt hj1)
    rw [ex, ← e]; exact h
  · intro H
    refine ⟨ninf_le u, fun i hi => ?_⟩
    have hd := of_decide_eq_true (List.mem_filter.mp hi).2
    rw [drop_eq i j hd]
    refine le_of_eq_of_le (pick_at hz X (j 0) (i 1) (j 1)) ?_
    split
    · next h1 =>
      split
      · next h2 =>
        have hn : sLo (szN v0) (i 1).val = (j 0).val := by omega
        obtain ⟨r1, r2⟩ := (sLo_eq_iff (szN v0) _ _ hj0).mp hn
        have ex : xAt X (i 1).val (j 1).val = X (ix2 (i 1) (j 1)) := by
          unfold xAt
          refine congrArg X (funext fun a => ?_)
          match a with
          | ⟨0, _⟩ => exact Fin.ext (Nat.mod_eq_of_lt (i 1).isLt)
          | ⟨1, _⟩ => exact Fin.ext (Nat.mod_eq_of_lt hj1)
        rw [← ex]; exact H _ r1 r2
      · exact ninf_le u
    · exact ninf_le u

include hz in
/-- The reference's result is the kernel's. -/
theorem ref_eq_out (X : FVec Ideal S32768x512 .f32) :
    refV X v0 = fun j => outN ((j 1).val / 256) (j 0).val X v0 ((j 1).val % 256) := by
  funext j
  exact eq_of_forall_ge_iff fun u => (ref_le_iff hz X j u).trans (outN_le_iff hz X (j 0).val (j 1).val (j 0).isLt u).symm

end Cert.ReferenceIdeal.DMaxRef
end
-- ==== Proof.Algebraic.lean ====
module

public import proofs.«01_k».proof.Defs
public import proofs.«01_k».proof.Proof.Pre
public import proofs.«01_k».proof.Proof.Host
public import proofs.«01_k».proof.Proof.RefMax

/-!
  The value claim: over the extended reals the kernel's result is the reference's.
-/

@[expose] public section

noncomputable section

namespace Cert.Proof

open Idealize.ShloMosaic Idealize.SL.Sem
open Cert.KernelIdeal.DMax (run_main sizesOk_of_pre resF X₀ Z₀)
open Cert.ReferenceIdeal.DMaxRef (refV res_eq ref_eq_out)

attribute [local instance] Cert.KernelIdeal.Gen.facts Cert.ReferenceIdeal.Gen.facts Cert.Pre_sizes_drawn.Gen.facts

/-- The shared value is, at (segment, column), the maximum of the column over the segment's rows, as the kernel's run states
    it; the reference's run ends at a term that equals it. -/
theorem algebraic : Cert.algebraic_KernelIdeal_ReferenceIdeal := by
  intro m ρ m' ρ' hp hagree
  have hz := fun d => sizesOk_of_pre _ _ (hp d)
  refine ⟨fun c => resF (X₀ m c) (Z₀ m c), (θ_run (Cert.KernelIdeal.defs (F := Ideal)) _ _).mono
      (fun _ h c => ⟨(h.1 c).2.2, (h.1 c).1, (h.1 c).2.1⟩) (run_main (F := Ideal) m ρ hz), ?_⟩
  refine (θ_run (Cert.ReferenceIdeal.defs (F := Ideal)) _ _).mono (fun _ h c => ⟨((h c).1.trans (res_eq m' c)).trans ?_, (h c).2⟩)
    (Cert.ReferenceIdeal.Value.run (F := Ideal) m' ρ')
  obtain ⟨hx, hs⟩ := hagree c
  rw [hx, hs]
  exact ref_eq_out (hz c) (X₀ m c)

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_sizes_drawn
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claims, under the generated witnesses of the programs' side conditions. -/
theorem claim : Cert.Claim := ⟨Cert.Kernel.Gen.facts, Cert.KernelIdeal.Gen.facts, Cert.ReferenceIdeal.Gen.facts, Cert.Pre_sizes_drawn.Gen.facts,
  frame_kernel, frame_kernelIdeal, frame_reference, trivial, algebraic⟩

end Cert.Proof

end
